-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_n" .f32 0x37CCCCCD#32 ((1 / 40960 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_2)) (v2 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_2) = v1 c
          ∧ r.2.mem ((c.tc : Thread Cert.KernelIdeal.nD Cert.KernelIdeal.τ).loc Cert.KernelIdeal.main_v4_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x320 : Shape := ⟨3, ![8, 4096, 320]⟩
abbrev S320 : Shape := ⟨1, ![320]⟩
abbrev S_ : Shape := ⟨0, ![]⟩

class Facts : Prop where
  bitsLt_bf16_f32 : FTy.bits .bf16 < FTy.bits .f32
  bcast_S_S8x4096x320 : S_.BroadcastsInDim S8x4096x320 (![] : Fin 0 → Fin S8x4096x320.rank)
  reducesTo_S8x4096x320_S_d0_1_2 : S8x4096x320.ReducesTo [0, 1, 2] S_
  h_S_ : 0 < S_.numel
  bcast_S_S320 : S_.BroadcastsInDim S320 (![] : Fin 0 → Fin S320.rank)
  reducesTo_S320_S_d0 : S320.ReducesTo [0] S_
  natLt_8_32 : 8 < 32

variable [Facts]

def fn_part1 {F : FTy → Type} [FloatOps F] (main_arg4 : FVec F S_ .f32) (main_v16 : IVec S_ 1) : IVec S_ 1 :=
  let main_v17 : FVec F S_ .f32 := Host.absf main_arg4
  let main_cst_5 : FVec F S_ .f32 := constant S_ .f32 0x7F800000#32
  let main_v18 : IVec S_ 1 := cmpf .olt main_v17 main_cst_5
  let main_v19 : IVec S_ 1 := andi main_v16 main_v18
  main_v19

def fn {F : FTy → Type} [FloatOps F] (main_arg0 : FVec F S8x4096x320 .bf16) (main_arg1 : FVec F S320 .f32) (main_arg2 : FVec F S320 .f32) (main_arg3 : IVec S8x4096x320 8) (main_arg4 : FVec F S_ .f32) : IVec S_ 1 :=
  let main_v0 : FVec F S8x4096x320 .f32 := (extf .f32 · bitsLt_bf16_f32) main_arg0
  let main_v1 : FVec F S8x4096x320 .f32 := Host.absf main_v0
  let main_cst : FVec F S_ .f32 := constant S_ .f32 0x7F800000#32
  let main_v2 : FVec F S8x4096x320 .f32 := broadcastInDim S8x4096x320 ![] bcast_S_S8x4096x320 main_cst
  let main_v3 : IVec S8x4096x320 1 := cmpf .olt main_v1 main_v2
  let main_c : IVec S_ 1 := constantI S_ 1 1#1
  let main_v4 : IVec S_ 1 := (fun x v => Host.reduce IntOp.andi x v reducesTo_S8x4096x320_S_d0_1_2 h_S_) main_v3 main_c
  let main_v5 : FVec F S320 .f32 := Host.absf main_arg1
  let main_cst_0 : FVec F S_ .f32 := constant S_ .f32 0x7F800000#32
  let main_v6 : FVec F S320 .f32 := broadcastInDim S320 ![] bcast_S_S320 main_cst_0
  let main_v7 : IVec S320 1 := cmpf .olt main_v5 main_v6
  let main_c_1 : IVec S_ 1 := constantI S_ 1 1#1
  let main_v8 : IVec S_ 1 := (fun x v => Host.reduce IntOp.andi x v reducesTo_S320_S_d0 h_S_) main_v7 main_c_1
  let main_v9 : IVec S_ 1 := andi main_v4 main_v8
  let main_v10 : IVec S8x4096x320 32 := (extsi 32 · natLt_8_32) main_arg3
  let main_c_2 : IVec S_ 32 := constantI S_ 32 124#32
  let main_v11 : IVec S8x4096x320 32 := broadcastInDim S8x4096x320 ![] bcast_S_S8x4096x320 main_c_2
  let main_v12 : IVec S8x4096x320 32 := andi main_v10 main_v11
  let main_c_3 : IVec S_ 32 := constantI S_ 32 124#32
  let main_v13 : IVec S8x4096x320 32 := broadcastInDim S8x4096x320 ![] bcast_S_S8x4096x320 main_c_3
  let main_v14 : IVec S8x4096x320 1 := cmpi .ne main_v12 main_v13
  let main_c_4 : IVec S_ 1 := constantI S_ 1 1#1
  let main_v15 : IVec S_ 1 := (fun x v => Host.reduce IntOp.andi x v reducesTo_S8x4096x320_S_d0_1_2 h_S_) main_v14 main_c_4
  let main_v16 : IVec S_ 1 := andi main_v9 main_v15
  fn_part1 (F := F) main_arg4 main_v16
-- ==== Kernel.lean ====
abbrev S8x4096x320 : Shape := ⟨3, ![8, 4096, 320]⟩
abbrev S320 : Shape := ⟨1, ![320]⟩
abbrev S_ : Shape := ⟨0, ![]⟩
abbrev S1x320 : Shape := ⟨2, ![1, 320]⟩
abbrev S1x1 : Shape := ⟨2, ![1, 1]⟩
abbrev S8x32 : Shape := ⟨2, ![8, 32]⟩
abbrev S1x4096x320 : Shape := ⟨3, ![1, 4096, 320]⟩
abbrev S384x384 : Shape := ⟨2, ![384, 384]⟩
abbrev S3x4096x128 : Shape := ⟨3, ![3, 4096, 128]⟩
abbrev S8x384 : Shape := ⟨2, ![8, 384]⟩
abbrev S1x384 : Shape := ⟨2, ![1, 384]⟩
abbrev S1x64 : Shape := ⟨2, ![1, 64]⟩
abbrev S8x128 : Shape := ⟨2, ![8, 128]⟩
abbrev S1x16x128 : Shape := ⟨3, ![1, 16, 128]⟩
abbrev S16x128 : Shape := ⟨2, ![16, 128]⟩
abbrev S2x8x128 : Shape := ⟨3, ![2, 8, 128]⟩
abbrev S1x16x64 : Shape := ⟨3, ![1, 16, 64]⟩
abbrev S16x64 : Shape := ⟨2, ![16, 64]⟩
abbrev S128 : Shape := ⟨1, ![128]⟩
abbrev S1x128 : Shape := ⟨2, ![1, 128]⟩
abbrev S24x384 : Shape := ⟨2, ![24, 384]⟩
abbrev S32x128 : Shape := ⟨2, ![32, 128]⟩
abbrev S1x32x128 : Shape := ⟨3, ![1, 32, 128]⟩
abbrev S4x8x128 : Shape := ⟨3, ![4, 8, 128]⟩
abbrev S1x32x64 : Shape := ⟨3, ![1, 32, 64]⟩
abbrev S32x64 : Shape := ⟨2, ![32, 64]⟩
abbrev S16x384 : Shape := ⟨2, ![16, 384]⟩
abbrev S48x384 : Shape := ⟨2, ![48, 384]⟩
abbrev S384 : Shape := ⟨1, ![384]⟩
abbrev S252x384 : Shape := ⟨2, ![252, 384]⟩
abbrev S384x128 : Shape := ⟨2, ![384, 128]⟩

abbrev nBuf : Space → Nat
  | .hbm => 13
  | .vmem => 15
  | .smem => 1
  | _ => 0

abbrev bufTy : (tb : Table) → Fin (tcTables nBuf tb) → BufTy
  | .hbm, ⟨0, _⟩ => ⟨S8x4096x320, .bf16⟩
  | .hbm, ⟨1, _⟩ => ⟨S320, .f32⟩
  | .hbm, ⟨2, _⟩ => ⟨S320, .f32⟩
  | .hbm, ⟨3, _⟩ => ⟨S8x4096x320, .i8⟩
  | .hbm, ⟨4, _⟩ => ⟨S_, .f32⟩
  | .hbm, ⟨5, _⟩ => ⟨S1x320, .f32⟩
  | .hbm, ⟨6, _⟩ => ⟨S1x320, .f32⟩
  | .hbm, ⟨7, _⟩ => ⟨S8x4096x320, .fp8e5m2⟩
  | .hbm, ⟨8, _⟩ => ⟨S1x1, .f32⟩
  | .hbm, ⟨9, _⟩ => ⟨S8x4096x320, .fp8e5m2⟩
  | .hbm, ⟨10, _⟩ => ⟨S8x32, .f32⟩
  | .hbm, ⟨11, _⟩ => ⟨S1x320, .f32⟩
  | .hbm, ⟨12, _⟩ => ⟨S1x320, .f32⟩
  | .local _ .vmem, ⟨0, _⟩ => ⟨S1x4096x320, .bf16⟩
  | .local _ .vmem, ⟨1, _⟩ => ⟨S1x4096x320, .bf16⟩
  | .local _ .vmem, ⟨2, _⟩ => ⟨S1x320, .f32⟩
  | .local _ .vmem, ⟨3, _⟩ => ⟨S1x320, .f32⟩
  | .local _ .vmem, ⟨4, _⟩ => ⟨S1x4096x320, .fp8e5m2⟩
  | .local _ .vmem, ⟨5, _⟩ => ⟨S1x4096x320, .fp8e5m2⟩
  | .local _ .vmem, ⟨6, _⟩ => ⟨S1x4096x320, .fp8e5m2⟩
  | .local _ .vmem, ⟨7, _⟩ => ⟨S1x4096x320, .fp8e5m2⟩
  | .local _ .vmem, ⟨8, _⟩ => ⟨S8x32, .f32⟩
  | .local _ .vmem, ⟨9, _⟩ => ⟨S1x320, .f32⟩
  | .local _ .vmem, ⟨10, _⟩ => ⟨S1x320, .f32⟩
  | .local _ .vmem, ⟨11, _⟩ => ⟨S384x384, .bf16⟩
  | .local _ .vmem, ⟨12, _⟩ => ⟨S3x4096x128, .f32⟩
  | .local _ .vmem, ⟨13, _⟩ => ⟨S3x4096x128, .f32⟩
  | .local _ .vmem, ⟨14, _⟩ => ⟨S8x384, .f32⟩
  | .local _ .smem, ⟨0, _⟩ => ⟨S1x1, .f32⟩
  | _, _ => ⟨S8x4096x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_7 : BitVec 32 := 0#32
  let c16_i32 : BitVec 32 := 16#32
  let v13 : BitVec 32 := Scalar.addi c0_i32_7 c16_i32
  let c1_i32 : BitVec 32 := 1#32
  ⟨c0_i32_7, v13, c1_i32⟩
def k0_mult1 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32 : BitVec 32 := 256#32
  let v299 : BitVec 32 := Scalar.muli arg14 c256_i32
  v299
def k0_off1 (k0_t1 : Fin k0_t1_loop.trips) (c0_i32_106 : BitVec 32) : Fin 3 → Nat :=
  let c0_107 : Index := 0#32
  let c0_i32_7 : BitVec 32 := 0#32
  let c1_i32 : BitVec 32 := 1#32
  let arg14 : BitVec 32 := Scf.iv c0_i32_7 c1_i32 k0_t1
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c0_108 : Index := 0#32
  ![0, v302.toNat, 0]
def k0_mult2 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_111 : BitVec 32 := 256#32
  let v313 : BitVec 32 := Scalar.muli arg14 c256_i32_111
  v313
def k0_mult3 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_117 : BitVec 32 := 256#32
  let v327 : BitVec 32 := Scalar.muli arg14 c256_i32_117
  v327
def k0_mult4 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_122 : BitVec 32 := 256#32
  let v341 : BitVec 32 := Scalar.muli arg14 c256_i32_122
  v341
def k0_mult5 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_127 : BitVec 32 := 256#32
  let v355 : BitVec 32 := Scalar.muli arg14 c256_i32_127
  v355
def k0_mult6 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_132 : BitVec 32 := 256#32
  let v369 : BitVec 32 := Scalar.muli arg14 c256_i32_132
  v369
def k0_mult7 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_137 : BitVec 32 := 256#32
  let v383 : BitVec 32 := Scalar.muli arg14 c256_i32_137
  v383
def k0_mult8 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_142 : BitVec 32 := 256#32
  let v397 : BitVec 32 := Scalar.muli arg14 c256_i32_142
  v397
def k0_mult9 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_147 : BitVec 32 := 256#32
  let v411 : BitVec 32 := Scalar.muli arg14 c256_i32_147
  v411
def k0_mult10 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_152 : BitVec 32 := 256#32
  let v425 : BitVec 32 := Scalar.muli arg14 c256_i32_152
  v425
def k0_mult11 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_157 : BitVec 32 := 256#32
  let v439 : BitVec 32 := Scalar.muli arg14 c256_i32_157
  v439
def k0_mult12 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_162 : BitVec 32 := 256#32
  let v453 : BitVec 32 := Scalar.muli arg14 c256_i32_162
  v453
def k0_mult13 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_167 : BitVec 32 := 256#32
  let v467 : BitVec 32 := Scalar.muli arg14 c256_i32_167
  v467
def k0_mult14 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_172 : BitVec 32 := 256#32
  let v481 : BitVec 32 := Scalar.muli arg14 c256_i32_172
  v481
def k0_mult15 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_177 : BitVec 32 := 256#32
  let v495 : BitVec 32 := Scalar.muli arg14 c256_i32_177
  v495
def k0_mult16 (k0_t1 : Fin k0_t1_loop.trips) : BitVec 32 :=
  let c0_i32_7 : BitVec 32 := 0#32
  let c1_i32 : BitVec 32 := 1#32
  let arg14 : BitVec 32 := Scf.iv c0_i32_7 c1_i32 k0_t1
  let c256_i32_182 : BitVec 32 := 256#32
  let v509 : BitVec 32 := Scalar.muli arg14 c256_i32_182
  v509
@[reducible] def k0_t2_loop : Scf.Loop 32 :=
  let c0_i32_9 : BitVec 32 := 0#32
  let c16_i32_10 : BitVec 32 := 16#32
  let v15 : BitVec 32 := Scalar.addi c0_i32_9 c16_i32_10
  let c1_i32_11 : BitVec 32 := 1#32
  ⟨c0_i32_9, v15, c1_i32_11⟩
def k0_mult17 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32 : BitVec 32 := 256#32
  let v299 : BitVec 32 := Scalar.muli arg14 c256_i32
  v299
def k0_off2 (k0_t2 : Fin k0_t2_loop.trips) (c0_i32_106 : BitVec 32) : Fin 3 → Nat :=
  let c0_107 : Index := 0#32
  let c0_i32_9 : BitVec 32 := 0#32
  let c1_i32_11 : BitVec 32 := 1#32
  let arg14 : BitVec 32 := Scf.iv c0_i32_9 c1_i32_11 k0_t2
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c128 : Index := 128#32
  ![0, v302.toNat, 128]
def k0_mult18 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_110 : BitVec 32 := 256#32
  let v313 : BitVec 32 := Scalar.muli arg14 c256_i32_110
  v313
def k0_mult19 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_116 : BitVec 32 := 256#32
  let v327 : BitVec 32 := Scalar.muli arg14 c256_i32_116
  v327
def k0_mult20 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_121 : BitVec 32 := 256#32
  let v341 : BitVec 32 := Scalar.muli arg14 c256_i32_121
  v341
def k0_mult21 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_126 : BitVec 32 := 256#32
  let v355 : BitVec 32 := Scalar.muli arg14 c256_i32_126
  v355
def k0_mult22 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_131 : BitVec 32 := 256#32
  let v369 : BitVec 32 := Scalar.muli arg14 c256_i32_131
  v369
def k0_mult23 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_136 : BitVec 32 := 256#32
  let v383 : BitVec 32 := Scalar.muli arg14 c256_i32_136
  v383
def k0_mult24 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_141 : BitVec 32 := 256#32
  let v397 : BitVec 32 := Scalar.muli arg14 c256_i32_141
  v397
def k0_mult25 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_146 : BitVec 32 := 256#32
  let v411 : BitVec 32 := Scalar.muli arg14 c256_i32_146
  v411
def k0_mult26 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_151 : BitVec 32 := 256#32
  let v425 : BitVec 32 := Scalar.muli arg14 c256_i32_151
  v425
def k0_mult27 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_156 : BitVec 32 := 256#32
  let v439 : BitVec 32 := Scalar.muli arg14 c256_i32_156
  v439
def k0_mult28 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_161 : BitVec 32 := 256#32
  let v453 : BitVec 32 := Scalar.muli arg14 c256_i32_161
  v453
def k0_mult29 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_166 : BitVec 32 := 256#32
  let v467 : BitVec 32 := Scalar.muli arg14 c256_i32_166
  v467
def k0_mult30 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_171 : BitVec 32 := 256#32
  let v481 : BitVec 32 := Scalar.muli arg14 c256_i32_171
  v481
def k0_mult31 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_176 : BitVec 32 := 256#32
  let v495 : BitVec 32 := Scalar.muli arg14 c256_i32_176
  v495
def k0_mult32 (k0_t2 : Fin k0_t2_loop.trips) : BitVec 32 :=
  let c0_i32_9 : BitVec 32 := 0#32
  let c1_i32_11 : BitVec 32 := 1#32
  let arg14 : BitVec 32 := Scf.iv c0_i32_9 c1_i32_11 k0_t2
  let c256_i32_181 : BitVec 32 := 256#32
  let v509 : BitVec 32 := Scalar.muli arg14 c256_i32_181
  v509
@[reducible] def k0_t3_loop : Scf.Loop 32 :=
  let c0_i32_13 : BitVec 32 := 0#32
  let c8_i32 : BitVec 32 := 8#32
  let v17 : BitVec 32 := Scalar.addi c0_i32_13 c8_i32
  let c1_i32_14 : BitVec 32 := 1#32
  ⟨c0_i32_13, v17, c1_i32_14⟩
def k0_mult33 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32 : BitVec 32 := 256#32
  let v299 : BitVec 32 := Scalar.muli arg14 c256_i32
  v299
def k0_off3 (k0_t3 : Fin k0_t3_loop.trips) (c0_i32_106 : BitVec 32) : Fin 3 → Nat :=
  let c0_107 : Index := 0#32
  let c0_i32_13 : BitVec 32 := 0#32
  let c1_i32_14 : BitVec 32 := 1#32
  let arg14 : BitVec 32 := Scf.iv c0_i32_13 c1_i32_14 k0_t3
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c256 : Index := 256#32
  ![0, v302.toNat, 256]
def k0_off4 (k0_t3 : Fin k0_t3_loop.trips) (c0_i32_106 : BitVec 32) : Fin 3 → Nat :=
  let c0_108 : Index := 0#32
  let c0_i32_13 : BitVec 32 := 0#32
  let c1_i32_14 : BitVec 32 := 1#32
  let arg14 : BitVec 32 := Scf.iv c0_i32_13 c1_i32_14 k0_t3
  let c256_i32 : BitVec 32 := 256#32
  let v299 : BitVec 32 := Scalar.muli arg14 c256_i32
  let v300 : BitVec 32 := v299
  let v301 : BitVec 32 := Scalar.addi v300 c0_i32_106
  let c2048_i32 : BitVec 32 := 2048#32
  let v305 : BitVec 32 := Scalar.addi v301 c2048_i32
  let v306 : Index := Scalar.indexCast v305
  let c256_109 : Index := 256#32
  ![0, v306.toNat, 256]
def k0_mult34 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_112 : BitVec 32 := 256#32
  let v318 : BitVec 32 := Scalar.muli arg14 c256_i32_112
  v318
def k0_mult35 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_121 : BitVec 32 := 256#32
  let v337 : BitVec 32 := Scalar.muli arg14 c256_i32_121
  v337
def k0_mult36 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_129 : BitVec 32 := 256#32
  let v356 : BitVec 32 := Scalar.muli arg14 c256_i32_129
  v356
def k0_mult37 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_137 : BitVec 32 := 256#32
  let v375 : BitVec 32 := Scalar.muli arg14 c256_i32_137
  v375
def k0_mult38 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_145 : BitVec 32 := 256#32
  let v394 : BitVec 32 := Scalar.muli arg14 c256_i32_145
  v394
def k0_mult39 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_153 : BitVec 32 := 256#32
  let v413 : BitVec 32 := Scalar.muli arg14 c256_i32_153
  v413
def k0_mult40 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_161 : BitVec 32 := 256#32
  let v432 : BitVec 32 := Scalar.muli arg14 c256_i32_161
  v432
def k0_mult41 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_169 : BitVec 32 := 256#32
  let v451 : BitVec 32 := Scalar.muli arg14 c256_i32_169
  v451
def k0_mult42 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_177 : BitVec 32 := 256#32
  let v470 : BitVec 32 := Scalar.muli arg14 c256_i32_177
  v470
def k0_mult43 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_185 : BitVec 32 := 256#32
  let v489 : BitVec 32 := Scalar.muli arg14 c256_i32_185
  v489
def k0_mult44 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_193 : BitVec 32 := 256#32
  let v508 : BitVec 32 := Scalar.muli arg14 c256_i32_193
  v508
def k0_mult45 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_201 : BitVec 32 := 256#32
  let v527 : BitVec 32 := Scalar.muli arg14 c256_i32_201
  v527
def k0_mult46 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_209 : BitVec 32 := 256#32
  let v546 : BitVec 32 := Scalar.muli arg14 c256_i32_209
  v546
def k0_mult47 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_217 : BitVec 32 := 256#32
  let v565 : BitVec 32 := Scalar.muli arg14 c256_i32_217
  v565
def k0_mult48 (k0_t3 : Fin k0_t3_loop.trips) : BitVec 32 :=
  let c0_i32_13 : BitVec 32 := 0#32
  let c1_i32_14 : BitVec 32 := 1#32
  let arg14 : BitVec 32 := Scf.iv c0_i32_13 c1_i32_14 k0_t3
  let c256_i32_225 : BitVec 32 := 256#32
  let v584 : BitVec 32 := Scalar.muli arg14 c256_i32_225
  v584
@[reducible] def k0_t4_loop : Scf.Loop 32 :=
  let c0_i32_27 : BitVec 32 := 0#32
  let c16_i32_28 : BitVec 32 := 16#32
  let v74 : BitVec 32 := Scalar.addi c0_i32_27 c16_i32_28
  let c1_i32_29 : BitVec 32 := 1#32
  ⟨c0_i32_27, v74, c1_i32_29⟩
def k0_mult49 (k0_t4 : Fin k0_t4_loop.trips) : BitVec 32 :=
  let c0_i32_27 : BitVec 32 := 0#32
  let c1_i32_29 : BitVec 32 := 1#32
  let arg14 : BitVec 32 := Scf.iv c0_i32_27 c1_i32_29 k0_t4
  let c256_i32 : BitVec 32 := 256#32
  let v299 : BitVec 32 := Scalar.muli arg14 c256_i32
  v299
def k0_off5 (k0_t4 : Fin k0_t4_loop.trips) (c0_i32_106 : BitVec 32) : Fin 3 → Nat :=
  let c0_107 : Index := 0#32
  let c0_i32_27 : BitVec 32 := 0#32
  let c1_i32_29 : BitVec 32 := 1#32
  let arg14 : BitVec 32 := Scf.iv c0_i32_27 c1_i32_29 k0_t4
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c0_108 : Index := 0#32
  ![0, v302.toNat, 0]
def k0_off6 (k0_t4 : Fin k0_t4_loop.trips) (c0_i32_106 : BitVec 32) : Fin 3 → Nat :=
  let c0_115 : Index := 0#32
  let c0_i32_27 : BitVec 32 := 0#32
  let c1_i32_29 : BitVec 32 := 1#32
  let arg14 : BitVec 32 := Scf.iv c0_i32_27 c1_i32_29 k0_t4
  let c256_i32 : BitVec 32 := 256#32
  let v299 : BitVec 32 := Scalar.muli arg14 c256_i32
  let v300 : BitVec 32 := v299
  let v301 : BitVec 32 := Scalar.addi v300 c0_i32_106
  let v327 : Index := Scalar.indexCast v301
  let c0_116 : Index := 0#32
  ![0, v327.toNat, 0]
def k0_mult50 (k0_t4 : Fin k0_t4_loop.trips) : BitVec 32 :=
  let c0_i32_27 : BitVec 32 := 0#32
  let c1_i32_29 : BitVec 32 := 1#32
  let arg14 : BitVec 32 := Scf.iv c0_i32_27 c1_i32_29 k0_t4
  let c256_i32_119 : BitVec 32 := 256#32
  let v335 : BitVec 32 := Scalar.muli arg14 c256_i32_119
  v335
def k0_mult51 (k0_t4 : Fin k0_t4_loop.trips) : BitVec 32 :=
  let c0_i32_27 : BitVec 32 := 0#32
  let c1_i32_29 : BitVec 32 := 1#32
  let arg14 : BitVec 32 := Scf.iv c0_i32_27 c1_i32_29 k0_t4
  let c256_i32_132 : BitVec 32 := 256#32
  let v371 : BitVec 32 := Scalar.muli arg14 c256_i32_132
  v371
def k0_mult52 (k0_t4 : Fin k0_t4_loop.trips) : BitVec 32 :=
  let c0_i32_27 : BitVec 32 := 0#32
  let c1_i32_29 : BitVec 32 := 1#32
  let arg14 : BitVec 32 := Scf.iv c0_i32_27 c1_i32_29 k0_t4
  let c256_i32_145 : BitVec 32 := 256#32
  let v407 : BitVec 32 := Scalar.muli arg14 c256_i32_145
  v407
def k0_mult53 (k0_t4 : Fin k0_t4_loop.trips) : BitVec 32 :=
  let c0_i32_27 : BitVec 32 := 0#32
  let c1_i32_29 : BitVec 32 := 1#32
  let arg14 : BitVec 32 := Scf.iv c0_i32_27 c1_i32_29 k0_t4
  let c256_i32_158 : BitVec 32 := 256#32
  let v443 : BitVec 32 := Scalar.muli arg14 c256_i32_158
  v443
def k0_mult54 (k0_t4 : Fin k0_t4_loop.trips) : BitVec 32 :=
  let c0_i32_27 : BitVec 32 := 0#32
  let c1_i32_29 : BitVec 32 := 1#32
  let arg14 : BitVec 32 := Scf.iv c0_i32_27 c1_i32_29 k0_t4
  let c256_i32_171 : BitVec 32 := 256#32
  let v479 : BitVec 32 := Scalar.muli arg14 c256_i32_171
  v479
def k0_mult55 (k0_t4 : Fin k0_t4_loop.trips) : BitVec 32 :=
  let c0_i32_27 : BitVec 32 := 0#32
  let c1_i32_29 : BitVec 32 := 1#32
  let arg14 : BitVec 32 := Scf.iv c0_i32_27 c1_i32_29 k0_t4
  let c256_i32_184 : BitVec 32 := 256#32
  let v515 : BitVec 32 := Scalar.muli arg14 c256_i32_184
  v515
def k0_mult56 (k0_t4 : Fin k0_t4_loop.trips) : BitVec 32 :=
  let c0_i32_27 : BitVec 32 := 0#32
  let c1_i32_29 : BitVec 32 := 1#32
  let arg14 : BitVec 32 := Scf.iv c0_i32_27 c1_i32_29 k0_t4
  let c256_i32_197 : BitVec 32 := 256#32
  let v551 : BitVec 32 := Scalar.muli arg14 c256_i32_197
  v551
@[reducible] def k0_t5_loop : Scf.Loop 32 :=
  let c0_i32_31 : BitVec 32 := 0#32
  let c16_i32_32 : BitVec 32 := 16#32
  let v82 : BitVec 32 := Scalar.addi c0_i32_31 c16_i32_32
  let c1_i32_33 : BitVec 32 := 1#32
  ⟨c0_i32_31, v82, c1_i32_33⟩
def k0_mult57 (k0_t5 : Fin k0_t5_loop.trips) : BitVec 32 :=
  let c0_i32_31 : BitVec 32 := 0#32
  let c1_i32_33 : BitVec 32 := 1#32
  let arg14 : BitVec 32 := Scf.iv c0_i32_31 c1_i32_33 k0_t5
  let c256_i32 : BitVec 32 := 256#32
  let v299 : BitVec 32 := Scalar.muli arg14 c256_i32
  v299
def k0_off7 (k0_t5 : Fin k0_t5_loop.trips) (c0_i32_106 : BitVec 32) : Fin 3 → Nat :=
  let c0_107 : Index := 0#32
  let c0_i32_31 : BitVec 32 := 0#32
  let c1_i32_33 : BitVec 32 := 1#32
  let arg14 : BitVec 32 := Scf.iv c0_i32_31 c1_i32_33 k0_t5
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c128 : Index := 128#32
  ![0, v302.toNat, 128]
def k0_off8 (k0_t5 : Fin k0_t5_loop.trips) (c0_i32_106 : BitVec 32) : Fin 3 → Nat :=
  let c1 : Index := 1#32
  let c0_i32_31 : BitVec 32 := 0#32
  let c1_i32_33 : BitVec 32 := 1#32
  let arg14 : BitVec 32 := Scf.iv c0_i32_31 c1_i32_33 k0_t5
  let c256_i32 : BitVec 32 := 256#32
  let v299 : BitVec 32 := Scalar.muli arg14 c256_i32
  let v300 : BitVec 32 := v299
  let v301 : BitVec 32 := Scalar.addi v300 c0_i32_106
  let v327 : Index := Scalar.indexCast v301
  let c0_114 : Index := 0#32
  ![1, v327.toNat, 0]
def k0_mult58 (k0_t5 : Fin k0_t5_loop.trips) : BitVec 32 :=
  let c0_i32_31 : BitVec 32 := 0#32
  let c1_i32_33 : BitVec 32 := 1#32
  let arg14 : BitVec 32 := Scf.iv c0_i32_31 c1_i32_33 k0_t5
  let c256_i32_117 : BitVec 32 := 256#32
  let v335 : BitVec 32 := Scalar.muli arg14 c256_i32_117
  v335
def k0_mult59 (k0_t5 : Fin k0_t5_loop.trips) : BitVec 32 :=
  let c0_i32_31 : BitVec 32 := 0#32
  let c1_i32_33 : BitVec 32 := 1#32
  let arg14 : BitVec 32 := Scf.iv c0_i32_31 c1_i32_33 k0_t5
  let c256_i32_130 : BitVec 32 := 256#32
  let v371 : BitVec 32 := Scalar.muli arg14 c256_i32_130
  v371
def k0_mult60 (k0_t5 : Fin k0_t5_loop.trips) : BitVec 32 :=
  let c0_i32_31 : BitVec 32 := 0#32
  let c1_i32_33 : BitVec 32 := 1#32
  let arg14 : BitVec 32 := Scf.iv c0_i32_31 c1_i32_33 k0_t5
  let c256_i32_143 : BitVec 32 := 256#32
  let v407 : BitVec 32 := Scalar.muli arg14 c256_i32_143
  v407
def k0_mult61 (k0_t5 : Fin k0_t5_loop.trips) : BitVec 32 :=
  let c0_i32_31 : BitVec 32 := 0#32
  let c1_i32_33 : BitVec 32 := 1#32
  let arg14 : BitVec 32 := Scf.iv c0_i32_31 c1_i32_33 k0_t5
  let c256_i32_156 : BitVec 32 := 256#32
  let v443 : BitVec 32 := Scalar.muli arg14 c256_i32_156
  v443
def k0_mult62 (k0_t5 : Fin k0_t5_loop.trips) : BitVec 32 :=
  let c0_i32_31 : BitVec 32 := 0#32
  let c1_i32_33 : BitVec 32 := 1#32
  let arg14 : BitVec 32 := Scf.iv c0_i32_31 c1_i32_33 k0_t5
  let c256_i32_169 : BitVec 32 := 256#32
  let v479 : BitVec 32 := Scalar.muli arg14 c256_i32_169
  v479
def k0_mult63 (k0_t5 : Fin k0_t5_loop.trips) : BitVec 32 :=
  let c0_i32_31 : BitVec 32 := 0#32
  let c1_i32_33 : BitVec 32 := 1#32
  let arg14 : BitVec 32 := Scf.iv c0_i32_31 c1_i32_33 k0_t5
  let c256_i32_182 : BitVec 32 := 256#32
  let v515 : BitVec 32 := Scalar.muli arg14 c256_i32_182
  v515
def k0_mult64 (k0_t5 : Fin k0_t5_loop.trips) : BitVec 32 :=
  let c0_i32_31 : BitVec 32 := 0#32
  let c1_i32_33 : BitVec 32 := 1#32
  let arg14 : BitVec 32 := Scf.iv c0_i32_31 c1_i32_33 k0_t5
  let c256_i32_195 : BitVec 32 := 256#32
  let v551 : BitVec 32 := Scalar.muli arg14 c256_i32_195
  v551
@[reducible] def k0_t6_loop : Scf.Loop 32 :=
  let c0_i32_35 : BitVec 32 := 0#32
  let c8_i32_36 : BitVec 32 := 8#32
  let v92 : BitVec 32 := Scalar.addi c0_i32_35 c8_i32_36
  let c1_i32_37 : BitVec 32 := 1#32
  ⟨c0_i32_35, v92, c1_i32_37⟩
def k0_mult65 (k0_t6 : Fin k0_t6_loop.trips) : BitVec 32 :=
  let c0_i32_35 : BitVec 32 := 0#32
  let c1_i32_37 : BitVec 32 := 1#32
  let arg14 : BitVec 32 := Scf.iv c0_i32_35 c1_i32_37 k0_t6
  let c256_i32 : BitVec 32 := 256#32
  let v299 : BitVec 32 := Scalar.muli arg14 c256_i32
  v299
def k0_off9 (k0_t6 : Fin k0_t6_loop.trips) (c0_i32_106 : BitVec 32) : Fin 3 → Nat :=
  let c0_107 : Index := 0#32
  let c0_i32_35 : BitVec 32 := 0#32
  let c1_i32_37 : BitVec 32 := 1#32
  let arg14 : BitVec 32 := Scf.iv c0_i32_35 c1_i32_37 k0_t6
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c256 : Index := 256#32
  ![0, v302.toNat, 256]
def k0_off10 (k0_t6 : Fin k0_t6_loop.trips) (c0_i32_106 : BitVec 32) : Fin 3 → Nat :=
  let c0_108 : Index := 0#32
  let c0_i32_35 : BitVec 32 := 0#32
  let c1_i32_37 : BitVec 32 := 1#32
  let arg14 : BitVec 32 := Scf.iv c0_i32_35 c1_i32_37 k0_t6
  let c256_i32 : BitVec 32 := 256#32
  let v299 : BitVec 32 := Scalar.muli arg14 c256_i32
  let v300 : BitVec 32 := v299
  let v301 : BitVec 32 := Scalar.addi v300 c0_i32_106
  let c2048_i32 : BitVec 32 := 2048#32
  let v305 : BitVec 32 := Scalar.addi v301 c2048_i32
  let v306 : Index := Scalar.indexCast v305
  let c256_109 : Index := 256#32
  ![0, v306.toNat, 256]
def k0_off11 (k0_t6 : Fin k0_t6_loop.trips) (c0_i32_106 : BitVec 32) : Fin 3 → Nat :=
  let c2 : Index := 2#32
  let c0_i32_35 : BitVec 32 := 0#32
  let c1_i32_37 : BitVec 32 := 1#32
  let arg14 : BitVec 32 := Scf.iv c0_i32_35 c1_i32_37 k0_t6
  let c256_i32 : BitVec 32 := 256#32
  let v299 : BitVec 32 := Scalar.muli arg14 c256_i32
  let v300 : BitVec 32 := v299
  let v301 : BitVec 32 := Scalar.addi v300 c0_i32_106
  let v337 : Index := Scalar.indexCast v301
  let c0_119 : Index := 0#32
  ![2, v337.toNat, 0]
def k0_mult66 (k0_t6 : Fin k0_t6_loop.trips) : BitVec 32 :=
  let c0_i32_35 : BitVec 32 := 0#32
  let c1_i32_37 : BitVec 32 := 1#32
  let arg14 : BitVec 32 := Scf.iv c0_i32_35 c1_i32_37 k0_t6
  let c256_i32_122 : BitVec 32 := 256#32
  let v345 : BitVec 32 := Scalar.muli arg14 c256_i32_122
  v345
def k0_mult67 (k0_t6 : Fin k0_t6_loop.trips) : BitVec 32 :=
  let c0_i32_35 : BitVec 32 := 0#32
  let c1_i32_37 : BitVec 32 := 1#32
  let arg14 : BitVec 32 := Scf.iv c0_i32_35 c1_i32_37 k0_t6
  let c256_i32_141 : BitVec 32 := 256#32
  let v391 : BitVec 32 := Scalar.muli arg14 c256_i32_141
  v391
def k0_mult68 (k0_t6 : Fin k0_t6_loop.trips) : BitVec 32 :=
  let c0_i32_35 : BitVec 32 := 0#32
  let c1_i32_37 : BitVec 32 := 1#32
  let arg14 : BitVec 32 := Scf.iv c0_i32_35 c1_i32_37 k0_t6
  let c256_i32_160 : BitVec 32 := 256#32
  let v437 : BitVec 32 := Scalar.muli arg14 c256_i32_160
  v437
def k0_mult69 (k0_t6 : Fin k0_t6_loop.trips) : BitVec 32 :=
  let c0_i32_35 : BitVec 32 := 0#32
  let c1_i32_37 : BitVec 32 := 1#32
  let arg14 : BitVec 32 := Scf.iv c0_i32_35 c1_i32_37 k0_t6
  let c256_i32_179 : BitVec 32 := 256#32
  let v483 : BitVec 32 := Scalar.muli arg14 c256_i32_179
  v483
def k0_mult70 (k0_t6 : Fin k0_t6_loop.trips) : BitVec 32 :=
  let c0_i32_35 : BitVec 32 := 0#32
  let c1_i32_37 : BitVec 32 := 1#32
  let arg14 : BitVec 32 := Scf.iv c0_i32_35 c1_i32_37 k0_t6
  let c256_i32_198 : BitVec 32 := 256#32
  let v529 : BitVec 32 := Scalar.muli arg14 c256_i32_198
  v529
def k0_mult71 (k0_t6 : Fin k0_t6_loop.trips) : BitVec 32 :=
  let c0_i32_35 : BitVec 32 := 0#32
  let c1_i32_37 : BitVec 32 := 1#32
  let arg14 : BitVec 32 := Scf.iv c0_i32_35 c1_i32_37 k0_t6
  let c256_i32_217 : BitVec 32 := 256#32
  let v575 : BitVec 32 := Scalar.muli arg14 c256_i32_217
  v575
def k0_mult72 (k0_t6 : Fin k0_t6_loop.trips) : BitVec 32 :=
  let c0_i32_35 : BitVec 32 := 0#32
  let c1_i32_37 : BitVec 32 := 1#32
  let arg14 : BitVec 32 := Scf.iv c0_i32_35 c1_i32_37 k0_t6
  let c256_i32_236 : BitVec 32 := 256#32
  let v621 : BitVec 32 := Scalar.muli arg14 c256_i32_236
  v621
@[reducible] def k0_t7_loop : Scf.Loop 32 :=
  let c0_i32_59 : BitVec 32 := 0#32
  let c16_i32_60 : BitVec 32 := 16#32
  let v169 : BitVec 32 := Scalar.addi c0_i32_59 c16_i32_60
  let c1_i32_61 : BitVec 32 := 1#32
  ⟨c0_i32_59, v169, c1_i32_61⟩
def k0_mult73 (k0_t7 : Fin k0_t7_loop.trips) : BitVec 32 :=
  let c0_i32_59 : BitVec 32 := 0#32
  let c1_i32_61 : BitVec 32 := 1#32
  let arg14 : BitVec 32 := Scf.iv c0_i32_59 c1_i32_61 k0_t7
  let c256_i32 : BitVec 32 := 256#32
  let v299 : BitVec 32 := Scalar.muli arg14 c256_i32
  v299
def k0_off12 (k0_t7 : Fin k0_t7_loop.trips) (c0_i32_106 : BitVec 32) : Fin 3 → Nat :=
  let c0_107 : Index := 0#32
  let c0_i32_59 : BitVec 32 := 0#32
  let c1_i32_61 : BitVec 32 := 1#32
  let arg14 : BitVec 32 := Scf.iv c0_i32_59 c1_i32_61 k0_t7
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c0_108 : Index := 0#32
  ![0, v302.toNat, 0]
def k0_mult74 (k0_t7 : Fin k0_t7_loop.trips) : BitVec 32 :=
  let c0_i32_59 : BitVec 32 := 0#32
  let c1_i32_61 : BitVec 32 := 1#32
  let arg14 : BitVec 32 := Scf.iv c0_i32_59 c1_i32_61 k0_t7
  let c256_i32_114 : BitVec 32 := 256#32
  let v320 : BitVec 32 := Scalar.muli arg14 c256_i32_114
  v320
def k0_mult75 (k0_t7 : Fin k0_t7_loop.trips) : BitVec 32 :=
  let c0_i32_59 : BitVec 32 := 0#32
  let c1_i32_61 : BitVec 32 := 1#32
  let arg14 : BitVec 32 := Scf.iv c0_i32_59 c1_i32_61 k0_t7
  let c256_i32_122 : BitVec 32 := 256#32
  let v341 : BitVec 32 := Scalar.muli arg14 c256_i32_122
  v341
def k0_mult76 (k0_t7 : Fin k0_t7_loop.trips) : BitVec 32 :=
  let c0_i32_59 : BitVec 32 := 0#32
  let c1_i32_61 : BitVec 32 := 1#32
  let arg14 : BitVec 32 := Scf.iv c0_i32_59 c1_i32_61 k0_t7
  let c256_i32_130 : BitVec 32 := 256#32
  let v362 : BitVec 32 := Scalar.muli arg14 c256_i32_130
  v362
def k0_mult77 (k0_t7 : Fin k0_t7_loop.trips) : BitVec 32 :=
  let c0_i32_59 : BitVec 32 := 0#32
  let c1_i32_61 : BitVec 32 := 1#32
  let arg14 : BitVec 32 := Scf.iv c0_i32_59 c1_i32_61 k0_t7
  let c256_i32_138 : BitVec 32 := 256#32
  let v383 : BitVec 32 := Scalar.muli arg14 c256_i32_138
  v383
def k0_mult78 (k0_t7 : Fin k0_t7_loop.trips) : BitVec 32 :=
  let c0_i32_59 : BitVec 32 := 0#32
  let c1_i32_61 : BitVec 32 := 1#32
  let arg14 : BitVec 32 := Scf.iv c0_i32_59 c1_i32_61 k0_t7
  let c256_i32_146 : BitVec 32 := 256#32
  let v404 : BitVec 32 := Scalar.muli arg14 c256_i32_146
  v404
def k0_mult79 (k0_t7 : Fin k0_t7_loop.trips) : BitVec 32 :=
  let c0_i32_59 : BitVec 32 := 0#32
  let c1_i32_61 : BitVec 32 := 1#32
  let arg14 : BitVec 32 := Scf.iv c0_i32_59 c1_i32_61 k0_t7
  let c256_i32_154 : BitVec 32 := 256#32
  let v425 : BitVec 32 := Scalar.muli arg14 c256_i32_154
  v425
def k0_mult80 (k0_t7 : Fin k0_t7_loop.trips) : BitVec 32 :=
  let c0_i32_59 : BitVec 32 := 0#32
  let c1_i32_61 : BitVec 32 := 1#32
  let arg14 : BitVec 32 := Scf.iv c0_i32_59 c1_i32_61 k0_t7
  let c256_i32_162 : BitVec 32 := 256#32
  let v446 : BitVec 32 := Scalar.muli arg14 c256_i32_162
  v446
@[reducible] def k0_t8_loop : Scf.Loop 32 :=
  let c0_i32_63 : BitVec 32 := 0#32
  let c16_i32_64 : BitVec 32 := 16#32
  let v180 : BitVec 32 := Scalar.addi c0_i32_63 c16_i32_64
  let c1_i32_65 : BitVec 32 := 1#32
  ⟨c0_i32_63, v180, c1_i32_65⟩
def k0_mult81 (k0_t8 : Fin k0_t8_loop.trips) : BitVec 32 :=
  let c0_i32_63 : BitVec 32 := 0#32
  let c1_i32_65 : BitVec 32 := 1#32
  let arg14 : BitVec 32 := Scf.iv c0_i32_63 c1_i32_65 k0_t8
  let c256_i32 : BitVec 32 := 256#32
  let v299 : BitVec 32 := Scalar.muli arg14 c256_i32
  v299
def k0_off13 (k0_t8 : Fin k0_t8_loop.trips) (c0_i32_106 : BitVec 32) : Fin 3 → Nat :=
  let c1 : Index := 1#32
  let c0_i32_63 : BitVec 32 := 0#32
  let c1_i32_65 : BitVec 32 := 1#32
  let arg14 : BitVec 32 := Scf.iv c0_i32_63 c1_i32_65 k0_t8
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c0_107 : Index := 0#32
  ![1, v302.toNat, 0]
def k0_mult82 (k0_t8 : Fin k0_t8_loop.trips) : BitVec 32 :=
  let c0_i32_63 : BitVec 32 := 0#32
  let c1_i32_65 : BitVec 32 := 1#32
  let arg14 : BitVec 32 := Scf.iv c0_i32_63 c1_i32_65 k0_t8
  let c256_i32_113 : BitVec 32 := 256#32
  let v320 : BitVec 32 := Scalar.muli arg14 c256_i32_113
  v320
def k0_mult83 (k0_t8 : Fin k0_t8_loop.trips) : BitVec 32 :=
  let c0_i32_63 : BitVec 32 := 0#32
  let c1_i32_65 : BitVec 32 := 1#32
  let arg14 : BitVec 32 := Scf.iv c0_i32_63 c1_i32_65 k0_t8
  let c256_i32_121 : BitVec 32 := 256#32
  let v341 : BitVec 32 := Scalar.muli arg14 c256_i32_121
  v341
def k0_mult84 (k0_t8 : Fin k0_t8_loop.trips) : BitVec 32 :=
  let c0_i32_63 : BitVec 32 := 0#32
  let c1_i32_65 : BitVec 32 := 1#32
  let arg14 : BitVec 32 := Scf.iv c0_i32_63 c1_i32_65 k0_t8
  let c256_i32_129 : BitVec 32 := 256#32
  let v362 : BitVec 32 := Scalar.muli arg14 c256_i32_129
  v362
def k0_mult85 (k0_t8 : Fin k0_t8_loop.trips) : BitVec 32 :=
  let c0_i32_63 : BitVec 32 := 0#32
  let c1_i32_65 : BitVec 32 := 1#32
  let arg14 : BitVec 32 := Scf.iv c0_i32_63 c1_i32_65 k0_t8
  let c256_i32_137 : BitVec 32 := 256#32
  let v383 : BitVec 32 := Scalar.muli arg14 c256_i32_137
  v383
def k0_mult86 (k0_t8 : Fin k0_t8_loop.trips) : BitVec 32 :=
  let c0_i32_63 : BitVec 32 := 0#32
  let c1_i32_65 : BitVec 32 := 1#32
  let arg14 : BitVec 32 := Scf.iv c0_i32_63 c1_i32_65 k0_t8
  let c256_i32_145 : BitVec 32 := 256#32
  let v404 : BitVec 32 := Scalar.muli arg14 c256_i32_145
  v404
def k0_mult87 (k0_t8 : Fin k0_t8_loop.trips) : BitVec 32 :=
  let c0_i32_63 : BitVec 32 := 0#32
  let c1_i32_65 : BitVec 32 := 1#32
  let arg14 : BitVec 32 := Scf.iv c0_i32_63 c1_i32_65 k0_t8
  let c256_i32_153 : BitVec 32 := 256#32
  let v425 : BitVec 32 := Scalar.muli arg14 c256_i32_153
  v425
def k0_mult88 (k0_t8 : Fin k0_t8_loop.trips) : BitVec 32 :=
  let c0_i32_63 : BitVec 32 := 0#32
  let c1_i32_65 : BitVec 32 := 1#32
  let arg14 : BitVec 32 := Scf.iv c0_i32_63 c1_i32_65 k0_t8
  let c256_i32_161 : BitVec 32 := 256#32
  let v446 : BitVec 32 := Scalar.muli arg14 c256_i32_161
  v446
@[reducible] def k0_t9_loop : Scf.Loop 32 :=
  let c0_i32_67 : BitVec 32 := 0#32
  let c8_i32_68 : BitVec 32 := 8#32
  let v194 : BitVec 32 := Scalar.addi c0_i32_67 c8_i32_68
  let c1_i32_69 : BitVec 32 := 1#32
  ⟨c0_i32_67, v194, c1_i32_69⟩
def k0_mult89 (k0_t9 : Fin k0_t9_loop.trips) : BitVec 32 :=
  let c0_i32_67 : BitVec 32 := 0#32
  let c1_i32_69 : BitVec 32 := 1#32
  let arg14 : BitVec 32 := Scf.iv c0_i32_67 c1_i32_69 k0_t9
  let c256_i32 : BitVec 32 := 256#32
  let v299 : BitVec 32 := Scalar.muli arg14 c256_i32
  v299
def k0_off14 (k0_t9 : Fin k0_t9_loop.trips) (c0_i32_106 : BitVec 32) : Fin 3 → Nat :=
  let c2 : Index := 2#32
  let c0_i32_67 : BitVec 32 := 0#32
  let c1_i32_69 : BitVec 32 := 1#32
  let arg14 : BitVec 32 := Scf.iv c0_i32_67 c1_i32_69 k0_t9
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c0_107 : Index := 0#32
  ![2, v302.toNat, 0]
def k0_mult90 (k0_t9 : Fin k0_t9_loop.trips) : BitVec 32 :=
  let c0_i32_67 : BitVec 32 := 0#32
  let c1_i32_69 : BitVec 32 := 1#32
  let arg14 : BitVec 32 := Scf.iv c0_i32_67 c1_i32_69 k0_t9
  let c256_i32_113 : BitVec 32 := 256#32
  let v320 : BitVec 32 := Scalar.muli arg14 c256_i32_113
  v320
def k0_mult91 (k0_t9 : Fin k0_t9_loop.trips) : BitVec 32 :=
  let c0_i32_67 : BitVec 32 := 0#32
  let c1_i32_69 : BitVec 32 := 1#32
  let arg14 : BitVec 32 := Scf.iv c0_i32_67 c1_i32_69 k0_t9
  let c256_i32_121 : BitVec 32 := 256#32
  let v341 : BitVec 32 := Scalar.muli arg14 c256_i32_121
  v341
def k0_mult92 (k0_t9 : Fin k0_t9_loop.trips) : BitVec 32 :=
  let c0_i32_67 : BitVec 32 := 0#32
  let c1_i32_69 : BitVec 32 := 1#32
  let arg14 : BitVec 32 := Scf.iv c0_i32_67 c1_i32_69 k0_t9
  let c256_i32_129 : BitVec 32 := 256#32
  let v362 : BitVec 32 := Scalar.muli arg14 c256_i32_129
  v362
def k0_mult93 (k0_t9 : Fin k0_t9_loop.trips) : BitVec 32 :=
  let c0_i32_67 : BitVec 32 := 0#32
  let c1_i32_69 : BitVec 32 := 1#32
  let arg14 : BitVec 32 := Scf.iv c0_i32_67 c1_i32_69 k0_t9
  let c256_i32_137 : BitVec 32 := 256#32
  let v383 : BitVec 32 := Scalar.muli arg14 c256_i32_137
  v383
def k0_mult94 (k0_t9 : Fin k0_t9_loop.trips) : BitVec 32 :=
  let c0_i32_67 : BitVec 32 := 0#32
  let c1_i32_69 : BitVec 32 := 1#32
  let arg14 : BitVec 32 := Scf.iv c0_i32_67 c1_i32_69 k0_t9
  let c256_i32_145 : BitVec 32 := 256#32
  let v404 : BitVec 32 := Scalar.muli arg14 c256_i32_145
  v404
def k0_mult95 (k0_t9 : Fin k0_t9_loop.trips) : BitVec 32 :=
  let c0_i32_67 : BitVec 32 := 0#32
  let c1_i32_69 : BitVec 32 := 1#32
  let arg14 : BitVec 32 := Scf.iv c0_i32_67 c1_i32_69 k0_t9
  let c256_i32_153 : BitVec 32 := 256#32
  let v425 : BitVec 32 := Scalar.muli arg14 c256_i32_153
  v425
def k0_mult96 (k0_t9 : Fin k0_t9_loop.trips) : BitVec 32 :=
  let c0_i32_67 : BitVec 32 := 0#32
  let c1_i32_69 : BitVec 32 := 1#32
  let arg14 : BitVec 32 := Scf.iv c0_i32_67 c1_i32_69 k0_t9
  let c256_i32_161 : BitVec 32 := 256#32
  let v446 : BitVec 32 := Scalar.muli arg14 c256_i32_161
  v446
def k0_off15 (i : grid0.Coords) : Fin 2 → Nat :=
  let arg0 : BitVec 32 := BitVec.ofNat 32 (i 0).val
  let v278 : Index := Scalar.indexCast arg0
  let c0_92 : Index := 0#32
  ![v278.toNat, 0]
@[reducible] def k0_t10_loop : Scf.Loop 32 :=
  let c0_i32_93 : BitVec 32 := 0#32
  let c16_i32_94 : BitVec 32 := 16#32
  let v286 : BitVec 32 := Scalar.addi c0_i32_93 c16_i32_94
  let c1_i32_95 : BitVec 32 := 1#32
  ⟨c0_i32_93, v286, c1_i32_95⟩
def k0_mult97 (k0_t10 : Fin k0_t10_loop.trips) : BitVec 32 :=
  let c0_i32_93 : BitVec 32 := 0#32
  let c1_i32_95 : BitVec 32 := 1#32
  let arg14 : BitVec 32 := Scf.iv c0_i32_93 c1_i32_95 k0_t10
  let c256_i32 : BitVec 32 := 256#32
  let v299 : BitVec 32 := Scalar.muli arg14 c256_i32
  v299
def k0_off16 (k0_t10 : Fin k0_t10_loop.trips) (c0_i32_106 : BitVec 32) : Fin 3 → Nat :=
  let c0_107 : Index := 0#32
  let c0_i32_93 : BitVec 32 := 0#32
  let c1_i32_95 : BitVec 32 := 1#32
  let arg14 : BitVec 32 := Scf.iv c0_i32_93 c1_i32_95 k0_t10
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c0_108 : Index := 0#32
  ![0, v302.toNat, 0]
def k0_off17 (k0_t10 : Fin k0_t10_loop.trips) (c0_i32_106 : BitVec 32) : Fin 3 → Nat :=
  let c0_111 : Index := 0#32
  let c0_i32_93 : BitVec 32 := 0#32
  let c1_i32_95 : BitVec 32 := 1#32
  let arg14 : BitVec 32 := Scf.iv c0_i32_93 c1_i32_95 k0_t10
  let c256_i32 : BitVec 32 := 256#32
  let v299 : BitVec 32 := Scalar.muli arg14 c256_i32
  let v300 : BitVec 32 := v299
  let v301 : BitVec 32 := Scalar.addi v300 c0_i32_106
  let v311 : Index := Scalar.indexCast v301
  let c0_112 : Index := 0#32
  ![0, v311.toNat, 0]
def k0_mult98 (k0_t10 : Fin k0_t10_loop.trips) : BitVec 32 :=
  let c0_i32_93 : BitVec 32 := 0#32
  let c1_i32_95 : BitVec 32 := 1#32
  let arg14 : BitVec 32 := Scf.iv c0_i32_93 c1_i32_95 k0_t10
  let c256_i32_113 : BitVec 32 := 256#32
  let v315 : BitVec 32 := Scalar.muli arg14 c256_i32_113
  v315
def k0_mult99 (k0_t10 : Fin k0_t10_loop.trips) : BitVec 32 :=
  let c0_i32_93 : BitVec 32 := 0#32
  let c1_i32_95 : BitVec 32 := 1#32
  let arg14 : BitVec 32 := Scf.iv c0_i32_93 c1_i32_95 k0_t10
  let c256_i32_120 : BitVec 32 := 256#32
  let v331 : BitVec 32 := Scalar.muli arg14 c256_i32_120
  v331
def k0_mult100 (k0_t10 : Fin k0_t10_loop.trips) : BitVec 32 :=
  let c0_i32_93 : BitVec 32 := 0#32
  let c1_i32_95 : BitVec 32 := 1#32
  let arg14 : BitVec 32 := Scf.iv c0_i32_93 c1_i32_95 k0_t10
  let c256_i32_127 : BitVec 32 := 256#32
  let v347 : BitVec 32 := Scalar.muli arg14 c256_i32_127
  v347
def k0_mult101 (k0_t10 : Fin k0_t10_loop.trips) : BitVec 32 :=
  let c0_i32_93 : BitVec 32 := 0#32
  let c1_i32_95 : BitVec 32 := 1#32
  let arg14 : BitVec 32 := Scf.iv c0_i32_93 c1_i32_95 k0_t10
  let c256_i32_134 : BitVec 32 := 256#32
  let v363 : BitVec 32 := Scalar.muli arg14 c256_i32_134
  v363
def k0_mult102 (k0_t10 : Fin k0_t10_loop.trips) : BitVec 32 :=
  let c0_i32_93 : BitVec 32 := 0#32
  let c1_i32_95 : BitVec 32 := 1#32
  let arg14 : BitVec 32 := Scf.iv c0_i32_93 c1_i32_95 k0_t10
  let c256_i32_141 : BitVec 32 := 256#32
  let v379 : BitVec 32 := Scalar.muli arg14 c256_i32_141
  v379
def k0_mult103 (k0_t10 : Fin k0_t10_loop.trips) : BitVec 32 :=
  let c0_i32_93 : BitVec 32 := 0#32
  let c1_i32_95 : BitVec 32 := 1#32
  let arg14 : BitVec 32 := Scf.iv c0_i32_93 c1_i32_95 k0_t10
  let c256_i32_148 : BitVec 32 := 256#32
  let v395 : BitVec 32 := Scalar.muli arg14 c256_i32_148
  v395
def k0_mult104 (k0_t10 : Fin k0_t10_loop.trips) : BitVec 32 :=
  let c0_i32_93 : BitVec 32 := 0#32
  let c1_i32_95 : BitVec 32 := 1#32
  let arg14 : BitVec 32 := Scf.iv c0_i32_93 c1_i32_95 k0_t10
  let c256_i32_155 : BitVec 32 := 256#32
  let v411 : BitVec 32 := Scalar.muli arg14 c256_i32_155
  v411
@[reducible] def k0_t11_loop : Scf.Loop 32 :=
  let c0_i32_97 : BitVec 32 := 0#32
  let c16_i32_98 : BitVec 32 := 16#32
  let v290 : BitVec 32 := Scalar.addi c0_i32_97 c16_i32_98
  let c1_i32_99 : BitVec 32 := 1#32
  ⟨c0_i32_97, v290, c1_i32_99⟩
def k0_mult105 (k0_t11 : Fin k0_t11_loop.trips) : BitVec 32 :=
  let c0_i32_97 : BitVec 32 := 0#32
  let c1_i32_99 : BitVec 32 := 1#32
  let arg14 : BitVec 32 := Scf.iv c0_i32_97 c1_i32_99 k0_t11
  let c256_i32 : BitVec 32 := 256#32
  let v299 : BitVec 32 := Scalar.muli arg14 c256_i32
  v299
def k0_off18 (k0_t11 : Fin k0_t11_loop.trips) (c0_i32_106 : BitVec 32) : Fin 3 → Nat :=
  let c1 : Index := 1#32
  let c0_i32_97 : BitVec 32 := 0#32
  let c1_i32_99 : BitVec 32 := 1#32
  let arg14 : BitVec 32 := Scf.iv c0_i32_97 c1_i32_99 k0_t11
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c0_107 : Index := 0#32
  ![1, v302.toNat, 0]
def k0_off19 (k0_t11 : Fin k0_t11_loop.trips) (c0_i32_106 : BitVec 32) : Fin 3 → Nat :=
  let c0_110 : Index := 0#32
  let c0_i32_97 : BitVec 32 := 0#32
  let c1_i32_99 : BitVec 32 := 1#32
  let arg14 : BitVec 32 := Scf.iv c0_i32_97 c1_i32_99 k0_t11
  let c256_i32 : BitVec 32 := 256#32
  let v299 : BitVec 32 := Scalar.muli arg14 c256_i32
  let v300 : BitVec 32 := v299
  let v301 : BitVec 32 := Scalar.addi v300 c0_i32_106
  let v311 : Index := Scalar.indexCast v301
  let c128 : Index := 128#32
  ![0, v311.toNat, 128]
def k0_mult106 (k0_t11 : Fin k0_t11_loop.trips) : BitVec 32 :=
  let c0_i32_97 : BitVec 32 := 0#32
  let c1_i32_99 : BitVec 32 := 1#32
  let arg14 : BitVec 32 := Scf.iv c0_i32_97 c1_i32_99 k0_t11
  let c256_i32_111 : BitVec 32 := 256#32
  let v315 : BitVec 32 := Scalar.muli arg14 c256_i32_111
  v315
def k0_mult107 (k0_t11 : Fin k0_t11_loop.trips) : BitVec 32 :=
  let c0_i32_97 : BitVec 32 := 0#32
  let c1_i32_99 : BitVec 32 := 1#32
  let arg14 : BitVec 32 := Scf.iv c0_i32_97 c1_i32_99 k0_t11
  let c256_i32_118 : BitVec 32 := 256#32
  let v331 : BitVec 32 := Scalar.muli arg14 c256_i32_118
  v331
def k0_mult108 (k0_t11 : Fin k0_t11_loop.trips) : BitVec 32 :=
  let c0_i32_97 : BitVec 32 := 0#32
  let c1_i32_99 : BitVec 32 := 1#32
  let arg14 : BitVec 32 := Scf.iv c0_i32_97 c1_i32_99 k0_t11
  let c256_i32_125 : BitVec 32 := 256#32
  let v347 : BitVec 32 := Scalar.muli arg14 c256_i32_125
  v347
def k0_mult109 (k0_t11 : Fin k0_t11_loop.trips) : BitVec 32 :=
  let c0_i32_97 : BitVec 32 := 0#32
  let c1_i32_99 : BitVec 32 := 1#32
  let arg14 : BitVec 32 := Scf.iv c0_i32_97 c1_i32_99 k0_t11
  let c256_i32_132 : BitVec 32 := 256#32
  let v363 : BitVec 32 := Scalar.muli arg14 c256_i32_132
  v363
def k0_mult110 (k0_t11 : Fin k0_t11_loop.trips) : BitVec 32 :=
  let c0_i32_97 : BitVec 32 := 0#32
  let c1_i32_99 : BitVec 32 := 1#32
  let arg14 : BitVec 32 := Scf.iv c0_i32_97 c1_i32_99 k0_t11
  let c256_i32_139 : BitVec 32 := 256#32
  let v379 : BitVec 32 := Scalar.muli arg14 c256_i32_139
  v379
def k0_mult111 (k0_t11 : Fin k0_t11_loop.trips) : BitVec 32 :=
  let c0_i32_97 : BitVec 32 := 0#32
  let c1_i32_99 : BitVec 32 := 1#32
  let arg14 : BitVec 32 := Scf.iv c0_i32_97 c1_i32_99 k0_t11
  let c256_i32_146 : BitVec 32 := 256#32
  let v395 : BitVec 32 := Scalar.muli arg14 c256_i32_146
  v395
def k0_mult112 (k0_t11 : Fin k0_t11_loop.trips) : BitVec 32 :=
  let c0_i32_97 : BitVec 32 := 0#32
  let c1_i32_99 : BitVec 32 := 1#32
  let arg14 : BitVec 32 := Scf.iv c0_i32_97 c1_i32_99 k0_t11
  let c256_i32_153 : BitVec 32 := 256#32
  let v411 : BitVec 32 := Scalar.muli arg14 c256_i32_153
  v411
@[reducible] def k0_t12_loop : Scf.Loop 32 :=
  let c0_i32_101 : BitVec 32 := 0#32
  let c8_i32_102 : BitVec 32 := 8#32
  let v295 : BitVec 32 := Scalar.addi c0_i32_101 c8_i32_102
  let c1_i32_103 : BitVec 32 := 1#32
  ⟨c0_i32_101, v295, c1_i32_103⟩
def k0_mult113 (k0_t12 : Fin k0_t12_loop.trips) : BitVec 32 :=
  let c0_i32_101 : BitVec 32 := 0#32
  let c1_i32_103 : BitVec 32 := 1#32
  let arg14 : BitVec 32 := Scf.iv c0_i32_101 c1_i32_103 k0_t12
  let c256_i32 : BitVec 32 := 256#32
  let v299 : BitVec 32 := Scalar.muli arg14 c256_i32
  v299
def k0_off20 (k0_t12 : Fin k0_t12_loop.trips) (c0_i32_106 : BitVec 32) : Fin 3 → Nat :=
  let c2 : Index := 2#32
  let c0_i32_101 : BitVec 32 := 0#32
  let c1_i32_103 : BitVec 32 := 1#32
  let arg14 : BitVec 32 := Scf.iv c0_i32_101 c1_i32_103 k0_t12
  let c256_i32 : BitVec 32 := 256#32
  let v299 : BitVec 32 := Scalar.muli arg14 c256_i32
  let v300 : BitVec 32 := v299
  let v301 : BitVec 32 := Scalar.addi v300 c0_i32_106
  let v302 : Index := Scalar.indexCast v301
  let c0_107 : Index := 0#32
  ![2, v302.toNat, 0]
def k0_off21 (k0_t12 : Fin k0_t12_loop.trips) (c0_i32_106 : BitVec 32) : Fin 3 → Nat :=
  let c0_110 : Index := 0#32
  let c0_i32_101 : BitVec 32 := 0#32
  let c1_i32_103 : BitVec 32 := 1#32
  let arg14 : BitVec 32 := Scf.iv c0_i32_101 c1_i32_103 k0_t12
  let c256_i32 : BitVec 32 := 256#32
  let v299 : BitVec 32 := Scalar.muli arg14 c256_i32
  let v300 : BitVec 32 := v299
  let v301 : BitVec 32 := Scalar.addi v300 c0_i32_106
  let v314 : Index := Scalar.indexCast v301
  let c256 : Index := 256#32
  ![0, v314.toNat, 256]
def k0_off22 (k0_t12 : Fin k0_t12_loop.trips) (c0_i32_106 : BitVec 32) : Fin 3 → Nat :=
  let c0_111 : Index := 0#32
  let c0_i32_101 : BitVec 32 := 0#32
  let c1_i32_103 : BitVec 32 := 1#32
  let arg14 : BitVec 32 := Scf.iv c0_i32_101 c1_i32_103 k0_t12
  let c256_i32 : BitVec 32 := 256#32
  let v299 : BitVec 32 := Scalar.muli arg14 c256_i32
  let v300 : BitVec 32 := v299
  let v301 : BitVec 32 := Scalar.addi v300 c0_i32_106
  let c2048_i32 : BitVec 32 := 2048#32
  let v319 : BitVec 32 := Scalar.addi v301 c2048_i32
  let v320 : Index := Scalar.indexCast v319
  let c256_112 : Index := 256#32
  ![0, v320.toNat, 256]
def k0_mult114 (k0_t12 : Fin k0_t12_loop.trips) : BitVec 32 :=
  let c0_i32_101 : BitVec 32 := 0#32
  let c1_i32_103 : BitVec 32 := 1#32
  let arg14 : BitVec 32 := Scf.iv c0_i32_101 c1_i32_103 k0_t12
  let c256_i32_113 : BitVec 32 := 256#32
  let v324 : BitVec 32 := Scalar.muli arg14 c256_i32_113
  v324
def k0_mult115 (k0_t12 : Fin k0_t12_loop.trips) : BitVec 32 :=
  let c0_i32_101 : BitVec 32 := 0#32
  let c1_i32_103 : BitVec 32 := 1#32
  let arg14 : BitVec 32 := Scf.iv c0_i32_101 c1_i32_103 k0_t12
  let c256_i32_124 : BitVec 32 := 256#32
  let v349 : BitVec 32 := Scalar.muli arg14 c256_i32_124
  v349
def k0_mult116 (k0_t12 : Fin k0_t12_loop.trips) : BitVec 32 :=
  let c0_i32_101 : BitVec 32 := 0#32
  let c1_i32_103 : BitVec 32 := 1#32
  let arg14 : BitVec 32 := Scf.iv c0_i32_101 c1_i32_103 k0_t12
  let c256_i32_136 : BitVec 32 := 256#32
  let v374 : BitVec 32 := Scalar.muli arg14 c256_i32_136
  v374
def k0_mult117 (k0_t12 : Fin k0_t12_loop.trips) : BitVec 32 :=
  let c0_i32_101 : BitVec 32 := 0#32
  let c1_i32_103 : BitVec 32 := 1#32
  let arg14 : BitVec 32 := Scf.iv c0_i32_101 c1_i32_103 k0_t12
  let c256_i32_147 : BitVec 32 := 256#32
  let v399 : BitVec 32 := Scalar.muli arg14 c256_i32_147
  v399
def k0_mult118 (k0_t12 : Fin k0_t12_loop.trips) : BitVec 32 :=
  let c0_i32_101 : BitVec 32 := 0#32
  let c1_i32_103 : BitVec 32 := 1#32
  let arg14 : BitVec 32 := Scf.iv c0_i32_101 c1_i32_103 k0_t12
  let c256_i32_158 : BitVec 32 := 256#32
  let v424 : BitVec 32 := Scalar.muli arg14 c256_i32_158
  v424
def k0_mult119 (k0_t12 : Fin k0_t12_loop.trips) : BitVec 32 :=
  let c0_i32_101 : BitVec 32 := 0#32
  let c1_i32_103 : BitVec 32 := 1#32
  let arg14 : BitVec 32 := Scf.iv c0_i32_101 c1_i32_103 k0_t12
  let c256_i32_169 : BitVec 32 := 256#32
  let v449 : BitVec 32 := Scalar.muli arg14 c256_i32_169
  v449
def k0_mult120 (k0_t12 : Fin k0_t12_loop.trips) : BitVec 32 :=
  let c0_i32_101 : BitVec 32 := 0#32
  let c1_i32_103 : BitVec 32 := 1#32
  let arg14 : BitVec 32 := Scf.iv c0_i32_101 c1_i32_103 k0_t12
  let c256_i32_180 : BitVec 32 := 256#32
  let v474 : BitVec 32 := Scalar.muli arg14 c256_i32_180
  v474
def k0_cond2 (i : grid0.Coords) : BitVec 1 :=
  let arg0 : BitVec 32 := BitVec.ofNat 32 (i 0).val
  let c7_i32 : BitVec 32 := 7#32
  let v296 : BitVec 1 := Scalar.cmpi .eq arg0 c7_i32
  let v297 : BitVec 32 := Scalar.extui v296
  let c0_i32_105 : BitVec 32 := 0#32
  let v298 : BitVec 1 := Scalar.cmpi .ne v297 c0_i32_105
  v298

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x320 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x320 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x320 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_n" => some ((1 / 40960 : ℝ) : EReal)
  | _ => none
-- ==== ReferenceIdeal.lean ====
abbrev S8x4096x320 : Shape := ⟨3, ![8, 4096, 320]⟩
abbrev S320 : Shape := ⟨1, ![320]⟩
abbrev S_ : Shape := ⟨0, ![]⟩
abbrev S1x320 : Shape := ⟨2, ![1, 320]⟩
abbrev S1x1 : Shape := ⟨2, ![1, 1]⟩
abbrev S8x320 : Shape := ⟨2, ![8, 320]⟩
abbrev S8x32x10 : Shape := ⟨3, ![8, 32, 10]⟩
abbrev S8x32 : Shape := ⟨2, ![8, 32]⟩
abbrev S8x32x1 : Shape := ⟨3, ![8, 32, 1]⟩
abbrev S8x1x320 : Shape := ⟨3, ![8, 1, 320]⟩
abbrev S1x1x320 : Shape := ⟨3, ![1, 1, 320]⟩

abbrev nBuf : Space → Nat
  | .hbm => 12
  | .vmem => 8
  | .smem => 0
  | _ => 0

abbrev bufTy : (tb : Table) → Fin (tcTables nBuf tb) → BufTy
  | .hbm, ⟨0, _⟩ => ⟨S8x4096x320, .bf16⟩
  | .hbm, ⟨1, _⟩ => ⟨S320, .f32⟩
  | .hbm, ⟨2, _⟩ => ⟨S320, .f32⟩
  | .hbm, ⟨3, _⟩ => ⟨S8x4096x320, .i8⟩
  | .hbm, ⟨4, _⟩ => ⟨S_, .f32⟩
  | .hbm, ⟨5, _⟩ => ⟨S1x320, .f32⟩
  | .hbm, ⟨6, _⟩ => ⟨S1x320, .f32⟩
  | .hbm, ⟨7, _⟩ => ⟨S8x4096x320, .fp8e5m2⟩
  | .hbm, ⟨8, _⟩ => ⟨S1x1, .f32⟩
  | .hbm, ⟨9, _⟩ => ⟨S8x4096x320, .fp8e5m2⟩
  | .hbm, ⟨10, _⟩ => ⟨S1x320, .f32⟩
  | .hbm, ⟨11, _⟩ => ⟨S1x320, .f32⟩
  | .local _ .vmem, ⟨0, _⟩ => ⟨S8x4096x320, .bf16⟩
  | .local _ .vmem, ⟨1, _⟩ => ⟨S1x320, .f32⟩
  | .local _ .vmem, ⟨2, _⟩ => ⟨S1x320, .f32⟩
  | .local _ .vmem, ⟨3, _⟩ => ⟨S8x4096x320, .fp8e5m2⟩
  | .local _ .vmem, ⟨4, _⟩ => ⟨S1x1, .f32⟩
  | .local _ .vmem, ⟨5, _⟩ => ⟨S8x4096x320, .fp8e5m2⟩
  | .local _ .vmem, ⟨6, _⟩ => ⟨S1x320, .f32⟩
  | .local _ .vmem, ⟨7, _⟩ => ⟨S1x320, .f32⟩
  | _, _ => ⟨S8x4096x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x4096x320 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x320 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x320 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x320 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x320 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KBody.lean ====
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev sc0 : Memref sig .tc .vmem S384x384 .bf16 := Memref.whole cc0_scratch0
abbrev sc1 : Memref sig .tc .vmem S3x4096x128 .f32 := Memref.whole cc0_scratch1
abbrev sc2 : Memref sig .tc .vmem S3x4096x128 .f32 := Memref.whole cc0_scratch2
abbrev sc3 : Memref sig .tc .vmem S8x384 .f32 := Memref.whole cc0_scratch3

set_option maxHeartbeats 2000000 in
/-- The kernel's body runs to its return, for any continuation: from its staging memrefs and scratch buffers at any contents it
    hands every one of them back, the inputs at the contents they had. -/
theorem kernelRun (c : Dev nD) (i : grid0.Coords)
    (arg1 : Memref sig .tc .vmem S1x4096x320 .bf16) (harg1 : arg1.IsWhole) (arg2 : Memref sig .tc .vmem S1x320 .f32) (harg2 : arg2.IsWhole)
    (arg3 : Memref sig .tc .vmem S1x320 .f32) (harg3 : arg3.IsWhole) (arg4 : Memref sig .tc .vmem S1x4096x320 .fp8e5m2) (harg4 : arg4.IsWhole)
    (arg5 : Memref sig .tc .smem S1x1 .f32) (harg5 : arg5.IsWhole) (arg6 : Memref sig .tc .vmem S1x4096x320 .fp8e5m2) (harg6 : arg6.IsWhole)
    (arg7 : Memref sig .tc .vmem S8x32 .f32) (harg7 : arg7.IsWhole) (arg8 : Memref sig .tc .vmem S1x320 .f32) (harg8 : arg8.IsWhole)
    (arg9 : Memref sig .tc .vmem S1x320 .f32) (harg9 : arg9.IsWhole)
    (X1 : S1x4096x320.Idx → Elt F .bf16) (X2 X3 : S1x320.Idx → Elt F .f32) (X4 : S1x4096x320.Idx → Elt F .fp8e5m2) (X5 : S1x1.Idx → Elt F .f32)
    (K : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)
        ∗ (iprop(owns (c : Thread nD τ) arg1 fullShare X1 ∗ owns (c : Thread nD τ) arg2 fullShare X2 ∗ owns (c : Thread nD τ) arg3 fullShare X3
            ∗ owns (c : Thread nD τ) arg4 fullShare X4 ∗ owns (c : Thread nD τ) arg5 fullShare X5
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (∃ d, owns (c : Thread nD τ) sc0 fullShare d) ∗ (∃ d, owns (c : Thread nD τ) sc1 fullShare d)
            ∗ (∃ d, owns (c : Thread nD τ) sc2 fullShare d) ∗ (∃ d, owns (c : Thread nD τ) sc3 fullShare d)) -∗ K ⟨⟩))
      ⊢ wp frame (wpE (defs₀ (F := F)) Variants.none c none) Set.univ
          (cc0_gn_silu_bwd i arg1 harg1 arg2 harg2 arg3 harg3 arg4 harg4 arg5 harg5 arg6 harg6 arg7 harg7 arg8 harg8 arg9 harg9
            sc0 (Memref.isWhole_whole _) sc1 (Memref.isWhole_whole _) sc2 (Memref.isWhole_whole _) sc3 (Memref.isWhole_whole _)) K := by
  simp only [cc0_gn_silu_bwd_eq_skeleton]; unfold cc0_gn_silu_bwd_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%e0, %g0, -, G0⟩, ⟨%e1, %g1, -, G1⟩, ⟨%e2, %g2, -, G2⟩, ⟨%e3, %g3, -, G3⟩, Hk⟩
  sl_exec
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [G0]
  · iexists _, _; isplitr; swap; · iexact G0
    ipureintro; rfl
  isplitl [G1]
  · iexists _, _; isplitr; swap; · iexact G1
    ipureintro; rfl
  isplitl [G2]
  · iexists _, _; isplitr; swap; · iexact G2
    ipureintro; rfl
  iexists _, _; isplitr; swap; · iexact G3
  ipureintro; rfl

end Cert.Kernel.Hand

end
-- ==== Proof.KFrame.lean ====
module

public import proofs.«01_k».proof.Proof.KBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four output windows: nothing here reads what the kernel leaves in them. -/
def forgets0 : Fin 9 → Bool := fun w => decide (5 ≤ w.val)

/-- What the body leaves in each window, named for the inputs only: their own blocks. -/
def afterF (c : Dev nD) : (w : Fin cfg0.W) → (t : Fin cfg0.N) → (cfg0.win w).block.Idx → Elt F (cfg0.win w).elt
  | 0, t => iblk m c 0 t
  | 1, t => iblk m c 1 t
  | 2, t => iblk m c 2 t
  | 3, t => iblk m c 3 t
  | 4, t => iblk m c 4 t
  | 5, t => Pipeline.Dat.unnamed (cfg := cfg0) 5 t
  | 6, t => Pipeline.Dat.unnamed (cfg := cfg0) 6 t
  | 7, t => Pipeline.Dat.unnamed (cfg := cfg0) 7 t
  | 8, t => Pipeline.Dat.unnamed (cfg := cfg0) 8 t
  | ⟨_ + 9, h⟩, _ => absurd h (Nat.not_lt.2 (Nat.le_add_left _ _))

/-- The proof data on core `c`: the arrays as the region finds them, the inputs' blocks left in place, the scratch buffers at some contents. -/
def dats (_ : Fin 1) (c : Dev nD) : Dat τ (Elt F) Unit ℕ (UR sig nD τ) ℕ cfg0 c where
  A w := V m c (Pipeline.arrRef spec0 w)
  after := afterF m c
  Φ _ := Pipeline.ΦA spec0 c
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => rfl) t d
theorem before1 (c : Dev nD) (t : Fin cfg0.N) (d) : (dats m 0 c).before 1 t d = iblk m c 1 t :=
  before0_1_of m (dats m 0 c) (A_eq m c 1) (fun _ => rfl) t d
theorem before2 (c : Dev nD) (t : Fin cfg0.N) (d) : (dats m 0 c).before 2 t d = iblk m c 2 t :=
  before0_2_of m (dats m 0 c) (A_eq m c 2) (fun _ => rfl) t d
theorem before3 (c : Dev nD) (t : Fin cfg0.N) (d) : (dats m 0 c).before 3 t d = iblk m c 3 t :=
  before0_3_of m (dats m 0 c) (A_eq m c 3) (fun _ => rfl) t d
theorem before4 (c : Dev nD) (t : Fin cfg0.N) (d) : (dats m 0 c).before 4 t d = iblk m c 4 t :=
  before0_4_of m (dats m 0 c) (A_eq m c 4) (fun _ => rfl) t d

/-- The invariant, scratch buffer by scratch buffer. -/
theorem Phi_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d) ∗ (∃ d, owns (c : Thread nD τ) (st0_6 t) fullShare d)
    ∗ (∃ d, owns (c : Thread nD τ) (st0_7 t) fullShare d) ∗ (∃ d, owns (c : Thread nD τ) (st0_8 t) fullShare d))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d) ∗ (∃ d, owns (c : Thread nD τ) (st0_6 t) fullShare d)
    ∗ (∃ d, owns (c : Thread nD τ) (st0_7 t) fullShare d) ∗ (∃ d, owns (c : Thread nD τ) (st0_8 t) fullShare d))

set_option maxHeartbeats 1000000 in
/-- The body at a grid point: the invariant opened, the body's run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  simp only [before0, before1, before2, before3, before4]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl]
  iintro ⟨⟨⟨G0, G1, G2, G3⟩, Hg⟩, HO, ⟨%d0, H0⟩, ⟨%d1, H1⟩, ⟨%d2, H2⟩, ⟨%d3, H3⟩, ⟨%d4, H4⟩, H5, H6, H7, H8⟩
  iapply (kernelRun c (grid0.coords t) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  isplitl [G3]; · iexact G3
  iintro ⟨H0, H1, H2, H3, H4, H5, H6, H7, H8, G0, G1, G2, G3⟩
  isplitl [G0 G1 G2 G3 Hg]
  · isplitl [G0 G1 G2 G3]
    · isplitl [G0]; · iexact G0
      isplitl [G1]; · iexact G1
      isplitl [G2]; · iexact G2
      iexact G3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 1000000 in
/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every fair execution of the program terminates with nothing faulting, every array a window reads unchanged, every buffer that is no
    window's array unchanged, and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl) (hQ' := fun _ h => h)

/-- The program terminates, its argument arrays end unchanged and every semaphore counter ends at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
      (h.1.arr_in c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel.Hand

end
-- ==== Proof.IBody.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev sc0 : Memref sig .tc .vmem S384x384 .bf16 := Memref.whole cc0_scratch0
abbrev sc1 : Memref sig .tc .vmem S3x4096x128 .f32 := Memref.whole cc0_scratch1
abbrev sc2 : Memref sig .tc .vmem S3x4096x128 .f32 := Memref.whole cc0_scratch2
abbrev sc3 : Memref sig .tc .vmem S8x384 .f32 := Memref.whole cc0_scratch3

set_option maxHeartbeats 2000000 in
/-- The kernel's body runs to its return, for any continuation: from its staging memrefs and scratch buffers at any contents it
    hands every one of them back, the inputs at the contents they had. -/
theorem kernelRun (c : Dev nD) (i : grid0.Coords)
    (arg1 : Memref sig .tc .vmem S1x4096x320 .bf16) (harg1 : arg1.IsWhole) (arg2 : Memref sig .tc .vmem S1x320 .f32) (harg2 : arg2.IsWhole)
    (arg3 : Memref sig .tc .vmem S1x320 .f32) (harg3 : arg3.IsWhole) (arg4 : Memref sig .tc .vmem S1x4096x320 .fp8e5m2) (harg4 : arg4.IsWhole)
    (arg5 : Memref sig .tc .smem S1x1 .f32) (harg5 : arg5.IsWhole) (arg6 : Memref sig .tc .vmem S1x4096x320 .fp8e5m2) (harg6 : arg6.IsWhole)
    (arg7 : Memref sig .tc .vmem S8x32 .f32) (harg7 : arg7.IsWhole) (arg8 : Memref sig .tc .vmem S1x320 .f32) (harg8 : arg8.IsWhole)
    (arg9 : Memref sig .tc .vmem S1x320 .f32) (harg9 : arg9.IsWhole)
    (X1 : S1x4096x320.Idx → Elt F .bf16) (X2 X3 : S1x320.Idx → Elt F .f32) (X4 : S1x4096x320.Idx → Elt F .fp8e5m2) (X5 : S1x1.Idx → Elt F .f32)
    (K : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)
        ∗ (iprop(owns (c : Thread nD τ) arg1 fullShare X1 ∗ owns (c : Thread nD τ) arg2 fullShare X2 ∗ owns (c : Thread nD τ) arg3 fullShare X3
            ∗ owns (c : Thread nD τ) arg4 fullShare X4 ∗ owns (c : Thread nD τ) arg5 fullShare X5
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (∃ d, owns (c : Thread nD τ) sc0 fullShare d) ∗ (∃ d, owns (c : Thread nD τ) sc1 fullShare d)
            ∗ (∃ d, owns (c : Thread nD τ) sc2 fullShare d) ∗ (∃ d, owns (c : Thread nD τ) sc3 fullShare d)) -∗ K ⟨⟩))
      ⊢ wp frame (wpE (defs₀ (F := F)) Variants.none c none) Set.univ
          (cc0_gn_silu_bwd i arg1 harg1 arg2 harg2 arg3 harg3 arg4 harg4 arg5 harg5 arg6 harg6 arg7 harg7 arg8 harg8 arg9 harg9
            sc0 (Memref.isWhole_whole _) sc1 (Memref.isWhole_whole _) sc2 (Memref.isWhole_whole _) sc3 (Memref.isWhole_whole _)) K := by
  simp only [cc0_gn_silu_bwd_eq_skeleton]; unfold cc0_gn_silu_bwd_skel
  simp only [k0_part65_eq_skeleton, k0_part66_eq_skeleton, k0_part67_eq_skeleton, k0_part68_eq_skeleton, k0_part69_eq_skeleton, k0_part70_eq_skeleton, k0_part71_eq_skeleton]
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%e0, %g0, -, G0⟩, ⟨%e1, %g1, -, G1⟩, ⟨%e2, %g2, -, G2⟩, ⟨%e3, %g3, -, G3⟩, Hk⟩
  sl_exec
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [G0]
  · iexists _, _; isplitr; swap; · iexact G0
    ipureintro; rfl
  isplitl [G1]
  · iexists _, _; isplitr; swap; · iexact G1
    ipureintro; rfl
  isplitl [G2]
  · iexists _, _; isplitr; swap; · iexact G2
    ipureintro; rfl
  iexists _, _; isplitr; swap; · iexact G3
  ipureintro; rfl

end Cert.KernelIdeal.Hand

end
-- ==== Proof.IFrame.lean ====
module

public import proofs.«01_k».proof.Proof.IBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four output windows: nothing here reads what the kernel leaves in them. -/
def forgets0 : Fin 9 → Bool := fun w => decide (5 ≤ w.val)

/-- What the body leaves in each window, named for the inputs only: their own blocks. -/
def afterF (c : Dev nD) : (w : Fin cfg0.W) → (t : Fin cfg0.N) → (cfg0.win w).block.Idx → Elt F (cfg0.win w).elt
  | 0, t => iblk m c 0 t
  | 1, t => iblk m c 1 t
  | 2, t => iblk m c 2 t
  | 3, t => iblk m c 3 t
  | 4, t => iblk m c 4 t
  | 5, t => Pipeline.Dat.unnamed (cfg := cfg0) 5 t
  | 6, t => Pipeline.Dat.unnamed (cfg := cfg0) 6 t
  | 7, t => Pipeline.Dat.unnamed (cfg := cfg0) 7 t
  | 8, t => Pipeline.Dat.unnamed (cfg := cfg0) 8 t
  | ⟨_ + 9, h⟩, _ => absurd h (Nat.not_lt.2 (Nat.le_add_left _ _))

/-- The proof data on core `c`: the arrays as the region finds them, the inputs' blocks left in place, the scratch buffers at some contents. -/
def dats (_ : Fin 1) (c : Dev nD) : Dat τ (Elt F) Unit ℕ (UR sig nD τ) ℕ cfg0 c where
  A w := V m c (Pipeline.arrRef spec0 w)
  after := afterF m c
  Φ _ := Pipeline.ΦA spec0 c
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun _ => rfl) t d
theorem before1 (c : Dev nD) (t : Fin cfg0.N) (d) : (dats m 0 c).before 1 t d = iblk m c 1 t :=
  before0_1_of m (dats m 0 c) (A_eq m c 1) (fun _ => rfl) t d
theorem before2 (c : Dev nD) (t : Fin cfg0.N) (d) : (dats m 0 c).before 2 t d = iblk m c 2 t :=
  before0_2_of m (dats m 0 c) (A_eq m c 2) (fun _ => rfl) t d
theorem before3 (c : Dev nD) (t : Fin cfg0.N) (d) : (dats m 0 c).before 3 t d = iblk m c 3 t :=
  before0_3_of m (dats m 0 c) (A_eq m c 3) (fun _ => rfl) t d
theorem before4 (c : Dev nD) (t : Fin cfg0.N) (d) : (dats m 0 c).before 4 t d = iblk m c 4 t :=
  before0_4_of m (dats m 0 c) (A_eq m c 4) (fun _ => rfl) t d

/-- The invariant, scratch buffer by scratch buffer. -/
theorem Phi_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d) ∗ (∃ d, owns (c : Thread nD τ) (st0_6 t) fullShare d)
    ∗ (∃ d, owns (c : Thread nD τ) (st0_7 t) fullShare d) ∗ (∃ d, owns (c : Thread nD τ) (st0_8 t) fullShare d))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d) ∗ (∃ d, owns (c : Thread nD τ) (st0_6 t) fullShare d)
    ∗ (∃ d, owns (c : Thread nD τ) (st0_7 t) fullShare d) ∗ (∃ d, owns (c : Thread nD τ) (st0_8 t) fullShare d))

set_option maxHeartbeats 1000000 in
/-- The body at a grid point: the invariant opened, the body's run, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  simp only [before0, before1, before2, before3, before4]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl]
  iintro ⟨⟨⟨G0, G1, G2, G3⟩, Hg⟩, HO, ⟨%d0, H0⟩, ⟨%d1, H1⟩, ⟨%d2, H2⟩, ⟨%d3, H3⟩, ⟨%d4, H4⟩, H5, H6, H7, H8⟩
  iapply (kernelRun c (grid0.coords t) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [G0]; · iexact G0
  isplitl [G1]; · iexact G1
  isplitl [G2]; · iexact G2
  isplitl [G3]; · iexact G3
  iintro ⟨H0, H1, H2, H3, H4, H5, H6, H7, H8, G0, G1, G2, G3⟩
  isplitl [G0 G1 G2 G3 Hg]
  · isplitl [G0 G1 G2 G3]
    · isplitl [G0]; · iexact G0
      isplitl [G1]; · iexact G1
      isplitl [G2]; · iexact G2
      iexact G3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 1000000 in
/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every fair execution of the program terminates with nothing faulting, every array a window reads unchanged, every buffer that is no
    window's array unchanged, and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl) (hQ' := fun _ h => h)

/-- The program terminates, its argument arrays end unchanged and every semaphore counter ends at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨
      (h.1.arr_in c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Hand

end
-- ==== Proof.VBase.lean ====
/- Reading vectors at natural-number coordinates, and the two sums a trip of 256 rows is. -/
module

public import Idealize.ShloMosaic.Lib.Pipeline.ValueKit
public import Idealize.ShloMosaic.Lib.WritesUnit

@[expose] public section

set_option maxRecDepth 16384

noncomputable section

namespace Cert.Nat

open Idealize.ShloMosaic Idealize.ShloMosaic.TcCoe

/-- A rank-3 array at natural-number coordinates, 0 outside. -/
def at3 {A B C : ℕ} (x : (⟨3, ![A, B, C]⟩ : Shape).Idx → EReal) (t r c : ℕ) : EReal :=
  if h : t < A ∧ r < B ∧ c < C then x (ix3 ⟨t, h.1⟩ ⟨r, h.2.1⟩ ⟨c, h.2.2⟩) else 0

/-- A rank-2 array at natural-number coordinates, 0 outside. -/
def at2 {A B : ℕ} (x : (⟨2, ![A, B]⟩ : Shape).Idx → EReal) (r c : ℕ) : EReal :=
  if h : r < A ∧ c < B then x (ix2 ⟨r, h.1⟩ ⟨c, h.2⟩) else 0

/-- A rank-3 array at an index is the array at the index's values. -/
theorem at3_ix {A B C : ℕ} (x : (⟨3, ![A, B, C]⟩ : Shape).Idx → EReal) (t : Fin A) (r : Fin B) (c : Fin C) :
    x (ix3 t r c) = at3 x t.val r.val c.val := by
  unfold at3; rw [dif_pos ⟨t.isLt, r.isLt, c.isLt⟩]

/-- A rank-2 array at an index is the array at the index's values. -/
theorem at2_ix {A B : ℕ} (x : (⟨2, ![A, B]⟩ : Shape).Idx → EReal) (r : Fin A) (c : Fin B) :
    x (ix2 r c) = at2 x r.val c.val := by
  unfold at2; rw [dif_pos ⟨r.isLt, c.isLt⟩]

/-- A load through a unit-stride rectangle reads the contents at the offsets plus the index. -/
theorem readAt_at3 {sig : RefSig} {κ : Kind} {sp : Space} {A B C : ℕ} {e : EltTy} {n0 n1 n2 : ℕ}
    (he : Elt Ideal e = EReal)
    (v : View sig κ sp ⟨3, ![A, B, C]⟩ e) (f : v.ty.Contents (Elt Ideal)) (off : Fin 3 → ℕ)
    (inb : ∀ a : Fin 3, off a + (![n0, n1, n2] : Fin 3 → ℕ) a ≤ (![A, B, C] : Fin 3 → ℕ) a)
    (i : Fin n0) (j : Fin n1) (k : Fin n2) :
    (cast he (v.readAt (Elt Ideal) (Rect.unit (s := ⟨3, ![A, B, C]⟩) off ![n0, n1, n2] inb).toLoadRect f (ix3 i j k)) : EReal)
      = at3 (fun y => cast he (v.read (Elt Ideal) f y)) (off 0 + i.val) (off 1 + j.val) (off 2 + k.val) := by
  have h0 := inb 0; have h1 := inb 1; have h2 := inb 2
  have hi := i.isLt; have hj := j.isLt; have hk := k.isLt
  simp only [Matrix.cons_val] at h0 h1 h2
  unfold at3
  rw [dif_pos ⟨by omega, by omega, by omega⟩]
  refine congrArg (cast he) (congrArg (v.read (Elt Ideal) f) ?_)
  funext a
  refine Fin.ext ?_
  fin_cases a
  · show off 0 + 1 * i.val = off 0 + i.val; omega
  · show off 1 + 1 * j.val = off 1 + j.val; omega
  · show off 2 + 1 * k.val = off 2 + k.val; omega

/-- `readAt_at3` for a bf16 buffer. -/
theorem readAt_bf16 {sig : RefSig} {κ : Kind} {sp : Space} {A B C : ℕ} {n0 n1 n2 : ℕ}
    (v : View sig κ sp ⟨3, ![A, B, C]⟩ .bf16) (f : v.ty.Contents (Elt Ideal)) (off : Fin 3 → ℕ)
    (inb : ∀ a : Fin 3, off a + (![n0, n1, n2] : Fin 3 → ℕ) a ≤ (![A, B, C] : Fin 3 → ℕ) a)
    (i : Fin n0) (j : Fin n1) (k : Fin n2) :
    v.readAt (Elt Ideal) (Rect.unit (s := ⟨3, ![A, B, C]⟩) off ![n0, n1, n2] inb).toLoadRect f (ix3 i j k)
      = at3 (v.read (Elt Ideal) f) (off 0 + i.val) (off 1 + j.val) (off 2 + k.val) := readAt_at3 rfl v f off inb i j k

/-- `readAt_at3` for a f32 buffer. -/
theorem readAt_f32 {sig : RefSig} {κ : Kind} {sp : Space} {A B C : ℕ} {n0 n1 n2 : ℕ}
    (v : View sig κ sp ⟨3, ![A, B, C]⟩ .f32) (f : v.ty.Contents (Elt Ideal)) (off : Fin 3 → ℕ)
    (inb : ∀ a : Fin 3, off a + (![n0, n1, n2] : Fin 3 → ℕ) a ≤ (![A, B, C] : Fin 3 → ℕ) a)
    (i : Fin n0) (j : Fin n1) (k : Fin n2) :
    v.readAt (Elt Ideal) (Rect.unit (s := ⟨3, ![A, B, C]⟩) off ![n0, n1, n2] inb).toLoadRect f (ix3 i j k)
      = at3 (v.read (Elt Ideal) f) (off 0 + i.val) (off 1 + j.val) (off 2 + k.val) := readAt_at3 rfl v f off inb i j k

/-- `readAt_at3` for a fp8e5m2 buffer. -/
theorem readAt_fp8e5m2 {sig : RefSig} {κ : Kind} {sp : Space} {A B C : ℕ} {n0 n1 n2 : ℕ}
    (v : View sig κ sp ⟨3, ![A, B, C]⟩ .fp8e5m2) (f : v.ty.Contents (Elt Ideal)) (off : Fin 3 → ℕ)
    (inb : ∀ a : Fin 3, off a + (![n0, n1, n2] : Fin 3 → ℕ) a ≤ (![A, B, C] : Fin 3 → ℕ) a)
    (i : Fin n0) (j : Fin n1) (k : Fin n2) :
    v.readAt (Elt Ideal) (Rect.unit (s := ⟨3, ![A, B, C]⟩) off ![n0, n1, n2] inb).toLoadRect f (ix3 i j k)
      = at3 (v.read (Elt Ideal) f) (off 0 + i.val) (off 1 + j.val) (off 2 + k.val) := readAt_at3 rfl v f off inb i j k

/-- Column tile `t` of a map of rows and channels, at a row and a lane: tiles 0 and 1 are 128 channels each, tile 2 holds the last
    64 channels twice, the second half of the rows in the upper lanes. -/
def tl (t : ℕ) (f : ℕ → ℕ → EReal) (r l : ℕ) : EReal :=
  if t = 2 then (if l < 64 then f r (256 + l) else f (r + 2048) (256 + (l - 64))) else f r (128 * t + l)

/-- Tile 0. -/
theorem tl0 (f : ℕ → ℕ → EReal) (r l : ℕ) : tl 0 f r l = f r l := by simp [tl]
/-- Tile 1. -/
theorem tl1 (f : ℕ → ℕ → EReal) (r l : ℕ) : tl 1 f r l = f r (128 + l) := by simp [tl]
/-- Tile 2, lower lanes. -/
theorem tl2_lt (f : ℕ → ℕ → EReal) (r l : ℕ) (h : l < 64) : tl 2 f r l = f r (256 + l) := by simp [tl, h]
/-- Tile 2, upper lanes. -/
theorem tl2_ge (f : ℕ → ℕ → EReal) (r l : ℕ) (h : ¬ l < 64) : tl 2 f r l = f (r + 2048) (256 + (l - 64)) := by simp [tl, h]

/-- The derivative of `h * logistic h`. -/
def dfac (h : EReal) : EReal := Ideal.logistic h * (1 + h * (1 - Ideal.logistic h))

/-- A store through a unit-stride rectangle, read back: inside the rectangle what was stored, outside what was there. -/
theorem band3 {sig : RefSig} {κ : Kind} {sp : Space} {A B C : ℕ} {e : EltTy} {n0 n1 n2 : ℕ} (he : Elt Ideal e = EReal)
    (v : View sig κ sp ⟨3, ![A, B, C]⟩ e) (G : v.ty.Contents (Elt Ideal)) (off : Fin 3 → ℕ)
    (inb : ∀ a : Fin 3, off a + (![n0, n1, n2] : Fin 3 → ℕ) a ≤ (![A, B, C] : Fin 3 → ℕ) a)
    (w : (Rect.unit (s := ⟨3, ![A, B, C]⟩) off ![n0, n1, n2] inb).shape.Idx → Elt Ideal e)
    (L : List (View.Piece (Elt Ideal) ⟨3, ![A, B, C]⟩ e)) (V : ℕ → ℕ → ℕ → EReal) {o0 o1 o2 : ℕ} (ho : off = ![o0, o1, o2])
    (hw : ∀ (i : Fin n0) (j : Fin n1) (k : Fin n2), (cast he (w (ix3 i j k)) : EReal) = V (o0 + i.val) (o1 + j.val) (o2 + k.val))
    (t r c : ℕ) :
    at3 (fun y => cast he (v.read (Elt Ideal) (v.writes (Elt Ideal) G ((⟨Rect.unit (s := ⟨3, ![A, B, C]⟩) off ![n0, n1, n2] inb, w⟩ : View.Piece (Elt Ideal) ⟨3, ![A, B, C]⟩ e) :: L)) y)) t r c
      = if (o0 ≤ t ∧ t < o0 + n0) ∧ (o1 ≤ r ∧ r < o1 + n1) ∧ (o2 ≤ c ∧ c < o2 + n2) then V t r c
        else at3 (fun y => cast he (v.read (Elt Ideal) (v.writes (Elt Ideal) G L) y)) t r c := by
  have h0 := inb 0; have h1 := inb 1; have h2 := inb 2
  rw [ho] at h0 h1 h2
  simp only [Matrix.cons_val] at h0 h1 h2
  by_cases h : (o0 ≤ t ∧ t < o0 + n0) ∧ (o1 ≤ r ∧ r < o1 + n1) ∧ (o2 ≤ c ∧ c < o2 + n2)
  · rw [if_pos h]
    unfold at3
    rw [dif_pos ⟨by omega, by omega, by omega⟩]
    beta_reduce
    rw [View.read_writes_cons_unit_of_mem (s := ⟨3, ![A, B, C]⟩) v G inb w L _ (ix3 ⟨t - o0, by omega⟩ ⟨r - o1, by omega⟩ ⟨c - o2, by omega⟩) ho
      (by intro a; fin_cases a
          · show t = o0 + (t - o0); omega
          · show r = o1 + (r - o1); omega
          · show c = o2 + (c - o2); omega)]
    rw [hw]
    show V (o0 + (t - o0)) (o1 + (r - o1)) (o2 + (c - o2)) = V t r c
    rw [show o0 + (t - o0) = t by omega, show o1 + (r - o1) = r by omega, show o2 + (c - o2) = c by omega]
  · rw [if_neg h]
    unfold at3
    by_cases hb : t < A ∧ r < B ∧ c < C
    · rw [dif_pos hb, dif_pos hb]
      refine congrArg (cast he) ?_
      by_cases c0 : o0 ≤ t ∧ t < o0 + n0
      · by_cases c1 : o1 ≤ r ∧ r < o1 + n1
        · exact View.read_writes_cons_unit_of_not_mem (s := ⟨3, ![A, B, C]⟩) v G inb w L _ ho 2 (by show c < o2 ∨ o2 + n2 ≤ c; omega)
        · exact View.read_writes_cons_unit_of_not_mem (s := ⟨3, ![A, B, C]⟩) v G inb w L _ ho 1 (by show r < o1 ∨ o1 + n1 ≤ r; omega)
      · exact View.read_writes_cons_unit_of_not_mem (s := ⟨3, ![A, B, C]⟩) v G inb w L _ ho 0 (by show t < o0 ∨ o0 + n0 ≤ t; omega)
    · rw [dif_neg hb, dif_neg hb]

/-- `band3` for a buffer of f32. -/
theorem band_f32 {sig : RefSig} {κ : Kind} {sp : Space} {A B C : ℕ} {n0 n1 n2 : ℕ}
    (v : View sig κ sp ⟨3, ![A, B, C]⟩ .f32) (G : v.ty.Contents (Elt Ideal)) (off : Fin 3 → ℕ)
    (inb : ∀ a : Fin 3, off a + (![n0, n1, n2] : Fin 3 → ℕ) a ≤ (![A, B, C] : Fin 3 → ℕ) a)
    (w : (Rect.unit (s := ⟨3, ![A, B, C]⟩) off ![n0, n1, n2] inb).shape.Idx → Elt Ideal .f32)
    (L : List (View.Piece (Elt Ideal) ⟨3, ![A, B, C]⟩ .f32)) (V : ℕ → ℕ → ℕ → EReal) {o0 o1 o2 : ℕ} (ho : off = ![o0, o1, o2])
    (hw : ∀ (i : Fin n0) (j : Fin n1) (k : Fin n2), w (ix3 i j k) = V (o0 + i.val) (o1 + j.val) (o2 + k.val))
    (t r c : ℕ) :
    at3 (v.read (Elt Ideal) (v.writes (Elt Ideal) G ((⟨Rect.unit (s := ⟨3, ![A, B, C]⟩) off ![n0, n1, n2] inb, w⟩ : View.Piece (Elt Ideal) ⟨3, ![A, B, C]⟩ .f32) :: L))) t r c
      = if (o0 ≤ t ∧ t < o0 + n0) ∧ (o1 ≤ r ∧ r < o1 + n1) ∧ (o2 ≤ c ∧ c < o2 + n2) then V t r c
        else at3 (v.read (Elt Ideal) (v.writes (Elt Ideal) G L)) t r c := band3 rfl v G off inb w L V ho hw t r c

/-- `band3` for a buffer of e5m2 codes. -/
theorem band_fp8 {sig : RefSig} {κ : Kind} {sp : Space} {A B C : ℕ} {n0 n1 n2 : ℕ}
    (v : View sig κ sp ⟨3, ![A, B, C]⟩ .fp8e5m2) (G : v.ty.Contents (Elt Ideal)) (off : Fin 3 → ℕ)
    (inb : ∀ a : Fin 3, off a + (![n0, n1, n2] : Fin 3 → ℕ) a ≤ (![A, B, C] : Fin 3 → ℕ) a)
    (w : (Rect.unit (s := ⟨3, ![A, B, C]⟩) off ![n0, n1, n2] inb).shape.Idx → Elt Ideal .fp8e5m2)
    (L : List (View.Piece (Elt Ideal) ⟨3, ![A, B, C]⟩ .fp8e5m2)) (V : ℕ → ℕ → ℕ → EReal) {o0 o1 o2 : ℕ} (ho : off = ![o0, o1, o2])
    (hw : ∀ (i : Fin n0) (j : Fin n1) (k : Fin n2), w (ix3 i j k) = V (o0 + i.val) (o1 + j.val) (o2 + k.val))
    (t r c : ℕ) :
    at3 (v.read (Elt Ideal) (v.writes (Elt Ideal) G ((⟨Rect.unit (s := ⟨3, ![A, B, C]⟩) off ![n0, n1, n2] inb, w⟩ : View.Piece (Elt Ideal) ⟨3, ![A, B, C]⟩ .fp8e5m2) :: L))) t r c
      = if (o0 ≤ t ∧ t < o0 + n0) ∧ (o1 ≤ r ∧ r < o1 + n1) ∧ (o2 ≤ c ∧ c < o2 + n2) then V t r c
        else at3 (v.read (Elt Ideal) (v.writes (Elt Ideal) G L)) t r c := band3 rfl v G off inb w L V ho hw t r c

/-- Two adjacent row bands of one tile are one band. -/
theorem band_join (t t0 r o n m c c0 w : ℕ) (a R : EReal) :
    (if (t0 ≤ t ∧ t < t0 + 1) ∧ (o + n ≤ r ∧ r < o + n + m) ∧ (c0 ≤ c ∧ c < c0 + w) then a
      else if (t0 ≤ t ∧ t < t0 + 1) ∧ (o ≤ r ∧ r < o + n) ∧ (c0 ≤ c ∧ c < c0 + w) then a else R)
      = if (t0 ≤ t ∧ t < t0 + 1) ∧ (o ≤ r ∧ r < o + (n + m)) ∧ (c0 ≤ c ∧ c < c0 + w) then a else R := by
  by_cases h1 : (t0 ≤ t ∧ t < t0 + 1) ∧ (o ≤ r ∧ r < o + (n + m)) ∧ (c0 ≤ c ∧ c < c0 + w)
  · rw [if_pos h1]
    by_cases h2 : r < o + n
    · rw [if_neg (by omega), if_pos (by omega)]
    · rw [if_pos (by omega)]
  · rw [if_neg h1, if_neg (by omega), if_neg (by omega)]

/-- A buffer whose every trip writes one band of 256 rows holds, after `n` trips, one band of `256 n` rows. -/
theorem bands_total (S : ℕ → ℕ → EReal) (V : ℕ → EReal) (N : ℕ) (p : Prop) [Decidable p] (r : ℕ)
    (h : ∀ k < N, S (k + 1) r = if p ∧ (256 * k ≤ r ∧ r < 256 * k + 256) then V r else S k r) (n : ℕ) (hn : n ≤ N) :
    S n r = if p ∧ r < 256 * n then V r else S 0 r := by
  induction n with
  | zero => rw [if_neg (by omega)]
  | succ n ih =>
    rw [h n (by omega), ih (by omega)]
    by_cases hp : p
    · simp only [hp, true_and]
      by_cases h1 : r < 256 * n
      · rw [if_neg (by omega), if_pos h1, if_pos (by omega)]
      · by_cases h2 : r < 256 * (n + 1)
        · rw [if_pos (by omega), if_pos h2]
        · rw [if_neg (by omega), if_neg h1, if_neg h2]
    · simp only [hp, false_and, if_false]

/-- Sixteen chunks of two sublane rows each are 32 consecutive sublane rows. -/
theorem sum16 (f : ℕ → EReal) (b i : ℕ) (a : EReal) :
    a + (f (b + (0 * 8 + i)) + f (b + (1 * 8 + i))) + (f (b + 16 + (0 * 8 + i)) + f (b + 16 + (1 * 8 + i)))
      + (f (b + 32 + (0 * 8 + i)) + f (b + 32 + (1 * 8 + i))) + (f (b + 48 + (0 * 8 + i)) + f (b + 48 + (1 * 8 + i)))
      + (f (b + 64 + (0 * 8 + i)) + f (b + 64 + (1 * 8 + i))) + (f (b + 80 + (0 * 8 + i)) + f (b + 80 + (1 * 8 + i)))
      + (f (b + 96 + (0 * 8 + i)) + f (b + 96 + (1 * 8 + i))) + (f (b + 112 + (0 * 8 + i)) + f (b + 112 + (1 * 8 + i)))
      + (f (b + 128 + (0 * 8 + i)) + f (b + 128 + (1 * 8 + i))) + (f (b + 144 + (0 * 8 + i)) + f (b + 144 + (1 * 8 + i)))
      + (f (b + 160 + (0 * 8 + i)) + f (b + 160 + (1 * 8 + i))) + (f (b + 176 + (0 * 8 + i)) + f (b + 176 + (1 * 8 + i)))
      + (f (b + 192 + (0 * 8 + i)) + f (b + 192 + (1 * 8 + i))) + (f (b + 208 + (0 * 8 + i)) + f (b + 208 + (1 * 8 + i)))
      + (f (b + 224 + (0 * 8 + i)) + f (b + 224 + (1 * 8 + i))) + (f (b + 240 + (0 * 8 + i)) + f (b + 240 + (1 * 8 + i)))
      = a + ∑ q ∈ Finset.range 32, f (b + (8 * q + i)) := by
  simp only [Finset.sum_range_succ, Finset.sum_range_zero, zero_add, ← add_assoc, Nat.reduceMul, zero_mul, Nat.add_zero, mul_zero, add_zero]

/-- Eight chunks of four sublane rows each are 32 consecutive sublane rows. -/
theorem sum8 (f : ℕ → EReal) (b i : ℕ) (a : EReal) :
    a + (f (b + (0 * 8 + i)) + f (b + (1 * 8 + i)) + f (b + (2 * 8 + i)) + f (b + (3 * 8 + i)))
      + (f (b + 32 + (0 * 8 + i)) + f (b + 32 + (1 * 8 + i)) + f (b + 32 + (2 * 8 + i)) + f (b + 32 + (3 * 8 + i)))
      + (f (b + 64 + (0 * 8 + i)) + f (b + 64 + (1 * 8 + i)) + f (b + 64 + (2 * 8 + i)) + f (b + 64 + (3 * 8 + i)))
      + (f (b + 96 + (0 * 8 + i)) + f (b + 96 + (1 * 8 + i)) + f (b + 96 + (2 * 8 + i)) + f (b + 96 + (3 * 8 + i)))
      + (f (b + 128 + (0 * 8 + i)) + f (b + 128 + (1 * 8 + i)) + f (b + 128 + (2 * 8 + i)) + f (b + 128 + (3 * 8 + i)))
      + (f (b + 160 + (0 * 8 + i)) + f (b + 160 + (1 * 8 + i)) + f (b + 160 + (2 * 8 + i)) + f (b + 160 + (3 * 8 + i)))
      + (f (b + 192 + (0 * 8 + i)) + f (b + 192 + (1 * 8 + i)) + f (b + 192 + (2 * 8 + i)) + f (b + 192 + (3 * 8 + i)))
      + (f (b + 224 + (0 * 8 + i)) + f (b + 224 + (1 * 8 + i)) + f (b + 224 + (2 * 8 + i)) + f (b + 224 + (3 * 8 + i)))
      = a + ∑ q ∈ Finset.range 32, f (b + (8 * q + i)) := by
  simp only [Finset.sum_range_succ, Finset.sum_range_zero, zero_add, ← add_assoc, Nat.reduceMul, zero_mul, Nat.add_zero, mul_zero, add_zero]

/-- The eight sublanes' sums over 32 sublane rows are one sum over 256 rows. -/
theorem sum256 (f : ℕ → EReal) (b : ℕ) :
    ∑ i : Fin 8, ∑ q ∈ Finset.range 32, f (b + (8 * q + i.val)) = ∑ r ∈ Finset.range 256, f (b + r) := by
  have h := Fin.sum_univ_tiles 32 8 rfl (fun r : Fin 256 => f (b + r.val))
  rw [Finset.sum_comm, Finset.sum_range, ← Fin.sum_univ_eq_sum_range (fun r => f (b + r)) 256, h]
  refine Finset.sum_congr rfl fun q _ => Finset.sum_congr rfl fun i _ => ?_
  rw [Nat.mul_comm 8]

/-- A carried accumulator whose every trip adds 256 rows holds, after `n` trips, `256 n` rows. -/
theorem rows_total (S : ℕ → EReal) (f : ℕ → EReal) (N : ℕ) (h0 : S 0 = 0)
    (h : ∀ k < N, S (k + 1) = S k + ∑ r ∈ Finset.range 256, f (256 * k + r)) (n : ℕ) (hn : n ≤ N) :
    S n = ∑ r ∈ Finset.range (256 * n), f r := by
  induction n with
  | zero => simpa using h0
  | succ n ih => rw [h n (by omega), ih (by omega), Nat.mul_succ, Finset.sum_range_add]

end Cert.Nat

end
-- ==== Proof.VPay.lean ====
module

public import proofs.«01_k».proof.Proof.Gen.KernelIdeal.Loops
public import proofs.«01_k».proof.Proof.VBase

@[expose] public section
set_option maxRecDepth 16384
noncomputable section
namespace Cert.KernelIdeal.Hand
open Idealize.ShloMosaic Idealize.ShloMosaic.TcCoe Idealize.SL.Sem Cert.Nat Cert.KernelIdeal Cert.KernelIdeal.Gen

/-- Column sums of a map of rows and channels over the 4096 rows, 0 in the padding lanes. -/
def cs (f : ℕ → ℕ → EReal) (c : ℕ) : EReal := if c < 320 then ∑ r ∈ Finset.range 4096, f r c else 0

/-- Sums over the ten channels of a channel's group, 0 in the padding lanes. -/
def gsum (S : ℕ → EReal) (c : ℕ) : EReal := if c < 320 then ∑ j ∈ Finset.range 10, S (10 * (c / 10) + j) else 0

/-- The three tiles' lane sums, the last tile folded, are the column sums. -/
theorem fold3 (A0 A1 A2 : Fin 128 → EReal) (f : ℕ → ℕ → EReal)
    (h0 : ∀ l, A0 l = ∑ r ∈ Finset.range 4096, tl 0 f r l.val) (h1 : ∀ l, A1 l = ∑ r ∈ Finset.range 4096, tl 1 f r l.val)
    (h2 : ∀ l, A2 l = ∑ r ∈ Finset.range 2048, tl 2 f r l.val) (c : Fin 384) :
    (if h : c.val < 128 then A0 ⟨c.val, h⟩ else if h : c.val - 128 < 128 then A1 ⟨c.val - 128, h⟩
      else if h : c.val - 128 - 128 < 64 then A2 ⟨c.val - 128 - 128, by omega⟩ + A2 ⟨64 + (c.val - 128 - 128), by omega⟩ else 0) = cs f c.val := by
  unfold cs
  split_ifs with a b d e e e
  · rw [h0]; simp only [tl0]
  · omega
  · rw [h1]; simp only [tl1]; refine Finset.sum_congr rfl fun r _ => ?_; congr 1; omega
  · omega
  · rw [h2, h2, Finset.sum_congr rfl (fun r _ => tl2_lt f r (c.val - 128 - 128) (by omega)),
      Finset.sum_congr rfl (fun r _ => tl2_ge f r (64 + (c.val - 128 - 128)) (by omega)), show (4096 : ℕ) = 2048 + 2048 from rfl, Finset.sum_range_add]
    congr 1
    · refine Finset.sum_congr rfl fun r _ => ?_; congr 1; omega
    · refine Finset.sum_congr rfl fun r _ => ?_; congr 1 <;> omega
  · omega
  · omega
  · rfl

/-- The group indicator: 1 where both channels lie in one group and neither is padding. -/
def pind (a b : ℕ) : EReal := if (a / 10 = b / 10 ∧ b < 320) ∧ a < 320 then 1 else 0

/-- A row times the group indicator is the row's group sums. -/
theorem pind_sum (S : ℕ → EReal) (c : Fin 384) : ∑ x : Fin 384, S x.val * pind x.val c.val = gsum S c.val := by
  obtain ⟨c, hc384⟩ := c
  simp only []
  rw [Fin.sum_univ_eq_sum_range (fun x => S x * pind x c) 384, show (384 : ℕ) = 320 + 64 from rfl, Finset.sum_range_add]
  rw [Finset.sum_eq_zero (s := Finset.range 64) (fun x _ => by unfold pind; rw [if_neg (by omega), mul_zero]), add_zero]
  rw [← Fin.sum_univ_eq_sum_range (fun x => S x * pind x c) 320, Fin.sum_univ_tiles 32 10 rfl (fun x : Fin 320 => S x.val * pind x.val c)]
  unfold gsum
  by_cases hc : c < 320
  · rw [if_pos hc, Finset.sum_eq_single (⟨c / 10, by omega⟩ : Fin 32)]
    · rw [Finset.sum_range]
      refine Finset.sum_congr rfl fun j _ => ?_
      unfold pind
      simp only []
      rw [if_pos (by omega), mul_one]
      congr 1; omega
    · intro u _ hu
      refine Finset.sum_eq_zero fun j _ => ?_
      unfold pind
      have : u.val ≠ c / 10 := fun h => hu (Fin.ext h)
      simp only []
      rw [if_neg (by omega), mul_zero]
    · intro h; exact absurd (Finset.mem_univ _) h
  · rw [if_neg hc]
    refine Finset.sum_eq_zero fun u _ => Finset.sum_eq_zero fun j _ => ?_
    unfold pind
    rw [if_neg (by omega), mul_zero]

/-- The product of a finite row, cut into three bf16 parts, with the group indicator: over the extended reals the first part is the
    whole row and the rests are 0. -/
theorem split_sum (S : ℕ → EReal) (hS : ∀ x, ∃ r : ℝ, S x = r) (v4 : Vec Ideal S384x384 .bf16) (h4 : ∀ a b : Fin 384, v4 (ix2 a b) = pind a.val b.val) (c : Fin 384) :
    (∑ x : Fin 384, S x.val * (v4 (ix2 x c) : EReal)) + (∑ x : Fin 384, (S x.val - S x.val) * (v4 (ix2 x c) : EReal)) + ∑ x : Fin 384, (S x.val - S x.val - (S x.val - S x.val)) * (v4 (ix2 x c) : EReal)
      = gsum S c.val := by
  have z : ∀ x, S x - S x = 0 := fun x => by obtain ⟨r, hr⟩ := hS x; rw [hr, ← EReal.coe_sub, sub_self]; rfl
  simp only [z, h4, sub_zero, zero_mul, Finset.sum_const_zero, add_zero]
  exact pind_sum S c

/-- The named reciprocal is 1/40960. -/
theorem inv_n_eq : (Named.named (F := Ideal) κ "inv_n" 936168653#32 : Ideal .f32) = ((1 / 40960 : ℝ) : EReal) := rfl

theorem p373 (a0 a1 a2 : FVec Ideal S8x128 .f32) (f : ℕ → ℕ → EReal)
    (h0 : ∀ l : Fin 128, ∑ x : Fin 8, (a0 (ix2 x l) : EReal) = ∑ r ∈ Finset.range 4096, tl 0 f r l.val)
    (h1 : ∀ l : Fin 128, ∑ x : Fin 8, (a1 (ix2 x l) : EReal) = ∑ r ∈ Finset.range 4096, tl 1 f r l.val)
    (h2 : ∀ l : Fin 128, ∑ x : Fin 8, (a2 (ix2 x l) : EReal) = ∑ r ∈ Finset.range 2048, tl 2 f r l.val) (c : Fin 384) :
    k0_pay373 a0 a1 a2 (ix2 0 c) = cs f c.val := by
  pointwise [k0_pay373]
  exact fold3 (fun l => ∑ x : Fin 8, a0 (ix2 x l)) (fun l => ∑ x : Fin 8, a1 (ix2 x l)) (fun l => ∑ x : Fin 8, a2 (ix2 x l)) f h0 h1 h2 c

/-- Row 0 of the statistics: the group mean. -/
theorem p375_0 (v4 : Vec Ideal S384x384 .bf16) (h4 : ∀ a b : Fin 384, v4 (ix2 a b) = pind a.val b.val)
    (a1 a2 : FVec Ideal S8x128 .f32) (v29 : FVec Ideal S1x384 .f32) (v30 : FVec Ideal S128 .f32) (S : ℕ → EReal) (hS : ∀ x, ∃ r : ℝ, S x = r)
    (h29 : ∀ c : Fin 384, v29 (ix2 0 c) = S c.val) (c : Fin 384) :
    k0_pay375 v4 a1 a2 v29 v30 (ix2 0 c) = gsum S c.val * ((1 / 40960 : ℝ) : EReal) := by
  pointwise [k0_pay375]
  simp only [h29]
  rw [inv_n_eq, split_sum S hS v4 h4 c]

/-- Row 1 of the statistics: the group mean of the square. -/
theorem p375_1 (v4 : Vec Ideal S384x384 .bf16) (h4 : ∀ a b : Fin 384, v4 (ix2 a b) = pind a.val b.val)
    (a1 a2 : FVec Ideal S8x128 .f32) (v29 : FVec Ideal S1x384 .f32) (v30 : FVec Ideal S128 .f32) (f : ℕ → ℕ → EReal) (hS : ∀ x, ∃ r : ℝ, cs f x = r)
    (h0 : ∀ l : Fin 128, (v30 (ix1 l) : EReal) = ∑ r ∈ Finset.range 4096, tl 0 f r l.val)
    (h1 : ∀ l : Fin 128, ∑ x : Fin 8, (a1 (ix2 x l) : EReal) = ∑ r ∈ Finset.range 4096, tl 1 f r l.val)
    (h2 : ∀ l : Fin 128, ∑ x : Fin 8, (a2 (ix2 x l) : EReal) = ∑ r ∈ Finset.range 2048, tl 2 f r l.val) (c : Fin 384) :
    k0_pay375 v4 a1 a2 v29 v30 (ix2 1 c) = gsum (cs f) c.val * ((1 / 40960 : ℝ) : EReal) := by
  have e := fold3 (fun l => v30 (ix1 l)) (fun l => ∑ x : Fin 8, a1 (ix2 x l)) (fun l => ∑ x : Fin 8, a2 (ix2 x l)) f h0 h1 h2
  beta_reduce at e
  pointwise [k0_pay375]
  simp only [e]
  rw [inv_n_eq, split_sum (cs f) hS v4 h4 c]

/-- The reciprocal standard deviation of a group. -/
theorem p377 (v4 : Vec Ideal S384x384 .bf16) (a1 a2 : FVec Ideal S8x128 .f32) (v29 : FVec Ideal S1x384 .f32) (v30 : FVec Ideal S128 .f32) (m q : ℕ → EReal)
    (hm : ∀ c : Fin 384, k0_pay375 v4 a1 a2 v29 v30 (ix2 0 c) = m c.val) (hq : ∀ c : Fin 384, k0_pay375 v4 a1 a2 v29 v30 (ix2 1 c) = q c.val) (c : Fin 384) :
    k0_pay377 v4 a1 a2 v29 v30 (ix2 0 c) = Ideal.rsqrt (q c.val - m c.val * m c.val + Ideal.ofBits .f32 0x3727C5AC#32) := by
  pointwise [k0_pay377, k0_pay376]
  rw [hm, hq]

theorem p376 (v4 : Vec Ideal S384x384 .bf16) (a1 a2 : FVec Ideal S8x128 .f32) (v29 : FVec Ideal S1x384 .f32) (v30 : FVec Ideal S128 .f32) (c : Fin 384) :
    k0_pay376 v4 a1 a2 v29 v30 (ix2 0 c) = k0_pay375 v4 a1 a2 v29 v30 (ix2 0 c) := by
  pointwise [k0_pay376]

theorem p361 (v6 : Vec Ideal S1x320 .f32) (c : Fin 384) : k0_pay361 v6 (ix2 0 c) = at2 v6 0 c.val := by
  pointwise [k0_pay361, k0_pay360]
  simp only [at2_ix v6]
  unfold at2
  split_ifs <;> first | rfl | omega

theorem p362 (v6 : Vec Ideal S1x320 .f32) (c : Fin 384) : k0_pay362 v6 (ix2 0 c) = at2 v6 0 c.val := by
  pointwise [k0_pay362, k0_pay360]
  simp only [at2_ix v6]
  unfold at2
  split_ifs <;> first | rfl | omega

theorem p378 (v4 : Vec Ideal S384x384 .bf16) (v8 : FVec Ideal S1x384 .f32) (a1 a2 : FVec Ideal S8x128 .f32) (v29 : FVec Ideal S1x384 .f32) (v30 : FVec Ideal S128 .f32) (c : Fin 384) :
    k0_pay378 v4 v8 a1 a2 v29 v30 (ix2 0 c) = k0_pay377 v4 a1 a2 v29 v30 (ix2 0 c) * v8 (ix2 0 c) := by
  pointwise [k0_pay378]

theorem p379 (v4 : Vec Ideal S384x384 .bf16) (v8 v11 : FVec Ideal S1x384 .f32) (a1 a2 : FVec Ideal S8x128 .f32) (v29 : FVec Ideal S1x384 .f32) (v30 : FVec Ideal S128 .f32) (c : Fin 384) :
    k0_pay379 v4 v8 v11 a1 a2 v29 v30 (ix2 0 c) = v11 (ix2 0 c) - k0_pay376 v4 a1 a2 v29 v30 (ix2 0 c) * k0_pay378 v4 v8 a1 a2 v29 v30 (ix2 0 c) := by
  pointwise [k0_pay379]

theorem p383 (v4 : Vec Ideal S384x384 .bf16) (v8 : FVec Ideal S1x384 .f32) (a1 a2 : FVec Ideal S8x128 .f32) (v29 : FVec Ideal S1x384 .f32) (v30 : FVec Ideal S128 .f32) (r : Fin 32) (l : Fin 128) :
    k0_pay383 v4 v8 a1 a2 v29 v30 (ix2 r l) = at2 (k0_pay378 v4 v8 a1 a2 v29 v30) 0 (128 + l.val) := by
  pointwise [k0_pay383]
  exact at2_ix (k0_pay378 v4 v8 a1 a2 v29 v30) _ _

theorem p384 (v4 : Vec Ideal S384x384 .bf16) (v8 v11 : FVec Ideal S1x384 .f32) (a1 a2 : FVec Ideal S8x128 .f32) (v29 : FVec Ideal S1x384 .f32) (v30 : FVec Ideal S128 .f32) (l : Fin 128) :
    k0_pay384 v4 v8 v11 a1 a2 v29 v30 (ix2 0 l) = at2 (k0_pay379 v4 v8 v11 a1 a2 v29 v30) 0 (128 + l.val) := by
  pointwise [k0_pay384]
  exact at2_ix (k0_pay379 v4 v8 v11 a1 a2 v29 v30) _ _

/-- The scaled column sums of the gradient. -/
theorem p390 (a0 a1 a2 : FVec Ideal S8x128 .f32) (s : Elt Ideal .f32) (f : ℕ → ℕ → EReal)
    (h0 : ∀ l : Fin 128, ∑ x : Fin 8, (a0 (ix2 x l) : EReal) = ∑ r ∈ Finset.range 4096, tl 0 f r l.val)
    (h1 : ∀ l : Fin 128, ∑ x : Fin 8, (a1 (ix2 x l) : EReal) = ∑ r ∈ Finset.range 4096, tl 1 f r l.val)
    (h2 : ∀ l : Fin 128, ∑ x : Fin 8, (a2 (ix2 x l) : EReal) = ∑ r ∈ Finset.range 2048, tl 2 f r l.val) (c : Fin 384) :
    k0_pay390 a0 a1 a2 s (ix2 0 c) = cs f c.val * s := by
  pointwise [k0_pay390]
  rw [← fold3 (fun l => ∑ x : Fin 8, a0 (ix2 x l)) (fun l => ∑ x : Fin 8, a1 (ix2 x l)) (fun l => ∑ x : Fin 8, a2 (ix2 x l)) f h0 h1 h2 c]

/-- The scaled column sums of the gradient times x, centred. -/
theorem p391 (v58 : FVec Ideal S1x384 .f32) (a0 b0 a1 b1 a2 b2 : FVec Ideal S8x128 .f32) (s : Elt Ideal .f32) (f : ℕ → ℕ → EReal)
    (h0 : ∀ l : Fin 128, ∑ x : Fin 8, (b0 (ix2 x l) : EReal) = ∑ r ∈ Finset.range 4096, tl 0 f r l.val)
    (h1 : ∀ l : Fin 128, ∑ x : Fin 8, (b1 (ix2 x l) : EReal) = ∑ r ∈ Finset.range 4096, tl 1 f r l.val)
    (h2 : ∀ l : Fin 128, ∑ x : Fin 8, (b2 (ix2 x l) : EReal) = ∑ r ∈ Finset.range 2048, tl 2 f r l.val) (c : Fin 384) :
    k0_pay391 v58 a0 b0 a1 b1 a2 b2 s (ix2 0 c) = cs f c.val * s - v58 (ix2 0 c) * k0_pay390 a0 a1 a2 s (ix2 0 c) := by
  pointwise [k0_pay391]
  rw [← fold3 (fun l => ∑ x : Fin 8, b0 (ix2 x l)) (fun l => ∑ x : Fin 8, b1 (ix2 x l)) (fun l => ∑ x : Fin 8, b2 (ix2 x l)) f h0 h1 h2 c]

theorem p393 (v64 v122 : FVec Ideal S1x384 .f32) (v124 : Vec Ideal S1x320 .f32) (c : Fin 320) :
    k0_pay393 v64 v122 v124 (ix2 0 c) = v124 (ix2 0 c) + v122 (ix2 0 ⟨c.val, by omega⟩) * v64 (ix2 0 ⟨c.val, by omega⟩) := by
  pointwise [k0_pay393, k0_pay392]

theorem p394 (v107 : FVec Ideal S1x384 .f32) (v129 : Vec Ideal S1x320 .f32) (c : Fin 320) :
    k0_pay394 v107 v129 (ix2 0 c) = v129 (ix2 0 c) + v107 (ix2 0 ⟨c.val, by omega⟩) := by
  pointwise [k0_pay394]

theorem p363 (a : Fin 8) (l : Fin 128) : k0_pay363 (F := Ideal) (ix2 a l) = 0 := by pointwise [k0_pay363]
theorem p358 (c : Fin 320) : k0_pay358 (F := Ideal) (ix2 0 c) = 0 := by pointwise [k0_pay358]
theorem p359 (c : Fin 320) : k0_pay359 (F := Ideal) (ix2 0 c) = 0 := by pointwise [k0_pay359]
theorem p374 (v : FVec Ideal S8x128 .f32) (l : Fin 128) : k0_pay374 v (ix1 l) = ∑ x : Fin 8, (v (ix2 x l) : EReal) := by pointwise [k0_pay374]

end Cert.KernelIdeal.Hand
-- ==== Proof.VT1.lean ====
module

public import proofs.«01_k».proof.Proof.Gen.KernelIdeal.Loops
public import proofs.«01_k».proof.Proof.VBase

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X1 : BufTy.Contents (Elt Ideal) arg1.view.ty)

/-- One trip of the statistics loop over column tile 0 adds 32 sublane rows to the running sums of x and of its square. -/
theorem t1_step [Named Ideal] (k : Fin k0_t1_loop.trips) (acc : FVec Ideal S8x128 .f32 × FVec Ideal S8x128 .f32) (a : Fin 8) (l : Fin 128) :
    ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 k).1 acc).1 (ix2 a l) = acc.1 (ix2 a l) + ∑ q ∈ Finset.range 32, tl 0 (fun r c => at3 (arg1.view.read (Elt Ideal) X1) 0 r c) (256 * k.val + (8 * q + a.val)) l.val
    ∧ ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 k).1 acc).2 (ix2 a l) = acc.2 (ix2 a l) + ∑ q ∈ Finset.range 32, tl 0 (fun r c => at3 (arg1.view.read (Elt Ideal) X1) 0 r c * at3 (arg1.view.read (Elt Ideal) X1) 0 r c) (256 * k.val + (8 * q + a.val)) l.val := by
  have o0 : k0_off1 k 0#32 = ![0, 256 * k.val + 0, 0] := k0_off1_eq k 0
  have o1 : k0_off1 k 16#32 = ![0, 256 * k.val + 16, 0] := k0_off1_eq k 1
  have o2 : k0_off1 k 32#32 = ![0, 256 * k.val + 32, 0] := k0_off1_eq k 2
  have o3 : k0_off1 k 48#32 = ![0, 256 * k.val + 48, 0] := k0_off1_eq k 3
  have o4 : k0_off1 k 64#32 = ![0, 256 * k.val + 64, 0] := k0_off1_eq k 4
  have o5 : k0_off1 k 80#32 = ![0, 256 * k.val + 80, 0] := k0_off1_eq k 5
  have o6 : k0_off1 k 96#32 = ![0, 256 * k.val + 96, 0] := k0_off1_eq k 6
  have o7 : k0_off1 k 112#32 = ![0, 256 * k.val + 112, 0] := k0_off1_eq k 7
  have o8 : k0_off1 k 128#32 = ![0, 256 * k.val + 128, 0] := k0_off1_eq k 8
  have o9 : k0_off1 k 144#32 = ![0, 256 * k.val + 144, 0] := k0_off1_eq k 9
  have o10 : k0_off1 k 160#32 = ![0, 256 * k.val + 160, 0] := k0_off1_eq k 10
  have o11 : k0_off1 k 176#32 = ![0, 256 * k.val + 176, 0] := k0_off1_eq k 11
  have o12 : k0_off1 k 192#32 = ![0, 256 * k.val + 192, 0] := k0_off1_eq k 12
  have o13 : k0_off1 k 208#32 = ![0, 256 * k.val + 208, 0] := k0_off1_eq k 13
  have o14 : k0_off1 k 224#32 = ![0, 256 * k.val + 224, 0] := k0_off1_eq k 14
  have o15 : k0_off1 k 240#32 = ![0, 256 * k.val + 240, 0] := k0_off1_eq k 15
  simp only [tl0]
  unfold trip_k0_t1
  dsimp only
  constructor
  all_goals
    pointwise [k0_pay364, k0_pay365, k0_pay366, trip_k0_t1.sl.arg14, trip_k0_t1.sl.cst_109, trip_k0_t1.sl.v299, trip_k0_t1.sl.v301, trip_k0_t1.sl.v302, trip_k0_t1.sl.v304, trip_k0_t1.sl.v305, trip_k0_t1.sl.v306, trip_k0_t1.sl.v307, trip_k0_t1.sl.v308, trip_k0_t1.sl.v309, trip_k0_t1.sl.v310, trip_k0_t1.sl.v311, trip_k0_t1.sl.v312, trip_k0_t1.sl.v315, trip_k0_t1.sl.v316, trip_k0_t1.sl.v318, trip_k0_t1.sl.v319, trip_k0_t1.sl.v320, trip_k0_t1.sl.v321, trip_k0_t1.sl.v322, trip_k0_t1.sl.v323, trip_k0_t1.sl.v324, trip_k0_t1.sl.v325, trip_k0_t1.sl.v326, trip_k0_t1.sl.v329, trip_k0_t1.sl.v330, trip_k0_t1.sl.v332, trip_k0_t1.sl.v333, trip_k0_t1.sl.v334, trip_k0_t1.sl.v335, trip_k0_t1.sl.v336, trip_k0_t1.sl.v337, trip_k0_t1.sl.v338, trip_k0_t1.sl.v339, trip_k0_t1.sl.v340, trip_k0_t1.sl.v343, trip_k0_t1.sl.v344, trip_k0_t1.sl.v346, trip_k0_t1.sl.v347, trip_k0_t1.sl.v348, trip_k0_t1.sl.v349, trip_k0_t1.sl.v350, trip_k0_t1.sl.v351, trip_k0_t1.sl.v352, trip_k0_t1.sl.v353, trip_k0_t1.sl.v354, trip_k0_t1.sl.v357, trip_k0_t1.sl.v358, trip_k0_t1.sl.v360, trip_k0_t1.sl.v361, trip_k0_t1.sl.v362, trip_k0_t1.sl.v363, trip_k0_t1.sl.v364, trip_k0_t1.sl.v365, trip_k0_t1.sl.v366, trip_k0_t1.sl.v367, trip_k0_t1.sl.v368, trip_k0_t1.sl.v371, trip_k0_t1.sl.v372, trip_k0_t1.sl.v374, trip_k0_t1.sl.v375, trip_k0_t1.sl.v376, trip_k0_t1.sl.v377, trip_k0_t1.sl.v378, trip_k0_t1.sl.v379, trip_k0_t1.sl.v380, trip_k0_t1.sl.v381, trip_k0_t1.sl.v382, trip_k0_t1.sl.v385, trip_k0_t1.sl.v386, trip_k0_t1.sl.v388, trip_k0_t1.sl.v389, trip_k0_t1.sl.v390, trip_k0_t1.sl.v391, trip_k0_t1.sl.v392, trip_k0_t1.sl.v393, trip_k0_t1.sl.v394, trip_k0_t1.sl.v395, trip_k0_t1.sl.v396, trip_k0_t1.sl.v399, trip_k0_t1.sl.v400, trip_k0_t1.sl.v402, trip_k0_t1.sl.v403, trip_k0_t1.sl.v404, trip_k0_t1.sl.v405, trip_k0_t1.sl.v406, trip_k0_t1.sl.v407, trip_k0_t1.sl.v408, trip_k0_t1.sl.v409, trip_k0_t1.sl.v410, trip_k0_t1.sl.v413, trip_k0_t1.sl.v414, trip_k0_t1.sl.v416, trip_k0_t1.sl.v417, trip_k0_t1.sl.v418, trip_k0_t1.sl.v419, trip_k0_t1.sl.v420, trip_k0_t1.sl.v421, trip_k0_t1.sl.v422, trip_k0_t1.sl.v423, trip_k0_t1.sl.v424, trip_k0_t1.sl.v427, trip_k0_t1.sl.v428, trip_k0_t1.sl.v430, trip_k0_t1.sl.v431, trip_k0_t1.sl.v432, trip_k0_t1.sl.v433, trip_k0_t1.sl.v434, trip_k0_t1.sl.v435, trip_k0_t1.sl.v436, trip_k0_t1.sl.v437, trip_k0_t1.sl.v438, trip_k0_t1.sl.v441, trip_k0_t1.sl.v442, trip_k0_t1.sl.v444, trip_k0_t1.sl.v445, trip_k0_t1.sl.v446, trip_k0_t1.sl.v447, trip_k0_t1.sl.v448, trip_k0_t1.sl.v449, trip_k0_t1.sl.v450, trip_k0_t1.sl.v451, trip_k0_t1.sl.v452, trip_k0_t1.sl.v455, trip_k0_t1.sl.v456, trip_k0_t1.sl.v458, trip_k0_t1.sl.v459, trip_k0_t1.sl.v460, trip_k0_t1.sl.v461, trip_k0_t1.sl.v462, trip_k0_t1.sl.v463, trip_k0_t1.sl.v464, trip_k0_t1.sl.v465, trip_k0_t1.sl.v466, trip_k0_t1.sl.v469, trip_k0_t1.sl.v470, trip_k0_t1.sl.v472, trip_k0_t1.sl.v473, trip_k0_t1.sl.v474, trip_k0_t1.sl.v475, trip_k0_t1.sl.v476, trip_k0_t1.sl.v477, trip_k0_t1.sl.v478, trip_k0_t1.sl.v479, trip_k0_t1.sl.v480, trip_k0_t1.sl.v483, trip_k0_t1.sl.v484, trip_k0_t1.sl.v486, trip_k0_t1.sl.v487, trip_k0_t1.sl.v488, trip_k0_t1.sl.v489, trip_k0_t1.sl.v490, trip_k0_t1.sl.v491, trip_k0_t1.sl.v492, trip_k0_t1.sl.v493, trip_k0_t1.sl.v494, trip_k0_t1.sl.v497, trip_k0_t1.sl.v498, trip_k0_t1.sl.v500, trip_k0_t1.sl.v501, trip_k0_t1.sl.v502, trip_k0_t1.sl.v503, trip_k0_t1.sl.v504, trip_k0_t1.sl.v505, trip_k0_t1.sl.v506, trip_k0_t1.sl.v507]
    simp only [Fin.sum_univ_two, readAt_bf16, o0, o1, o2, o3, o4, o5, o6, o7, o8, o9, o10, o11, o12, o13, o14, o15, Matrix.cons_val, Fin.isValue, Fin.val_zero, Fin.val_one, Nat.zero_add]
  · exact sum16 (fun r => at3 (arg1.view.read (Elt Ideal) X1) 0 r l.val) (256 * k.val) a.val (acc.1 (ix2 a l))
  · exact sum16 (fun r => at3 (arg1.view.read (Elt Ideal) X1) 0 r l.val * at3 (arg1.view.read (Elt Ideal) X1) 0 r l.val) (256 * k.val) a.val (acc.2 (ix2 a l))

end Cert.KernelIdeal.Hand
-- ==== Proof.VT2.lean ====
module

public import proofs.«01_k».proof.Proof.Gen.KernelIdeal.Loops
public import proofs.«01_k».proof.Proof.VBase

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X1 : BufTy.Contents (Elt Ideal) arg1.view.ty)

/-- One trip of the statistics loop over column tile 1 adds 32 sublane rows to the running sums of x and of its square. -/
theorem t2_step [Named Ideal] (k : Fin k0_t2_loop.trips) (acc : FVec Ideal S8x128 .f32 × FVec Ideal S8x128 .f32) (a : Fin 8) (l : Fin 128) :
    ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 k).1 acc).1 (ix2 a l) = acc.1 (ix2 a l) + ∑ q ∈ Finset.range 32, tl 1 (fun r c => at3 (arg1.view.read (Elt Ideal) X1) 0 r c) (256 * k.val + (8 * q + a.val)) l.val
    ∧ ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 k).1 acc).2 (ix2 a l) = acc.2 (ix2 a l) + ∑ q ∈ Finset.range 32, tl 1 (fun r c => at3 (arg1.view.read (Elt Ideal) X1) 0 r c * at3 (arg1.view.read (Elt Ideal) X1) 0 r c) (256 * k.val + (8 * q + a.val)) l.val := by
  have o0 : k0_off2 k 0#32 = ![0, 256 * k.val + 0, 128] := k0_off2_eq k 0
  have o1 : k0_off2 k 16#32 = ![0, 256 * k.val + 16, 128] := k0_off2_eq k 1
  have o2 : k0_off2 k 32#32 = ![0, 256 * k.val + 32, 128] := k0_off2_eq k 2
  have o3 : k0_off2 k 48#32 = ![0, 256 * k.val + 48, 128] := k0_off2_eq k 3
  have o4 : k0_off2 k 64#32 = ![0, 256 * k.val + 64, 128] := k0_off2_eq k 4
  have o5 : k0_off2 k 80#32 = ![0, 256 * k.val + 80, 128] := k0_off2_eq k 5
  have o6 : k0_off2 k 96#32 = ![0, 256 * k.val + 96, 128] := k0_off2_eq k 6
  have o7 : k0_off2 k 112#32 = ![0, 256 * k.val + 112, 128] := k0_off2_eq k 7
  have o8 : k0_off2 k 128#32 = ![0, 256 * k.val + 128, 128] := k0_off2_eq k 8
  have o9 : k0_off2 k 144#32 = ![0, 256 * k.val + 144, 128] := k0_off2_eq k 9
  have o10 : k0_off2 k 160#32 = ![0, 256 * k.val + 160, 128] := k0_off2_eq k 10
  have o11 : k0_off2 k 176#32 = ![0, 256 * k.val + 176, 128] := k0_off2_eq k 11
  have o12 : k0_off2 k 192#32 = ![0, 256 * k.val + 192, 128] := k0_off2_eq k 12
  have o13 : k0_off2 k 208#32 = ![0, 256 * k.val + 208, 128] := k0_off2_eq k 13
  have o14 : k0_off2 k 224#32 = ![0, 256 * k.val + 224, 128] := k0_off2_eq k 14
  have o15 : k0_off2 k 240#32 = ![0, 256 * k.val + 240, 128] := k0_off2_eq k 15
  simp only [tl1]
  unfold trip_k0_t2
  dsimp only
  constructor
  all_goals
    pointwise [k0_pay367, k0_pay368, k0_pay369, trip_k0_t2.sl.arg14, trip_k0_t2.sl.cst_108, trip_k0_t2.sl.v299, trip_k0_t2.sl.v301, trip_k0_t2.sl.v302, trip_k0_t2.sl.v304, trip_k0_t2.sl.v305, trip_k0_t2.sl.v306, trip_k0_t2.sl.v307, trip_k0_t2.sl.v308, trip_k0_t2.sl.v309, trip_k0_t2.sl.v310, trip_k0_t2.sl.v311, trip_k0_t2.sl.v312, trip_k0_t2.sl.v315, trip_k0_t2.sl.v316, trip_k0_t2.sl.v318, trip_k0_t2.sl.v319, trip_k0_t2.sl.v320, trip_k0_t2.sl.v321, trip_k0_t2.sl.v322, trip_k0_t2.sl.v323, trip_k0_t2.sl.v324, trip_k0_t2.sl.v325, trip_k0_t2.sl.v326, trip_k0_t2.sl.v329, trip_k0_t2.sl.v330, trip_k0_t2.sl.v332, trip_k0_t2.sl.v333, trip_k0_t2.sl.v334, trip_k0_t2.sl.v335, trip_k0_t2.sl.v336, trip_k0_t2.sl.v337, trip_k0_t2.sl.v338, trip_k0_t2.sl.v339, trip_k0_t2.sl.v340, trip_k0_t2.sl.v343, trip_k0_t2.sl.v344, trip_k0_t2.sl.v346, trip_k0_t2.sl.v347, trip_k0_t2.sl.v348, trip_k0_t2.sl.v349, trip_k0_t2.sl.v350, trip_k0_t2.sl.v351, trip_k0_t2.sl.v352, trip_k0_t2.sl.v353, trip_k0_t2.sl.v354, trip_k0_t2.sl.v357, trip_k0_t2.sl.v358, trip_k0_t2.sl.v360, trip_k0_t2.sl.v361, trip_k0_t2.sl.v362, trip_k0_t2.sl.v363, trip_k0_t2.sl.v364, trip_k0_t2.sl.v365, trip_k0_t2.sl.v366, trip_k0_t2.sl.v367, trip_k0_t2.sl.v368, trip_k0_t2.sl.v371, trip_k0_t2.sl.v372, trip_k0_t2.sl.v374, trip_k0_t2.sl.v375, trip_k0_t2.sl.v376, trip_k0_t2.sl.v377, trip_k0_t2.sl.v378, trip_k0_t2.sl.v379, trip_k0_t2.sl.v380, trip_k0_t2.sl.v381, trip_k0_t2.sl.v382, trip_k0_t2.sl.v385, trip_k0_t2.sl.v386, trip_k0_t2.sl.v388, trip_k0_t2.sl.v389, trip_k0_t2.sl.v390, trip_k0_t2.sl.v391, trip_k0_t2.sl.v392, trip_k0_t2.sl.v393, trip_k0_t2.sl.v394, trip_k0_t2.sl.v395, trip_k0_t2.sl.v396, trip_k0_t2.sl.v399, trip_k0_t2.sl.v400, trip_k0_t2.sl.v402, trip_k0_t2.sl.v403, trip_k0_t2.sl.v404, trip_k0_t2.sl.v405, trip_k0_t2.sl.v406, trip_k0_t2.sl.v407, trip_k0_t2.sl.v408, trip_k0_t2.sl.v409, trip_k0_t2.sl.v410, trip_k0_t2.sl.v413, trip_k0_t2.sl.v414, trip_k0_t2.sl.v416, trip_k0_t2.sl.v417, trip_k0_t2.sl.v418, trip_k0_t2.sl.v419, trip_k0_t2.sl.v420, trip_k0_t2.sl.v421, trip_k0_t2.sl.v422, trip_k0_t2.sl.v423, trip_k0_t2.sl.v424, trip_k0_t2.sl.v427, trip_k0_t2.sl.v428, trip_k0_t2.sl.v430, trip_k0_t2.sl.v431, trip_k0_t2.sl.v432, trip_k0_t2.sl.v433, trip_k0_t2.sl.v434, trip_k0_t2.sl.v435, trip_k0_t2.sl.v436, trip_k0_t2.sl.v437, trip_k0_t2.sl.v438, trip_k0_t2.sl.v441, trip_k0_t2.sl.v442, trip_k0_t2.sl.v444, trip_k0_t2.sl.v445, trip_k0_t2.sl.v446, trip_k0_t2.sl.v447, trip_k0_t2.sl.v448, trip_k0_t2.sl.v449, trip_k0_t2.sl.v450, trip_k0_t2.sl.v451, trip_k0_t2.sl.v452, trip_k0_t2.sl.v455, trip_k0_t2.sl.v456, trip_k0_t2.sl.v458, trip_k0_t2.sl.v459, trip_k0_t2.sl.v460, trip_k0_t2.sl.v461, trip_k0_t2.sl.v462, trip_k0_t2.sl.v463, trip_k0_t2.sl.v464, trip_k0_t2.sl.v465, trip_k0_t2.sl.v466, trip_k0_t2.sl.v469, trip_k0_t2.sl.v470, trip_k0_t2.sl.v472, trip_k0_t2.sl.v473, trip_k0_t2.sl.v474, trip_k0_t2.sl.v475, trip_k0_t2.sl.v476, trip_k0_t2.sl.v477, trip_k0_t2.sl.v478, trip_k0_t2.sl.v479, trip_k0_t2.sl.v480, trip_k0_t2.sl.v483, trip_k0_t2.sl.v484, trip_k0_t2.sl.v486, trip_k0_t2.sl.v487, trip_k0_t2.sl.v488, trip_k0_t2.sl.v489, trip_k0_t2.sl.v490, trip_k0_t2.sl.v491, trip_k0_t2.sl.v492, trip_k0_t2.sl.v493, trip_k0_t2.sl.v494, trip_k0_t2.sl.v497, trip_k0_t2.sl.v498, trip_k0_t2.sl.v500, trip_k0_t2.sl.v501, trip_k0_t2.sl.v502, trip_k0_t2.sl.v503, trip_k0_t2.sl.v504, trip_k0_t2.sl.v505, trip_k0_t2.sl.v506, trip_k0_t2.sl.v507]
    simp only [Fin.sum_univ_two, readAt_bf16, o0, o1, o2, o3, o4, o5, o6, o7, o8, o9, o10, o11, o12, o13, o14, o15, Matrix.cons_val, Fin.isValue, Fin.val_zero, Fin.val_one, Nat.zero_add]
  · exact sum16 (fun r => at3 (arg1.view.read (Elt Ideal) X1) 0 r (128 + l.val)) (256 * k.val) a.val (acc.1 (ix2 a l))
  · exact sum16 (fun r => at3 (arg1.view.read (Elt Ideal) X1) 0 r (128 + l.val) * at3 (arg1.view.read (Elt Ideal) X1) 0 r (128 + l.val)) (256 * k.val) a.val (acc.2 (ix2 a l))

end Cert.KernelIdeal.Hand
-- ==== Proof.VT3.lean ====
module

public import proofs.«01_k».proof.Proof.Gen.KernelIdeal.Loops
public import proofs.«01_k».proof.Proof.VBase

@[expose] public section
set_option maxRecDepth 16384
set_option maxHeartbeats 1000000
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X1 : BufTy.Contents (Elt Ideal) arg1.view.ty)

/-- One trip of the statistics loop over column tile 2 adds 32 sublane rows to the running sums of x and of its square. -/
theorem t3_step [Named Ideal] (k : Fin k0_t3_loop.trips) (acc : FVec Ideal S8x128 .f32 × FVec Ideal S8x128 .f32) (a : Fin 8) (l : Fin 128) :
    ((trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 k).1 acc).1 (ix2 a l) = acc.1 (ix2 a l) + ∑ q ∈ Finset.range 32, tl 2 (fun r c => at3 (arg1.view.read (Elt Ideal) X1) 0 r c) (256 * k.val + (8 * q + a.val)) l.val
    ∧ ((trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 X1 k).1 acc).2 (ix2 a l) = acc.2 (ix2 a l) + ∑ q ∈ Finset.range 32, tl 2 (fun r c => at3 (arg1.view.read (Elt Ideal) X1) 0 r c * at3 (arg1.view.read (Elt Ideal) X1) 0 r c) (256 * k.val + (8 * q + a.val)) l.val := by
  have o0 : k0_off3 k 0#32 = ![0, 256 * k.val + 0, 256] := k0_off3_eq k 0
  have o1 : k0_off3 k 16#32 = ![0, 256 * k.val + 16, 256] := k0_off3_eq k 1
  have o2 : k0_off3 k 32#32 = ![0, 256 * k.val + 32, 256] := k0_off3_eq k 2
  have o3 : k0_off3 k 48#32 = ![0, 256 * k.val + 48, 256] := k0_off3_eq k 3
  have o4 : k0_off3 k 64#32 = ![0, 256 * k.val + 64, 256] := k0_off3_eq k 4
  have o5 : k0_off3 k 80#32 = ![0, 256 * k.val + 80, 256] := k0_off3_eq k 5
  have o6 : k0_off3 k 96#32 = ![0, 256 * k.val + 96, 256] := k0_off3_eq k 6
  have o7 : k0_off3 k 112#32 = ![0, 256 * k.val + 112, 256] := k0_off3_eq k 7
  have o8 : k0_off3 k 128#32 = ![0, 256 * k.val + 128, 256] := k0_off3_eq k 8
  have o9 : k0_off3 k 144#32 = ![0, 256 * k.val + 144, 256] := k0_off3_eq k 9
  have o10 : k0_off3 k 160#32 = ![0, 256 * k.val + 160, 256] := k0_off3_eq k 10
  have o11 : k0_off3 k 176#32 = ![0, 256 * k.val + 176, 256] := k0_off3_eq k 11
  have o12 : k0_off3 k 192#32 = ![0, 256 * k.val + 192, 256] := k0_off3_eq k 12
  have o13 : k0_off3 k 208#32 = ![0, 256 * k.val + 208, 256] := k0_off3_eq k 13
  have o14 : k0_off3 k 224#32 = ![0, 256 * k.val + 224, 256] := k0_off3_eq k 14
  have o15 : k0_off3 k 240#32 = ![0, 256 * k.val + 240, 256] := k0_off3_eq k 15
  have p0 : k0_off4 k 0#32 = ![0, 256 * k.val + 0 + 2048, 256] := k0_off4_eq k 0
  have p1 : k0_off4 k 16#32 = ![0, 256 * k.val + 16 + 2048, 256] := k0_off4_eq k 1
  have p2 : k0_off4 k 32#32 = ![0, 256 * k.val + 32 + 2048, 256] := k0_off4_eq k 2
  have p3 : k0_off4 k 48#32 = ![0, 256 * k.val + 48 + 2048, 256] := k0_off4_eq k 3
  have p4 : k0_off4 k 64#32 = ![0, 256 * k.val + 64 + 2048, 256] := k0_off4_eq k 4
  have p5 : k0_off4 k 80#32 = ![0, 256 * k.val + 80 + 2048, 256] := k0_off4_eq k 5
  have p6 : k0_off4 k 96#32 = ![0, 256 * k.val + 96 + 2048, 256] := k0_off4_eq k 6
  have p7 : k0_off4 k 112#32 = ![0, 256 * k.val + 112 + 2048, 256] := k0_off4_eq k 7
  have p8 : k0_off4 k 128#32 = ![0, 256 * k.val + 128 + 2048, 256] := k0_off4_eq k 8
  have p9 : k0_off4 k 144#32 = ![0, 256 * k.val + 144 + 2048, 256] := k0_off4_eq k 9
  have p10 : k0_off4 k 160#32 = ![0, 256 * k.val + 160 + 2048, 256] := k0_off4_eq k 10
  have p11 : k0_off4 k 176#32 = ![0, 256 * k.val + 176 + 2048, 256] := k0_off4_eq k 11
  have p12 : k0_off4 k 192#32 = ![0, 256 * k.val + 192 + 2048, 256] := k0_off4_eq k 12
  have p13 : k0_off4 k 208#32 = ![0, 256 * k.val + 208 + 2048, 256] := k0_off4_eq k 13
  have p14 : k0_off4 k 224#32 = ![0, 256 * k.val + 224 + 2048, 256] := k0_off4_eq k 14
  have p15 : k0_off4 k 240#32 = ![0, 256 * k.val + 240 + 2048, 256] := k0_off4_eq k 15
  by_cases hl : l.val < 64
  · simp only [tl2_lt _ _ _ hl]
    unfold trip_k0_t3
    dsimp only
    constructor
    all_goals
      pointwise [k0_pay370, k0_pay371, k0_pay372, trip_k0_t3.sl.arg14, trip_k0_t3.sl.cst_110, trip_k0_t3.sl.v299, trip_k0_t3.sl.v301, trip_k0_t3.sl.v302, trip_k0_t3.sl.v304, trip_k0_t3.sl.v305, trip_k0_t3.sl.v306, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v317, trip_k0_t3.sl.v320, trip_k0_t3.sl.v321, trip_k0_t3.sl.v323, trip_k0_t3.sl.v324, trip_k0_t3.sl.v325, trip_k0_t3.sl.v327, trip_k0_t3.sl.v328, trip_k0_t3.sl.v329, trip_k0_t3.sl.v330, trip_k0_t3.sl.v331, trip_k0_t3.sl.v332, trip_k0_t3.sl.v333, trip_k0_t3.sl.v334, trip_k0_t3.sl.v335, trip_k0_t3.sl.v336, trip_k0_t3.sl.v339, trip_k0_t3.sl.v340, trip_k0_t3.sl.v342, trip_k0_t3.sl.v343, trip_k0_t3.sl.v344, trip_k0_t3.sl.v346, trip_k0_t3.sl.v347, trip_k0_t3.sl.v348, trip_k0_t3.sl.v349, trip_k0_t3.sl.v350, trip_k0_t3.sl.v351, trip_k0_t3.sl.v352, trip_k0_t3.sl.v353, trip_k0_t3.sl.v354, trip_k0_t3.sl.v355, trip_k0_t3.sl.v358, trip_k0_t3.sl.v359, trip_k0_t3.sl.v361, trip_k0_t3.sl.v362, trip_k0_t3.sl.v363, trip_k0_t3.sl.v365, trip_k0_t3.sl.v366, trip_k0_t3.sl.v367, trip_k0_t3.sl.v368, trip_k0_t3.sl.v369, trip_k0_t3.sl.v370, trip_k0_t3.sl.v371, trip_k0_t3.sl.v372, trip_k0_t3.sl.v373, trip_k0_t3.sl.v374, trip_k0_t3.sl.v377, trip_k0_t3.sl.v378, trip_k0_t3.sl.v380, trip_k0_t3.sl.v381, trip_k0_t3.sl.v382, trip_k0_t3.sl.v384, trip_k0_t3.sl.v385, trip_k0_t3.sl.v386, trip_k0_t3.sl.v387, trip_k0_t3.sl.v388, trip_k0_t3.sl.v389, trip_k0_t3.sl.v390, trip_k0_t3.sl.v391, trip_k0_t3.sl.v392, trip_k0_t3.sl.v393, trip_k0_t3.sl.v396, trip_k0_t3.sl.v397, trip_k0_t3.sl.v399, trip_k0_t3.sl.v400, trip_k0_t3.sl.v401, trip_k0_t3.sl.v403, trip_k0_t3.sl.v404, trip_k0_t3.sl.v405, trip_k0_t3.sl.v406, trip_k0_t3.sl.v407, trip_k0_t3.sl.v408, trip_k0_t3.sl.v409, trip_k0_t3.sl.v410, trip_k0_t3.sl.v411, trip_k0_t3.sl.v412, trip_k0_t3.sl.v415, trip_k0_t3.sl.v416, trip_k0_t3.sl.v418, trip_k0_t3.sl.v419, trip_k0_t3.sl.v420, trip_k0_t3.sl.v422, trip_k0_t3.sl.v423, trip_k0_t3.sl.v424, trip_k0_t3.sl.v425, trip_k0_t3.sl.v426, trip_k0_t3.sl.v427, trip_k0_t3.sl.v428, trip_k0_t3.sl.v429, trip_k0_t3.sl.v430, trip_k0_t3.sl.v431, trip_k0_t3.sl.v434, trip_k0_t3.sl.v435, trip_k0_t3.sl.v437, trip_k0_t3.sl.v438, trip_k0_t3.sl.v439, trip_k0_t3.sl.v441, trip_k0_t3.sl.v442, trip_k0_t3.sl.v443, trip_k0_t3.sl.v444, trip_k0_t3.sl.v445, trip_k0_t3.sl.v446, trip_k0_t3.sl.v447, trip_k0_t3.sl.v448, trip_k0_t3.sl.v449, trip_k0_t3.sl.v450, trip_k0_t3.sl.v453, trip_k0_t3.sl.v454, trip_k0_t3.sl.v456, trip_k0_t3.sl.v457, trip_k0_t3.sl.v458, trip_k0_t3.sl.v460, trip_k0_t3.sl.v461, trip_k0_t3.sl.v462, trip_k0_t3.sl.v463, trip_k0_t3.sl.v464, trip_k0_t3.sl.v465, trip_k0_t3.sl.v466, trip_k0_t3.sl.v467, trip_k0_t3.sl.v468, trip_k0_t3.sl.v469, trip_k0_t3.sl.v472, trip_k0_t3.sl.v473, trip_k0_t3.sl.v475, trip_k0_t3.sl.v476, trip_k0_t3.sl.v477, trip_k0_t3.sl.v479, trip_k0_t3.sl.v480, trip_k0_t3.sl.v481, trip_k0_t3.sl.v482, trip_k0_t3.sl.v483, trip_k0_t3.sl.v484, trip_k0_t3.sl.v485, trip_k0_t3.sl.v486, trip_k0_t3.sl.v487, trip_k0_t3.sl.v488, trip_k0_t3.sl.v491, trip_k0_t3.sl.v492, trip_k0_t3.sl.v494, trip_k0_t3.sl.v495, trip_k0_t3.sl.v496, trip_k0_t3.sl.v498, trip_k0_t3.sl.v499, trip_k0_t3.sl.v500, trip_k0_t3.sl.v501, trip_k0_t3.sl.v502, trip_k0_t3.sl.v503, trip_k0_t3.sl.v504, trip_k0_t3.sl.v505, trip_k0_t3.sl.v506, trip_k0_t3.sl.v507, trip_k0_t3.sl.v510, trip_k0_t3.sl.v511, trip_k0_t3.sl.v513, trip_k0_t3.sl.v514, trip_k0_t3.sl.v515, trip_k0_t3.sl.v517, trip_k0_t3.sl.v518, trip_k0_t3.sl.v519, trip_k0_t3.sl.v520, trip_k0_t3.sl.v521, trip_k0_t3.sl.v522, trip_k0_t3.sl.v523, trip_k0_t3.sl.v524, trip_k0_t3.sl.v525, trip_k0_t3.sl.v526, trip_k0_t3.sl.v529, trip_k0_t3.sl.v530, trip_k0_t3.sl.v532, trip_k0_t3.sl.v533, trip_k0_t3.sl.v534, trip_k0_t3.sl.v536, trip_k0_t3.sl.v537, trip_k0_t3.sl.v538, trip_k0_t3.sl.v539, trip_k0_t3.sl.v540, trip_k0_t3.sl.v541, trip_k0_t3.sl.v542, trip_k0_t3.sl.v543, trip_k0_t3.sl.v544, trip_k0_t3.sl.v545, trip_k0_t3.sl.v548, trip_k0_t3.sl.v549, trip_k0_t3.sl.v551, trip_k0_t3.sl.v552, trip_k0_t3.sl.v553, trip_k0_t3.sl.v555, trip_k0_t3.sl.v556, trip_k0_t3.sl.v557, trip_k0_t3.sl.v558, trip_k0_t3.sl.v559, trip_k0_t3.sl.v560, trip_k0_t3.sl.v561, trip_k0_t3.sl.v562, trip_k0_t3.sl.v563, trip_k0_t3.sl.v564, trip_k0_t3.sl.v567, trip_k0_t3.sl.v568, trip_k0_t3.sl.v570, trip_k0_t3.sl.v571, trip_k0_t3.sl.v572, trip_k0_t3.sl.v574, trip_k0_t3.sl.v575, trip_k0_t3.sl.v576, trip_k0_t3.sl.v577, trip_k0_t3.sl.v578, trip_k0_t3.sl.v579, trip_k0_t3.sl.v580, trip_k0_t3.sl.v581, trip_k0_t3.sl.v582]
      simp only [Fin.sum_univ_two, readAt_bf16, o0, o1, o2, o3, o4, o5, o6, o7, o8, o9, o10, o11, o12, o13, o14, o15, p0, p1, p2, p3, p4, p5, p6, p7, p8, p9, p10, p11, p12, p13, p14, p15, Matrix.cons_val, Fin.isValue, Fin.val_zero, Fin.val_one, Nat.zero_add, hl, ↓reduceDIte]
    · exact sum16 (fun r => at3 (arg1.view.read (Elt Ideal) X1) 0 r (256 + l.val)) (256 * k.val) a.val (acc.1 (ix2 a l))
    · exact sum16 (fun r => at3 (arg1.view.read (Elt Ideal) X1) 0 r (256 + l.val) * at3 (arg1.view.read (Elt Ideal) X1) 0 r (256 + l.val)) (256 * k.val) a.val (acc.2 (ix2 a l))
  · simp only [tl2_ge _ _ _ hl]
    unfold trip_k0_t3
    dsimp only
    constructor
    all_goals
      pointwise [k0_pay370, k0_pay371, k0_pay372, trip_k0_t3.sl.arg14, trip_k0_t3.sl.cst_110, trip_k0_t3.sl.v299, trip_k0_t3.sl.v301, trip_k0_t3.sl.v302, trip_k0_t3.sl.v304, trip_k0_t3.sl.v305, trip_k0_t3.sl.v306, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v317, trip_k0_t3.sl.v320, trip_k0_t3.sl.v321, trip_k0_t3.sl.v323, trip_k0_t3.sl.v324, trip_k0_t3.sl.v325, trip_k0_t3.sl.v327, trip_k0_t3.sl.v328, trip_k0_t3.sl.v329, trip_k0_t3.sl.v330, trip_k0_t3.sl.v331, trip_k0_t3.sl.v332, trip_k0_t3.sl.v333, trip_k0_t3.sl.v334, trip_k0_t3.sl.v335, trip_k0_t3.sl.v336, trip_k0_t3.sl.v339, trip_k0_t3.sl.v340, trip_k0_t3.sl.v342, trip_k0_t3.sl.v343, trip_k0_t3.sl.v344, trip_k0_t3.sl.v346, trip_k0_t3.sl.v347, trip_k0_t3.sl.v348, trip_k0_t3.sl.v349, trip_k0_t3.sl.v350, trip_k0_t3.sl.v351, trip_k0_t3.sl.v352, trip_k0_t3.sl.v353, trip_k0_t3.sl.v354, trip_k0_t3.sl.v355, trip_k0_t3.sl.v358, trip_k0_t3.sl.v359, trip_k0_t3.sl.v361, trip_k0_t3.sl.v362, trip_k0_t3.sl.v363, trip_k0_t3.sl.v365, trip_k0_t3.sl.v366, trip_k0_t3.sl.v367, trip_k0_t3.sl.v368, trip_k0_t3.sl.v369, trip_k0_t3.sl.v370, trip_k0_t3.sl.v371, trip_k0_t3.sl.v372, trip_k0_t3.sl.v373, trip_k0_t3.sl.v374, trip_k0_t3.sl.v377, trip_k0_t3.sl.v378, trip_k0_t3.sl.v380, trip_k0_t3.sl.v381, trip_k0_t3.sl.v382, trip_k0_t3.sl.v384, trip_k0_t3.sl.v385, trip_k0_t3.sl.v386, trip_k0_t3.sl.v387, trip_k0_t3.sl.v388, trip_k0_t3.sl.v389, trip_k0_t3.sl.v390, trip_k0_t3.sl.v391, trip_k0_t3.sl.v392, trip_k0_t3.sl.v393, trip_k0_t3.sl.v396, trip_k0_t3.sl.v397, trip_k0_t3.sl.v399, trip_k0_t3.sl.v400, trip_k0_t3.sl.v401, trip_k0_t3.sl.v403, trip_k0_t3.sl.v404, trip_k0_t3.sl.v405, trip_k0_t3.sl.v406, trip_k0_t3.sl.v407, trip_k0_t3.sl.v408, trip_k0_t3.sl.v409, trip_k0_t3.sl.v410, trip_k0_t3.sl.v411, trip_k0_t3.sl.v412, trip_k0_t3.sl.v415, trip_k0_t3.sl.v416, trip_k0_t3.sl.v418, trip_k0_t3.sl.v419, trip_k0_t3.sl.v420, trip_k0_t3.sl.v422, trip_k0_t3.sl.v423, trip_k0_t3.sl.v424, trip_k0_t3.sl.v425, trip_k0_t3.sl.v426, trip_k0_t3.sl.v427, trip_k0_t3.sl.v428, trip_k0_t3.sl.v429, trip_k0_t3.sl.v430, trip_k0_t3.sl.v431, trip_k0_t3.sl.v434, trip_k0_t3.sl.v435, trip_k0_t3.sl.v437, trip_k0_t3.sl.v438, trip_k0_t3.sl.v439, trip_k0_t3.sl.v441, trip_k0_t3.sl.v442, trip_k0_t3.sl.v443, trip_k0_t3.sl.v444, trip_k0_t3.sl.v445, trip_k0_t3.sl.v446, trip_k0_t3.sl.v447, trip_k0_t3.sl.v448, trip_k0_t3.sl.v449, trip_k0_t3.sl.v450, trip_k0_t3.sl.v453, trip_k0_t3.sl.v454, trip_k0_t3.sl.v456, trip_k0_t3.sl.v457, trip_k0_t3.sl.v458, trip_k0_t3.sl.v460, trip_k0_t3.sl.v461, trip_k0_t3.sl.v462, trip_k0_t3.sl.v463, trip_k0_t3.sl.v464, trip_k0_t3.sl.v465, trip_k0_t3.sl.v466, trip_k0_t3.sl.v467, trip_k0_t3.sl.v468, trip_k0_t3.sl.v469, trip_k0_t3.sl.v472, trip_k0_t3.sl.v473, trip_k0_t3.sl.v475, trip_k0_t3.sl.v476, trip_k0_t3.sl.v477, trip_k0_t3.sl.v479, trip_k0_t3.sl.v480, trip_k0_t3.sl.v481, trip_k0_t3.sl.v482, trip_k0_t3.sl.v483, trip_k0_t3.sl.v484, trip_k0_t3.sl.v485, trip_k0_t3.sl.v486, trip_k0_t3.sl.v487, trip_k0_t3.sl.v488, trip_k0_t3.sl.v491, trip_k0_t3.sl.v492, trip_k0_t3.sl.v494, trip_k0_t3.sl.v495, trip_k0_t3.sl.v496, trip_k0_t3.sl.v498, trip_k0_t3.sl.v499, trip_k0_t3.sl.v500, trip_k0_t3.sl.v501, trip_k0_t3.sl.v502, trip_k0_t3.sl.v503, trip_k0_t3.sl.v504, trip_k0_t3.sl.v505, trip_k0_t3.sl.v506, trip_k0_t3.sl.v507, trip_k0_t3.sl.v510, trip_k0_t3.sl.v511, trip_k0_t3.sl.v513, trip_k0_t3.sl.v514, trip_k0_t3.sl.v515, trip_k0_t3.sl.v517, trip_k0_t3.sl.v518, trip_k0_t3.sl.v519, trip_k0_t3.sl.v520, trip_k0_t3.sl.v521, trip_k0_t3.sl.v522, trip_k0_t3.sl.v523, trip_k0_t3.sl.v524, trip_k0_t3.sl.v525, trip_k0_t3.sl.v526, trip_k0_t3.sl.v529, trip_k0_t3.sl.v530, trip_k0_t3.sl.v532, trip_k0_t3.sl.v533, trip_k0_t3.sl.v534, trip_k0_t3.sl.v536, trip_k0_t3.sl.v537, trip_k0_t3.sl.v538, trip_k0_t3.sl.v539, trip_k0_t3.sl.v540, trip_k0_t3.sl.v541, trip_k0_t3.sl.v542, trip_k0_t3.sl.v543, trip_k0_t3.sl.v544, trip_k0_t3.sl.v545, trip_k0_t3.sl.v548, trip_k0_t3.sl.v549, trip_k0_t3.sl.v551, trip_k0_t3.sl.v552, trip_k0_t3.sl.v553, trip_k0_t3.sl.v555, trip_k0_t3.sl.v556, trip_k0_t3.sl.v557, trip_k0_t3.sl.v558, trip_k0_t3.sl.v559, trip_k0_t3.sl.v560, trip_k0_t3.sl.v561, trip_k0_t3.sl.v562, trip_k0_t3.sl.v563, trip_k0_t3.sl.v564, trip_k0_t3.sl.v567, trip_k0_t3.sl.v568, trip_k0_t3.sl.v570, trip_k0_t3.sl.v571, trip_k0_t3.sl.v572, trip_k0_t3.sl.v574, trip_k0_t3.sl.v575, trip_k0_t3.sl.v576, trip_k0_t3.sl.v577, trip_k0_t3.sl.v578, trip_k0_t3.sl.v579, trip_k0_t3.sl.v580, trip_k0_t3.sl.v581, trip_k0_t3.sl.v582]
      simp only [Fin.sum_univ_two, readAt_bf16, o0, o1, o2, o3, o4, o5, o6, o7, o8, o9, o10, o11, o12, o13, o14, o15, p0, p1, p2, p3, p4, p5, p6, p7, p8, p9, p10, p11, p12, p13, p14, p15, Matrix.cons_val, Fin.isValue, Fin.val_zero, Fin.val_one, Nat.zero_add, hl, ↓reduceDIte, Nat.add_right_comm _ 2048 _]
    · exact sum16 (fun r => at3 (arg1.view.read (Elt Ideal) X1) 0 (r + 2048) (256 + (l.val - 64))) (256 * k.val) a.val (acc.1 (ix2 a l))
    · exact sum16 (fun r => at3 (arg1.view.read (Elt Ideal) X1) 0 (r + 2048) (256 + (l.val - 64)) * at3 (arg1.view.read (Elt Ideal) X1) 0 (r + 2048) (256 + (l.val - 64))) (256 * k.val) a.val (acc.2 (ix2 a l))

end Cert.KernelIdeal.Hand
-- ==== Proof.VT4.lean ====
module

public import proofs.«01_k».proof.Proof.Gen.KernelIdeal.Loops
public import proofs.«01_k».proof.Proof.VBase

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X1 : BufTy.Contents (Elt Ideal) arg1.view.ty)

set_option maxHeartbeats 2000000
variable (X4 : BufTy.Contents (Elt Ideal) arg4.view.ty)

/-- One trip of the middle loop over column tile 0 adds 32 sublane rows to the running sums of the gradient at the normalised
    value and of its product with x. -/
theorem t4_step [Named Ideal] (v4 : Vec Ideal S384x384 .bf16) (v8 : FVec Ideal S1x384 .f32) (v11 : FVec Ideal S1x384 .f32) (v12 : FVec Ideal S8x128 .f32) (v16_1 : FVec Ideal S8x128 .f32) (v18_1 : FVec Ideal S8x128 .f32) (v29 : FVec Ideal S1x384 .f32) (v30 : FVec Ideal S128 .f32)  (k : Fin k0_t4_loop.trips) (acc : FVec Ideal S8x128 .f32 × FVec Ideal S8x128 .f32) (a : Fin 8) (l : Fin 128) :
    ((trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 k).1 acc).1 (ix2 a l) = acc.1 (ix2 a l) + ∑ q ∈ Finset.range 32, tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) (256 * k.val + (8 * q + a.val)) l.val
    ∧ ((trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 k).1 acc).2 (ix2 a l) = acc.2 (ix2 a l) + ∑ q ∈ Finset.range 32, tl 0 (fun r c => (at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) * at3 (arg1.view.read (Elt Ideal) X1) 0 r c) (256 * k.val + (8 * q + a.val)) l.val := by
  have o0 : k0_off5 k 0#32 = ![0, 256 * k.val + 0, 0] := k0_off5_eq k 0
  have o1 : k0_off5 k 32#32 = ![0, 256 * k.val + 32, 0] := k0_off5_eq k 1
  have o2 : k0_off5 k 64#32 = ![0, 256 * k.val + 64, 0] := k0_off5_eq k 2
  have o3 : k0_off5 k 96#32 = ![0, 256 * k.val + 96, 0] := k0_off5_eq k 3
  have o4 : k0_off5 k 128#32 = ![0, 256 * k.val + 128, 0] := k0_off5_eq k 4
  have o5 : k0_off5 k 160#32 = ![0, 256 * k.val + 160, 0] := k0_off5_eq k 5
  have o6 : k0_off5 k 192#32 = ![0, 256 * k.val + 192, 0] := k0_off5_eq k 6
  have o7 : k0_off5 k 224#32 = ![0, 256 * k.val + 224, 0] := k0_off5_eq k 7
  simp only [tl0]
  unfold trip_k0_t4
  dsimp only
  constructor
  all_goals
    pointwise [k0_pay380, k0_pay381, k0_pay382, trip_k0_t4.sl.arg14, trip_k0_t4.sl.cst_111, trip_k0_t4.sl.cst_113, trip_k0_t4.sl.r, trip_k0_t4.sl.v299, trip_k0_t4.sl.v301, trip_k0_t4.sl.v302, trip_k0_t4.sl.v304, trip_k0_t4.sl.v305, trip_k0_t4.sl.v308, trip_k0_t4.sl.v309, trip_k0_t4.sl.v310, trip_k0_t4.sl.v311, trip_k0_t4.sl.v312, trip_k0_t4.sl.v313, trip_k0_t4.sl.v314, trip_k0_t4.sl.v315, trip_k0_t4.sl.v317, trip_k0_t4.sl.v318, trip_k0_t4.sl.v319, trip_k0_t4.sl.v320, trip_k0_t4.sl.v321, trip_k0_t4.sl.v322, trip_k0_t4.sl.v323, trip_k0_t4.sl.v324, trip_k0_t4.sl.v325, trip_k0_t4.sl.v326, trip_k0_t4.sl.v329, trip_k0_t4.sl.v330, trip_k0_t4.sl.v333, trip_k0_t4.sl.v334, trip_k0_t4.sl.v337, trip_k0_t4.sl.v338, trip_k0_t4.sl.v340, trip_k0_t4.sl.v341, trip_k0_t4.sl.v344, trip_k0_t4.sl.v345, trip_k0_t4.sl.v346, trip_k0_t4.sl.v347, trip_k0_t4.sl.v348, trip_k0_t4.sl.v350, trip_k0_t4.sl.v351, trip_k0_t4.sl.v353, trip_k0_t4.sl.v354, trip_k0_t4.sl.v355, trip_k0_t4.sl.v356, trip_k0_t4.sl.v357, trip_k0_t4.sl.v358, trip_k0_t4.sl.v359, trip_k0_t4.sl.v360, trip_k0_t4.sl.v361, trip_k0_t4.sl.v362, trip_k0_t4.sl.v364, trip_k0_t4.sl.v365, trip_k0_t4.sl.v366, trip_k0_t4.sl.v368, trip_k0_t4.sl.v369, trip_k0_t4.sl.v370, trip_k0_t4.sl.v373, trip_k0_t4.sl.v374, trip_k0_t4.sl.v376, trip_k0_t4.sl.v377, trip_k0_t4.sl.v380, trip_k0_t4.sl.v381, trip_k0_t4.sl.v382, trip_k0_t4.sl.v383, trip_k0_t4.sl.v384, trip_k0_t4.sl.v386, trip_k0_t4.sl.v387, trip_k0_t4.sl.v389, trip_k0_t4.sl.v390, trip_k0_t4.sl.v391, trip_k0_t4.sl.v392, trip_k0_t4.sl.v393, trip_k0_t4.sl.v394, trip_k0_t4.sl.v395, trip_k0_t4.sl.v396, trip_k0_t4.sl.v397, trip_k0_t4.sl.v398, trip_k0_t4.sl.v400, trip_k0_t4.sl.v401, trip_k0_t4.sl.v402, trip_k0_t4.sl.v404, trip_k0_t4.sl.v405, trip_k0_t4.sl.v406, trip_k0_t4.sl.v409, trip_k0_t4.sl.v410, trip_k0_t4.sl.v412, trip_k0_t4.sl.v413, trip_k0_t4.sl.v416, trip_k0_t4.sl.v417, trip_k0_t4.sl.v418, trip_k0_t4.sl.v419, trip_k0_t4.sl.v420, trip_k0_t4.sl.v422, trip_k0_t4.sl.v423, trip_k0_t4.sl.v425, trip_k0_t4.sl.v426, trip_k0_t4.sl.v427, trip_k0_t4.sl.v428, trip_k0_t4.sl.v429, trip_k0_t4.sl.v430, trip_k0_t4.sl.v431, trip_k0_t4.sl.v432, trip_k0_t4.sl.v433, trip_k0_t4.sl.v434, trip_k0_t4.sl.v436, trip_k0_t4.sl.v437, trip_k0_t4.sl.v438, trip_k0_t4.sl.v440, trip_k0_t4.sl.v441, trip_k0_t4.sl.v442, trip_k0_t4.sl.v445, trip_k0_t4.sl.v446, trip_k0_t4.sl.v448, trip_k0_t4.sl.v449, trip_k0_t4.sl.v452, trip_k0_t4.sl.v453, trip_k0_t4.sl.v454, trip_k0_t4.sl.v455, trip_k0_t4.sl.v456, trip_k0_t4.sl.v458, trip_k0_t4.sl.v459, trip_k0_t4.sl.v461, trip_k0_t4.sl.v462, trip_k0_t4.sl.v463, trip_k0_t4.sl.v464, trip_k0_t4.sl.v465, trip_k0_t4.sl.v466, trip_k0_t4.sl.v467, trip_k0_t4.sl.v468, trip_k0_t4.sl.v469, trip_k0_t4.sl.v470, trip_k0_t4.sl.v472, trip_k0_t4.sl.v473, trip_k0_t4.sl.v474, trip_k0_t4.sl.v476, trip_k0_t4.sl.v477, trip_k0_t4.sl.v478, trip_k0_t4.sl.v481, trip_k0_t4.sl.v482, trip_k0_t4.sl.v484, trip_k0_t4.sl.v485, trip_k0_t4.sl.v488, trip_k0_t4.sl.v489, trip_k0_t4.sl.v490, trip_k0_t4.sl.v491, trip_k0_t4.sl.v492, trip_k0_t4.sl.v494, trip_k0_t4.sl.v495, trip_k0_t4.sl.v497, trip_k0_t4.sl.v498, trip_k0_t4.sl.v499, trip_k0_t4.sl.v500, trip_k0_t4.sl.v501, trip_k0_t4.sl.v502, trip_k0_t4.sl.v503, trip_k0_t4.sl.v504, trip_k0_t4.sl.v505, trip_k0_t4.sl.v506, trip_k0_t4.sl.v508, trip_k0_t4.sl.v509, trip_k0_t4.sl.v510, trip_k0_t4.sl.v512, trip_k0_t4.sl.v513, trip_k0_t4.sl.v514, trip_k0_t4.sl.v517, trip_k0_t4.sl.v518, trip_k0_t4.sl.v520, trip_k0_t4.sl.v521, trip_k0_t4.sl.v524, trip_k0_t4.sl.v525, trip_k0_t4.sl.v526, trip_k0_t4.sl.v527, trip_k0_t4.sl.v528, trip_k0_t4.sl.v530, trip_k0_t4.sl.v531, trip_k0_t4.sl.v533, trip_k0_t4.sl.v534, trip_k0_t4.sl.v535, trip_k0_t4.sl.v536, trip_k0_t4.sl.v537, trip_k0_t4.sl.v538, trip_k0_t4.sl.v539, trip_k0_t4.sl.v540, trip_k0_t4.sl.v541, trip_k0_t4.sl.v542, trip_k0_t4.sl.v544, trip_k0_t4.sl.v545, trip_k0_t4.sl.v546, trip_k0_t4.sl.v548, trip_k0_t4.sl.v549, trip_k0_t4.sl.v550, trip_k0_t4.sl.v553, trip_k0_t4.sl.v554, trip_k0_t4.sl.v556, trip_k0_t4.sl.v557, trip_k0_t4.sl.v560, trip_k0_t4.sl.v561, trip_k0_t4.sl.v562, trip_k0_t4.sl.v563, trip_k0_t4.sl.v564, trip_k0_t4.sl.v566, trip_k0_t4.sl.v567, trip_k0_t4.sl.v569, trip_k0_t4.sl.v570, trip_k0_t4.sl.v571, trip_k0_t4.sl.v572, trip_k0_t4.sl.v573, trip_k0_t4.sl.v574, trip_k0_t4.sl.v575, trip_k0_t4.sl.v576, trip_k0_t4.sl.v577, trip_k0_t4.sl.v578, trip_k0_t4.sl.v580, trip_k0_t4.sl.v581, trip_k0_t4.sl.v582, trip_k0_t4.sl.v584]
    simp only [Fin.sum_univ_four, readAt_bf16, readAt_fp8e5m2, at2_ix (k0_pay378 v4 v8 v16_1 v18_1 v29 v30), at2_ix (k0_pay379 v4 v8 v11 v16_1 v18_1 v29 v30), o0, o1, o2, o3, o4, o5, o6, o7, Matrix.cons_val, Fin.isValue, Fin.val_zero, Fin.val_one, Fin.val_two, Nat.zero_add]
  · exact sum8 (fun r => (at3 (arg4.view.read (Elt Ideal) X4) 0 r l.val * dfac (at3 (arg1.view.read (Elt Ideal) X1) 0 r l.val * at2 (k0_pay378 v4 v8 v16_1 v18_1 v29 v30) 0 l.val + at2 (k0_pay379 v4 v8 v11 v16_1 v18_1 v29 v30) 0 l.val))) (256 * k.val) a.val (acc.1 (ix2 a l))
  · exact sum8 (fun r => (at3 (arg4.view.read (Elt Ideal) X4) 0 r l.val * dfac (at3 (arg1.view.read (Elt Ideal) X1) 0 r l.val * at2 (k0_pay378 v4 v8 v16_1 v18_1 v29 v30) 0 l.val + at2 (k0_pay379 v4 v8 v11 v16_1 v18_1 v29 v30) 0 l.val)) * at3 (arg1.view.read (Elt Ideal) X1) 0 r l.val) (256 * k.val) a.val (acc.2 (ix2 a l))

/-- One trip of the middle loop over column tile 0 stores 256 rows of x into its scratch. -/
theorem t4_band11 [Named Ideal] (v4 : Vec Ideal S384x384 .bf16) (v8 : FVec Ideal S1x384 .f32) (v11 : FVec Ideal S1x384 .f32) (v12 : FVec Ideal S8x128 .f32) (v16_1 : FVec Ideal S8x128 .f32) (v18_1 : FVec Ideal S8x128 .f32) (v29 : FVec Ideal S1x384 .f32) (v30 : FVec Ideal S128 .f32)  (k : Fin k0_t4_loop.trips) (acc : FVec Ideal S8x128 .f32 × FVec Ideal S8x128 .f32)
    (G : BufTy.Contents (Elt Ideal) arg11.view.ty) (L : List (View.Piece (Elt Ideal) S3x4096x128 .f32)) (t r l : ℕ) :
    at3 (arg11.view.read (Elt Ideal) (arg11.view.writes (Elt Ideal) G ((trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 k).2.1 acc ++ L))) t r l
      = if (0 ≤ t ∧ t < 0 + 1) ∧ (256 * k.val ≤ r ∧ r < 256 * k.val + 256) ∧ (0 ≤ l ∧ l < 0 + 128) then tl 0 (fun r c => at3 (arg1.view.read (Elt Ideal) X1) 0 r c) r l
        else at3 (arg11.view.read (Elt Ideal) (arg11.view.writes (Elt Ideal) G L)) t r l := by
  have o0 : k0_off5 k 0#32 = ![0, 256 * k.val + 0, 0] := k0_off5_eq k 0
  have o1 : k0_off5 k 32#32 = ![0, 256 * k.val + 32, 0] := k0_off5_eq k 1
  have o2 : k0_off5 k 64#32 = ![0, 256 * k.val + 64, 0] := k0_off5_eq k 2
  have o3 : k0_off5 k 96#32 = ![0, 256 * k.val + 96, 0] := k0_off5_eq k 3
  have o4 : k0_off5 k 128#32 = ![0, 256 * k.val + 128, 0] := k0_off5_eq k 4
  have o5 : k0_off5 k 160#32 = ![0, 256 * k.val + 160, 0] := k0_off5_eq k 5
  have o6 : k0_off5 k 192#32 = ![0, 256 * k.val + 192, 0] := k0_off5_eq k 6
  have o7 : k0_off5 k 224#32 = ![0, 256 * k.val + 224, 0] := k0_off5_eq k 7
  have s0 : k0_off6 k 0#32 = ![0, 256 * k.val + 0, 0] := k0_off6_eq k 0
  have s1 : k0_off6 k 32#32 = ![0, 256 * k.val + 32, 0] := k0_off6_eq k 1
  have s2 : k0_off6 k 64#32 = ![0, 256 * k.val + 64, 0] := k0_off6_eq k 2
  have s3 : k0_off6 k 96#32 = ![0, 256 * k.val + 96, 0] := k0_off6_eq k 3
  have s4 : k0_off6 k 128#32 = ![0, 256 * k.val + 128, 0] := k0_off6_eq k 4
  have s5 : k0_off6 k 160#32 = ![0, 256 * k.val + 160, 0] := k0_off6_eq k 5
  have s6 : k0_off6 k 192#32 = ![0, 256 * k.val + 192, 0] := k0_off6_eq k 6
  have s7 : k0_off6 k 224#32 = ![0, 256 * k.val + 224, 0] := k0_off6_eq k 7
  unfold trip_k0_t4
  dsimp only
  simp only [List.cons_append, List.nil_append]
  rw [band_f32 (V := fun _ r l => tl 0 (fun r c => at3 (arg1.view.read (Elt Ideal) X1) 0 r c) r l) (ho := s7), band_f32 (V := fun _ r l => tl 0 (fun r c => at3 (arg1.view.read (Elt Ideal) X1) 0 r c) r l) (ho := s6), band_f32 (V := fun _ r l => tl 0 (fun r c => at3 (arg1.view.read (Elt Ideal) X1) 0 r c) r l) (ho := s5), band_f32 (V := fun _ r l => tl 0 (fun r c => at3 (arg1.view.read (Elt Ideal) X1) 0 r c) r l) (ho := s4), band_f32 (V := fun _ r l => tl 0 (fun r c => at3 (arg1.view.read (Elt Ideal) X1) 0 r c) r l) (ho := s3), band_f32 (V := fun _ r l => tl 0 (fun r c => at3 (arg1.view.read (Elt Ideal) X1) 0 r c) r l) (ho := s2), band_f32 (V := fun _ r l => tl 0 (fun r c => at3 (arg1.view.read (Elt Ideal) X1) 0 r c) r l) (ho := s1), band_f32 (V := fun _ r l => tl 0 (fun r c => at3 (arg1.view.read (Elt Ideal) X1) 0 r c) r l) (ho := s0)]
  · split_ifs <;> first | rfl | (exfalso; omega)
  all_goals
    intro i j l
    simp only [tl0, Nat.zero_add]
    pointwise [k0_pay380, k0_pay381, k0_pay382, trip_k0_t4.sl.arg14, trip_k0_t4.sl.cst_111, trip_k0_t4.sl.cst_113, trip_k0_t4.sl.r, trip_k0_t4.sl.v299, trip_k0_t4.sl.v301, trip_k0_t4.sl.v302, trip_k0_t4.sl.v304, trip_k0_t4.sl.v305, trip_k0_t4.sl.v308, trip_k0_t4.sl.v309, trip_k0_t4.sl.v310, trip_k0_t4.sl.v311, trip_k0_t4.sl.v312, trip_k0_t4.sl.v313, trip_k0_t4.sl.v314, trip_k0_t4.sl.v315, trip_k0_t4.sl.v317, trip_k0_t4.sl.v318, trip_k0_t4.sl.v319, trip_k0_t4.sl.v320, trip_k0_t4.sl.v321, trip_k0_t4.sl.v322, trip_k0_t4.sl.v323, trip_k0_t4.sl.v324, trip_k0_t4.sl.v325, trip_k0_t4.sl.v326, trip_k0_t4.sl.v329, trip_k0_t4.sl.v330, trip_k0_t4.sl.v333, trip_k0_t4.sl.v334, trip_k0_t4.sl.v337, trip_k0_t4.sl.v338, trip_k0_t4.sl.v340, trip_k0_t4.sl.v341, trip_k0_t4.sl.v344, trip_k0_t4.sl.v345, trip_k0_t4.sl.v346, trip_k0_t4.sl.v347, trip_k0_t4.sl.v348, trip_k0_t4.sl.v350, trip_k0_t4.sl.v351, trip_k0_t4.sl.v353, trip_k0_t4.sl.v354, trip_k0_t4.sl.v355, trip_k0_t4.sl.v356, trip_k0_t4.sl.v357, trip_k0_t4.sl.v358, trip_k0_t4.sl.v359, trip_k0_t4.sl.v360, trip_k0_t4.sl.v361, trip_k0_t4.sl.v362, trip_k0_t4.sl.v364, trip_k0_t4.sl.v365, trip_k0_t4.sl.v366, trip_k0_t4.sl.v368, trip_k0_t4.sl.v369, trip_k0_t4.sl.v370, trip_k0_t4.sl.v373, trip_k0_t4.sl.v374, trip_k0_t4.sl.v376, trip_k0_t4.sl.v377, trip_k0_t4.sl.v380, trip_k0_t4.sl.v381, trip_k0_t4.sl.v382, trip_k0_t4.sl.v383, trip_k0_t4.sl.v384, trip_k0_t4.sl.v386, trip_k0_t4.sl.v387, trip_k0_t4.sl.v389, trip_k0_t4.sl.v390, trip_k0_t4.sl.v391, trip_k0_t4.sl.v392, trip_k0_t4.sl.v393, trip_k0_t4.sl.v394, trip_k0_t4.sl.v395, trip_k0_t4.sl.v396, trip_k0_t4.sl.v397, trip_k0_t4.sl.v398, trip_k0_t4.sl.v400, trip_k0_t4.sl.v401, trip_k0_t4.sl.v402, trip_k0_t4.sl.v404, trip_k0_t4.sl.v405, trip_k0_t4.sl.v406, trip_k0_t4.sl.v409, trip_k0_t4.sl.v410, trip_k0_t4.sl.v412, trip_k0_t4.sl.v413, trip_k0_t4.sl.v416, trip_k0_t4.sl.v417, trip_k0_t4.sl.v418, trip_k0_t4.sl.v419, trip_k0_t4.sl.v420, trip_k0_t4.sl.v422, trip_k0_t4.sl.v423, trip_k0_t4.sl.v425, trip_k0_t4.sl.v426, trip_k0_t4.sl.v427, trip_k0_t4.sl.v428, trip_k0_t4.sl.v429, trip_k0_t4.sl.v430, trip_k0_t4.sl.v431, trip_k0_t4.sl.v432, trip_k0_t4.sl.v433, trip_k0_t4.sl.v434, trip_k0_t4.sl.v436, trip_k0_t4.sl.v437, trip_k0_t4.sl.v438, trip_k0_t4.sl.v440, trip_k0_t4.sl.v441, trip_k0_t4.sl.v442, trip_k0_t4.sl.v445, trip_k0_t4.sl.v446, trip_k0_t4.sl.v448, trip_k0_t4.sl.v449, trip_k0_t4.sl.v452, trip_k0_t4.sl.v453, trip_k0_t4.sl.v454, trip_k0_t4.sl.v455, trip_k0_t4.sl.v456, trip_k0_t4.sl.v458, trip_k0_t4.sl.v459, trip_k0_t4.sl.v461, trip_k0_t4.sl.v462, trip_k0_t4.sl.v463, trip_k0_t4.sl.v464, trip_k0_t4.sl.v465, trip_k0_t4.sl.v466, trip_k0_t4.sl.v467, trip_k0_t4.sl.v468, trip_k0_t4.sl.v469, trip_k0_t4.sl.v470, trip_k0_t4.sl.v472, trip_k0_t4.sl.v473, trip_k0_t4.sl.v474, trip_k0_t4.sl.v476, trip_k0_t4.sl.v477, trip_k0_t4.sl.v478, trip_k0_t4.sl.v481, trip_k0_t4.sl.v482, trip_k0_t4.sl.v484, trip_k0_t4.sl.v485, trip_k0_t4.sl.v488, trip_k0_t4.sl.v489, trip_k0_t4.sl.v490, trip_k0_t4.sl.v491, trip_k0_t4.sl.v492, trip_k0_t4.sl.v494, trip_k0_t4.sl.v495, trip_k0_t4.sl.v497, trip_k0_t4.sl.v498, trip_k0_t4.sl.v499, trip_k0_t4.sl.v500, trip_k0_t4.sl.v501, trip_k0_t4.sl.v502, trip_k0_t4.sl.v503, trip_k0_t4.sl.v504, trip_k0_t4.sl.v505, trip_k0_t4.sl.v506, trip_k0_t4.sl.v508, trip_k0_t4.sl.v509, trip_k0_t4.sl.v510, trip_k0_t4.sl.v512, trip_k0_t4.sl.v513, trip_k0_t4.sl.v514, trip_k0_t4.sl.v517, trip_k0_t4.sl.v518, trip_k0_t4.sl.v520, trip_k0_t4.sl.v521, trip_k0_t4.sl.v524, trip_k0_t4.sl.v525, trip_k0_t4.sl.v526, trip_k0_t4.sl.v527, trip_k0_t4.sl.v528, trip_k0_t4.sl.v530, trip_k0_t4.sl.v531, trip_k0_t4.sl.v533, trip_k0_t4.sl.v534, trip_k0_t4.sl.v535, trip_k0_t4.sl.v536, trip_k0_t4.sl.v537, trip_k0_t4.sl.v538, trip_k0_t4.sl.v539, trip_k0_t4.sl.v540, trip_k0_t4.sl.v541, trip_k0_t4.sl.v542, trip_k0_t4.sl.v544, trip_k0_t4.sl.v545, trip_k0_t4.sl.v546, trip_k0_t4.sl.v548, trip_k0_t4.sl.v549, trip_k0_t4.sl.v550, trip_k0_t4.sl.v553, trip_k0_t4.sl.v554, trip_k0_t4.sl.v556, trip_k0_t4.sl.v557, trip_k0_t4.sl.v560, trip_k0_t4.sl.v561, trip_k0_t4.sl.v562, trip_k0_t4.sl.v563, trip_k0_t4.sl.v564, trip_k0_t4.sl.v566, trip_k0_t4.sl.v567, trip_k0_t4.sl.v569, trip_k0_t4.sl.v570, trip_k0_t4.sl.v571, trip_k0_t4.sl.v572, trip_k0_t4.sl.v573, trip_k0_t4.sl.v574, trip_k0_t4.sl.v575, trip_k0_t4.sl.v576, trip_k0_t4.sl.v577, trip_k0_t4.sl.v578, trip_k0_t4.sl.v580, trip_k0_t4.sl.v581, trip_k0_t4.sl.v582, trip_k0_t4.sl.v584]
    simp only [readAt_bf16, readAt_fp8e5m2, at2_ix (k0_pay378 v4 v8 v16_1 v18_1 v29 v30), at2_ix (k0_pay379 v4 v8 v11 v16_1 v18_1 v29 v30), o0, o1, o2, o3, o4, o5, o6, o7, Matrix.cons_val, Fin.isValue, Fin.val_zero, Fin.val_one, Nat.zero_add, Nat.add_zero]

/-- One trip of the middle loop over column tile 0 stores 256 rows of the gradient into its scratch. -/
theorem t4_band12 [Named Ideal] (v4 : Vec Ideal S384x384 .bf16) (v8 : FVec Ideal S1x384 .f32) (v11 : FVec Ideal S1x384 .f32) (v12 : FVec Ideal S8x128 .f32) (v16_1 : FVec Ideal S8x128 .f32) (v18_1 : FVec Ideal S8x128 .f32) (v29 : FVec Ideal S1x384 .f32) (v30 : FVec Ideal S128 .f32)  (k : Fin k0_t4_loop.trips) (acc : FVec Ideal S8x128 .f32 × FVec Ideal S8x128 .f32)
    (G : BufTy.Contents (Elt Ideal) arg12.view.ty) (L : List (View.Piece (Elt Ideal) S3x4096x128 .f32)) (t r l : ℕ) :
    at3 (arg12.view.read (Elt Ideal) (arg12.view.writes (Elt Ideal) G ((trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 k).2.2.1 acc ++ L))) t r l
      = if (0 ≤ t ∧ t < 0 + 1) ∧ (256 * k.val ≤ r ∧ r < 256 * k.val + 256) ∧ (0 ≤ l ∧ l < 0 + 128) then tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l
        else at3 (arg12.view.read (Elt Ideal) (arg12.view.writes (Elt Ideal) G L)) t r l := by
  have o0 : k0_off5 k 0#32 = ![0, 256 * k.val + 0, 0] := k0_off5_eq k 0
  have o1 : k0_off5 k 32#32 = ![0, 256 * k.val + 32, 0] := k0_off5_eq k 1
  have o2 : k0_off5 k 64#32 = ![0, 256 * k.val + 64, 0] := k0_off5_eq k 2
  have o3 : k0_off5 k 96#32 = ![0, 256 * k.val + 96, 0] := k0_off5_eq k 3
  have o4 : k0_off5 k 128#32 = ![0, 256 * k.val + 128, 0] := k0_off5_eq k 4
  have o5 : k0_off5 k 160#32 = ![0, 256 * k.val + 160, 0] := k0_off5_eq k 5
  have o6 : k0_off5 k 192#32 = ![0, 256 * k.val + 192, 0] := k0_off5_eq k 6
  have o7 : k0_off5 k 224#32 = ![0, 256 * k.val + 224, 0] := k0_off5_eq k 7
  have s0 : k0_off6 k 0#32 = ![0, 256 * k.val + 0, 0] := k0_off6_eq k 0
  have s1 : k0_off6 k 32#32 = ![0, 256 * k.val + 32, 0] := k0_off6_eq k 1
  have s2 : k0_off6 k 64#32 = ![0, 256 * k.val + 64, 0] := k0_off6_eq k 2
  have s3 : k0_off6 k 96#32 = ![0, 256 * k.val + 96, 0] := k0_off6_eq k 3
  have s4 : k0_off6 k 128#32 = ![0, 256 * k.val + 128, 0] := k0_off6_eq k 4
  have s5 : k0_off6 k 160#32 = ![0, 256 * k.val + 160, 0] := k0_off6_eq k 5
  have s6 : k0_off6 k 192#32 = ![0, 256 * k.val + 192, 0] := k0_off6_eq k 6
  have s7 : k0_off6 k 224#32 = ![0, 256 * k.val + 224, 0] := k0_off6_eq k 7
  unfold trip_k0_t4
  dsimp only
  simp only [List.cons_append, List.nil_append]
  rw [band_f32 (V := fun _ r l => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l) (ho := s7), band_f32 (V := fun _ r l => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l) (ho := s6), band_f32 (V := fun _ r l => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l) (ho := s5), band_f32 (V := fun _ r l => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l) (ho := s4), band_f32 (V := fun _ r l => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l) (ho := s3), band_f32 (V := fun _ r l => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l) (ho := s2), band_f32 (V := fun _ r l => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l) (ho := s1), band_f32 (V := fun _ r l => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l) (ho := s0)]
  · split_ifs <;> first | rfl | (exfalso; omega)
  all_goals
    intro i j l
    simp only [tl0, Nat.zero_add]
    pointwise [k0_pay380, k0_pay381, k0_pay382, trip_k0_t4.sl.arg14, trip_k0_t4.sl.cst_111, trip_k0_t4.sl.cst_113, trip_k0_t4.sl.r, trip_k0_t4.sl.v299, trip_k0_t4.sl.v301, trip_k0_t4.sl.v302, trip_k0_t4.sl.v304, trip_k0_t4.sl.v305, trip_k0_t4.sl.v308, trip_k0_t4.sl.v309, trip_k0_t4.sl.v310, trip_k0_t4.sl.v311, trip_k0_t4.sl.v312, trip_k0_t4.sl.v313, trip_k0_t4.sl.v314, trip_k0_t4.sl.v315, trip_k0_t4.sl.v317, trip_k0_t4.sl.v318, trip_k0_t4.sl.v319, trip_k0_t4.sl.v320, trip_k0_t4.sl.v321, trip_k0_t4.sl.v322, trip_k0_t4.sl.v323, trip_k0_t4.sl.v324, trip_k0_t4.sl.v325, trip_k0_t4.sl.v326, trip_k0_t4.sl.v329, trip_k0_t4.sl.v330, trip_k0_t4.sl.v333, trip_k0_t4.sl.v334, trip_k0_t4.sl.v337, trip_k0_t4.sl.v338, trip_k0_t4.sl.v340, trip_k0_t4.sl.v341, trip_k0_t4.sl.v344, trip_k0_t4.sl.v345, trip_k0_t4.sl.v346, trip_k0_t4.sl.v347, trip_k0_t4.sl.v348, trip_k0_t4.sl.v350, trip_k0_t4.sl.v351, trip_k0_t4.sl.v353, trip_k0_t4.sl.v354, trip_k0_t4.sl.v355, trip_k0_t4.sl.v356, trip_k0_t4.sl.v357, trip_k0_t4.sl.v358, trip_k0_t4.sl.v359, trip_k0_t4.sl.v360, trip_k0_t4.sl.v361, trip_k0_t4.sl.v362, trip_k0_t4.sl.v364, trip_k0_t4.sl.v365, trip_k0_t4.sl.v366, trip_k0_t4.sl.v368, trip_k0_t4.sl.v369, trip_k0_t4.sl.v370, trip_k0_t4.sl.v373, trip_k0_t4.sl.v374, trip_k0_t4.sl.v376, trip_k0_t4.sl.v377, trip_k0_t4.sl.v380, trip_k0_t4.sl.v381, trip_k0_t4.sl.v382, trip_k0_t4.sl.v383, trip_k0_t4.sl.v384, trip_k0_t4.sl.v386, trip_k0_t4.sl.v387, trip_k0_t4.sl.v389, trip_k0_t4.sl.v390, trip_k0_t4.sl.v391, trip_k0_t4.sl.v392, trip_k0_t4.sl.v393, trip_k0_t4.sl.v394, trip_k0_t4.sl.v395, trip_k0_t4.sl.v396, trip_k0_t4.sl.v397, trip_k0_t4.sl.v398, trip_k0_t4.sl.v400, trip_k0_t4.sl.v401, trip_k0_t4.sl.v402, trip_k0_t4.sl.v404, trip_k0_t4.sl.v405, trip_k0_t4.sl.v406, trip_k0_t4.sl.v409, trip_k0_t4.sl.v410, trip_k0_t4.sl.v412, trip_k0_t4.sl.v413, trip_k0_t4.sl.v416, trip_k0_t4.sl.v417, trip_k0_t4.sl.v418, trip_k0_t4.sl.v419, trip_k0_t4.sl.v420, trip_k0_t4.sl.v422, trip_k0_t4.sl.v423, trip_k0_t4.sl.v425, trip_k0_t4.sl.v426, trip_k0_t4.sl.v427, trip_k0_t4.sl.v428, trip_k0_t4.sl.v429, trip_k0_t4.sl.v430, trip_k0_t4.sl.v431, trip_k0_t4.sl.v432, trip_k0_t4.sl.v433, trip_k0_t4.sl.v434, trip_k0_t4.sl.v436, trip_k0_t4.sl.v437, trip_k0_t4.sl.v438, trip_k0_t4.sl.v440, trip_k0_t4.sl.v441, trip_k0_t4.sl.v442, trip_k0_t4.sl.v445, trip_k0_t4.sl.v446, trip_k0_t4.sl.v448, trip_k0_t4.sl.v449, trip_k0_t4.sl.v452, trip_k0_t4.sl.v453, trip_k0_t4.sl.v454, trip_k0_t4.sl.v455, trip_k0_t4.sl.v456, trip_k0_t4.sl.v458, trip_k0_t4.sl.v459, trip_k0_t4.sl.v461, trip_k0_t4.sl.v462, trip_k0_t4.sl.v463, trip_k0_t4.sl.v464, trip_k0_t4.sl.v465, trip_k0_t4.sl.v466, trip_k0_t4.sl.v467, trip_k0_t4.sl.v468, trip_k0_t4.sl.v469, trip_k0_t4.sl.v470, trip_k0_t4.sl.v472, trip_k0_t4.sl.v473, trip_k0_t4.sl.v474, trip_k0_t4.sl.v476, trip_k0_t4.sl.v477, trip_k0_t4.sl.v478, trip_k0_t4.sl.v481, trip_k0_t4.sl.v482, trip_k0_t4.sl.v484, trip_k0_t4.sl.v485, trip_k0_t4.sl.v488, trip_k0_t4.sl.v489, trip_k0_t4.sl.v490, trip_k0_t4.sl.v491, trip_k0_t4.sl.v492, trip_k0_t4.sl.v494, trip_k0_t4.sl.v495, trip_k0_t4.sl.v497, trip_k0_t4.sl.v498, trip_k0_t4.sl.v499, trip_k0_t4.sl.v500, trip_k0_t4.sl.v501, trip_k0_t4.sl.v502, trip_k0_t4.sl.v503, trip_k0_t4.sl.v504, trip_k0_t4.sl.v505, trip_k0_t4.sl.v506, trip_k0_t4.sl.v508, trip_k0_t4.sl.v509, trip_k0_t4.sl.v510, trip_k0_t4.sl.v512, trip_k0_t4.sl.v513, trip_k0_t4.sl.v514, trip_k0_t4.sl.v517, trip_k0_t4.sl.v518, trip_k0_t4.sl.v520, trip_k0_t4.sl.v521, trip_k0_t4.sl.v524, trip_k0_t4.sl.v525, trip_k0_t4.sl.v526, trip_k0_t4.sl.v527, trip_k0_t4.sl.v528, trip_k0_t4.sl.v530, trip_k0_t4.sl.v531, trip_k0_t4.sl.v533, trip_k0_t4.sl.v534, trip_k0_t4.sl.v535, trip_k0_t4.sl.v536, trip_k0_t4.sl.v537, trip_k0_t4.sl.v538, trip_k0_t4.sl.v539, trip_k0_t4.sl.v540, trip_k0_t4.sl.v541, trip_k0_t4.sl.v542, trip_k0_t4.sl.v544, trip_k0_t4.sl.v545, trip_k0_t4.sl.v546, trip_k0_t4.sl.v548, trip_k0_t4.sl.v549, trip_k0_t4.sl.v550, trip_k0_t4.sl.v553, trip_k0_t4.sl.v554, trip_k0_t4.sl.v556, trip_k0_t4.sl.v557, trip_k0_t4.sl.v560, trip_k0_t4.sl.v561, trip_k0_t4.sl.v562, trip_k0_t4.sl.v563, trip_k0_t4.sl.v564, trip_k0_t4.sl.v566, trip_k0_t4.sl.v567, trip_k0_t4.sl.v569, trip_k0_t4.sl.v570, trip_k0_t4.sl.v571, trip_k0_t4.sl.v572, trip_k0_t4.sl.v573, trip_k0_t4.sl.v574, trip_k0_t4.sl.v575, trip_k0_t4.sl.v576, trip_k0_t4.sl.v577, trip_k0_t4.sl.v578, trip_k0_t4.sl.v580, trip_k0_t4.sl.v581, trip_k0_t4.sl.v582, trip_k0_t4.sl.v584]
    simp only [readAt_bf16, readAt_fp8e5m2, at2_ix (k0_pay378 v4 v8 v16_1 v18_1 v29 v30), at2_ix (k0_pay379 v4 v8 v11 v16_1 v18_1 v29 v30), o0, o1, o2, o3, o4, o5, o6, o7, Matrix.cons_val, Fin.isValue, Fin.val_zero, Fin.val_one, Nat.zero_add, Nat.add_zero]
    rfl

end Cert.KernelIdeal.Hand
-- ==== Proof.VT5.lean ====
module

public import proofs.«01_k».proof.Proof.Gen.KernelIdeal.Loops
public import proofs.«01_k».proof.Proof.VBase

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X1 : BufTy.Contents (Elt Ideal) arg1.view.ty)

set_option maxHeartbeats 2000000
variable (X4 : BufTy.Contents (Elt Ideal) arg4.view.ty)

/-- One trip of the middle loop over column tile 1 adds 32 sublane rows to the running sums of the gradient at the normalised
    value and of its product with x. -/
theorem t5_step [Named Ideal] (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32) (A B : ℕ → EReal) (h78 : ∀ (r : Fin 32) (l : Fin 128), v78 (ix2 r l) = A (128 + l.val)) (h80 : ∀ l : Fin 128, v80 (ix2 0 l) = B (128 + l.val)) (k : Fin k0_t5_loop.trips) (acc : FVec Ideal S8x128 .f32 × FVec Ideal S8x128 .f32) (a : Fin 8) (l : Fin 128) :
    ((trip_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 k).1 acc).1 (ix2 a l) = acc.1 (ix2 a l) + ∑ q ∈ Finset.range 32, tl 1 (fun r c => at3 (arg4.view.read (Elt Ideal) X4) 0 r c * dfac (at3 (arg1.view.read (Elt Ideal) X1) 0 r c * A c + B c)) (256 * k.val + (8 * q + a.val)) l.val
    ∧ ((trip_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 k).1 acc).2 (ix2 a l) = acc.2 (ix2 a l) + ∑ q ∈ Finset.range 32, tl 1 (fun r c => (at3 (arg4.view.read (Elt Ideal) X4) 0 r c * dfac (at3 (arg1.view.read (Elt Ideal) X1) 0 r c * A c + B c)) * at3 (arg1.view.read (Elt Ideal) X1) 0 r c) (256 * k.val + (8 * q + a.val)) l.val := by
  have o0 : k0_off7 k 0#32 = ![0, 256 * k.val + 0, 128] := k0_off7_eq k 0
  have o1 : k0_off7 k 32#32 = ![0, 256 * k.val + 32, 128] := k0_off7_eq k 1
  have o2 : k0_off7 k 64#32 = ![0, 256 * k.val + 64, 128] := k0_off7_eq k 2
  have o3 : k0_off7 k 96#32 = ![0, 256 * k.val + 96, 128] := k0_off7_eq k 3
  have o4 : k0_off7 k 128#32 = ![0, 256 * k.val + 128, 128] := k0_off7_eq k 4
  have o5 : k0_off7 k 160#32 = ![0, 256 * k.val + 160, 128] := k0_off7_eq k 5
  have o6 : k0_off7 k 192#32 = ![0, 256 * k.val + 192, 128] := k0_off7_eq k 6
  have o7 : k0_off7 k 224#32 = ![0, 256 * k.val + 224, 128] := k0_off7_eq k 7
  simp only [tl1]
  unfold trip_k0_t5
  dsimp only
  constructor
  all_goals
    pointwise [k0_pay385, k0_pay386, trip_k0_t5.sl.arg14, trip_k0_t5.sl.cst_110, trip_k0_t5.sl.cst_112, trip_k0_t5.sl.r, trip_k0_t5.sl.v299, trip_k0_t5.sl.v301, trip_k0_t5.sl.v302, trip_k0_t5.sl.v304, trip_k0_t5.sl.v305, trip_k0_t5.sl.v308, trip_k0_t5.sl.v309, trip_k0_t5.sl.v310, trip_k0_t5.sl.v311, trip_k0_t5.sl.v312, trip_k0_t5.sl.v313, trip_k0_t5.sl.v314, trip_k0_t5.sl.v315, trip_k0_t5.sl.v317, trip_k0_t5.sl.v318, trip_k0_t5.sl.v319, trip_k0_t5.sl.v320, trip_k0_t5.sl.v321, trip_k0_t5.sl.v322, trip_k0_t5.sl.v323, trip_k0_t5.sl.v324, trip_k0_t5.sl.v325, trip_k0_t5.sl.v326, trip_k0_t5.sl.v329, trip_k0_t5.sl.v330, trip_k0_t5.sl.v333, trip_k0_t5.sl.v334, trip_k0_t5.sl.v337, trip_k0_t5.sl.v338, trip_k0_t5.sl.v340, trip_k0_t5.sl.v341, trip_k0_t5.sl.v344, trip_k0_t5.sl.v345, trip_k0_t5.sl.v346, trip_k0_t5.sl.v347, trip_k0_t5.sl.v348, trip_k0_t5.sl.v350, trip_k0_t5.sl.v351, trip_k0_t5.sl.v353, trip_k0_t5.sl.v354, trip_k0_t5.sl.v355, trip_k0_t5.sl.v356, trip_k0_t5.sl.v357, trip_k0_t5.sl.v358, trip_k0_t5.sl.v359, trip_k0_t5.sl.v360, trip_k0_t5.sl.v361, trip_k0_t5.sl.v362, trip_k0_t5.sl.v364, trip_k0_t5.sl.v365, trip_k0_t5.sl.v366, trip_k0_t5.sl.v368, trip_k0_t5.sl.v369, trip_k0_t5.sl.v370, trip_k0_t5.sl.v373, trip_k0_t5.sl.v374, trip_k0_t5.sl.v376, trip_k0_t5.sl.v377, trip_k0_t5.sl.v380, trip_k0_t5.sl.v381, trip_k0_t5.sl.v382, trip_k0_t5.sl.v383, trip_k0_t5.sl.v384, trip_k0_t5.sl.v386, trip_k0_t5.sl.v387, trip_k0_t5.sl.v389, trip_k0_t5.sl.v390, trip_k0_t5.sl.v391, trip_k0_t5.sl.v392, trip_k0_t5.sl.v393, trip_k0_t5.sl.v394, trip_k0_t5.sl.v395, trip_k0_t5.sl.v396, trip_k0_t5.sl.v397, trip_k0_t5.sl.v398, trip_k0_t5.sl.v400, trip_k0_t5.sl.v401, trip_k0_t5.sl.v402, trip_k0_t5.sl.v404, trip_k0_t5.sl.v405, trip_k0_t5.sl.v406, trip_k0_t5.sl.v409, trip_k0_t5.sl.v410, trip_k0_t5.sl.v412, trip_k0_t5.sl.v413, trip_k0_t5.sl.v416, trip_k0_t5.sl.v417, trip_k0_t5.sl.v418, trip_k0_t5.sl.v419, trip_k0_t5.sl.v420, trip_k0_t5.sl.v422, trip_k0_t5.sl.v423, trip_k0_t5.sl.v425, trip_k0_t5.sl.v426, trip_k0_t5.sl.v427, trip_k0_t5.sl.v428, trip_k0_t5.sl.v429, trip_k0_t5.sl.v430, trip_k0_t5.sl.v431, trip_k0_t5.sl.v432, trip_k0_t5.sl.v433, trip_k0_t5.sl.v434, trip_k0_t5.sl.v436, trip_k0_t5.sl.v437, trip_k0_t5.sl.v438, trip_k0_t5.sl.v440, trip_k0_t5.sl.v441, trip_k0_t5.sl.v442, trip_k0_t5.sl.v445, trip_k0_t5.sl.v446, trip_k0_t5.sl.v448, trip_k0_t5.sl.v449, trip_k0_t5.sl.v452, trip_k0_t5.sl.v453, trip_k0_t5.sl.v454, trip_k0_t5.sl.v455, trip_k0_t5.sl.v456, trip_k0_t5.sl.v458, trip_k0_t5.sl.v459, trip_k0_t5.sl.v461, trip_k0_t5.sl.v462, trip_k0_t5.sl.v463, trip_k0_t5.sl.v464, trip_k0_t5.sl.v465, trip_k0_t5.sl.v466, trip_k0_t5.sl.v467, trip_k0_t5.sl.v468, trip_k0_t5.sl.v469, trip_k0_t5.sl.v470, trip_k0_t5.sl.v472, trip_k0_t5.sl.v473, trip_k0_t5.sl.v474, trip_k0_t5.sl.v476, trip_k0_t5.sl.v477, trip_k0_t5.sl.v478, trip_k0_t5.sl.v481, trip_k0_t5.sl.v482, trip_k0_t5.sl.v484, trip_k0_t5.sl.v485, trip_k0_t5.sl.v488, trip_k0_t5.sl.v489, trip_k0_t5.sl.v490, trip_k0_t5.sl.v491, trip_k0_t5.sl.v492, trip_k0_t5.sl.v494, trip_k0_t5.sl.v495, trip_k0_t5.sl.v497, trip_k0_t5.sl.v498, trip_k0_t5.sl.v499, trip_k0_t5.sl.v500, trip_k0_t5.sl.v501, trip_k0_t5.sl.v502, trip_k0_t5.sl.v503, trip_k0_t5.sl.v504, trip_k0_t5.sl.v505, trip_k0_t5.sl.v506, trip_k0_t5.sl.v508, trip_k0_t5.sl.v509, trip_k0_t5.sl.v510, trip_k0_t5.sl.v512, trip_k0_t5.sl.v513, trip_k0_t5.sl.v514, trip_k0_t5.sl.v517, trip_k0_t5.sl.v518, trip_k0_t5.sl.v520, trip_k0_t5.sl.v521, trip_k0_t5.sl.v524, trip_k0_t5.sl.v525, trip_k0_t5.sl.v526, trip_k0_t5.sl.v527, trip_k0_t5.sl.v528, trip_k0_t5.sl.v530, trip_k0_t5.sl.v531, trip_k0_t5.sl.v533, trip_k0_t5.sl.v534, trip_k0_t5.sl.v535, trip_k0_t5.sl.v536, trip_k0_t5.sl.v537, trip_k0_t5.sl.v538, trip_k0_t5.sl.v539, trip_k0_t5.sl.v540, trip_k0_t5.sl.v541, trip_k0_t5.sl.v542, trip_k0_t5.sl.v544, trip_k0_t5.sl.v545, trip_k0_t5.sl.v546, trip_k0_t5.sl.v548, trip_k0_t5.sl.v549, trip_k0_t5.sl.v550, trip_k0_t5.sl.v553, trip_k0_t5.sl.v554, trip_k0_t5.sl.v556, trip_k0_t5.sl.v557, trip_k0_t5.sl.v560, trip_k0_t5.sl.v561, trip_k0_t5.sl.v562, trip_k0_t5.sl.v563, trip_k0_t5.sl.v564, trip_k0_t5.sl.v566, trip_k0_t5.sl.v567, trip_k0_t5.sl.v569, trip_k0_t5.sl.v570, trip_k0_t5.sl.v571, trip_k0_t5.sl.v572, trip_k0_t5.sl.v573, trip_k0_t5.sl.v574, trip_k0_t5.sl.v575, trip_k0_t5.sl.v576, trip_k0_t5.sl.v577, trip_k0_t5.sl.v578, trip_k0_t5.sl.v580, trip_k0_t5.sl.v581, trip_k0_t5.sl.v582, trip_k0_t5.sl.v584]
    simp only [Fin.sum_univ_four, readAt_bf16, readAt_fp8e5m2, h78, h80, o0, o1, o2, o3, o4, o5, o6, o7, Matrix.cons_val, Fin.isValue, Fin.val_zero, Fin.val_one, Fin.val_two, Nat.zero_add]
  · exact sum8 (fun r => (at3 (arg4.view.read (Elt Ideal) X4) 0 r (128 + l.val) * dfac (at3 (arg1.view.read (Elt Ideal) X1) 0 r (128 + l.val) * A (128 + l.val) + B (128 + l.val)))) (256 * k.val) a.val (acc.1 (ix2 a l))
  · exact sum8 (fun r => (at3 (arg4.view.read (Elt Ideal) X4) 0 r (128 + l.val) * dfac (at3 (arg1.view.read (Elt Ideal) X1) 0 r (128 + l.val) * A (128 + l.val) + B (128 + l.val))) * at3 (arg1.view.read (Elt Ideal) X1) 0 r (128 + l.val)) (256 * k.val) a.val (acc.2 (ix2 a l))

/-- One trip of the middle loop over column tile 1 stores 256 rows of x into its scratch. -/
theorem t5_band11 [Named Ideal] (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32) (A B : ℕ → EReal) (h78 : ∀ (r : Fin 32) (l : Fin 128), v78 (ix2 r l) = A (128 + l.val)) (h80 : ∀ l : Fin 128, v80 (ix2 0 l) = B (128 + l.val)) (k : Fin k0_t5_loop.trips) (acc : FVec Ideal S8x128 .f32 × FVec Ideal S8x128 .f32)
    (G : BufTy.Contents (Elt Ideal) arg11.view.ty) (L : List (View.Piece (Elt Ideal) S3x4096x128 .f32)) (t r l : ℕ) :
    at3 (arg11.view.read (Elt Ideal) (arg11.view.writes (Elt Ideal) G ((trip_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 k).2.1 acc ++ L))) t r l
      = if (1 ≤ t ∧ t < 1 + 1) ∧ (256 * k.val ≤ r ∧ r < 256 * k.val + 256) ∧ (0 ≤ l ∧ l < 0 + 128) then tl 1 (fun r c => at3 (arg1.view.read (Elt Ideal) X1) 0 r c) r l
        else at3 (arg11.view.read (Elt Ideal) (arg11.view.writes (Elt Ideal) G L)) t r l := by
  have o0 : k0_off7 k 0#32 = ![0, 256 * k.val + 0, 128] := k0_off7_eq k 0
  have o1 : k0_off7 k 32#32 = ![0, 256 * k.val + 32, 128] := k0_off7_eq k 1
  have o2 : k0_off7 k 64#32 = ![0, 256 * k.val + 64, 128] := k0_off7_eq k 2
  have o3 : k0_off7 k 96#32 = ![0, 256 * k.val + 96, 128] := k0_off7_eq k 3
  have o4 : k0_off7 k 128#32 = ![0, 256 * k.val + 128, 128] := k0_off7_eq k 4
  have o5 : k0_off7 k 160#32 = ![0, 256 * k.val + 160, 128] := k0_off7_eq k 5
  have o6 : k0_off7 k 192#32 = ![0, 256 * k.val + 192, 128] := k0_off7_eq k 6
  have o7 : k0_off7 k 224#32 = ![0, 256 * k.val + 224, 128] := k0_off7_eq k 7
  have s0 : k0_off8 k 0#32 = ![1, 256 * k.val + 0, 0] := k0_off8_eq k 0
  have s1 : k0_off8 k 32#32 = ![1, 256 * k.val + 32, 0] := k0_off8_eq k 1
  have s2 : k0_off8 k 64#32 = ![1, 256 * k.val + 64, 0] := k0_off8_eq k 2
  have s3 : k0_off8 k 96#32 = ![1, 256 * k.val + 96, 0] := k0_off8_eq k 3
  have s4 : k0_off8 k 128#32 = ![1, 256 * k.val + 128, 0] := k0_off8_eq k 4
  have s5 : k0_off8 k 160#32 = ![1, 256 * k.val + 160, 0] := k0_off8_eq k 5
  have s6 : k0_off8 k 192#32 = ![1, 256 * k.val + 192, 0] := k0_off8_eq k 6
  have s7 : k0_off8 k 224#32 = ![1, 256 * k.val + 224, 0] := k0_off8_eq k 7
  unfold trip_k0_t5
  dsimp only
  simp only [List.cons_append, List.nil_append]
  rw [band_f32 (V := fun _ r l => tl 1 (fun r c => at3 (arg1.view.read (Elt Ideal) X1) 0 r c) r l) (ho := s7), band_f32 (V := fun _ r l => tl 1 (fun r c => at3 (arg1.view.read (Elt Ideal) X1) 0 r c) r l) (ho := s6), band_f32 (V := fun _ r l => tl 1 (fun r c => at3 (arg1.view.read (Elt Ideal) X1) 0 r c) r l) (ho := s5), band_f32 (V := fun _ r l => tl 1 (fun r c => at3 (arg1.view.read (Elt Ideal) X1) 0 r c) r l) (ho := s4), band_f32 (V := fun _ r l => tl 1 (fun r c => at3 (arg1.view.read (Elt Ideal) X1) 0 r c) r l) (ho := s3), band_f32 (V := fun _ r l => tl 1 (fun r c => at3 (arg1.view.read (Elt Ideal) X1) 0 r c) r l) (ho := s2), band_f32 (V := fun _ r l => tl 1 (fun r c => at3 (arg1.view.read (Elt Ideal) X1) 0 r c) r l) (ho := s1), band_f32 (V := fun _ r l => tl 1 (fun r c => at3 (arg1.view.read (Elt Ideal) X1) 0 r c) r l) (ho := s0)]
  · split_ifs <;> first | rfl | (exfalso; omega)
  all_goals
    intro i j l
    simp only [tl1, Nat.zero_add]
    pointwise [k0_pay385, k0_pay386, trip_k0_t5.sl.arg14, trip_k0_t5.sl.cst_110, trip_k0_t5.sl.cst_112, trip_k0_t5.sl.r, trip_k0_t5.sl.v299, trip_k0_t5.sl.v301, trip_k0_t5.sl.v302, trip_k0_t5.sl.v304, trip_k0_t5.sl.v305, trip_k0_t5.sl.v308, trip_k0_t5.sl.v309, trip_k0_t5.sl.v310, trip_k0_t5.sl.v311, trip_k0_t5.sl.v312, trip_k0_t5.sl.v313, trip_k0_t5.sl.v314, trip_k0_t5.sl.v315, trip_k0_t5.sl.v317, trip_k0_t5.sl.v318, trip_k0_t5.sl.v319, trip_k0_t5.sl.v320, trip_k0_t5.sl.v321, trip_k0_t5.sl.v322, trip_k0_t5.sl.v323, trip_k0_t5.sl.v324, trip_k0_t5.sl.v325, trip_k0_t5.sl.v326, trip_k0_t5.sl.v329, trip_k0_t5.sl.v330, trip_k0_t5.sl.v333, trip_k0_t5.sl.v334, trip_k0_t5.sl.v337, trip_k0_t5.sl.v338, trip_k0_t5.sl.v340, trip_k0_t5.sl.v341, trip_k0_t5.sl.v344, trip_k0_t5.sl.v345, trip_k0_t5.sl.v346, trip_k0_t5.sl.v347, trip_k0_t5.sl.v348, trip_k0_t5.sl.v350, trip_k0_t5.sl.v351, trip_k0_t5.sl.v353, trip_k0_t5.sl.v354, trip_k0_t5.sl.v355, trip_k0_t5.sl.v356, trip_k0_t5.sl.v357, trip_k0_t5.sl.v358, trip_k0_t5.sl.v359, trip_k0_t5.sl.v360, trip_k0_t5.sl.v361, trip_k0_t5.sl.v362, trip_k0_t5.sl.v364, trip_k0_t5.sl.v365, trip_k0_t5.sl.v366, trip_k0_t5.sl.v368, trip_k0_t5.sl.v369, trip_k0_t5.sl.v370, trip_k0_t5.sl.v373, trip_k0_t5.sl.v374, trip_k0_t5.sl.v376, trip_k0_t5.sl.v377, trip_k0_t5.sl.v380, trip_k0_t5.sl.v381, trip_k0_t5.sl.v382, trip_k0_t5.sl.v383, trip_k0_t5.sl.v384, trip_k0_t5.sl.v386, trip_k0_t5.sl.v387, trip_k0_t5.sl.v389, trip_k0_t5.sl.v390, trip_k0_t5.sl.v391, trip_k0_t5.sl.v392, trip_k0_t5.sl.v393, trip_k0_t5.sl.v394, trip_k0_t5.sl.v395, trip_k0_t5.sl.v396, trip_k0_t5.sl.v397, trip_k0_t5.sl.v398, trip_k0_t5.sl.v400, trip_k0_t5.sl.v401, trip_k0_t5.sl.v402, trip_k0_t5.sl.v404, trip_k0_t5.sl.v405, trip_k0_t5.sl.v406, trip_k0_t5.sl.v409, trip_k0_t5.sl.v410, trip_k0_t5.sl.v412, trip_k0_t5.sl.v413, trip_k0_t5.sl.v416, trip_k0_t5.sl.v417, trip_k0_t5.sl.v418, trip_k0_t5.sl.v419, trip_k0_t5.sl.v420, trip_k0_t5.sl.v422, trip_k0_t5.sl.v423, trip_k0_t5.sl.v425, trip_k0_t5.sl.v426, trip_k0_t5.sl.v427, trip_k0_t5.sl.v428, trip_k0_t5.sl.v429, trip_k0_t5.sl.v430, trip_k0_t5.sl.v431, trip_k0_t5.sl.v432, trip_k0_t5.sl.v433, trip_k0_t5.sl.v434, trip_k0_t5.sl.v436, trip_k0_t5.sl.v437, trip_k0_t5.sl.v438, trip_k0_t5.sl.v440, trip_k0_t5.sl.v441, trip_k0_t5.sl.v442, trip_k0_t5.sl.v445, trip_k0_t5.sl.v446, trip_k0_t5.sl.v448, trip_k0_t5.sl.v449, trip_k0_t5.sl.v452, trip_k0_t5.sl.v453, trip_k0_t5.sl.v454, trip_k0_t5.sl.v455, trip_k0_t5.sl.v456, trip_k0_t5.sl.v458, trip_k0_t5.sl.v459, trip_k0_t5.sl.v461, trip_k0_t5.sl.v462, trip_k0_t5.sl.v463, trip_k0_t5.sl.v464, trip_k0_t5.sl.v465, trip_k0_t5.sl.v466, trip_k0_t5.sl.v467, trip_k0_t5.sl.v468, trip_k0_t5.sl.v469, trip_k0_t5.sl.v470, trip_k0_t5.sl.v472, trip_k0_t5.sl.v473, trip_k0_t5.sl.v474, trip_k0_t5.sl.v476, trip_k0_t5.sl.v477, trip_k0_t5.sl.v478, trip_k0_t5.sl.v481, trip_k0_t5.sl.v482, trip_k0_t5.sl.v484, trip_k0_t5.sl.v485, trip_k0_t5.sl.v488, trip_k0_t5.sl.v489, trip_k0_t5.sl.v490, trip_k0_t5.sl.v491, trip_k0_t5.sl.v492, trip_k0_t5.sl.v494, trip_k0_t5.sl.v495, trip_k0_t5.sl.v497, trip_k0_t5.sl.v498, trip_k0_t5.sl.v499, trip_k0_t5.sl.v500, trip_k0_t5.sl.v501, trip_k0_t5.sl.v502, trip_k0_t5.sl.v503, trip_k0_t5.sl.v504, trip_k0_t5.sl.v505, trip_k0_t5.sl.v506, trip_k0_t5.sl.v508, trip_k0_t5.sl.v509, trip_k0_t5.sl.v510, trip_k0_t5.sl.v512, trip_k0_t5.sl.v513, trip_k0_t5.sl.v514, trip_k0_t5.sl.v517, trip_k0_t5.sl.v518, trip_k0_t5.sl.v520, trip_k0_t5.sl.v521, trip_k0_t5.sl.v524, trip_k0_t5.sl.v525, trip_k0_t5.sl.v526, trip_k0_t5.sl.v527, trip_k0_t5.sl.v528, trip_k0_t5.sl.v530, trip_k0_t5.sl.v531, trip_k0_t5.sl.v533, trip_k0_t5.sl.v534, trip_k0_t5.sl.v535, trip_k0_t5.sl.v536, trip_k0_t5.sl.v537, trip_k0_t5.sl.v538, trip_k0_t5.sl.v539, trip_k0_t5.sl.v540, trip_k0_t5.sl.v541, trip_k0_t5.sl.v542, trip_k0_t5.sl.v544, trip_k0_t5.sl.v545, trip_k0_t5.sl.v546, trip_k0_t5.sl.v548, trip_k0_t5.sl.v549, trip_k0_t5.sl.v550, trip_k0_t5.sl.v553, trip_k0_t5.sl.v554, trip_k0_t5.sl.v556, trip_k0_t5.sl.v557, trip_k0_t5.sl.v560, trip_k0_t5.sl.v561, trip_k0_t5.sl.v562, trip_k0_t5.sl.v563, trip_k0_t5.sl.v564, trip_k0_t5.sl.v566, trip_k0_t5.sl.v567, trip_k0_t5.sl.v569, trip_k0_t5.sl.v570, trip_k0_t5.sl.v571, trip_k0_t5.sl.v572, trip_k0_t5.sl.v573, trip_k0_t5.sl.v574, trip_k0_t5.sl.v575, trip_k0_t5.sl.v576, trip_k0_t5.sl.v577, trip_k0_t5.sl.v578, trip_k0_t5.sl.v580, trip_k0_t5.sl.v581, trip_k0_t5.sl.v582, trip_k0_t5.sl.v584]
    simp only [readAt_bf16, readAt_fp8e5m2, h78, h80, o0, o1, o2, o3, o4, o5, o6, o7, Matrix.cons_val, Fin.isValue, Fin.val_zero, Fin.val_one, Nat.zero_add, Nat.add_zero]

/-- One trip of the middle loop over column tile 1 stores 256 rows of the gradient into its scratch. -/
theorem t5_band12 [Named Ideal] (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32) (A B : ℕ → EReal) (h78 : ∀ (r : Fin 32) (l : Fin 128), v78 (ix2 r l) = A (128 + l.val)) (h80 : ∀ l : Fin 128, v80 (ix2 0 l) = B (128 + l.val)) (k : Fin k0_t5_loop.trips) (acc : FVec Ideal S8x128 .f32 × FVec Ideal S8x128 .f32)
    (G : BufTy.Contents (Elt Ideal) arg12.view.ty) (L : List (View.Piece (Elt Ideal) S3x4096x128 .f32)) (t r l : ℕ) :
    at3 (arg12.view.read (Elt Ideal) (arg12.view.writes (Elt Ideal) G ((trip_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 k).2.2.1 acc ++ L))) t r l
      = if (1 ≤ t ∧ t < 1 + 1) ∧ (256 * k.val ≤ r ∧ r < 256 * k.val + 256) ∧ (0 ≤ l ∧ l < 0 + 128) then tl 1 (fun r c => at3 (arg4.view.read (Elt Ideal) X4) 0 r c * dfac (at3 (arg1.view.read (Elt Ideal) X1) 0 r c * A c + B c)) r l
        else at3 (arg12.view.read (Elt Ideal) (arg12.view.writes (Elt Ideal) G L)) t r l := by
  have o0 : k0_off7 k 0#32 = ![0, 256 * k.val + 0, 128] := k0_off7_eq k 0
  have o1 : k0_off7 k 32#32 = ![0, 256 * k.val + 32, 128] := k0_off7_eq k 1
  have o2 : k0_off7 k 64#32 = ![0, 256 * k.val + 64, 128] := k0_off7_eq k 2
  have o3 : k0_off7 k 96#32 = ![0, 256 * k.val + 96, 128] := k0_off7_eq k 3
  have o4 : k0_off7 k 128#32 = ![0, 256 * k.val + 128, 128] := k0_off7_eq k 4
  have o5 : k0_off7 k 160#32 = ![0, 256 * k.val + 160, 128] := k0_off7_eq k 5
  have o6 : k0_off7 k 192#32 = ![0, 256 * k.val + 192, 128] := k0_off7_eq k 6
  have o7 : k0_off7 k 224#32 = ![0, 256 * k.val + 224, 128] := k0_off7_eq k 7
  have s0 : k0_off8 k 0#32 = ![1, 256 * k.val + 0, 0] := k0_off8_eq k 0
  have s1 : k0_off8 k 32#32 = ![1, 256 * k.val + 32, 0] := k0_off8_eq k 1
  have s2 : k0_off8 k 64#32 = ![1, 256 * k.val + 64, 0] := k0_off8_eq k 2
  have s3 : k0_off8 k 96#32 = ![1, 256 * k.val + 96, 0] := k0_off8_eq k 3
  have s4 : k0_off8 k 128#32 = ![1, 256 * k.val + 128, 0] := k0_off8_eq k 4
  have s5 : k0_off8 k 160#32 = ![1, 256 * k.val + 160, 0] := k0_off8_eq k 5
  have s6 : k0_off8 k 192#32 = ![1, 256 * k.val + 192, 0] := k0_off8_eq k 6
  have s7 : k0_off8 k 224#32 = ![1, 256 * k.val + 224, 0] := k0_off8_eq k 7
  unfold trip_k0_t5
  dsimp only
  simp only [List.cons_append, List.nil_append]
  rw [band_f32 (V := fun _ r l => tl 1 (fun r c => at3 (arg4.view.read (Elt Ideal) X4) 0 r c * dfac (at3 (arg1.view.read (Elt Ideal) X1) 0 r c * A c + B c)) r l) (ho := s7), band_f32 (V := fun _ r l => tl 1 (fun r c => at3 (arg4.view.read (Elt Ideal) X4) 0 r c * dfac (at3 (arg1.view.read (Elt Ideal) X1) 0 r c * A c + B c)) r l) (ho := s6), band_f32 (V := fun _ r l => tl 1 (fun r c => at3 (arg4.view.read (Elt Ideal) X4) 0 r c * dfac (at3 (arg1.view.read (Elt Ideal) X1) 0 r c * A c + B c)) r l) (ho := s5), band_f32 (V := fun _ r l => tl 1 (fun r c => at3 (arg4.view.read (Elt Ideal) X4) 0 r c * dfac (at3 (arg1.view.read (Elt Ideal) X1) 0 r c * A c + B c)) r l) (ho := s4), band_f32 (V := fun _ r l => tl 1 (fun r c => at3 (arg4.view.read (Elt Ideal) X4) 0 r c * dfac (at3 (arg1.view.read (Elt Ideal) X1) 0 r c * A c + B c)) r l) (ho := s3), band_f32 (V := fun _ r l => tl 1 (fun r c => at3 (arg4.view.read (Elt Ideal) X4) 0 r c * dfac (at3 (arg1.view.read (Elt Ideal) X1) 0 r c * A c + B c)) r l) (ho := s2), band_f32 (V := fun _ r l => tl 1 (fun r c => at3 (arg4.view.read (Elt Ideal) X4) 0 r c * dfac (at3 (arg1.view.read (Elt Ideal) X1) 0 r c * A c + B c)) r l) (ho := s1), band_f32 (V := fun _ r l => tl 1 (fun r c => at3 (arg4.view.read (Elt Ideal) X4) 0 r c * dfac (at3 (arg1.view.read (Elt Ideal) X1) 0 r c * A c + B c)) r l) (ho := s0)]
  · split_ifs <;> first | rfl | (exfalso; omega)
  all_goals
    intro i j l
    simp only [tl1, Nat.zero_add]
    pointwise [k0_pay385, k0_pay386, trip_k0_t5.sl.arg14, trip_k0_t5.sl.cst_110, trip_k0_t5.sl.cst_112, trip_k0_t5.sl.r, trip_k0_t5.sl.v299, trip_k0_t5.sl.v301, trip_k0_t5.sl.v302, trip_k0_t5.sl.v304, trip_k0_t5.sl.v305, trip_k0_t5.sl.v308, trip_k0_t5.sl.v309, trip_k0_t5.sl.v310, trip_k0_t5.sl.v311, trip_k0_t5.sl.v312, trip_k0_t5.sl.v313, trip_k0_t5.sl.v314, trip_k0_t5.sl.v315, trip_k0_t5.sl.v317, trip_k0_t5.sl.v318, trip_k0_t5.sl.v319, trip_k0_t5.sl.v320, trip_k0_t5.sl.v321, trip_k0_t5.sl.v322, trip_k0_t5.sl.v323, trip_k0_t5.sl.v324, trip_k0_t5.sl.v325, trip_k0_t5.sl.v326, trip_k0_t5.sl.v329, trip_k0_t5.sl.v330, trip_k0_t5.sl.v333, trip_k0_t5.sl.v334, trip_k0_t5.sl.v337, trip_k0_t5.sl.v338, trip_k0_t5.sl.v340, trip_k0_t5.sl.v341, trip_k0_t5.sl.v344, trip_k0_t5.sl.v345, trip_k0_t5.sl.v346, trip_k0_t5.sl.v347, trip_k0_t5.sl.v348, trip_k0_t5.sl.v350, trip_k0_t5.sl.v351, trip_k0_t5.sl.v353, trip_k0_t5.sl.v354, trip_k0_t5.sl.v355, trip_k0_t5.sl.v356, trip_k0_t5.sl.v357, trip_k0_t5.sl.v358, trip_k0_t5.sl.v359, trip_k0_t5.sl.v360, trip_k0_t5.sl.v361, trip_k0_t5.sl.v362, trip_k0_t5.sl.v364, trip_k0_t5.sl.v365, trip_k0_t5.sl.v366, trip_k0_t5.sl.v368, trip_k0_t5.sl.v369, trip_k0_t5.sl.v370, trip_k0_t5.sl.v373, trip_k0_t5.sl.v374, trip_k0_t5.sl.v376, trip_k0_t5.sl.v377, trip_k0_t5.sl.v380, trip_k0_t5.sl.v381, trip_k0_t5.sl.v382, trip_k0_t5.sl.v383, trip_k0_t5.sl.v384, trip_k0_t5.sl.v386, trip_k0_t5.sl.v387, trip_k0_t5.sl.v389, trip_k0_t5.sl.v390, trip_k0_t5.sl.v391, trip_k0_t5.sl.v392, trip_k0_t5.sl.v393, trip_k0_t5.sl.v394, trip_k0_t5.sl.v395, trip_k0_t5.sl.v396, trip_k0_t5.sl.v397, trip_k0_t5.sl.v398, trip_k0_t5.sl.v400, trip_k0_t5.sl.v401, trip_k0_t5.sl.v402, trip_k0_t5.sl.v404, trip_k0_t5.sl.v405, trip_k0_t5.sl.v406, trip_k0_t5.sl.v409, trip_k0_t5.sl.v410, trip_k0_t5.sl.v412, trip_k0_t5.sl.v413, trip_k0_t5.sl.v416, trip_k0_t5.sl.v417, trip_k0_t5.sl.v418, trip_k0_t5.sl.v419, trip_k0_t5.sl.v420, trip_k0_t5.sl.v422, trip_k0_t5.sl.v423, trip_k0_t5.sl.v425, trip_k0_t5.sl.v426, trip_k0_t5.sl.v427, trip_k0_t5.sl.v428, trip_k0_t5.sl.v429, trip_k0_t5.sl.v430, trip_k0_t5.sl.v431, trip_k0_t5.sl.v432, trip_k0_t5.sl.v433, trip_k0_t5.sl.v434, trip_k0_t5.sl.v436, trip_k0_t5.sl.v437, trip_k0_t5.sl.v438, trip_k0_t5.sl.v440, trip_k0_t5.sl.v441, trip_k0_t5.sl.v442, trip_k0_t5.sl.v445, trip_k0_t5.sl.v446, trip_k0_t5.sl.v448, trip_k0_t5.sl.v449, trip_k0_t5.sl.v452, trip_k0_t5.sl.v453, trip_k0_t5.sl.v454, trip_k0_t5.sl.v455, trip_k0_t5.sl.v456, trip_k0_t5.sl.v458, trip_k0_t5.sl.v459, trip_k0_t5.sl.v461, trip_k0_t5.sl.v462, trip_k0_t5.sl.v463, trip_k0_t5.sl.v464, trip_k0_t5.sl.v465, trip_k0_t5.sl.v466, trip_k0_t5.sl.v467, trip_k0_t5.sl.v468, trip_k0_t5.sl.v469, trip_k0_t5.sl.v470, trip_k0_t5.sl.v472, trip_k0_t5.sl.v473, trip_k0_t5.sl.v474, trip_k0_t5.sl.v476, trip_k0_t5.sl.v477, trip_k0_t5.sl.v478, trip_k0_t5.sl.v481, trip_k0_t5.sl.v482, trip_k0_t5.sl.v484, trip_k0_t5.sl.v485, trip_k0_t5.sl.v488, trip_k0_t5.sl.v489, trip_k0_t5.sl.v490, trip_k0_t5.sl.v491, trip_k0_t5.sl.v492, trip_k0_t5.sl.v494, trip_k0_t5.sl.v495, trip_k0_t5.sl.v497, trip_k0_t5.sl.v498, trip_k0_t5.sl.v499, trip_k0_t5.sl.v500, trip_k0_t5.sl.v501, trip_k0_t5.sl.v502, trip_k0_t5.sl.v503, trip_k0_t5.sl.v504, trip_k0_t5.sl.v505, trip_k0_t5.sl.v506, trip_k0_t5.sl.v508, trip_k0_t5.sl.v509, trip_k0_t5.sl.v510, trip_k0_t5.sl.v512, trip_k0_t5.sl.v513, trip_k0_t5.sl.v514, trip_k0_t5.sl.v517, trip_k0_t5.sl.v518, trip_k0_t5.sl.v520, trip_k0_t5.sl.v521, trip_k0_t5.sl.v524, trip_k0_t5.sl.v525, trip_k0_t5.sl.v526, trip_k0_t5.sl.v527, trip_k0_t5.sl.v528, trip_k0_t5.sl.v530, trip_k0_t5.sl.v531, trip_k0_t5.sl.v533, trip_k0_t5.sl.v534, trip_k0_t5.sl.v535, trip_k0_t5.sl.v536, trip_k0_t5.sl.v537, trip_k0_t5.sl.v538, trip_k0_t5.sl.v539, trip_k0_t5.sl.v540, trip_k0_t5.sl.v541, trip_k0_t5.sl.v542, trip_k0_t5.sl.v544, trip_k0_t5.sl.v545, trip_k0_t5.sl.v546, trip_k0_t5.sl.v548, trip_k0_t5.sl.v549, trip_k0_t5.sl.v550, trip_k0_t5.sl.v553, trip_k0_t5.sl.v554, trip_k0_t5.sl.v556, trip_k0_t5.sl.v557, trip_k0_t5.sl.v560, trip_k0_t5.sl.v561, trip_k0_t5.sl.v562, trip_k0_t5.sl.v563, trip_k0_t5.sl.v564, trip_k0_t5.sl.v566, trip_k0_t5.sl.v567, trip_k0_t5.sl.v569, trip_k0_t5.sl.v570, trip_k0_t5.sl.v571, trip_k0_t5.sl.v572, trip_k0_t5.sl.v573, trip_k0_t5.sl.v574, trip_k0_t5.sl.v575, trip_k0_t5.sl.v576, trip_k0_t5.sl.v577, trip_k0_t5.sl.v578, trip_k0_t5.sl.v580, trip_k0_t5.sl.v581, trip_k0_t5.sl.v582, trip_k0_t5.sl.v584]
    simp only [readAt_bf16, readAt_fp8e5m2, h78, h80, o0, o1, o2, o3, o4, o5, o6, o7, Matrix.cons_val, Fin.isValue, Fin.val_zero, Fin.val_one, Nat.zero_add, Nat.add_zero]
    rfl

end Cert.KernelIdeal.Hand
-- ==== Proof.VT6.lean ====
module

public import proofs.«01_k».proof.Proof.Gen.KernelIdeal.Loops
public import proofs.«01_k».proof.Proof.VBase

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X1 : BufTy.Contents (Elt Ideal) arg1.view.ty)

set_option maxHeartbeats 2000000
variable (X4 : BufTy.Contents (Elt Ideal) arg4.view.ty)

/-- One trip of the middle loop over column tile 2 adds 32 sublane rows to the running sums of the gradient at the normalised
    value and of its product with x. -/
theorem t6_step [Named Ideal] (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32)  (k : Fin k0_t6_loop.trips) (acc : FVec Ideal S8x128 .f32 × FVec Ideal S8x128 .f32) (a : Fin 8) (l : Fin 128) :
    ((trip_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 k).1 acc).1 (ix2 a l) = acc.1 (ix2 a l) + ∑ q ∈ Finset.range 32, tl 2 (fun r c => at3 (arg4.view.read (Elt Ideal) X4) 0 r c * dfac (at3 (arg1.view.read (Elt Ideal) X1) 0 r c * at2 v65 0 c + at2 v67 0 c)) (256 * k.val + (8 * q + a.val)) l.val
    ∧ ((trip_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 k).1 acc).2 (ix2 a l) = acc.2 (ix2 a l) + ∑ q ∈ Finset.range 32, tl 2 (fun r c => (at3 (arg4.view.read (Elt Ideal) X4) 0 r c * dfac (at3 (arg1.view.read (Elt Ideal) X1) 0 r c * at2 v65 0 c + at2 v67 0 c)) * at3 (arg1.view.read (Elt Ideal) X1) 0 r c) (256 * k.val + (8 * q + a.val)) l.val := by
  have o0 : k0_off9 k 0#32 = ![0, 256 * k.val + 0, 256] := k0_off9_eq k 0
  have o1 : k0_off9 k 32#32 = ![0, 256 * k.val + 32, 256] := k0_off9_eq k 1
  have o2 : k0_off9 k 64#32 = ![0, 256 * k.val + 64, 256] := k0_off9_eq k 2
  have o3 : k0_off9 k 96#32 = ![0, 256 * k.val + 96, 256] := k0_off9_eq k 3
  have o4 : k0_off9 k 128#32 = ![0, 256 * k.val + 128, 256] := k0_off9_eq k 4
  have o5 : k0_off9 k 160#32 = ![0, 256 * k.val + 160, 256] := k0_off9_eq k 5
  have o6 : k0_off9 k 192#32 = ![0, 256 * k.val + 192, 256] := k0_off9_eq k 6
  have o7 : k0_off9 k 224#32 = ![0, 256 * k.val + 224, 256] := k0_off9_eq k 7
  have p0 : k0_off10 k 0#32 = ![0, 256 * k.val + 0 + 2048, 256] := k0_off10_eq k 0
  have p1 : k0_off10 k 32#32 = ![0, 256 * k.val + 32 + 2048, 256] := k0_off10_eq k 1
  have p2 : k0_off10 k 64#32 = ![0, 256 * k.val + 64 + 2048, 256] := k0_off10_eq k 2
  have p3 : k0_off10 k 96#32 = ![0, 256 * k.val + 96 + 2048, 256] := k0_off10_eq k 3
  have p4 : k0_off10 k 128#32 = ![0, 256 * k.val + 128 + 2048, 256] := k0_off10_eq k 4
  have p5 : k0_off10 k 160#32 = ![0, 256 * k.val + 160 + 2048, 256] := k0_off10_eq k 5
  have p6 : k0_off10 k 192#32 = ![0, 256 * k.val + 192 + 2048, 256] := k0_off10_eq k 6
  have p7 : k0_off10 k 224#32 = ![0, 256 * k.val + 224 + 2048, 256] := k0_off10_eq k 7
  by_cases hl : l.val < 64
  · simp only [tl2_lt _ _ _ hl]
    unfold trip_k0_t6
    dsimp only
    constructor
    all_goals
      pointwise [k0_pay387, k0_pay388, k0_pay389, trip_k0_t6.sl.arg14, trip_k0_t6.sl.cst_115, trip_k0_t6.sl.cst_117, trip_k0_t6.sl.v299, trip_k0_t6.sl.v301, trip_k0_t6.sl.v302, trip_k0_t6.sl.v304, trip_k0_t6.sl.v305, trip_k0_t6.sl.v306, trip_k0_t6.sl.v308, trip_k0_t6.sl.v309, trip_k0_t6.sl.v310, trip_k0_t6.sl.v313, trip_k0_t6.sl.v317, trip_k0_t6.sl.v318, trip_k0_t6.sl.v319, trip_k0_t6.sl.v320, trip_k0_t6.sl.v321, trip_k0_t6.sl.v322, trip_k0_t6.sl.v323, trip_k0_t6.sl.v324, trip_k0_t6.sl.v325, trip_k0_t6.sl.v327, trip_k0_t6.sl.v328, trip_k0_t6.sl.v329, trip_k0_t6.sl.v330, trip_k0_t6.sl.v331, trip_k0_t6.sl.v332, trip_k0_t6.sl.v333, trip_k0_t6.sl.v334, trip_k0_t6.sl.v335, trip_k0_t6.sl.v336, trip_k0_t6.sl.v339, trip_k0_t6.sl.v340, trip_k0_t6.sl.v343, trip_k0_t6.sl.v344, trip_k0_t6.sl.v347, trip_k0_t6.sl.v348, trip_k0_t6.sl.v350, trip_k0_t6.sl.v351, trip_k0_t6.sl.v352, trip_k0_t6.sl.v354, trip_k0_t6.sl.v355, trip_k0_t6.sl.v356, trip_k0_t6.sl.v359, trip_k0_t6.sl.v363, trip_k0_t6.sl.v364, trip_k0_t6.sl.v365, trip_k0_t6.sl.v366, trip_k0_t6.sl.v367, trip_k0_t6.sl.v368, trip_k0_t6.sl.v370, trip_k0_t6.sl.v371, trip_k0_t6.sl.v373, trip_k0_t6.sl.v374, trip_k0_t6.sl.v375, trip_k0_t6.sl.v376, trip_k0_t6.sl.v377, trip_k0_t6.sl.v378, trip_k0_t6.sl.v379, trip_k0_t6.sl.v380, trip_k0_t6.sl.v381, trip_k0_t6.sl.v382, trip_k0_t6.sl.v384, trip_k0_t6.sl.v385, trip_k0_t6.sl.v386, trip_k0_t6.sl.v388, trip_k0_t6.sl.v389, trip_k0_t6.sl.v390, trip_k0_t6.sl.v393, trip_k0_t6.sl.v394, trip_k0_t6.sl.v396, trip_k0_t6.sl.v397, trip_k0_t6.sl.v398, trip_k0_t6.sl.v400, trip_k0_t6.sl.v401, trip_k0_t6.sl.v402, trip_k0_t6.sl.v405, trip_k0_t6.sl.v409, trip_k0_t6.sl.v410, trip_k0_t6.sl.v411, trip_k0_t6.sl.v412, trip_k0_t6.sl.v413, trip_k0_t6.sl.v414, trip_k0_t6.sl.v416, trip_k0_t6.sl.v417, trip_k0_t6.sl.v419, trip_k0_t6.sl.v420, trip_k0_t6.sl.v421, trip_k0_t6.sl.v422, trip_k0_t6.sl.v423, trip_k0_t6.sl.v424, trip_k0_t6.sl.v425, trip_k0_t6.sl.v426, trip_k0_t6.sl.v427, trip_k0_t6.sl.v428, trip_k0_t6.sl.v430, trip_k0_t6.sl.v431, trip_k0_t6.sl.v432, trip_k0_t6.sl.v434, trip_k0_t6.sl.v435, trip_k0_t6.sl.v436, trip_k0_t6.sl.v439, trip_k0_t6.sl.v440, trip_k0_t6.sl.v442, trip_k0_t6.sl.v443, trip_k0_t6.sl.v444, trip_k0_t6.sl.v446, trip_k0_t6.sl.v447, trip_k0_t6.sl.v448, trip_k0_t6.sl.v451, trip_k0_t6.sl.v455, trip_k0_t6.sl.v456, trip_k0_t6.sl.v457, trip_k0_t6.sl.v458, trip_k0_t6.sl.v459, trip_k0_t6.sl.v460, trip_k0_t6.sl.v462, trip_k0_t6.sl.v463, trip_k0_t6.sl.v465, trip_k0_t6.sl.v466, trip_k0_t6.sl.v467, trip_k0_t6.sl.v468, trip_k0_t6.sl.v469, trip_k0_t6.sl.v470, trip_k0_t6.sl.v471, trip_k0_t6.sl.v472, trip_k0_t6.sl.v473, trip_k0_t6.sl.v474, trip_k0_t6.sl.v476, trip_k0_t6.sl.v477, trip_k0_t6.sl.v478, trip_k0_t6.sl.v480, trip_k0_t6.sl.v481, trip_k0_t6.sl.v482, trip_k0_t6.sl.v485, trip_k0_t6.sl.v486, trip_k0_t6.sl.v488, trip_k0_t6.sl.v489, trip_k0_t6.sl.v490, trip_k0_t6.sl.v492, trip_k0_t6.sl.v493, trip_k0_t6.sl.v494, trip_k0_t6.sl.v497, trip_k0_t6.sl.v501, trip_k0_t6.sl.v502, trip_k0_t6.sl.v503, trip_k0_t6.sl.v504, trip_k0_t6.sl.v505, trip_k0_t6.sl.v506, trip_k0_t6.sl.v508, trip_k0_t6.sl.v509, trip_k0_t6.sl.v511, trip_k0_t6.sl.v512, trip_k0_t6.sl.v513, trip_k0_t6.sl.v514, trip_k0_t6.sl.v515, trip_k0_t6.sl.v516, trip_k0_t6.sl.v517, trip_k0_t6.sl.v518, trip_k0_t6.sl.v519, trip_k0_t6.sl.v520, trip_k0_t6.sl.v522, trip_k0_t6.sl.v523, trip_k0_t6.sl.v524, trip_k0_t6.sl.v526, trip_k0_t6.sl.v527, trip_k0_t6.sl.v528, trip_k0_t6.sl.v531, trip_k0_t6.sl.v532, trip_k0_t6.sl.v534, trip_k0_t6.sl.v535, trip_k0_t6.sl.v536, trip_k0_t6.sl.v538, trip_k0_t6.sl.v539, trip_k0_t6.sl.v540, trip_k0_t6.sl.v543, trip_k0_t6.sl.v547, trip_k0_t6.sl.v548, trip_k0_t6.sl.v549, trip_k0_t6.sl.v550, trip_k0_t6.sl.v551, trip_k0_t6.sl.v552, trip_k0_t6.sl.v554, trip_k0_t6.sl.v555, trip_k0_t6.sl.v557, trip_k0_t6.sl.v558, trip_k0_t6.sl.v559, trip_k0_t6.sl.v560, trip_k0_t6.sl.v561, trip_k0_t6.sl.v562, trip_k0_t6.sl.v563, trip_k0_t6.sl.v564, trip_k0_t6.sl.v565, trip_k0_t6.sl.v566, trip_k0_t6.sl.v568, trip_k0_t6.sl.v569, trip_k0_t6.sl.v570, trip_k0_t6.sl.v572, trip_k0_t6.sl.v573, trip_k0_t6.sl.v574, trip_k0_t6.sl.v577, trip_k0_t6.sl.v578, trip_k0_t6.sl.v580, trip_k0_t6.sl.v581, trip_k0_t6.sl.v582, trip_k0_t6.sl.v584, trip_k0_t6.sl.v585, trip_k0_t6.sl.v586, trip_k0_t6.sl.v589, trip_k0_t6.sl.v593, trip_k0_t6.sl.v594, trip_k0_t6.sl.v595, trip_k0_t6.sl.v596, trip_k0_t6.sl.v597, trip_k0_t6.sl.v598, trip_k0_t6.sl.v600, trip_k0_t6.sl.v601, trip_k0_t6.sl.v603, trip_k0_t6.sl.v604, trip_k0_t6.sl.v605, trip_k0_t6.sl.v606, trip_k0_t6.sl.v607, trip_k0_t6.sl.v608, trip_k0_t6.sl.v609, trip_k0_t6.sl.v610, trip_k0_t6.sl.v611, trip_k0_t6.sl.v612, trip_k0_t6.sl.v614, trip_k0_t6.sl.v615, trip_k0_t6.sl.v616, trip_k0_t6.sl.v618, trip_k0_t6.sl.v619, trip_k0_t6.sl.v620, trip_k0_t6.sl.v623, trip_k0_t6.sl.v624, trip_k0_t6.sl.v626, trip_k0_t6.sl.v627, trip_k0_t6.sl.v628, trip_k0_t6.sl.v630, trip_k0_t6.sl.v631, trip_k0_t6.sl.v632, trip_k0_t6.sl.v635, trip_k0_t6.sl.v639, trip_k0_t6.sl.v640, trip_k0_t6.sl.v641, trip_k0_t6.sl.v642, trip_k0_t6.sl.v643, trip_k0_t6.sl.v644, trip_k0_t6.sl.v646, trip_k0_t6.sl.v647, trip_k0_t6.sl.v649, trip_k0_t6.sl.v650, trip_k0_t6.sl.v651, trip_k0_t6.sl.v652, trip_k0_t6.sl.v653, trip_k0_t6.sl.v654, trip_k0_t6.sl.v655, trip_k0_t6.sl.v656, trip_k0_t6.sl.v657, trip_k0_t6.sl.v658, trip_k0_t6.sl.v660, trip_k0_t6.sl.v661, trip_k0_t6.sl.v662]
      simp only [Fin.sum_univ_four, readAt_bf16, readAt_fp8e5m2, at2_ix v65, at2_ix v67, o0, o1, o2, o3, o4, o5, o6, o7, p0, p1, p2, p3, p4, p5, p6, p7, Matrix.cons_val, Fin.isValue, Fin.val_zero, Fin.val_one, Fin.val_two, Nat.zero_add, hl, ↓reduceDIte]
    · exact sum8 (fun r => (at3 (arg4.view.read (Elt Ideal) X4) 0 r (256 + l.val) * dfac (at3 (arg1.view.read (Elt Ideal) X1) 0 r (256 + l.val) * at2 v65 0 (256 + l.val) + at2 v67 0 (256 + l.val)))) (256 * k.val) a.val (acc.1 (ix2 a l))
    · exact sum8 (fun r => (at3 (arg4.view.read (Elt Ideal) X4) 0 r (256 + l.val) * dfac (at3 (arg1.view.read (Elt Ideal) X1) 0 r (256 + l.val) * at2 v65 0 (256 + l.val) + at2 v67 0 (256 + l.val))) * at3 (arg1.view.read (Elt Ideal) X1) 0 r (256 + l.val)) (256 * k.val) a.val (acc.2 (ix2 a l))
  · simp only [tl2_ge _ _ _ hl]
    unfold trip_k0_t6
    dsimp only
    constructor
    all_goals
      pointwise [k0_pay387, k0_pay388, k0_pay389, trip_k0_t6.sl.arg14, trip_k0_t6.sl.cst_115, trip_k0_t6.sl.cst_117, trip_k0_t6.sl.v299, trip_k0_t6.sl.v301, trip_k0_t6.sl.v302, trip_k0_t6.sl.v304, trip_k0_t6.sl.v305, trip_k0_t6.sl.v306, trip_k0_t6.sl.v308, trip_k0_t6.sl.v309, trip_k0_t6.sl.v310, trip_k0_t6.sl.v313, trip_k0_t6.sl.v317, trip_k0_t6.sl.v318, trip_k0_t6.sl.v319, trip_k0_t6.sl.v320, trip_k0_t6.sl.v321, trip_k0_t6.sl.v322, trip_k0_t6.sl.v323, trip_k0_t6.sl.v324, trip_k0_t6.sl.v325, trip_k0_t6.sl.v327, trip_k0_t6.sl.v328, trip_k0_t6.sl.v329, trip_k0_t6.sl.v330, trip_k0_t6.sl.v331, trip_k0_t6.sl.v332, trip_k0_t6.sl.v333, trip_k0_t6.sl.v334, trip_k0_t6.sl.v335, trip_k0_t6.sl.v336, trip_k0_t6.sl.v339, trip_k0_t6.sl.v340, trip_k0_t6.sl.v343, trip_k0_t6.sl.v344, trip_k0_t6.sl.v347, trip_k0_t6.sl.v348, trip_k0_t6.sl.v350, trip_k0_t6.sl.v351, trip_k0_t6.sl.v352, trip_k0_t6.sl.v354, trip_k0_t6.sl.v355, trip_k0_t6.sl.v356, trip_k0_t6.sl.v359, trip_k0_t6.sl.v363, trip_k0_t6.sl.v364, trip_k0_t6.sl.v365, trip_k0_t6.sl.v366, trip_k0_t6.sl.v367, trip_k0_t6.sl.v368, trip_k0_t6.sl.v370, trip_k0_t6.sl.v371, trip_k0_t6.sl.v373, trip_k0_t6.sl.v374, trip_k0_t6.sl.v375, trip_k0_t6.sl.v376, trip_k0_t6.sl.v377, trip_k0_t6.sl.v378, trip_k0_t6.sl.v379, trip_k0_t6.sl.v380, trip_k0_t6.sl.v381, trip_k0_t6.sl.v382, trip_k0_t6.sl.v384, trip_k0_t6.sl.v385, trip_k0_t6.sl.v386, trip_k0_t6.sl.v388, trip_k0_t6.sl.v389, trip_k0_t6.sl.v390, trip_k0_t6.sl.v393, trip_k0_t6.sl.v394, trip_k0_t6.sl.v396, trip_k0_t6.sl.v397, trip_k0_t6.sl.v398, trip_k0_t6.sl.v400, trip_k0_t6.sl.v401, trip_k0_t6.sl.v402, trip_k0_t6.sl.v405, trip_k0_t6.sl.v409, trip_k0_t6.sl.v410, trip_k0_t6.sl.v411, trip_k0_t6.sl.v412, trip_k0_t6.sl.v413, trip_k0_t6.sl.v414, trip_k0_t6.sl.v416, trip_k0_t6.sl.v417, trip_k0_t6.sl.v419, trip_k0_t6.sl.v420, trip_k0_t6.sl.v421, trip_k0_t6.sl.v422, trip_k0_t6.sl.v423, trip_k0_t6.sl.v424, trip_k0_t6.sl.v425, trip_k0_t6.sl.v426, trip_k0_t6.sl.v427, trip_k0_t6.sl.v428, trip_k0_t6.sl.v430, trip_k0_t6.sl.v431, trip_k0_t6.sl.v432, trip_k0_t6.sl.v434, trip_k0_t6.sl.v435, trip_k0_t6.sl.v436, trip_k0_t6.sl.v439, trip_k0_t6.sl.v440, trip_k0_t6.sl.v442, trip_k0_t6.sl.v443, trip_k0_t6.sl.v444, trip_k0_t6.sl.v446, trip_k0_t6.sl.v447, trip_k0_t6.sl.v448, trip_k0_t6.sl.v451, trip_k0_t6.sl.v455, trip_k0_t6.sl.v456, trip_k0_t6.sl.v457, trip_k0_t6.sl.v458, trip_k0_t6.sl.v459, trip_k0_t6.sl.v460, trip_k0_t6.sl.v462, trip_k0_t6.sl.v463, trip_k0_t6.sl.v465, trip_k0_t6.sl.v466, trip_k0_t6.sl.v467, trip_k0_t6.sl.v468, trip_k0_t6.sl.v469, trip_k0_t6.sl.v470, trip_k0_t6.sl.v471, trip_k0_t6.sl.v472, trip_k0_t6.sl.v473, trip_k0_t6.sl.v474, trip_k0_t6.sl.v476, trip_k0_t6.sl.v477, trip_k0_t6.sl.v478, trip_k0_t6.sl.v480, trip_k0_t6.sl.v481, trip_k0_t6.sl.v482, trip_k0_t6.sl.v485, trip_k0_t6.sl.v486, trip_k0_t6.sl.v488, trip_k0_t6.sl.v489, trip_k0_t6.sl.v490, trip_k0_t6.sl.v492, trip_k0_t6.sl.v493, trip_k0_t6.sl.v494, trip_k0_t6.sl.v497, trip_k0_t6.sl.v501, trip_k0_t6.sl.v502, trip_k0_t6.sl.v503, trip_k0_t6.sl.v504, trip_k0_t6.sl.v505, trip_k0_t6.sl.v506, trip_k0_t6.sl.v508, trip_k0_t6.sl.v509, trip_k0_t6.sl.v511, trip_k0_t6.sl.v512, trip_k0_t6.sl.v513, trip_k0_t6.sl.v514, trip_k0_t6.sl.v515, trip_k0_t6.sl.v516, trip_k0_t6.sl.v517, trip_k0_t6.sl.v518, trip_k0_t6.sl.v519, trip_k0_t6.sl.v520, trip_k0_t6.sl.v522, trip_k0_t6.sl.v523, trip_k0_t6.sl.v524, trip_k0_t6.sl.v526, trip_k0_t6.sl.v527, trip_k0_t6.sl.v528, trip_k0_t6.sl.v531, trip_k0_t6.sl.v532, trip_k0_t6.sl.v534, trip_k0_t6.sl.v535, trip_k0_t6.sl.v536, trip_k0_t6.sl.v538, trip_k0_t6.sl.v539, trip_k0_t6.sl.v540, trip_k0_t6.sl.v543, trip_k0_t6.sl.v547, trip_k0_t6.sl.v548, trip_k0_t6.sl.v549, trip_k0_t6.sl.v550, trip_k0_t6.sl.v551, trip_k0_t6.sl.v552, trip_k0_t6.sl.v554, trip_k0_t6.sl.v555, trip_k0_t6.sl.v557, trip_k0_t6.sl.v558, trip_k0_t6.sl.v559, trip_k0_t6.sl.v560, trip_k0_t6.sl.v561, trip_k0_t6.sl.v562, trip_k0_t6.sl.v563, trip_k0_t6.sl.v564, trip_k0_t6.sl.v565, trip_k0_t6.sl.v566, trip_k0_t6.sl.v568, trip_k0_t6.sl.v569, trip_k0_t6.sl.v570, trip_k0_t6.sl.v572, trip_k0_t6.sl.v573, trip_k0_t6.sl.v574, trip_k0_t6.sl.v577, trip_k0_t6.sl.v578, trip_k0_t6.sl.v580, trip_k0_t6.sl.v581, trip_k0_t6.sl.v582, trip_k0_t6.sl.v584, trip_k0_t6.sl.v585, trip_k0_t6.sl.v586, trip_k0_t6.sl.v589, trip_k0_t6.sl.v593, trip_k0_t6.sl.v594, trip_k0_t6.sl.v595, trip_k0_t6.sl.v596, trip_k0_t6.sl.v597, trip_k0_t6.sl.v598, trip_k0_t6.sl.v600, trip_k0_t6.sl.v601, trip_k0_t6.sl.v603, trip_k0_t6.sl.v604, trip_k0_t6.sl.v605, trip_k0_t6.sl.v606, trip_k0_t6.sl.v607, trip_k0_t6.sl.v608, trip_k0_t6.sl.v609, trip_k0_t6.sl.v610, trip_k0_t6.sl.v611, trip_k0_t6.sl.v612, trip_k0_t6.sl.v614, trip_k0_t6.sl.v615, trip_k0_t6.sl.v616, trip_k0_t6.sl.v618, trip_k0_t6.sl.v619, trip_k0_t6.sl.v620, trip_k0_t6.sl.v623, trip_k0_t6.sl.v624, trip_k0_t6.sl.v626, trip_k0_t6.sl.v627, trip_k0_t6.sl.v628, trip_k0_t6.sl.v630, trip_k0_t6.sl.v631, trip_k0_t6.sl.v632, trip_k0_t6.sl.v635, trip_k0_t6.sl.v639, trip_k0_t6.sl.v640, trip_k0_t6.sl.v641, trip_k0_t6.sl.v642, trip_k0_t6.sl.v643, trip_k0_t6.sl.v644, trip_k0_t6.sl.v646, trip_k0_t6.sl.v647, trip_k0_t6.sl.v649, trip_k0_t6.sl.v650, trip_k0_t6.sl.v651, trip_k0_t6.sl.v652, trip_k0_t6.sl.v653, trip_k0_t6.sl.v654, trip_k0_t6.sl.v655, trip_k0_t6.sl.v656, trip_k0_t6.sl.v657, trip_k0_t6.sl.v658, trip_k0_t6.sl.v660, trip_k0_t6.sl.v661, trip_k0_t6.sl.v662]
      simp only [Fin.sum_univ_four, readAt_bf16, readAt_fp8e5m2, at2_ix v65, at2_ix v67, o0, o1, o2, o3, o4, o5, o6, o7, p0, p1, p2, p3, p4, p5, p6, p7, Matrix.cons_val, Fin.isValue, Fin.val_zero, Fin.val_one, Fin.val_two, Nat.zero_add, hl, ↓reduceDIte, Nat.add_right_comm _ 2048 _]
    · exact sum8 (fun r => (at3 (arg4.view.read (Elt Ideal) X4) 0 (r + 2048) (256 + (l.val - 64)) * dfac (at3 (arg1.view.read (Elt Ideal) X1) 0 (r + 2048) (256 + (l.val - 64)) * at2 v65 0 (256 + (l.val - 64)) + at2 v67 0 (256 + (l.val - 64))))) (256 * k.val) a.val (acc.1 (ix2 a l))
    · exact sum8 (fun r => (at3 (arg4.view.read (Elt Ideal) X4) 0 (r + 2048) (256 + (l.val - 64)) * dfac (at3 (arg1.view.read (Elt Ideal) X1) 0 (r + 2048) (256 + (l.val - 64)) * at2 v65 0 (256 + (l.val - 64)) + at2 v67 0 (256 + (l.val - 64)))) * at3 (arg1.view.read (Elt Ideal) X1) 0 (r + 2048) (256 + (l.val - 64))) (256 * k.val) a.val (acc.2 (ix2 a l))

/-- One trip of the middle loop over column tile 2 stores 256 rows of x into its scratch. -/
theorem t6_band11 [Named Ideal] (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32)  (k : Fin k0_t6_loop.trips) (acc : FVec Ideal S8x128 .f32 × FVec Ideal S8x128 .f32)
    (G : BufTy.Contents (Elt Ideal) arg11.view.ty) (L : List (View.Piece (Elt Ideal) S3x4096x128 .f32)) (t r l : ℕ) :
    at3 (arg11.view.read (Elt Ideal) (arg11.view.writes (Elt Ideal) G ((trip_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 k).2.1 acc ++ L))) t r l
      = if (2 ≤ t ∧ t < 2 + 1) ∧ (256 * k.val ≤ r ∧ r < 256 * k.val + 256) ∧ (0 ≤ l ∧ l < 0 + 128) then tl 2 (fun r c => at3 (arg1.view.read (Elt Ideal) X1) 0 r c) r l
        else at3 (arg11.view.read (Elt Ideal) (arg11.view.writes (Elt Ideal) G L)) t r l := by
  have o0 : k0_off9 k 0#32 = ![0, 256 * k.val + 0, 256] := k0_off9_eq k 0
  have o1 : k0_off9 k 32#32 = ![0, 256 * k.val + 32, 256] := k0_off9_eq k 1
  have o2 : k0_off9 k 64#32 = ![0, 256 * k.val + 64, 256] := k0_off9_eq k 2
  have o3 : k0_off9 k 96#32 = ![0, 256 * k.val + 96, 256] := k0_off9_eq k 3
  have o4 : k0_off9 k 128#32 = ![0, 256 * k.val + 128, 256] := k0_off9_eq k 4
  have o5 : k0_off9 k 160#32 = ![0, 256 * k.val + 160, 256] := k0_off9_eq k 5
  have o6 : k0_off9 k 192#32 = ![0, 256 * k.val + 192, 256] := k0_off9_eq k 6
  have o7 : k0_off9 k 224#32 = ![0, 256 * k.val + 224, 256] := k0_off9_eq k 7
  have p0 : k0_off10 k 0#32 = ![0, 256 * k.val + 0 + 2048, 256] := k0_off10_eq k 0
  have p1 : k0_off10 k 32#32 = ![0, 256 * k.val + 32 + 2048, 256] := k0_off10_eq k 1
  have p2 : k0_off10 k 64#32 = ![0, 256 * k.val + 64 + 2048, 256] := k0_off10_eq k 2
  have p3 : k0_off10 k 96#32 = ![0, 256 * k.val + 96 + 2048, 256] := k0_off10_eq k 3
  have p4 : k0_off10 k 128#32 = ![0, 256 * k.val + 128 + 2048, 256] := k0_off10_eq k 4
  have p5 : k0_off10 k 160#32 = ![0, 256 * k.val + 160 + 2048, 256] := k0_off10_eq k 5
  have p6 : k0_off10 k 192#32 = ![0, 256 * k.val + 192 + 2048, 256] := k0_off10_eq k 6
  have p7 : k0_off10 k 224#32 = ![0, 256 * k.val + 224 + 2048, 256] := k0_off10_eq k 7
  have s0 : k0_off11 k 0#32 = ![2, 256 * k.val + 0, 0] := k0_off11_eq k 0
  have s1 : k0_off11 k 32#32 = ![2, 256 * k.val + 32, 0] := k0_off11_eq k 1
  have s2 : k0_off11 k 64#32 = ![2, 256 * k.val + 64, 0] := k0_off11_eq k 2
  have s3 : k0_off11 k 96#32 = ![2, 256 * k.val + 96, 0] := k0_off11_eq k 3
  have s4 : k0_off11 k 128#32 = ![2, 256 * k.val + 128, 0] := k0_off11_eq k 4
  have s5 : k0_off11 k 160#32 = ![2, 256 * k.val + 160, 0] := k0_off11_eq k 5
  have s6 : k0_off11 k 192#32 = ![2, 256 * k.val + 192, 0] := k0_off11_eq k 6
  have s7 : k0_off11 k 224#32 = ![2, 256 * k.val + 224, 0] := k0_off11_eq k 7
  unfold trip_k0_t6
  dsimp only
  simp only [List.cons_append, List.nil_append]
  rw [band_f32 (V := fun _ r l => tl 2 (fun r c => at3 (arg1.view.read (Elt Ideal) X1) 0 r c) r l) (ho := s7), band_f32 (V := fun _ r l => tl 2 (fun r c => at3 (arg1.view.read (Elt Ideal) X1) 0 r c) r l) (ho := s6), band_f32 (V := fun _ r l => tl 2 (fun r c => at3 (arg1.view.read (Elt Ideal) X1) 0 r c) r l) (ho := s5), band_f32 (V := fun _ r l => tl 2 (fun r c => at3 (arg1.view.read (Elt Ideal) X1) 0 r c) r l) (ho := s4), band_f32 (V := fun _ r l => tl 2 (fun r c => at3 (arg1.view.read (Elt Ideal) X1) 0 r c) r l) (ho := s3), band_f32 (V := fun _ r l => tl 2 (fun r c => at3 (arg1.view.read (Elt Ideal) X1) 0 r c) r l) (ho := s2), band_f32 (V := fun _ r l => tl 2 (fun r c => at3 (arg1.view.read (Elt Ideal) X1) 0 r c) r l) (ho := s1), band_f32 (V := fun _ r l => tl 2 (fun r c => at3 (arg1.view.read (Elt Ideal) X1) 0 r c) r l) (ho := s0)]
  · split_ifs <;> first | rfl | (exfalso; omega)
  all_goals
    intro i j l
    by_cases hl : l.val < 64
    · simp only [Nat.zero_add, tl2_lt _ _ _ hl]
      pointwise [k0_pay387, k0_pay388, k0_pay389, trip_k0_t6.sl.arg14, trip_k0_t6.sl.cst_115, trip_k0_t6.sl.cst_117, trip_k0_t6.sl.v299, trip_k0_t6.sl.v301, trip_k0_t6.sl.v302, trip_k0_t6.sl.v304, trip_k0_t6.sl.v305, trip_k0_t6.sl.v306, trip_k0_t6.sl.v308, trip_k0_t6.sl.v309, trip_k0_t6.sl.v310, trip_k0_t6.sl.v313, trip_k0_t6.sl.v317, trip_k0_t6.sl.v318, trip_k0_t6.sl.v319, trip_k0_t6.sl.v320, trip_k0_t6.sl.v321, trip_k0_t6.sl.v322, trip_k0_t6.sl.v323, trip_k0_t6.sl.v324, trip_k0_t6.sl.v325, trip_k0_t6.sl.v327, trip_k0_t6.sl.v328, trip_k0_t6.sl.v329, trip_k0_t6.sl.v330, trip_k0_t6.sl.v331, trip_k0_t6.sl.v332, trip_k0_t6.sl.v333, trip_k0_t6.sl.v334, trip_k0_t6.sl.v335, trip_k0_t6.sl.v336, trip_k0_t6.sl.v339, trip_k0_t6.sl.v340, trip_k0_t6.sl.v343, trip_k0_t6.sl.v344, trip_k0_t6.sl.v347, trip_k0_t6.sl.v348, trip_k0_t6.sl.v350, trip_k0_t6.sl.v351, trip_k0_t6.sl.v352, trip_k0_t6.sl.v354, trip_k0_t6.sl.v355, trip_k0_t6.sl.v356, trip_k0_t6.sl.v359, trip_k0_t6.sl.v363, trip_k0_t6.sl.v364, trip_k0_t6.sl.v365, trip_k0_t6.sl.v366, trip_k0_t6.sl.v367, trip_k0_t6.sl.v368, trip_k0_t6.sl.v370, trip_k0_t6.sl.v371, trip_k0_t6.sl.v373, trip_k0_t6.sl.v374, trip_k0_t6.sl.v375, trip_k0_t6.sl.v376, trip_k0_t6.sl.v377, trip_k0_t6.sl.v378, trip_k0_t6.sl.v379, trip_k0_t6.sl.v380, trip_k0_t6.sl.v381, trip_k0_t6.sl.v382, trip_k0_t6.sl.v384, trip_k0_t6.sl.v385, trip_k0_t6.sl.v386, trip_k0_t6.sl.v388, trip_k0_t6.sl.v389, trip_k0_t6.sl.v390, trip_k0_t6.sl.v393, trip_k0_t6.sl.v394, trip_k0_t6.sl.v396, trip_k0_t6.sl.v397, trip_k0_t6.sl.v398, trip_k0_t6.sl.v400, trip_k0_t6.sl.v401, trip_k0_t6.sl.v402, trip_k0_t6.sl.v405, trip_k0_t6.sl.v409, trip_k0_t6.sl.v410, trip_k0_t6.sl.v411, trip_k0_t6.sl.v412, trip_k0_t6.sl.v413, trip_k0_t6.sl.v414, trip_k0_t6.sl.v416, trip_k0_t6.sl.v417, trip_k0_t6.sl.v419, trip_k0_t6.sl.v420, trip_k0_t6.sl.v421, trip_k0_t6.sl.v422, trip_k0_t6.sl.v423, trip_k0_t6.sl.v424, trip_k0_t6.sl.v425, trip_k0_t6.sl.v426, trip_k0_t6.sl.v427, trip_k0_t6.sl.v428, trip_k0_t6.sl.v430, trip_k0_t6.sl.v431, trip_k0_t6.sl.v432, trip_k0_t6.sl.v434, trip_k0_t6.sl.v435, trip_k0_t6.sl.v436, trip_k0_t6.sl.v439, trip_k0_t6.sl.v440, trip_k0_t6.sl.v442, trip_k0_t6.sl.v443, trip_k0_t6.sl.v444, trip_k0_t6.sl.v446, trip_k0_t6.sl.v447, trip_k0_t6.sl.v448, trip_k0_t6.sl.v451, trip_k0_t6.sl.v455, trip_k0_t6.sl.v456, trip_k0_t6.sl.v457, trip_k0_t6.sl.v458, trip_k0_t6.sl.v459, trip_k0_t6.sl.v460, trip_k0_t6.sl.v462, trip_k0_t6.sl.v463, trip_k0_t6.sl.v465, trip_k0_t6.sl.v466, trip_k0_t6.sl.v467, trip_k0_t6.sl.v468, trip_k0_t6.sl.v469, trip_k0_t6.sl.v470, trip_k0_t6.sl.v471, trip_k0_t6.sl.v472, trip_k0_t6.sl.v473, trip_k0_t6.sl.v474, trip_k0_t6.sl.v476, trip_k0_t6.sl.v477, trip_k0_t6.sl.v478, trip_k0_t6.sl.v480, trip_k0_t6.sl.v481, trip_k0_t6.sl.v482, trip_k0_t6.sl.v485, trip_k0_t6.sl.v486, trip_k0_t6.sl.v488, trip_k0_t6.sl.v489, trip_k0_t6.sl.v490, trip_k0_t6.sl.v492, trip_k0_t6.sl.v493, trip_k0_t6.sl.v494, trip_k0_t6.sl.v497, trip_k0_t6.sl.v501, trip_k0_t6.sl.v502, trip_k0_t6.sl.v503, trip_k0_t6.sl.v504, trip_k0_t6.sl.v505, trip_k0_t6.sl.v506, trip_k0_t6.sl.v508, trip_k0_t6.sl.v509, trip_k0_t6.sl.v511, trip_k0_t6.sl.v512, trip_k0_t6.sl.v513, trip_k0_t6.sl.v514, trip_k0_t6.sl.v515, trip_k0_t6.sl.v516, trip_k0_t6.sl.v517, trip_k0_t6.sl.v518, trip_k0_t6.sl.v519, trip_k0_t6.sl.v520, trip_k0_t6.sl.v522, trip_k0_t6.sl.v523, trip_k0_t6.sl.v524, trip_k0_t6.sl.v526, trip_k0_t6.sl.v527, trip_k0_t6.sl.v528, trip_k0_t6.sl.v531, trip_k0_t6.sl.v532, trip_k0_t6.sl.v534, trip_k0_t6.sl.v535, trip_k0_t6.sl.v536, trip_k0_t6.sl.v538, trip_k0_t6.sl.v539, trip_k0_t6.sl.v540, trip_k0_t6.sl.v543, trip_k0_t6.sl.v547, trip_k0_t6.sl.v548, trip_k0_t6.sl.v549, trip_k0_t6.sl.v550, trip_k0_t6.sl.v551, trip_k0_t6.sl.v552, trip_k0_t6.sl.v554, trip_k0_t6.sl.v555, trip_k0_t6.sl.v557, trip_k0_t6.sl.v558, trip_k0_t6.sl.v559, trip_k0_t6.sl.v560, trip_k0_t6.sl.v561, trip_k0_t6.sl.v562, trip_k0_t6.sl.v563, trip_k0_t6.sl.v564, trip_k0_t6.sl.v565, trip_k0_t6.sl.v566, trip_k0_t6.sl.v568, trip_k0_t6.sl.v569, trip_k0_t6.sl.v570, trip_k0_t6.sl.v572, trip_k0_t6.sl.v573, trip_k0_t6.sl.v574, trip_k0_t6.sl.v577, trip_k0_t6.sl.v578, trip_k0_t6.sl.v580, trip_k0_t6.sl.v581, trip_k0_t6.sl.v582, trip_k0_t6.sl.v584, trip_k0_t6.sl.v585, trip_k0_t6.sl.v586, trip_k0_t6.sl.v589, trip_k0_t6.sl.v593, trip_k0_t6.sl.v594, trip_k0_t6.sl.v595, trip_k0_t6.sl.v596, trip_k0_t6.sl.v597, trip_k0_t6.sl.v598, trip_k0_t6.sl.v600, trip_k0_t6.sl.v601, trip_k0_t6.sl.v603, trip_k0_t6.sl.v604, trip_k0_t6.sl.v605, trip_k0_t6.sl.v606, trip_k0_t6.sl.v607, trip_k0_t6.sl.v608, trip_k0_t6.sl.v609, trip_k0_t6.sl.v610, trip_k0_t6.sl.v611, trip_k0_t6.sl.v612, trip_k0_t6.sl.v614, trip_k0_t6.sl.v615, trip_k0_t6.sl.v616, trip_k0_t6.sl.v618, trip_k0_t6.sl.v619, trip_k0_t6.sl.v620, trip_k0_t6.sl.v623, trip_k0_t6.sl.v624, trip_k0_t6.sl.v626, trip_k0_t6.sl.v627, trip_k0_t6.sl.v628, trip_k0_t6.sl.v630, trip_k0_t6.sl.v631, trip_k0_t6.sl.v632, trip_k0_t6.sl.v635, trip_k0_t6.sl.v639, trip_k0_t6.sl.v640, trip_k0_t6.sl.v641, trip_k0_t6.sl.v642, trip_k0_t6.sl.v643, trip_k0_t6.sl.v644, trip_k0_t6.sl.v646, trip_k0_t6.sl.v647, trip_k0_t6.sl.v649, trip_k0_t6.sl.v650, trip_k0_t6.sl.v651, trip_k0_t6.sl.v652, trip_k0_t6.sl.v653, trip_k0_t6.sl.v654, trip_k0_t6.sl.v655, trip_k0_t6.sl.v656, trip_k0_t6.sl.v657, trip_k0_t6.sl.v658, trip_k0_t6.sl.v660, trip_k0_t6.sl.v661, trip_k0_t6.sl.v662]
      simp only [readAt_bf16, readAt_fp8e5m2, at2_ix v65, at2_ix v67, o0, o1, o2, o3, o4, o5, o6, o7, p0, p1, p2, p3, p4, p5, p6, p7, Matrix.cons_val, Fin.isValue, Fin.val_zero, Fin.val_one, Nat.zero_add, Nat.add_zero, hl, ↓reduceDIte]
    · simp only [Nat.zero_add, tl2_ge _ _ _ hl]
      pointwise [k0_pay387, k0_pay388, k0_pay389, trip_k0_t6.sl.arg14, trip_k0_t6.sl.cst_115, trip_k0_t6.sl.cst_117, trip_k0_t6.sl.v299, trip_k0_t6.sl.v301, trip_k0_t6.sl.v302, trip_k0_t6.sl.v304, trip_k0_t6.sl.v305, trip_k0_t6.sl.v306, trip_k0_t6.sl.v308, trip_k0_t6.sl.v309, trip_k0_t6.sl.v310, trip_k0_t6.sl.v313, trip_k0_t6.sl.v317, trip_k0_t6.sl.v318, trip_k0_t6.sl.v319, trip_k0_t6.sl.v320, trip_k0_t6.sl.v321, trip_k0_t6.sl.v322, trip_k0_t6.sl.v323, trip_k0_t6.sl.v324, trip_k0_t6.sl.v325, trip_k0_t6.sl.v327, trip_k0_t6.sl.v328, trip_k0_t6.sl.v329, trip_k0_t6.sl.v330, trip_k0_t6.sl.v331, trip_k0_t6.sl.v332, trip_k0_t6.sl.v333, trip_k0_t6.sl.v334, trip_k0_t6.sl.v335, trip_k0_t6.sl.v336, trip_k0_t6.sl.v339, trip_k0_t6.sl.v340, trip_k0_t6.sl.v343, trip_k0_t6.sl.v344, trip_k0_t6.sl.v347, trip_k0_t6.sl.v348, trip_k0_t6.sl.v350, trip_k0_t6.sl.v351, trip_k0_t6.sl.v352, trip_k0_t6.sl.v354, trip_k0_t6.sl.v355, trip_k0_t6.sl.v356, trip_k0_t6.sl.v359, trip_k0_t6.sl.v363, trip_k0_t6.sl.v364, trip_k0_t6.sl.v365, trip_k0_t6.sl.v366, trip_k0_t6.sl.v367, trip_k0_t6.sl.v368, trip_k0_t6.sl.v370, trip_k0_t6.sl.v371, trip_k0_t6.sl.v373, trip_k0_t6.sl.v374, trip_k0_t6.sl.v375, trip_k0_t6.sl.v376, trip_k0_t6.sl.v377, trip_k0_t6.sl.v378, trip_k0_t6.sl.v379, trip_k0_t6.sl.v380, trip_k0_t6.sl.v381, trip_k0_t6.sl.v382, trip_k0_t6.sl.v384, trip_k0_t6.sl.v385, trip_k0_t6.sl.v386, trip_k0_t6.sl.v388, trip_k0_t6.sl.v389, trip_k0_t6.sl.v390, trip_k0_t6.sl.v393, trip_k0_t6.sl.v394, trip_k0_t6.sl.v396, trip_k0_t6.sl.v397, trip_k0_t6.sl.v398, trip_k0_t6.sl.v400, trip_k0_t6.sl.v401, trip_k0_t6.sl.v402, trip_k0_t6.sl.v405, trip_k0_t6.sl.v409, trip_k0_t6.sl.v410, trip_k0_t6.sl.v411, trip_k0_t6.sl.v412, trip_k0_t6.sl.v413, trip_k0_t6.sl.v414, trip_k0_t6.sl.v416, trip_k0_t6.sl.v417, trip_k0_t6.sl.v419, trip_k0_t6.sl.v420, trip_k0_t6.sl.v421, trip_k0_t6.sl.v422, trip_k0_t6.sl.v423, trip_k0_t6.sl.v424, trip_k0_t6.sl.v425, trip_k0_t6.sl.v426, trip_k0_t6.sl.v427, trip_k0_t6.sl.v428, trip_k0_t6.sl.v430, trip_k0_t6.sl.v431, trip_k0_t6.sl.v432, trip_k0_t6.sl.v434, trip_k0_t6.sl.v435, trip_k0_t6.sl.v436, trip_k0_t6.sl.v439, trip_k0_t6.sl.v440, trip_k0_t6.sl.v442, trip_k0_t6.sl.v443, trip_k0_t6.sl.v444, trip_k0_t6.sl.v446, trip_k0_t6.sl.v447, trip_k0_t6.sl.v448, trip_k0_t6.sl.v451, trip_k0_t6.sl.v455, trip_k0_t6.sl.v456, trip_k0_t6.sl.v457, trip_k0_t6.sl.v458, trip_k0_t6.sl.v459, trip_k0_t6.sl.v460, trip_k0_t6.sl.v462, trip_k0_t6.sl.v463, trip_k0_t6.sl.v465, trip_k0_t6.sl.v466, trip_k0_t6.sl.v467, trip_k0_t6.sl.v468, trip_k0_t6.sl.v469, trip_k0_t6.sl.v470, trip_k0_t6.sl.v471, trip_k0_t6.sl.v472, trip_k0_t6.sl.v473, trip_k0_t6.sl.v474, trip_k0_t6.sl.v476, trip_k0_t6.sl.v477, trip_k0_t6.sl.v478, trip_k0_t6.sl.v480, trip_k0_t6.sl.v481, trip_k0_t6.sl.v482, trip_k0_t6.sl.v485, trip_k0_t6.sl.v486, trip_k0_t6.sl.v488, trip_k0_t6.sl.v489, trip_k0_t6.sl.v490, trip_k0_t6.sl.v492, trip_k0_t6.sl.v493, trip_k0_t6.sl.v494, trip_k0_t6.sl.v497, trip_k0_t6.sl.v501, trip_k0_t6.sl.v502, trip_k0_t6.sl.v503, trip_k0_t6.sl.v504, trip_k0_t6.sl.v505, trip_k0_t6.sl.v506, trip_k0_t6.sl.v508, trip_k0_t6.sl.v509, trip_k0_t6.sl.v511, trip_k0_t6.sl.v512, trip_k0_t6.sl.v513, trip_k0_t6.sl.v514, trip_k0_t6.sl.v515, trip_k0_t6.sl.v516, trip_k0_t6.sl.v517, trip_k0_t6.sl.v518, trip_k0_t6.sl.v519, trip_k0_t6.sl.v520, trip_k0_t6.sl.v522, trip_k0_t6.sl.v523, trip_k0_t6.sl.v524, trip_k0_t6.sl.v526, trip_k0_t6.sl.v527, trip_k0_t6.sl.v528, trip_k0_t6.sl.v531, trip_k0_t6.sl.v532, trip_k0_t6.sl.v534, trip_k0_t6.sl.v535, trip_k0_t6.sl.v536, trip_k0_t6.sl.v538, trip_k0_t6.sl.v539, trip_k0_t6.sl.v540, trip_k0_t6.sl.v543, trip_k0_t6.sl.v547, trip_k0_t6.sl.v548, trip_k0_t6.sl.v549, trip_k0_t6.sl.v550, trip_k0_t6.sl.v551, trip_k0_t6.sl.v552, trip_k0_t6.sl.v554, trip_k0_t6.sl.v555, trip_k0_t6.sl.v557, trip_k0_t6.sl.v558, trip_k0_t6.sl.v559, trip_k0_t6.sl.v560, trip_k0_t6.sl.v561, trip_k0_t6.sl.v562, trip_k0_t6.sl.v563, trip_k0_t6.sl.v564, trip_k0_t6.sl.v565, trip_k0_t6.sl.v566, trip_k0_t6.sl.v568, trip_k0_t6.sl.v569, trip_k0_t6.sl.v570, trip_k0_t6.sl.v572, trip_k0_t6.sl.v573, trip_k0_t6.sl.v574, trip_k0_t6.sl.v577, trip_k0_t6.sl.v578, trip_k0_t6.sl.v580, trip_k0_t6.sl.v581, trip_k0_t6.sl.v582, trip_k0_t6.sl.v584, trip_k0_t6.sl.v585, trip_k0_t6.sl.v586, trip_k0_t6.sl.v589, trip_k0_t6.sl.v593, trip_k0_t6.sl.v594, trip_k0_t6.sl.v595, trip_k0_t6.sl.v596, trip_k0_t6.sl.v597, trip_k0_t6.sl.v598, trip_k0_t6.sl.v600, trip_k0_t6.sl.v601, trip_k0_t6.sl.v603, trip_k0_t6.sl.v604, trip_k0_t6.sl.v605, trip_k0_t6.sl.v606, trip_k0_t6.sl.v607, trip_k0_t6.sl.v608, trip_k0_t6.sl.v609, trip_k0_t6.sl.v610, trip_k0_t6.sl.v611, trip_k0_t6.sl.v612, trip_k0_t6.sl.v614, trip_k0_t6.sl.v615, trip_k0_t6.sl.v616, trip_k0_t6.sl.v618, trip_k0_t6.sl.v619, trip_k0_t6.sl.v620, trip_k0_t6.sl.v623, trip_k0_t6.sl.v624, trip_k0_t6.sl.v626, trip_k0_t6.sl.v627, trip_k0_t6.sl.v628, trip_k0_t6.sl.v630, trip_k0_t6.sl.v631, trip_k0_t6.sl.v632, trip_k0_t6.sl.v635, trip_k0_t6.sl.v639, trip_k0_t6.sl.v640, trip_k0_t6.sl.v641, trip_k0_t6.sl.v642, trip_k0_t6.sl.v643, trip_k0_t6.sl.v644, trip_k0_t6.sl.v646, trip_k0_t6.sl.v647, trip_k0_t6.sl.v649, trip_k0_t6.sl.v650, trip_k0_t6.sl.v651, trip_k0_t6.sl.v652, trip_k0_t6.sl.v653, trip_k0_t6.sl.v654, trip_k0_t6.sl.v655, trip_k0_t6.sl.v656, trip_k0_t6.sl.v657, trip_k0_t6.sl.v658, trip_k0_t6.sl.v660, trip_k0_t6.sl.v661, trip_k0_t6.sl.v662]
      simp only [readAt_bf16, readAt_fp8e5m2, at2_ix v65, at2_ix v67, o0, o1, o2, o3, o4, o5, o6, o7, p0, p1, p2, p3, p4, p5, p6, p7, Matrix.cons_val, Fin.isValue, Fin.val_zero, Fin.val_one, Nat.zero_add, Nat.add_zero, hl, ↓reduceDIte, Nat.add_right_comm _ 2048 _]

/-- One trip of the middle loop over column tile 2 stores 256 rows of the gradient into its scratch. -/
theorem t6_band12 [Named Ideal] (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32)  (k : Fin k0_t6_loop.trips) (acc : FVec Ideal S8x128 .f32 × FVec Ideal S8x128 .f32)
    (G : BufTy.Contents (Elt Ideal) arg12.view.ty) (L : List (View.Piece (Elt Ideal) S3x4096x128 .f32)) (t r l : ℕ) :
    at3 (arg12.view.read (Elt Ideal) (arg12.view.writes (Elt Ideal) G ((trip_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 k).2.2.1 acc ++ L))) t r l
      = if (2 ≤ t ∧ t < 2 + 1) ∧ (256 * k.val ≤ r ∧ r < 256 * k.val + 256) ∧ (0 ≤ l ∧ l < 0 + 128) then tl 2 (fun r c => at3 (arg4.view.read (Elt Ideal) X4) 0 r c * dfac (at3 (arg1.view.read (Elt Ideal) X1) 0 r c * at2 v65 0 c + at2 v67 0 c)) r l
        else at3 (arg12.view.read (Elt Ideal) (arg12.view.writes (Elt Ideal) G L)) t r l := by
  have o0 : k0_off9 k 0#32 = ![0, 256 * k.val + 0, 256] := k0_off9_eq k 0
  have o1 : k0_off9 k 32#32 = ![0, 256 * k.val + 32, 256] := k0_off9_eq k 1
  have o2 : k0_off9 k 64#32 = ![0, 256 * k.val + 64, 256] := k0_off9_eq k 2
  have o3 : k0_off9 k 96#32 = ![0, 256 * k.val + 96, 256] := k0_off9_eq k 3
  have o4 : k0_off9 k 128#32 = ![0, 256 * k.val + 128, 256] := k0_off9_eq k 4
  have o5 : k0_off9 k 160#32 = ![0, 256 * k.val + 160, 256] := k0_off9_eq k 5
  have o6 : k0_off9 k 192#32 = ![0, 256 * k.val + 192, 256] := k0_off9_eq k 6
  have o7 : k0_off9 k 224#32 = ![0, 256 * k.val + 224, 256] := k0_off9_eq k 7
  have p0 : k0_off10 k 0#32 = ![0, 256 * k.val + 0 + 2048, 256] := k0_off10_eq k 0
  have p1 : k0_off10 k 32#32 = ![0, 256 * k.val + 32 + 2048, 256] := k0_off10_eq k 1
  have p2 : k0_off10 k 64#32 = ![0, 256 * k.val + 64 + 2048, 256] := k0_off10_eq k 2
  have p3 : k0_off10 k 96#32 = ![0, 256 * k.val + 96 + 2048, 256] := k0_off10_eq k 3
  have p4 : k0_off10 k 128#32 = ![0, 256 * k.val + 128 + 2048, 256] := k0_off10_eq k 4
  have p5 : k0_off10 k 160#32 = ![0, 256 * k.val + 160 + 2048, 256] := k0_off10_eq k 5
  have p6 : k0_off10 k 192#32 = ![0, 256 * k.val + 192 + 2048, 256] := k0_off10_eq k 6
  have p7 : k0_off10 k 224#32 = ![0, 256 * k.val + 224 + 2048, 256] := k0_off10_eq k 7
  have s0 : k0_off11 k 0#32 = ![2, 256 * k.val + 0, 0] := k0_off11_eq k 0
  have s1 : k0_off11 k 32#32 = ![2, 256 * k.val + 32, 0] := k0_off11_eq k 1
  have s2 : k0_off11 k 64#32 = ![2, 256 * k.val + 64, 0] := k0_off11_eq k 2
  have s3 : k0_off11 k 96#32 = ![2, 256 * k.val + 96, 0] := k0_off11_eq k 3
  have s4 : k0_off11 k 128#32 = ![2, 256 * k.val + 128, 0] := k0_off11_eq k 4
  have s5 : k0_off11 k 160#32 = ![2, 256 * k.val + 160, 0] := k0_off11_eq k 5
  have s6 : k0_off11 k 192#32 = ![2, 256 * k.val + 192, 0] := k0_off11_eq k 6
  have s7 : k0_off11 k 224#32 = ![2, 256 * k.val + 224, 0] := k0_off11_eq k 7
  unfold trip_k0_t6
  dsimp only
  simp only [List.cons_append, List.nil_append]
  rw [band_f32 (V := fun _ r l => tl 2 (fun r c => at3 (arg4.view.read (Elt Ideal) X4) 0 r c * dfac (at3 (arg1.view.read (Elt Ideal) X1) 0 r c * at2 v65 0 c + at2 v67 0 c)) r l) (ho := s7), band_f32 (V := fun _ r l => tl 2 (fun r c => at3 (arg4.view.read (Elt Ideal) X4) 0 r c * dfac (at3 (arg1.view.read (Elt Ideal) X1) 0 r c * at2 v65 0 c + at2 v67 0 c)) r l) (ho := s6), band_f32 (V := fun _ r l => tl 2 (fun r c => at3 (arg4.view.read (Elt Ideal) X4) 0 r c * dfac (at3 (arg1.view.read (Elt Ideal) X1) 0 r c * at2 v65 0 c + at2 v67 0 c)) r l) (ho := s5), band_f32 (V := fun _ r l => tl 2 (fun r c => at3 (arg4.view.read (Elt Ideal) X4) 0 r c * dfac (at3 (arg1.view.read (Elt Ideal) X1) 0 r c * at2 v65 0 c + at2 v67 0 c)) r l) (ho := s4), band_f32 (V := fun _ r l => tl 2 (fun r c => at3 (arg4.view.read (Elt Ideal) X4) 0 r c * dfac (at3 (arg1.view.read (Elt Ideal) X1) 0 r c * at2 v65 0 c + at2 v67 0 c)) r l) (ho := s3), band_f32 (V := fun _ r l => tl 2 (fun r c => at3 (arg4.view.read (Elt Ideal) X4) 0 r c * dfac (at3 (arg1.view.read (Elt Ideal) X1) 0 r c * at2 v65 0 c + at2 v67 0 c)) r l) (ho := s2), band_f32 (V := fun _ r l => tl 2 (fun r c => at3 (arg4.view.read (Elt Ideal) X4) 0 r c * dfac (at3 (arg1.view.read (Elt Ideal) X1) 0 r c * at2 v65 0 c + at2 v67 0 c)) r l) (ho := s1), band_f32 (V := fun _ r l => tl 2 (fun r c => at3 (arg4.view.read (Elt Ideal) X4) 0 r c * dfac (at3 (arg1.view.read (Elt Ideal) X1) 0 r c * at2 v65 0 c + at2 v67 0 c)) r l) (ho := s0)]
  · split_ifs <;> first | rfl | (exfalso; omega)
  all_goals
    intro i j l
    by_cases hl : l.val < 64
    · simp only [Nat.zero_add, tl2_lt _ _ _ hl]
      pointwise [k0_pay387, k0_pay388, k0_pay389, trip_k0_t6.sl.arg14, trip_k0_t6.sl.cst_115, trip_k0_t6.sl.cst_117, trip_k0_t6.sl.v299, trip_k0_t6.sl.v301, trip_k0_t6.sl.v302, trip_k0_t6.sl.v304, trip_k0_t6.sl.v305, trip_k0_t6.sl.v306, trip_k0_t6.sl.v308, trip_k0_t6.sl.v309, trip_k0_t6.sl.v310, trip_k0_t6.sl.v313, trip_k0_t6.sl.v317, trip_k0_t6.sl.v318, trip_k0_t6.sl.v319, trip_k0_t6.sl.v320, trip_k0_t6.sl.v321, trip_k0_t6.sl.v322, trip_k0_t6.sl.v323, trip_k0_t6.sl.v324, trip_k0_t6.sl.v325, trip_k0_t6.sl.v327, trip_k0_t6.sl.v328, trip_k0_t6.sl.v329, trip_k0_t6.sl.v330, trip_k0_t6.sl.v331, trip_k0_t6.sl.v332, trip_k0_t6.sl.v333, trip_k0_t6.sl.v334, trip_k0_t6.sl.v335, trip_k0_t6.sl.v336, trip_k0_t6.sl.v339, trip_k0_t6.sl.v340, trip_k0_t6.sl.v343, trip_k0_t6.sl.v344, trip_k0_t6.sl.v347, trip_k0_t6.sl.v348, trip_k0_t6.sl.v350, trip_k0_t6.sl.v351, trip_k0_t6.sl.v352, trip_k0_t6.sl.v354, trip_k0_t6.sl.v355, trip_k0_t6.sl.v356, trip_k0_t6.sl.v359, trip_k0_t6.sl.v363, trip_k0_t6.sl.v364, trip_k0_t6.sl.v365, trip_k0_t6.sl.v366, trip_k0_t6.sl.v367, trip_k0_t6.sl.v368, trip_k0_t6.sl.v370, trip_k0_t6.sl.v371, trip_k0_t6.sl.v373, trip_k0_t6.sl.v374, trip_k0_t6.sl.v375, trip_k0_t6.sl.v376, trip_k0_t6.sl.v377, trip_k0_t6.sl.v378, trip_k0_t6.sl.v379, trip_k0_t6.sl.v380, trip_k0_t6.sl.v381, trip_k0_t6.sl.v382, trip_k0_t6.sl.v384, trip_k0_t6.sl.v385, trip_k0_t6.sl.v386, trip_k0_t6.sl.v388, trip_k0_t6.sl.v389, trip_k0_t6.sl.v390, trip_k0_t6.sl.v393, trip_k0_t6.sl.v394, trip_k0_t6.sl.v396, trip_k0_t6.sl.v397, trip_k0_t6.sl.v398, trip_k0_t6.sl.v400, trip_k0_t6.sl.v401, trip_k0_t6.sl.v402, trip_k0_t6.sl.v405, trip_k0_t6.sl.v409, trip_k0_t6.sl.v410, trip_k0_t6.sl.v411, trip_k0_t6.sl.v412, trip_k0_t6.sl.v413, trip_k0_t6.sl.v414, trip_k0_t6.sl.v416, trip_k0_t6.sl.v417, trip_k0_t6.sl.v419, trip_k0_t6.sl.v420, trip_k0_t6.sl.v421, trip_k0_t6.sl.v422, trip_k0_t6.sl.v423, trip_k0_t6.sl.v424, trip_k0_t6.sl.v425, trip_k0_t6.sl.v426, trip_k0_t6.sl.v427, trip_k0_t6.sl.v428, trip_k0_t6.sl.v430, trip_k0_t6.sl.v431, trip_k0_t6.sl.v432, trip_k0_t6.sl.v434, trip_k0_t6.sl.v435, trip_k0_t6.sl.v436, trip_k0_t6.sl.v439, trip_k0_t6.sl.v440, trip_k0_t6.sl.v442, trip_k0_t6.sl.v443, trip_k0_t6.sl.v444, trip_k0_t6.sl.v446, trip_k0_t6.sl.v447, trip_k0_t6.sl.v448, trip_k0_t6.sl.v451, trip_k0_t6.sl.v455, trip_k0_t6.sl.v456, trip_k0_t6.sl.v457, trip_k0_t6.sl.v458, trip_k0_t6.sl.v459, trip_k0_t6.sl.v460, trip_k0_t6.sl.v462, trip_k0_t6.sl.v463, trip_k0_t6.sl.v465, trip_k0_t6.sl.v466, trip_k0_t6.sl.v467, trip_k0_t6.sl.v468, trip_k0_t6.sl.v469, trip_k0_t6.sl.v470, trip_k0_t6.sl.v471, trip_k0_t6.sl.v472, trip_k0_t6.sl.v473, trip_k0_t6.sl.v474, trip_k0_t6.sl.v476, trip_k0_t6.sl.v477, trip_k0_t6.sl.v478, trip_k0_t6.sl.v480, trip_k0_t6.sl.v481, trip_k0_t6.sl.v482, trip_k0_t6.sl.v485, trip_k0_t6.sl.v486, trip_k0_t6.sl.v488, trip_k0_t6.sl.v489, trip_k0_t6.sl.v490, trip_k0_t6.sl.v492, trip_k0_t6.sl.v493, trip_k0_t6.sl.v494, trip_k0_t6.sl.v497, trip_k0_t6.sl.v501, trip_k0_t6.sl.v502, trip_k0_t6.sl.v503, trip_k0_t6.sl.v504, trip_k0_t6.sl.v505, trip_k0_t6.sl.v506, trip_k0_t6.sl.v508, trip_k0_t6.sl.v509, trip_k0_t6.sl.v511, trip_k0_t6.sl.v512, trip_k0_t6.sl.v513, trip_k0_t6.sl.v514, trip_k0_t6.sl.v515, trip_k0_t6.sl.v516, trip_k0_t6.sl.v517, trip_k0_t6.sl.v518, trip_k0_t6.sl.v519, trip_k0_t6.sl.v520, trip_k0_t6.sl.v522, trip_k0_t6.sl.v523, trip_k0_t6.sl.v524, trip_k0_t6.sl.v526, trip_k0_t6.sl.v527, trip_k0_t6.sl.v528, trip_k0_t6.sl.v531, trip_k0_t6.sl.v532, trip_k0_t6.sl.v534, trip_k0_t6.sl.v535, trip_k0_t6.sl.v536, trip_k0_t6.sl.v538, trip_k0_t6.sl.v539, trip_k0_t6.sl.v540, trip_k0_t6.sl.v543, trip_k0_t6.sl.v547, trip_k0_t6.sl.v548, trip_k0_t6.sl.v549, trip_k0_t6.sl.v550, trip_k0_t6.sl.v551, trip_k0_t6.sl.v552, trip_k0_t6.sl.v554, trip_k0_t6.sl.v555, trip_k0_t6.sl.v557, trip_k0_t6.sl.v558, trip_k0_t6.sl.v559, trip_k0_t6.sl.v560, trip_k0_t6.sl.v561, trip_k0_t6.sl.v562, trip_k0_t6.sl.v563, trip_k0_t6.sl.v564, trip_k0_t6.sl.v565, trip_k0_t6.sl.v566, trip_k0_t6.sl.v568, trip_k0_t6.sl.v569, trip_k0_t6.sl.v570, trip_k0_t6.sl.v572, trip_k0_t6.sl.v573, trip_k0_t6.sl.v574, trip_k0_t6.sl.v577, trip_k0_t6.sl.v578, trip_k0_t6.sl.v580, trip_k0_t6.sl.v581, trip_k0_t6.sl.v582, trip_k0_t6.sl.v584, trip_k0_t6.sl.v585, trip_k0_t6.sl.v586, trip_k0_t6.sl.v589, trip_k0_t6.sl.v593, trip_k0_t6.sl.v594, trip_k0_t6.sl.v595, trip_k0_t6.sl.v596, trip_k0_t6.sl.v597, trip_k0_t6.sl.v598, trip_k0_t6.sl.v600, trip_k0_t6.sl.v601, trip_k0_t6.sl.v603, trip_k0_t6.sl.v604, trip_k0_t6.sl.v605, trip_k0_t6.sl.v606, trip_k0_t6.sl.v607, trip_k0_t6.sl.v608, trip_k0_t6.sl.v609, trip_k0_t6.sl.v610, trip_k0_t6.sl.v611, trip_k0_t6.sl.v612, trip_k0_t6.sl.v614, trip_k0_t6.sl.v615, trip_k0_t6.sl.v616, trip_k0_t6.sl.v618, trip_k0_t6.sl.v619, trip_k0_t6.sl.v620, trip_k0_t6.sl.v623, trip_k0_t6.sl.v624, trip_k0_t6.sl.v626, trip_k0_t6.sl.v627, trip_k0_t6.sl.v628, trip_k0_t6.sl.v630, trip_k0_t6.sl.v631, trip_k0_t6.sl.v632, trip_k0_t6.sl.v635, trip_k0_t6.sl.v639, trip_k0_t6.sl.v640, trip_k0_t6.sl.v641, trip_k0_t6.sl.v642, trip_k0_t6.sl.v643, trip_k0_t6.sl.v644, trip_k0_t6.sl.v646, trip_k0_t6.sl.v647, trip_k0_t6.sl.v649, trip_k0_t6.sl.v650, trip_k0_t6.sl.v651, trip_k0_t6.sl.v652, trip_k0_t6.sl.v653, trip_k0_t6.sl.v654, trip_k0_t6.sl.v655, trip_k0_t6.sl.v656, trip_k0_t6.sl.v657, trip_k0_t6.sl.v658, trip_k0_t6.sl.v660, trip_k0_t6.sl.v661, trip_k0_t6.sl.v662]
      simp only [readAt_bf16, readAt_fp8e5m2, at2_ix v65, at2_ix v67, o0, o1, o2, o3, o4, o5, o6, o7, p0, p1, p2, p3, p4, p5, p6, p7, Matrix.cons_val, Fin.isValue, Fin.val_zero, Fin.val_one, Nat.zero_add, Nat.add_zero, hl, ↓reduceDIte]
      rfl
    · simp only [Nat.zero_add, tl2_ge _ _ _ hl]
      pointwise [k0_pay387, k0_pay388, k0_pay389, trip_k0_t6.sl.arg14, trip_k0_t6.sl.cst_115, trip_k0_t6.sl.cst_117, trip_k0_t6.sl.v299, trip_k0_t6.sl.v301, trip_k0_t6.sl.v302, trip_k0_t6.sl.v304, trip_k0_t6.sl.v305, trip_k0_t6.sl.v306, trip_k0_t6.sl.v308, trip_k0_t6.sl.v309, trip_k0_t6.sl.v310, trip_k0_t6.sl.v313, trip_k0_t6.sl.v317, trip_k0_t6.sl.v318, trip_k0_t6.sl.v319, trip_k0_t6.sl.v320, trip_k0_t6.sl.v321, trip_k0_t6.sl.v322, trip_k0_t6.sl.v323, trip_k0_t6.sl.v324, trip_k0_t6.sl.v325, trip_k0_t6.sl.v327, trip_k0_t6.sl.v328, trip_k0_t6.sl.v329, trip_k0_t6.sl.v330, trip_k0_t6.sl.v331, trip_k0_t6.sl.v332, trip_k0_t6.sl.v333, trip_k0_t6.sl.v334, trip_k0_t6.sl.v335, trip_k0_t6.sl.v336, trip_k0_t6.sl.v339, trip_k0_t6.sl.v340, trip_k0_t6.sl.v343, trip_k0_t6.sl.v344, trip_k0_t6.sl.v347, trip_k0_t6.sl.v348, trip_k0_t6.sl.v350, trip_k0_t6.sl.v351, trip_k0_t6.sl.v352, trip_k0_t6.sl.v354, trip_k0_t6.sl.v355, trip_k0_t6.sl.v356, trip_k0_t6.sl.v359, trip_k0_t6.sl.v363, trip_k0_t6.sl.v364, trip_k0_t6.sl.v365, trip_k0_t6.sl.v366, trip_k0_t6.sl.v367, trip_k0_t6.sl.v368, trip_k0_t6.sl.v370, trip_k0_t6.sl.v371, trip_k0_t6.sl.v373, trip_k0_t6.sl.v374, trip_k0_t6.sl.v375, trip_k0_t6.sl.v376, trip_k0_t6.sl.v377, trip_k0_t6.sl.v378, trip_k0_t6.sl.v379, trip_k0_t6.sl.v380, trip_k0_t6.sl.v381, trip_k0_t6.sl.v382, trip_k0_t6.sl.v384, trip_k0_t6.sl.v385, trip_k0_t6.sl.v386, trip_k0_t6.sl.v388, trip_k0_t6.sl.v389, trip_k0_t6.sl.v390, trip_k0_t6.sl.v393, trip_k0_t6.sl.v394, trip_k0_t6.sl.v396, trip_k0_t6.sl.v397, trip_k0_t6.sl.v398, trip_k0_t6.sl.v400, trip_k0_t6.sl.v401, trip_k0_t6.sl.v402, trip_k0_t6.sl.v405, trip_k0_t6.sl.v409, trip_k0_t6.sl.v410, trip_k0_t6.sl.v411, trip_k0_t6.sl.v412, trip_k0_t6.sl.v413, trip_k0_t6.sl.v414, trip_k0_t6.sl.v416, trip_k0_t6.sl.v417, trip_k0_t6.sl.v419, trip_k0_t6.sl.v420, trip_k0_t6.sl.v421, trip_k0_t6.sl.v422, trip_k0_t6.sl.v423, trip_k0_t6.sl.v424, trip_k0_t6.sl.v425, trip_k0_t6.sl.v426, trip_k0_t6.sl.v427, trip_k0_t6.sl.v428, trip_k0_t6.sl.v430, trip_k0_t6.sl.v431, trip_k0_t6.sl.v432, trip_k0_t6.sl.v434, trip_k0_t6.sl.v435, trip_k0_t6.sl.v436, trip_k0_t6.sl.v439, trip_k0_t6.sl.v440, trip_k0_t6.sl.v442, trip_k0_t6.sl.v443, trip_k0_t6.sl.v444, trip_k0_t6.sl.v446, trip_k0_t6.sl.v447, trip_k0_t6.sl.v448, trip_k0_t6.sl.v451, trip_k0_t6.sl.v455, trip_k0_t6.sl.v456, trip_k0_t6.sl.v457, trip_k0_t6.sl.v458, trip_k0_t6.sl.v459, trip_k0_t6.sl.v460, trip_k0_t6.sl.v462, trip_k0_t6.sl.v463, trip_k0_t6.sl.v465, trip_k0_t6.sl.v466, trip_k0_t6.sl.v467, trip_k0_t6.sl.v468, trip_k0_t6.sl.v469, trip_k0_t6.sl.v470, trip_k0_t6.sl.v471, trip_k0_t6.sl.v472, trip_k0_t6.sl.v473, trip_k0_t6.sl.v474, trip_k0_t6.sl.v476, trip_k0_t6.sl.v477, trip_k0_t6.sl.v478, trip_k0_t6.sl.v480, trip_k0_t6.sl.v481, trip_k0_t6.sl.v482, trip_k0_t6.sl.v485, trip_k0_t6.sl.v486, trip_k0_t6.sl.v488, trip_k0_t6.sl.v489, trip_k0_t6.sl.v490, trip_k0_t6.sl.v492, trip_k0_t6.sl.v493, trip_k0_t6.sl.v494, trip_k0_t6.sl.v497, trip_k0_t6.sl.v501, trip_k0_t6.sl.v502, trip_k0_t6.sl.v503, trip_k0_t6.sl.v504, trip_k0_t6.sl.v505, trip_k0_t6.sl.v506, trip_k0_t6.sl.v508, trip_k0_t6.sl.v509, trip_k0_t6.sl.v511, trip_k0_t6.sl.v512, trip_k0_t6.sl.v513, trip_k0_t6.sl.v514, trip_k0_t6.sl.v515, trip_k0_t6.sl.v516, trip_k0_t6.sl.v517, trip_k0_t6.sl.v518, trip_k0_t6.sl.v519, trip_k0_t6.sl.v520, trip_k0_t6.sl.v522, trip_k0_t6.sl.v523, trip_k0_t6.sl.v524, trip_k0_t6.sl.v526, trip_k0_t6.sl.v527, trip_k0_t6.sl.v528, trip_k0_t6.sl.v531, trip_k0_t6.sl.v532, trip_k0_t6.sl.v534, trip_k0_t6.sl.v535, trip_k0_t6.sl.v536, trip_k0_t6.sl.v538, trip_k0_t6.sl.v539, trip_k0_t6.sl.v540, trip_k0_t6.sl.v543, trip_k0_t6.sl.v547, trip_k0_t6.sl.v548, trip_k0_t6.sl.v549, trip_k0_t6.sl.v550, trip_k0_t6.sl.v551, trip_k0_t6.sl.v552, trip_k0_t6.sl.v554, trip_k0_t6.sl.v555, trip_k0_t6.sl.v557, trip_k0_t6.sl.v558, trip_k0_t6.sl.v559, trip_k0_t6.sl.v560, trip_k0_t6.sl.v561, trip_k0_t6.sl.v562, trip_k0_t6.sl.v563, trip_k0_t6.sl.v564, trip_k0_t6.sl.v565, trip_k0_t6.sl.v566, trip_k0_t6.sl.v568, trip_k0_t6.sl.v569, trip_k0_t6.sl.v570, trip_k0_t6.sl.v572, trip_k0_t6.sl.v573, trip_k0_t6.sl.v574, trip_k0_t6.sl.v577, trip_k0_t6.sl.v578, trip_k0_t6.sl.v580, trip_k0_t6.sl.v581, trip_k0_t6.sl.v582, trip_k0_t6.sl.v584, trip_k0_t6.sl.v585, trip_k0_t6.sl.v586, trip_k0_t6.sl.v589, trip_k0_t6.sl.v593, trip_k0_t6.sl.v594, trip_k0_t6.sl.v595, trip_k0_t6.sl.v596, trip_k0_t6.sl.v597, trip_k0_t6.sl.v598, trip_k0_t6.sl.v600, trip_k0_t6.sl.v601, trip_k0_t6.sl.v603, trip_k0_t6.sl.v604, trip_k0_t6.sl.v605, trip_k0_t6.sl.v606, trip_k0_t6.sl.v607, trip_k0_t6.sl.v608, trip_k0_t6.sl.v609, trip_k0_t6.sl.v610, trip_k0_t6.sl.v611, trip_k0_t6.sl.v612, trip_k0_t6.sl.v614, trip_k0_t6.sl.v615, trip_k0_t6.sl.v616, trip_k0_t6.sl.v618, trip_k0_t6.sl.v619, trip_k0_t6.sl.v620, trip_k0_t6.sl.v623, trip_k0_t6.sl.v624, trip_k0_t6.sl.v626, trip_k0_t6.sl.v627, trip_k0_t6.sl.v628, trip_k0_t6.sl.v630, trip_k0_t6.sl.v631, trip_k0_t6.sl.v632, trip_k0_t6.sl.v635, trip_k0_t6.sl.v639, trip_k0_t6.sl.v640, trip_k0_t6.sl.v641, trip_k0_t6.sl.v642, trip_k0_t6.sl.v643, trip_k0_t6.sl.v644, trip_k0_t6.sl.v646, trip_k0_t6.sl.v647, trip_k0_t6.sl.v649, trip_k0_t6.sl.v650, trip_k0_t6.sl.v651, trip_k0_t6.sl.v652, trip_k0_t6.sl.v653, trip_k0_t6.sl.v654, trip_k0_t6.sl.v655, trip_k0_t6.sl.v656, trip_k0_t6.sl.v657, trip_k0_t6.sl.v658, trip_k0_t6.sl.v660, trip_k0_t6.sl.v661, trip_k0_t6.sl.v662]
      simp only [readAt_bf16, readAt_fp8e5m2, at2_ix v65, at2_ix v67, o0, o1, o2, o3, o4, o5, o6, o7, p0, p1, p2, p3, p4, p5, p6, p7, Matrix.cons_val, Fin.isValue, Fin.val_zero, Fin.val_one, Nat.zero_add, Nat.add_zero, hl, ↓reduceDIte, Nat.add_right_comm _ 2048 _]
      rfl

end Cert.KernelIdeal.Hand
-- ==== Proof.VTot.lean ====
module

public import proofs.«01_k».proof.Proof.Gen.KernelIdeal.Loops
public import proofs.«01_k».proof.Proof.VPay
public import proofs.«01_k».proof.Proof.VT1
public import proofs.«01_k».proof.Proof.VT2
public import proofs.«01_k».proof.Proof.VT3
public import proofs.«01_k».proof.Proof.VT4
public import proofs.«01_k».proof.Proof.VT5
public import proofs.«01_k».proof.Proof.VT6

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X1 : BufTy.Contents (Elt Ideal) arg1.view.ty)

variable (X4 : BufTy.Contents (Elt Ideal) arg4.view.ty)

/-- The statistics loop over column tile 0: its two accumulators' lane sums are sums over all rows. -/
theorem t1_total   (l : Fin 128) :
    (∑ a : Fin 8, ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) 16).1 (ix2 a l) : EReal) = ∑ r ∈ Finset.range 4096, tl 0 (fun r c => at3 (arg1.view.read (Elt Ideal) X1) 0 r c) r l.val)
    ∧ (∑ a : Fin 8, ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) 16).2 (ix2 a l) : EReal) = ∑ r ∈ Finset.range 4096, tl 0 (fun r c => at3 (arg1.view.read (Elt Ideal) X1) 0 r c * at3 (arg1.view.read (Elt Ideal) X1) 0 r c) r l.val) := by
  have tr : k0_t1_loop.trips = 16 := by decide +kernel
  refine ⟨?_, ?_⟩
  · refine rows_total (fun k => ∑ a : Fin 8, ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) k).1 (ix2 a l) : EReal)) (fun r => tl 0 (fun r c => at3 (arg1.view.read (Elt Ideal) X1) 0 r c) r l.val) 16 ?_ (fun k hk => ?_) 16 le_rfl
    · show ∑ a : Fin 8, (k0_pay363 (F := Ideal) (ix2 a l) : EReal) = 0
      simp only [p363, Finset.sum_const_zero]
    · have hk' : k < k0_t1_loop.trips := by omega
      have h := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) ⟨k, hk'⟩
      simp only [] at h
      beta_reduce
      rw [h]
      refine (Finset.sum_congr rfl fun a _ => (t1_step 𝒱 c bd i arg1 harg1 arg2 harg2 arg3 harg3 arg4 harg4 arg5 harg5 arg6 harg6 arg7 harg7 arg8 harg8 arg9 harg9 arg10 harg10 arg11 harg11 arg12 harg12 arg13 harg13 X1  ⟨k, hk'⟩ _ a l).1).trans ?_
      rw [Finset.sum_add_distrib]
      congr 1
      exact sum256 (fun r => tl 0 (fun r c => at3 (arg1.view.read (Elt Ideal) X1) 0 r c) r l.val) (256 * k)

  · refine rows_total (fun k => ∑ a : Fin 8, ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) k).2 (ix2 a l) : EReal)) (fun r => tl 0 (fun r c => at3 (arg1.view.read (Elt Ideal) X1) 0 r c * at3 (arg1.view.read (Elt Ideal) X1) 0 r c) r l.val) 16 ?_ (fun k hk => ?_) 16 le_rfl
    · show ∑ a : Fin 8, (k0_pay363 (F := Ideal) (ix2 a l) : EReal) = 0
      simp only [p363, Finset.sum_const_zero]
    · have hk' : k < k0_t1_loop.trips := by omega
      have h := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) ⟨k, hk'⟩
      simp only [] at h
      beta_reduce
      rw [h]
      refine (Finset.sum_congr rfl fun a _ => (t1_step 𝒱 c bd i arg1 harg1 arg2 harg2 arg3 harg3 arg4 harg4 arg5 harg5 arg6 harg6 arg7 harg7 arg8 harg8 arg9 harg9 arg10 harg10 arg11 harg11 arg12 harg12 arg13 harg13 X1  ⟨k, hk'⟩ _ a l).2).trans ?_
      rw [Finset.sum_add_distrib]
      congr 1
      exact sum256 (fun r => tl 0 (fun r c => at3 (arg1.view.read (Elt Ideal) X1) 0 r c * at3 (arg1.view.read (Elt Ideal) X1) 0 r c) r l.val) (256 * k)

/-- The statistics loop over column tile 1: its two accumulators' lane sums are sums over all rows. -/
theorem t2_total   (l : Fin 128) :
    (∑ a : Fin 8, ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) 16).1 (ix2 a l) : EReal) = ∑ r ∈ Finset.range 4096, tl 1 (fun r c => at3 (arg1.view.read (Elt Ideal) X1) 0 r c) r l.val)
    ∧ (∑ a : Fin 8, ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) 16).2 (ix2 a l) : EReal) = ∑ r ∈ Finset.range 4096, tl 1 (fun r c => at3 (arg1.view.read (Elt Ideal) X1) 0 r c * at3 (arg1.view.read (Elt Ideal) X1) 0 r c) r l.val) := by
  have tr : k0_t2_loop.trips = 16 := by decide +kernel
  refine ⟨?_, ?_⟩
  · refine rows_total (fun k => ∑ a : Fin 8, ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) k).1 (ix2 a l) : EReal)) (fun r => tl 1 (fun r c => at3 (arg1.view.read (Elt Ideal) X1) 0 r c) r l.val) 16 ?_ (fun k hk => ?_) 16 le_rfl
    · show ∑ a : Fin 8, (k0_pay363 (F := Ideal) (ix2 a l) : EReal) = 0
      simp only [p363, Finset.sum_const_zero]
    · have hk' : k < k0_t2_loop.trips := by omega
      have h := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) ⟨k, hk'⟩
      simp only [] at h
      beta_reduce
      rw [h]
      refine (Finset.sum_congr rfl fun a _ => (t2_step 𝒱 c bd i arg1 harg1 arg2 harg2 arg3 harg3 arg4 harg4 arg5 harg5 arg6 harg6 arg7 harg7 arg8 harg8 arg9 harg9 arg10 harg10 arg11 harg11 arg12 harg12 arg13 harg13 X1  ⟨k, hk'⟩ _ a l).1).trans ?_
      rw [Finset.sum_add_distrib]
      congr 1
      exact sum256 (fun r => tl 1 (fun r c => at3 (arg1.view.read (Elt Ideal) X1) 0 r c) r l.val) (256 * k)

  · refine rows_total (fun k => ∑ a : Fin 8, ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) k).2 (ix2 a l) : EReal)) (fun r => tl 1 (fun r c => at3 (arg1.view.read (Elt Ideal) X1) 0 r c * at3 (arg1.view.read (Elt Ideal) X1) 0 r c) r l.val) 16 ?_ (fun k hk => ?_) 16 le_rfl
    · show ∑ a : Fin 8, (k0_pay363 (F := Ideal) (ix2 a l) : EReal) = 0
      simp only [p363, Finset.sum_const_zero]
    · have hk' : k < k0_t2_loop.trips := by omega
      have h := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) ⟨k, hk'⟩
      simp only [] at h
      beta_reduce
      rw [h]
      refine (Finset.sum_congr rfl fun a _ => (t2_step 𝒱 c bd i arg1 harg1 arg2 harg2 arg3 harg3 arg4 harg4 arg5 harg5 arg6 harg6 arg7 harg7 arg8 harg8 arg9 harg9 arg10 harg10 arg11 harg11 arg12 harg12 arg13 harg13 X1  ⟨k, hk'⟩ _ a l).2).trans ?_
      rw [Finset.sum_add_distrib]
      congr 1
      exact sum256 (fun r => tl 1 (fun r c => at3 (arg1.view.read (Elt Ideal) X1) 0 r c * at3 (arg1.view.read (Elt Ideal) X1) 0 r c) r l.val) (256 * k)

/-- The statistics loop over column tile 2: its two accumulators' lane sums are sums over all rows. -/
theorem t3_total   (l : Fin 128) :
    (∑ a : Fin 8, ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) 8).1 (ix2 a l) : EReal) = ∑ r ∈ Finset.range 2048, tl 2 (fun r c => at3 (arg1.view.read (Elt Ideal) X1) 0 r c) r l.val)
    ∧ (∑ a : Fin 8, ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) 8).2 (ix2 a l) : EReal) = ∑ r ∈ Finset.range 2048, tl 2 (fun r c => at3 (arg1.view.read (Elt Ideal) X1) 0 r c * at3 (arg1.view.read (Elt Ideal) X1) 0 r c) r l.val) := by
  have tr : k0_t3_loop.trips = 8 := by decide +kernel
  refine ⟨?_, ?_⟩
  · refine rows_total (fun k => ∑ a : Fin 8, ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) k).1 (ix2 a l) : EReal)) (fun r => tl 2 (fun r c => at3 (arg1.view.read (Elt Ideal) X1) 0 r c) r l.val) 8 ?_ (fun k hk => ?_) 8 le_rfl
    · show ∑ a : Fin 8, (k0_pay363 (F := Ideal) (ix2 a l) : EReal) = 0
      simp only [p363, Finset.sum_const_zero]
    · have hk' : k < k0_t3_loop.trips := by omega
      have h := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) ⟨k, hk'⟩
      simp only [] at h
      beta_reduce
      rw [h]
      refine (Finset.sum_congr rfl fun a _ => (t3_step 𝒱 c bd i arg1 harg1 arg2 harg2 arg3 harg3 arg4 harg4 arg5 harg5 arg6 harg6 arg7 harg7 arg8 harg8 arg9 harg9 arg10 harg10 arg11 harg11 arg12 harg12 arg13 harg13 X1  ⟨k, hk'⟩ _ a l).1).trans ?_
      rw [Finset.sum_add_distrib]
      congr 1
      exact sum256 (fun r => tl 2 (fun r c => at3 (arg1.view.read (Elt Ideal) X1) 0 r c) r l.val) (256 * k)

  · refine rows_total (fun k => ∑ a : Fin 8, ((st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) k).2 (ix2 a l) : EReal)) (fun r => tl 2 (fun r c => at3 (arg1.view.read (Elt Ideal) X1) 0 r c * at3 (arg1.view.read (Elt Ideal) X1) 0 r c) r l.val) 8 ?_ (fun k hk => ?_) 8 le_rfl
    · show ∑ a : Fin 8, (k0_pay363 (F := Ideal) (ix2 a l) : EReal) = 0
      simp only [p363, Finset.sum_const_zero]
    · have hk' : k < k0_t3_loop.trips := by omega
      have h := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13  X1 (k0_pay363, k0_pay363) ⟨k, hk'⟩
      simp only [] at h
      beta_reduce
      rw [h]
      refine (Finset.sum_congr rfl fun a _ => (t3_step 𝒱 c bd i arg1 harg1 arg2 harg2 arg3 harg3 arg4 harg4 arg5 harg5 arg6 harg6 arg7 harg7 arg8 harg8 arg9 harg9 arg10 harg10 arg11 harg11 arg12 harg12 arg13 harg13 X1  ⟨k, hk'⟩ _ a l).2).trans ?_
      rw [Finset.sum_add_distrib]
      congr 1
      exact sum256 (fun r => tl 2 (fun r c => at3 (arg1.view.read (Elt Ideal) X1) 0 r c * at3 (arg1.view.read (Elt Ideal) X1) 0 r c) r l.val) (256 * k)

/-- The middle loop over column tile 0: its two accumulators' lane sums are sums over all rows. -/
theorem t4_total (v4 : Vec Ideal S384x384 .bf16) (v8 : FVec Ideal S1x384 .f32) (v11 : FVec Ideal S1x384 .f32) (v12 : FVec Ideal S8x128 .f32) (v16_1 : FVec Ideal S8x128 .f32) (v18_1 : FVec Ideal S8x128 .f32) (v29 : FVec Ideal S1x384 .f32) (v30 : FVec Ideal S128 .f32)  (l : Fin 128) :
    (∑ a : Fin 8, ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) 16).1.1 (ix2 a l) : EReal) = ∑ r ∈ Finset.range 4096, tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l.val)
    ∧ (∑ a : Fin 8, ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) 16).1.2 (ix2 a l) : EReal) = ∑ r ∈ Finset.range 4096, tl 0 (fun r c => (at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) * at3 (arg1.view.read (Elt Ideal) X1) 0 r c) r l.val) := by
  have tr : k0_t4_loop.trips = 16 := by decide +kernel
  refine ⟨?_, ?_⟩
  · refine rows_total (fun k => ∑ a : Fin 8, ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) k).1.1 (ix2 a l) : EReal)) (fun r => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l.val) 16 ?_ (fun k hk => ?_) 16 le_rfl
    · show ∑ a : Fin 8, (k0_pay363 (F := Ideal) (ix2 a l) : EReal) = 0
      simp only [p363, Finset.sum_const_zero]
    · have hk' : k < k0_t4_loop.trips := by omega
      have h := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) ⟨k, hk'⟩
      simp only [] at h
      beta_reduce
      rw [h]
      refine (Finset.sum_congr rfl fun a _ => (t4_step 𝒱 c bd i arg1 harg1 arg2 harg2 arg3 harg3 arg4 harg4 arg5 harg5 arg6 harg6 arg7 harg7 arg8 harg8 arg9 harg9 arg10 harg10 arg11 harg11 arg12 harg12 arg13 harg13 X1 X4 v4 v8 v11 v12 v16_1 v18_1 v29 v30 ⟨k, hk'⟩ _ a l).1).trans ?_
      rw [Finset.sum_add_distrib]
      congr 1
      exact sum256 (fun r => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l.val) (256 * k)

  · refine rows_total (fun k => ∑ a : Fin 8, ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) k).1.2 (ix2 a l) : EReal)) (fun r => tl 0 (fun r c => (at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) * at3 (arg1.view.read (Elt Ideal) X1) 0 r c) r l.val) 16 ?_ (fun k hk => ?_) 16 le_rfl
    · show ∑ a : Fin 8, (k0_pay363 (F := Ideal) (ix2 a l) : EReal) = 0
      simp only [p363, Finset.sum_const_zero]
    · have hk' : k < k0_t4_loop.trips := by omega
      have h := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) ⟨k, hk'⟩
      simp only [] at h
      beta_reduce
      rw [h]
      refine (Finset.sum_congr rfl fun a _ => (t4_step 𝒱 c bd i arg1 harg1 arg2 harg2 arg3 harg3 arg4 harg4 arg5 harg5 arg6 harg6 arg7 harg7 arg8 harg8 arg9 harg9 arg10 harg10 arg11 harg11 arg12 harg12 arg13 harg13 X1 X4 v4 v8 v11 v12 v16_1 v18_1 v29 v30 ⟨k, hk'⟩ _ a l).2).trans ?_
      rw [Finset.sum_add_distrib]
      congr 1
      exact sum256 (fun r => tl 0 (fun r c => (at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) * at3 (arg1.view.read (Elt Ideal) X1) 0 r c) r l.val) (256 * k)

/-- The middle loop over column tile 1: its two accumulators' lane sums are sums over all rows. -/
theorem t5_total (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32) (A B : ℕ → EReal) (h78 : ∀ (r : Fin 32) (l : Fin 128), v78 (ix2 r l) = A (128 + l.val)) (h80 : ∀ l : Fin 128, v80 (ix2 0 l) = B (128 + l.val)) (l : Fin 128) :
    (∑ a : Fin 8, ((st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) 16).1.1 (ix2 a l) : EReal) = ∑ r ∈ Finset.range 4096, tl 1 (fun r c => at3 (arg4.view.read (Elt Ideal) X4) 0 r c * dfac (at3 (arg1.view.read (Elt Ideal) X1) 0 r c * A c + B c)) r l.val)
    ∧ (∑ a : Fin 8, ((st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) 16).1.2 (ix2 a l) : EReal) = ∑ r ∈ Finset.range 4096, tl 1 (fun r c => (at3 (arg4.view.read (Elt Ideal) X4) 0 r c * dfac (at3 (arg1.view.read (Elt Ideal) X1) 0 r c * A c + B c)) * at3 (arg1.view.read (Elt Ideal) X1) 0 r c) r l.val) := by
  have tr : k0_t5_loop.trips = 16 := by decide +kernel
  refine ⟨?_, ?_⟩
  · refine rows_total (fun k => ∑ a : Fin 8, ((st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).1.1 (ix2 a l) : EReal)) (fun r => tl 1 (fun r c => at3 (arg4.view.read (Elt Ideal) X4) 0 r c * dfac (at3 (arg1.view.read (Elt Ideal) X1) 0 r c * A c + B c)) r l.val) 16 ?_ (fun k hk => ?_) 16 le_rfl
    · show ∑ a : Fin 8, (k0_pay363 (F := Ideal) (ix2 a l) : EReal) = 0
      simp only [p363, Finset.sum_const_zero]
    · have hk' : k < k0_t5_loop.trips := by omega
      have h := st_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) ⟨k, hk'⟩
      simp only [] at h
      beta_reduce
      rw [h]
      refine (Finset.sum_congr rfl fun a _ => (t5_step 𝒱 c bd i arg1 harg1 arg2 harg2 arg3 harg3 arg4 harg4 arg5 harg5 arg6 harg6 arg7 harg7 arg8 harg8 arg9 harg9 arg10 harg10 arg11 harg11 arg12 harg12 arg13 harg13 X1 X4 v12 v58 v65 v67 v75_0 v75_1 v78 v80 A B h78 h80 ⟨k, hk'⟩ _ a l).1).trans ?_
      rw [Finset.sum_add_distrib]
      congr 1
      exact sum256 (fun r => tl 1 (fun r c => at3 (arg4.view.read (Elt Ideal) X4) 0 r c * dfac (at3 (arg1.view.read (Elt Ideal) X1) 0 r c * A c + B c)) r l.val) (256 * k)

  · refine rows_total (fun k => ∑ a : Fin 8, ((st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).1.2 (ix2 a l) : EReal)) (fun r => tl 1 (fun r c => (at3 (arg4.view.read (Elt Ideal) X4) 0 r c * dfac (at3 (arg1.view.read (Elt Ideal) X1) 0 r c * A c + B c)) * at3 (arg1.view.read (Elt Ideal) X1) 0 r c) r l.val) 16 ?_ (fun k hk => ?_) 16 le_rfl
    · show ∑ a : Fin 8, (k0_pay363 (F := Ideal) (ix2 a l) : EReal) = 0
      simp only [p363, Finset.sum_const_zero]
    · have hk' : k < k0_t5_loop.trips := by omega
      have h := st_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) ⟨k, hk'⟩
      simp only [] at h
      beta_reduce
      rw [h]
      refine (Finset.sum_congr rfl fun a _ => (t5_step 𝒱 c bd i arg1 harg1 arg2 harg2 arg3 harg3 arg4 harg4 arg5 harg5 arg6 harg6 arg7 harg7 arg8 harg8 arg9 harg9 arg10 harg10 arg11 harg11 arg12 harg12 arg13 harg13 X1 X4 v12 v58 v65 v67 v75_0 v75_1 v78 v80 A B h78 h80 ⟨k, hk'⟩ _ a l).2).trans ?_
      rw [Finset.sum_add_distrib]
      congr 1
      exact sum256 (fun r => tl 1 (fun r c => (at3 (arg4.view.read (Elt Ideal) X4) 0 r c * dfac (at3 (arg1.view.read (Elt Ideal) X1) 0 r c * A c + B c)) * at3 (arg1.view.read (Elt Ideal) X1) 0 r c) r l.val) (256 * k)

/-- The middle loop over column tile 2: its two accumulators' lane sums are sums over all rows. -/
theorem t6_total (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32)  (l : Fin 128) :
    (∑ a : Fin 8, ((st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) 8).1.1 (ix2 a l) : EReal) = ∑ r ∈ Finset.range 2048, tl 2 (fun r c => at3 (arg4.view.read (Elt Ideal) X4) 0 r c * dfac (at3 (arg1.view.read (Elt Ideal) X1) 0 r c * at2 v65 0 c + at2 v67 0 c)) r l.val)
    ∧ (∑ a : Fin 8, ((st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) 8).1.2 (ix2 a l) : EReal) = ∑ r ∈ Finset.range 2048, tl 2 (fun r c => (at3 (arg4.view.read (Elt Ideal) X4) 0 r c * dfac (at3 (arg1.view.read (Elt Ideal) X1) 0 r c * at2 v65 0 c + at2 v67 0 c)) * at3 (arg1.view.read (Elt Ideal) X1) 0 r c) r l.val) := by
  have tr : k0_t6_loop.trips = 8 := by decide +kernel
  refine ⟨?_, ?_⟩
  · refine rows_total (fun k => ∑ a : Fin 8, ((st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).1.1 (ix2 a l) : EReal)) (fun r => tl 2 (fun r c => at3 (arg4.view.read (Elt Ideal) X4) 0 r c * dfac (at3 (arg1.view.read (Elt Ideal) X1) 0 r c * at2 v65 0 c + at2 v67 0 c)) r l.val) 8 ?_ (fun k hk => ?_) 8 le_rfl
    · show ∑ a : Fin 8, (k0_pay363 (F := Ideal) (ix2 a l) : EReal) = 0
      simp only [p363, Finset.sum_const_zero]
    · have hk' : k < k0_t6_loop.trips := by omega
      have h := st_k0_t6_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) ⟨k, hk'⟩
      simp only [] at h
      beta_reduce
      rw [h]
      refine (Finset.sum_congr rfl fun a _ => (t6_step 𝒱 c bd i arg1 harg1 arg2 harg2 arg3 harg3 arg4 harg4 arg5 harg5 arg6 harg6 arg7 harg7 arg8 harg8 arg9 harg9 arg10 harg10 arg11 harg11 arg12 harg12 arg13 harg13 X1 X4 v12 v58 v65 v67 v75_0 v75_1 v78 v80 ⟨k, hk'⟩ _ a l).1).trans ?_
      rw [Finset.sum_add_distrib]
      congr 1
      exact sum256 (fun r => tl 2 (fun r c => at3 (arg4.view.read (Elt Ideal) X4) 0 r c * dfac (at3 (arg1.view.read (Elt Ideal) X1) 0 r c * at2 v65 0 c + at2 v67 0 c)) r l.val) (256 * k)

  · refine rows_total (fun k => ∑ a : Fin 8, ((st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).1.2 (ix2 a l) : EReal)) (fun r => tl 2 (fun r c => (at3 (arg4.view.read (Elt Ideal) X4) 0 r c * dfac (at3 (arg1.view.read (Elt Ideal) X1) 0 r c * at2 v65 0 c + at2 v67 0 c)) * at3 (arg1.view.read (Elt Ideal) X1) 0 r c) r l.val) 8 ?_ (fun k hk => ?_) 8 le_rfl
    · show ∑ a : Fin 8, (k0_pay363 (F := Ideal) (ix2 a l) : EReal) = 0
      simp only [p363, Finset.sum_const_zero]
    · have hk' : k < k0_t6_loop.trips := by omega
      have h := st_k0_t6_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) ⟨k, hk'⟩
      simp only [] at h
      beta_reduce
      rw [h]
      refine (Finset.sum_congr rfl fun a _ => (t6_step 𝒱 c bd i arg1 harg1 arg2 harg2 arg3 harg3 arg4 harg4 arg5 harg5 arg6 harg6 arg7 harg7 arg8 harg8 arg9 harg9 arg10 harg10 arg11 harg11 arg12 harg12 arg13 harg13 X1 X4 v12 v58 v65 v67 v75_0 v75_1 v78 v80 ⟨k, hk'⟩ _ a l).2).trans ?_
      rw [Finset.sum_add_distrib]
      congr 1
      exact sum256 (fun r => tl 2 (fun r c => (at3 (arg4.view.read (Elt Ideal) X4) 0 r c * dfac (at3 (arg1.view.read (Elt Ideal) X1) 0 r c * at2 v65 0 c + at2 v67 0 c)) * at3 (arg1.view.read (Elt Ideal) X1) 0 r c) r l.val) (256 * k)

end Cert.KernelIdeal.Hand
-- ==== Proof.VBody.lean ====
module

public import proofs.«01_k».proof.Proof.IBody
public import proofs.«01_k».proof.Proof.VTot

@[expose] public section
set_option maxRecDepth 16384
set_option maxHeartbeats 1000000
noncomputable section
namespace Cert.Nat
open Idealize.ShloMosaic Idealize.SL.Sem

/-- A load of a whole two-axis buffer reads its contents. -/
theorem readAt_full2 {sig : RefSig} {κ : Kind} {sp : Space} {A B : ℕ} {e : EltTy}
    (v : View sig κ sp ⟨2, ![A, B]⟩ e) (f : v.ty.Contents (Elt Ideal))
    (inb : ∀ a : Fin 2, (![0, 0] : Fin 2 → ℕ) a + (![A, B] : Fin 2 → ℕ) a ≤ (![A, B] : Fin 2 → ℕ) a) (i : Fin A) (j : Fin B) :
    v.readAt (Elt Ideal) (Rect.unit (s := ⟨2, ![A, B]⟩) ![0, 0] ![A, B] inb).toLoadRect f (ix2 i j) = v.read (Elt Ideal) f (ix2 i j) := by
  refine congrArg (v.read (Elt Ideal) f) (funext fun a => Fin.ext ?_)
  fin_cases a
  · show 0 + 1 * i.val = i.val; omega
  · show 0 + 1 * j.val = j.val; omega

/-- A store of a whole two-axis buffer is what it reads afterwards. -/
theorem read_full2 {sig : RefSig} {κ : Kind} {sp : Space} {A B : ℕ} {e : EltTy}
    (v : View sig κ sp ⟨2, ![A, B]⟩ e) (f : v.ty.Contents (Elt Ideal))
    (inb : ∀ a : Fin 2, (![0, 0] : Fin 2 → ℕ) a + (![A, B] : Fin 2 → ℕ) a ≤ (![A, B] : Fin 2 → ℕ) a)
    (w : (Rect.unit (s := ⟨2, ![A, B]⟩) ![0, 0] ![A, B] inb).shape.Idx → Elt Ideal e) (i : Fin A) (j : Fin B) :
    v.read (Elt Ideal) (v.writes (Elt Ideal) f [(⟨Rect.unit (s := ⟨2, ![A, B]⟩) ![0, 0] ![A, B] inb, w⟩ : View.Piece (Elt Ideal) ⟨2, ![A, B]⟩ e)]) (ix2 i j) = w (ix2 i j) :=
  View.read_writes_cons_unit_of_mem (s := ⟨2, ![A, B]⟩) v f inb w [] (ix2 i j) (ix2 i j) rfl (by
    intro a; fin_cases a
    · show i.val = 0 + i.val; omega
    · show j.val = 0 + j.val; omega)

end Cert.Nat

namespace Cert.KernelIdeal.Hand
open Idealize.ShloMosaic Idealize.ShloMosaic.TcCoe Idealize.SL.Sem Cert.Nat Cert.KernelIdeal Cert.KernelIdeal.Gen

/-- The kernel's mean, reciprocal deviation, folded coefficients and gradient, over maps of rows and channels. -/
def km (X : ℕ → ℕ → EReal) (c : ℕ) : EReal := gsum (cs X) c * ((1 / 40960 : ℝ) : EReal)
@[inherit_doc km] def kr (X : ℕ → ℕ → EReal) (c : ℕ) : EReal :=
  Ideal.rsqrt (gsum (cs fun r c => X r c * X r c) c * ((1 / 40960 : ℝ) : EReal) - km X c * km X c + Ideal.ofBits .f32 0x3727C5AC#32)
@[inherit_doc km] def ka (X : ℕ → ℕ → EReal) (G : ℕ → EReal) (c : ℕ) : EReal := kr X c * G c
@[inherit_doc km] def kb (X : ℕ → ℕ → EReal) (G B : ℕ → EReal) (c : ℕ) : EReal := B c - km X c * ka X G c
@[inherit_doc km] def kp (X D : ℕ → ℕ → EReal) (G B : ℕ → EReal) (r c : ℕ) : EReal := D r c * dfac (X r c * ka X G c + kb X G B c)
@[inherit_doc km] def ksh (X D : ℕ → ℕ → EReal) (G B : ℕ → EReal) (s : EReal) (c : ℕ) : EReal := cs (kp X D G B) c * s
@[inherit_doc km] def ksx (X D : ℕ → ℕ → EReal) (G B : ℕ → EReal) (s : EReal) (c : ℕ) : EReal :=
  cs (fun r c => kp X D G B r c * X r c) c * s - km X c * ksh X D G B s c

/-- A finite sum of finite entries is finite. -/
theorem sum_real {ι : Type} (s : Finset ι) (f : ι → EReal) (hf : ∀ r, ∃ y : ℝ, f r = y) : ∃ y : ℝ, ∑ r ∈ s, f r = y := by
  classical
  induction s using Finset.induction_on with
  | empty => exact ⟨0, by simp⟩
  | insert a s ha ih =>
    obtain ⟨y, hy⟩ := ih
    obtain ⟨z, hz⟩ := hf a
    exact ⟨z + y, by rw [Finset.sum_insert ha, hy, hz, EReal.coe_add]⟩

/-- Column sums of finite entries are finite. -/
theorem cs_real (f : ℕ → ℕ → EReal) (hf : ∀ r c, ∃ y : ℝ, f r c = y) (c : ℕ) : ∃ y : ℝ, cs f c = y := by
  unfold cs
  split
  · exact sum_real _ _ fun r => hf r c
  · exact ⟨0, rfl⟩

/-- Column sums only read the 320 channels. -/
theorem cs_congr (f g : ℕ → ℕ → EReal) (h : ∀ r c, c < 320 → f r c = g r c) (c : ℕ) : cs f c = cs g c := by
  unfold cs
  split
  · exact Finset.sum_congr rfl fun r _ => h r c ‹_›
  · rfl

/-- The group number of a channel as the kernel's words compute it. -/
theorem pgrp (a : Fin 384) : Scalar.select (IntOp.andi (IntOp.cmpi CmpIPredicate.ne
      (IntOp.subi (BitVec.setWidth 32 (IntOp.cmpi CmpIPredicate.sgt (BitVec.ofNat 32 a.val) 0#32))
        (BitVec.setWidth 32 (IntOp.cmpi CmpIPredicate.slt (BitVec.ofNat 32 a.val) 0#32))) 1#32)
      (IntOp.cmpi CmpIPredicate.ne (IntOp.remsi ArithUnit.vector (BitVec.ofNat 32 a.val) 10#32) 0#32))
      (IntOp.subi (IntOp.divsi ArithUnit.vector (BitVec.ofNat 32 a.val) 10#32) 1#32)
      (IntOp.divsi ArithUnit.vector (BitVec.ofNat 32 a.val) 10#32) = BitVec.ofNat 32 (a.val / 10) := by
  revert a; decide +kernel
/-- A channel below 320, as a word. -/
theorem plt (a : Fin 384) : IntOp.cmpi CmpIPredicate.slt (BitVec.ofNat 32 a.val) 320#32 = if a.val < 320 then 1#1 else 0#1 := by
  revert a; decide +kernel
/-- Equal group numbers, as words. -/
theorem peq (x y : Fin 39) : IntOp.cmpi CmpIPredicate.eq (BitVec.ofNat 32 x.val) (BitVec.ofNat 32 y.val) = if x.val = y.val then 1#1 else 0#1 := by
  revert x y; decide +kernel

/-- The first grid point is the one of coordinate zero. -/
theorem first_iff (i : grid0.Coords) : kernelRun.sl.v2 i = 1#1 ↔ (i 0).val = 0 := by
  have : ∀ k : Fin 8, (Scalar.cmpi CmpIPredicate.ne (Scalar.extui (Scalar.cmpi CmpIPredicate.eq (BitVec.ofNat 32 k.val) 0#32) : BitVec 32) 0#32 = 1#1) ↔ k.val = 0 := by decide +kernel
  exact this (i 0)

/-- The indicator the first grid point builds. -/
theorem pind_eq (a b : Fin 384) :
    k0_pay357 (F := Ideal) kernelRun.sl.v299 kernelRun.sl.v300 kernelRun.sl.v324 (divsi kernelRun.sl.v300 kernelRun.sl.v301) (andi kernelRun.sl.v340 kernelRun.sl.v344) (ix2 a b)
      = pind a.val b.val := by
  pointwise [k0_pay357, kernelRun.sl.v299, kernelRun.sl.v300, kernelRun.sl.v301, kernelRun.sl.v303, kernelRun.sl.v305, kernelRun.sl.v308, kernelRun.sl.v308_1, kernelRun.sl.v315, kernelRun.sl.v316, kernelRun.sl.v320, kernelRun.sl.v323, kernelRun.sl.v324, kernelRun.sl.v329, kernelRun.sl.v332, kernelRun.sl.v340, kernelRun.sl.v344]
  rw [pgrp a, pgrp b, plt a, plt b, peq ⟨a.val / 10, by omega⟩ ⟨b.val / 10, by omega⟩]
  unfold pind
  by_cases h1 : a.val / 10 = b.val / 10 <;> by_cases h2 : b.val < 320 <;> by_cases h3 : a.val < 320 <;>
    simp only [h1, h2, h3, if_true, if_false, and_true, and_false, true_and, false_and] <;> rfl

variable (c : Dev nD) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole)
variable (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f8 : BufTy.Contents (Elt Ideal) arg8.view.ty) (f9 : BufTy.Contents (Elt Ideal) arg9.view.ty) (g0 : BufTy.Contents (Elt Ideal) (sc0).view.ty)

theorem e_r4 (ch : Fin 384) : (kernelRun.sl.r_4 (F := Ideal) c i arg1 harg1 arg2 harg2 arg3 harg3 arg4 harg4 arg5 harg5 arg6 harg6 arg7 harg7 arg8 harg8 arg9 harg9 f1) (ix2 0 ch) = cs (fun r c => at3 (arg1.view.read (Elt Ideal) f1) 0 r c) ch.val := by
  unfold kernelRun.sl.r_4
  exact p373 _ _ _ (fun r c => at3 (arg1.view.read (Elt Ideal) f1) 0 r c) (fun l => (t1_total _ _ _ _ _ _ _ _ _ _ _ _ _ _ _ _ _ _ _ _ _ _ _ _ _ _ _ _ _ _ f1   l).1) (fun l => (t2_total _ _ _ _ _ _ _ _ _ _ _ _ _ _ _ _ _ _ _ _ _ _ _ _ _ _ _ _ _ _ f1   l).1) (fun l => (t3_total _ _ _ _ _ _ _ _ _ _ _ _ _ _ _ _ _ _ _ _ _ _ _ _ _ _ _ _ _ _ f1   l).1) ch

variable (h4 : ∀ a b : Fin 384, (kernelRun.sl.v4 (F := Ideal) c i g0) (ix2 a b) = pind a.val b.val) (hX : ∀ r c, ∃ y : ℝ, at3 (arg1.view.read (Elt Ideal) f1) 0 r c = y)
include h4 hX

theorem e_375_0 (ch : Fin 384) : k0_pay375 (kernelRun.sl.v4 (F := Ideal) c i g0) (kernelRun.sl.r_2 (F := Ideal) c i arg1 harg1 arg2 harg2 arg3 harg3 arg4 harg4 arg5 harg5 arg6 harg6 arg7 harg7 arg8 harg8 arg9 harg9 f1) (kernelRun.sl.r_3 (F := Ideal) c i arg1 harg1 arg2 harg2 arg3 harg3 arg4 harg4 arg5 harg5 arg6 harg6 arg7 harg7 arg8 harg8 arg9 harg9 f1) (kernelRun.sl.r_4 (F := Ideal) c i arg1 harg1 arg2 harg2 arg3 harg3 arg4 harg4 arg5 harg5 arg6 harg6 arg7 harg7 arg8 harg8 arg9 harg9 f1) (kernelRun.sl.r_5 (F := Ideal) c i arg1 harg1 arg2 harg2 arg3 harg3 arg4 harg4 arg5 harg5 arg6 harg6 arg7 harg7 arg8 harg8 arg9 harg9 f1) (ix2 0 ch) = km (fun r c => at3 (arg1.view.read (Elt Ideal) f1) 0 r c) ch.val :=
  p375_0 _ h4 _ _ _ _ (cs (fun r c => at3 (arg1.view.read (Elt Ideal) f1) 0 r c)) (cs_real _ hX) (fun ch => e_r4 c i arg1 harg1 arg2 harg2 arg3 harg3 arg4 harg4 arg5 harg5 arg6 harg6 arg7 harg7 arg8 harg8 arg9 harg9 f1 ch) ch

theorem e_375_1 (ch : Fin 384) : k0_pay375 (kernelRun.sl.v4 (F := Ideal) c i g0) (kernelRun.sl.r_2 (F := Ideal) c i arg1 harg1 arg2 harg2 arg3 harg3 arg4 harg4 arg5 harg5 arg6 harg6 arg7 harg7 arg8 harg8 arg9 harg9 f1) (kernelRun.sl.r_3 (F := Ideal) c i arg1 harg1 arg2 harg2 arg3 harg3 arg4 harg4 arg5 harg5 arg6 harg6 arg7 harg7 arg8 harg8 arg9 harg9 f1) (kernelRun.sl.r_4 (F := Ideal) c i arg1 harg1 arg2 harg2 arg3 harg3 arg4 harg4 arg5 harg5 arg6 harg6 arg7 harg7 arg8 harg8 arg9 harg9 f1) (kernelRun.sl.r_5 (F := Ideal) c i arg1 harg1 arg2 harg2 arg3 harg3 arg4 harg4 arg5 harg5 arg6 harg6 arg7 harg7 arg8 harg8 arg9 harg9 f1) (ix2 1 ch)
    = gsum (cs fun r c => at3 (arg1.view.read (Elt Ideal) f1) 0 r c * at3 (arg1.view.read (Elt Ideal) f1) 0 r c) ch.val * ((1 / 40960 : ℝ) : EReal) := by
  refine p375_1 _ h4 _ _ _ _ _ (cs_real _ fun r c => ?_) (fun l => ?_) (fun l => (t2_total _ _ _ _ _ _ _ _ _ _ _ _ _ _ _ _ _ _ _ _ _ _ _ _ _ _ _ _ _ _ f1   l).2) (fun l => (t3_total _ _ _ _ _ _ _ _ _ _ _ _ _ _ _ _ _ _ _ _ _ _ _ _ _ _ _ _ _ _ f1   l).2) ch
  · obtain ⟨y, hy⟩ := hX r c
    exact ⟨y * y, by rw [hy, EReal.coe_mul]⟩
  · unfold kernelRun.sl.r_5
    rw [p374]
    exact (t1_total _ _ _ _ _ _ _ _ _ _ _ _ _ _ _ _ _ _ _ _ _ _ _ _ _ _ _ _ _ _ f1 l).2

theorem e_r6 (ch : Fin 384) : (kernelRun.sl.r_6 (F := Ideal) c i arg1 harg1 arg2 harg2 arg3 harg3 arg4 harg4 arg5 harg5 arg6 harg6 arg7 harg7 arg8 harg8 arg9 harg9 f1 g0) (ix2 0 ch) = km (fun r c => at3 (arg1.view.read (Elt Ideal) f1) 0 r c) ch.val := by
  unfold kernelRun.sl.r_6
  rw [p376]
  exact e_375_0 c i arg1 harg1 arg2 harg2 arg3 harg3 arg4 harg4 arg5 harg5 arg6 harg6 arg7 harg7 arg8 harg8 arg9 harg9 f1 g0 h4 hX ch

theorem e_r7 (ch : Fin 384) : (kernelRun.sl.r_7 (F := Ideal) c i arg1 harg1 arg2 harg2 arg3 harg3 arg4 harg4 arg5 harg5 arg6 harg6 arg7 harg7 arg8 harg8 arg9 harg9 f1 g0) (ix2 0 ch) = kr (fun r c => at3 (arg1.view.read (Elt Ideal) f1) 0 r c) ch.val := by
  unfold kernelRun.sl.r_7
  exact p377 _ _ _ _ _ (km (fun r c => at3 (arg1.view.read (Elt Ideal) f1) 0 r c)) (fun ch => gsum (cs fun r c => at3 (arg1.view.read (Elt Ideal) f1) 0 r c * at3 (arg1.view.read (Elt Ideal) f1) 0 r c) ch * ((1 / 40960 : ℝ) : EReal))
    (fun ch => e_375_0 c i arg1 harg1 arg2 harg2 arg3 harg3 arg4 harg4 arg5 harg5 arg6 harg6 arg7 harg7 arg8 harg8 arg9 harg9 f1 g0 h4 hX ch) (fun ch => e_375_1 c i arg1 harg1 arg2 harg2 arg3 harg3 arg4 harg4 arg5 harg5 arg6 harg6 arg7 harg7 arg8 harg8 arg9 harg9 f1 g0 h4 hX ch) ch

theorem e_r8 (ch : Fin 384) : (kernelRun.sl.r_8 (F := Ideal) c i arg1 harg1 arg2 harg2 arg3 harg3 arg4 harg4 arg5 harg5 arg6 harg6 arg7 harg7 arg8 harg8 arg9 harg9 f1 f2 g0) (ix2 0 ch) = ka (fun r c => at3 (arg1.view.read (Elt Ideal) f1) 0 r c) (fun c => at2 (arg2.view.read (Elt Ideal) f2) 0 c) ch.val := by
  unfold kernelRun.sl.r_8
  rw [p378]
  unfold ka
  congr 1
  · exact e_r7 c i arg1 harg1 arg2 harg2 arg3 harg3 arg4 harg4 arg5 harg5 arg6 harg6 arg7 harg7 arg8 harg8 arg9 harg9 f1 g0 h4 hX ch
  · unfold kernelRun.sl.r
    rw [p361]
    beta_reduce
    unfold at2
    split
    · exact readAt_full2 _ _ _ _ _
    · rfl

theorem e_r9 (ch : Fin 384) : (kernelRun.sl.r_9 (F := Ideal) c i arg1 harg1 arg2 harg2 arg3 harg3 arg4 harg4 arg5 harg5 arg6 harg6 arg7 harg7 arg8 harg8 arg9 harg9 f1 f2 f3 g0) (ix2 0 ch) = kb (fun r c => at3 (arg1.view.read (Elt Ideal) f1) 0 r c) (fun c => at2 (arg2.view.read (Elt Ideal) f2) 0 c) (fun c => at2 (arg3.view.read (Elt Ideal) f3) 0 c) ch.val := by
  unfold kernelRun.sl.r_9
  rw [p379]
  unfold kb
  congr 1
  · unfold kernelRun.sl.r_1
    rw [p362]
    beta_reduce
    unfold at2
    split
    · exact readAt_full2 _ _ _ _ _
    · rfl
  · exact congrArg₂ (· * ·) (e_r6 c i arg1 harg1 arg2 harg2 arg3 harg3 arg4 harg4 arg5 harg5 arg6 harg6 arg7 harg7 arg8 harg8 arg9 harg9 f1 g0 h4 hX ch) (e_r8 c i arg1 harg1 arg2 harg2 arg3 harg3 arg4 harg4 arg5 harg5 arg6 harg6 arg7 harg7 arg8 harg8 arg9 harg9 f1 f2 g0 h4 hX ch)

/-- The gradient's map in the kernel's own terms. -/
theorem kp_eq (r ch : ℕ) (hc : ch < 320) : (fun r ch => at3 (arg4.view.read (Elt Ideal) f4) 0 r ch * dfac (at3 (arg1.view.read (Elt Ideal) f1) 0 r ch * at2 (kernelRun.sl.r_8 (F := Ideal) c i arg1 harg1 arg2 harg2 arg3 harg3 arg4 harg4 arg5 harg5 arg6 harg6 arg7 harg7 arg8 harg8 arg9 harg9 f1 f2 g0) 0 ch + at2 (kernelRun.sl.r_9 (F := Ideal) c i arg1 harg1 arg2 harg2 arg3 harg3 arg4 harg4 arg5 harg5 arg6 harg6 arg7 harg7 arg8 harg8 arg9 harg9 f1 f2 f3 g0) 0 ch)) r ch = kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) r ch := by
  unfold kp
  beta_reduce
  have a8 : at2 (kernelRun.sl.r_8 (F := Ideal) c i arg1 harg1 arg2 harg2 arg3 harg3 arg4 harg4 arg5 harg5 arg6 harg6 arg7 harg7 arg8 harg8 arg9 harg9 f1 f2 g0) 0 ch = ka (fun r c => at3 (arg1.view.read (Elt Ideal) f1) 0 r c) (fun c => at2 (arg2.view.read (Elt Ideal) f2) 0 c) ch :=
    (at2_ix (kernelRun.sl.r_8 (F := Ideal) c i arg1 harg1 arg2 harg2 arg3 harg3 arg4 harg4 arg5 harg5 arg6 harg6 arg7 harg7 arg8 harg8 arg9 harg9 f1 f2 g0) 0 ⟨ch, by omega⟩).symm.trans (e_r8 c i arg1 harg1 arg2 harg2 arg3 harg3 arg4 harg4 arg5 harg5 arg6 harg6 arg7 harg7 arg8 harg8 arg9 harg9 f1 f2 g0 h4 hX ⟨ch, by omega⟩)
  have a9 : at2 (kernelRun.sl.r_9 (F := Ideal) c i arg1 harg1 arg2 harg2 arg3 harg3 arg4 harg4 arg5 harg5 arg6 harg6 arg7 harg7 arg8 harg8 arg9 harg9 f1 f2 f3 g0) 0 ch = kb (fun r c => at3 (arg1.view.read (Elt Ideal) f1) 0 r c) (fun c => at2 (arg2.view.read (Elt Ideal) f2) 0 c) (fun c => at2 (arg3.view.read (Elt Ideal) f3) 0 c) ch :=
    (at2_ix (kernelRun.sl.r_9 (F := Ideal) c i arg1 harg1 arg2 harg2 arg3 harg3 arg4 harg4 arg5 harg5 arg6 harg6 arg7 harg7 arg8 harg8 arg9 harg9 f1 f2 f3 g0) 0 ⟨ch, by omega⟩).symm.trans (e_r9 c i arg1 harg1 arg2 harg2 arg3 harg3 arg4 harg4 arg5 harg5 arg6 harg6 arg7 harg7 arg8 harg8 arg9 harg9 f1 f2 f3 g0 h4 hX ⟨ch, by omega⟩)
  rw [a8, a9]

theorem e_r15 (ch : Fin 384) : (kernelRun.sl.r_15 (F := Ideal) c i arg1 harg1 arg2 harg2 arg3 harg3 arg4 harg4 arg5 harg5 arg6 harg6 arg7 harg7 arg8 harg8 arg9 harg9 f1 f2 f3 f4 f5 g0) (ix2 0 ch) = ksh (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) ch.val := by
  unfold kernelRun.sl.r_15
  refine (p390 _ _ _ _ (fun r ch => at3 (arg4.view.read (Elt Ideal) f4) 0 r ch * dfac (at3 (arg1.view.read (Elt Ideal) f1) 0 r ch * at2 (kernelRun.sl.r_8 (F := Ideal) c i arg1 harg1 arg2 harg2 arg3 harg3 arg4 harg4 arg5 harg5 arg6 harg6 arg7 harg7 arg8 harg8 arg9 harg9 f1 f2 g0) 0 ch + at2 (kernelRun.sl.r_9 (F := Ideal) c i arg1 harg1 arg2 harg2 arg3 harg3 arg4 harg4 arg5 harg5 arg6 harg6 arg7 harg7 arg8 harg8 arg9 harg9 f1 f2 f3 g0) 0 ch)) (fun l => (t4_total _ _ _ _ _ _ _ _ _ _ _ _ _ _ _ _ _ _ _ _ _ _ _ _ _ _ _ _ _ _ f1 f4 _ _ _ _ _ _ _ _  l).1) (fun l => (t5_total _ _ _ _ _ _ _ _ _ _ _ _ _ _ _ _ _ _ _ _ _ _ _ _ _ _ _ _ _ _ f1 f4 _ _ _ _ _ _ _ _ (at2 (kernelRun.sl.r_8 (F := Ideal) c i arg1 harg1 arg2 harg2 arg3 harg3 arg4 harg4 arg5 harg5 arg6 harg6 arg7 harg7 arg8 harg8 arg9 harg9 f1 f2 g0) 0) (at2 (kernelRun.sl.r_9 (F := Ideal) c i arg1 harg1 arg2 harg2 arg3 harg3 arg4 harg4 arg5 harg5 arg6 harg6 arg7 harg7 arg8 harg8 arg9 harg9 f1 f2 f3 g0) 0) (fun r l => p383 _ _ _ _ _ _ r l) (fun l => p384 _ _ _ _ _ _ _ l) l).1) (fun l => (t6_total _ _ _ _ _ _ _ _ _ _ _ _ _ _ _ _ _ _ _ _ _ _ _ _ _ _ _ _ _ _ f1 f4 _ _ _ _ _ _ _ _  l).1) ch).trans ?_
  unfold ksh
  rw [cs_congr _ _ (fun r ch hc => kp_eq c i arg1 harg1 arg2 harg2 arg3 harg3 arg4 harg4 arg5 harg5 arg6 harg6 arg7 harg7 arg8 harg8 arg9 harg9 f1 f2 f3 f4 g0 h4 hX r ch hc)]

theorem e_r16 (ch : Fin 384) : (kernelRun.sl.r_16 (F := Ideal) c i arg1 harg1 arg2 harg2 arg3 harg3 arg4 harg4 arg5 harg5 arg6 harg6 arg7 harg7 arg8 harg8 arg9 harg9 f1 f2 f3 f4 f5 g0) (ix2 0 ch) = ksx (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) ch.val := by
  unfold kernelRun.sl.r_16
  refine (p391 _ _ _ _ _ _ _ _ (fun r ch => (at3 (arg4.view.read (Elt Ideal) f4) 0 r ch * dfac (at3 (arg1.view.read (Elt Ideal) f1) 0 r ch * at2 (kernelRun.sl.r_8 (F := Ideal) c i arg1 harg1 arg2 harg2 arg3 harg3 arg4 harg4 arg5 harg5 arg6 harg6 arg7 harg7 arg8 harg8 arg9 harg9 f1 f2 g0) 0 ch + at2 (kernelRun.sl.r_9 (F := Ideal) c i arg1 harg1 arg2 harg2 arg3 harg3 arg4 harg4 arg5 harg5 arg6 harg6 arg7 harg7 arg8 harg8 arg9 harg9 f1 f2 f3 g0) 0 ch)) * at3 (arg1.view.read (Elt Ideal) f1) 0 r ch) (fun l => (t4_total _ _ _ _ _ _ _ _ _ _ _ _ _ _ _ _ _ _ _ _ _ _ _ _ _ _ _ _ _ _ f1 f4 _ _ _ _ _ _ _ _  l).2) (fun l => (t5_total _ _ _ _ _ _ _ _ _ _ _ _ _ _ _ _ _ _ _ _ _ _ _ _ _ _ _ _ _ _ f1 f4 _ _ _ _ _ _ _ _ (at2 (kernelRun.sl.r_8 (F := Ideal) c i arg1 harg1 arg2 harg2 arg3 harg3 arg4 harg4 arg5 harg5 arg6 harg6 arg7 harg7 arg8 harg8 arg9 harg9 f1 f2 g0) 0) (at2 (kernelRun.sl.r_9 (F := Ideal) c i arg1 harg1 arg2 harg2 arg3 harg3 arg4 harg4 arg5 harg5 arg6 harg6 arg7 harg7 arg8 harg8 arg9 harg9 f1 f2 f3 g0) 0) (fun r l => p383 _ _ _ _ _ _ r l) (fun l => p384 _ _ _ _ _ _ _ l) l).2) (fun l => (t6_total _ _ _ _ _ _ _ _ _ _ _ _ _ _ _ _ _ _ _ _ _ _ _ _ _ _ _ _ _ _ f1 f4 _ _ _ _ _ _ _ _  l).2) ch).trans ?_
  unfold ksx
  rw [cs_congr (fun r ch => (at3 (arg4.view.read (Elt Ideal) f4) 0 r ch * dfac (at3 (arg1.view.read (Elt Ideal) f1) 0 r ch * at2 (kernelRun.sl.r_8 (F := Ideal) c i arg1 harg1 arg2 harg2 arg3 harg3 arg4 harg4 arg5 harg5 arg6 harg6 arg7 harg7 arg8 harg8 arg9 harg9 f1 f2 g0) 0 ch + at2 (kernelRun.sl.r_9 (F := Ideal) c i arg1 harg1 arg2 harg2 arg3 harg3 arg4 harg4 arg5 harg5 arg6 harg6 arg7 harg7 arg8 harg8 arg9 harg9 f1 f2 f3 g0) 0 ch)) * at3 (arg1.view.read (Elt Ideal) f1) 0 r ch) (fun r c => kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) r c * at3 (arg1.view.read (Elt Ideal) f1) 0 r c)
    (fun r ch hc => congrArg (· * at3 (arg1.view.read (Elt Ideal) f1) 0 r ch) (kp_eq c i arg1 harg1 arg2 harg2 arg3 harg3 arg4 harg4 arg5 harg5 arg6 harg6 arg7 harg7 arg8 harg8 arg9 harg9 f1 f2 f3 f4 g0 h4 hX r ch hc))]
  congr 2
  · exact e_r6 c i arg1 harg1 arg2 harg2 arg3 harg3 arg4 harg4 arg5 harg5 arg6 harg6 arg7 harg7 arg8 harg8 arg9 harg9 f1 g0 h4 hX ch
  · exact e_r15 c i arg1 harg1 arg2 harg2 arg3 harg3 arg4 harg4 arg5 harg5 arg6 harg6 arg7 harg7 arg8 harg8 arg9 harg9 f1 f2 f3 f4 f5 g0 h4 hX ch

/-- What the body leaves of the gamma gradient. -/
theorem e_dg (ch : Fin 320) :
    arg8.view.read (Elt Ideal) (arg8.view.writes (Elt Ideal) arg8.view.junk (kernelRun.sl.H8_1 (F := Ideal) c i arg1 harg1 arg2 harg2 arg3 harg3 arg4 harg4 arg5 harg5 arg6 harg6 arg7 harg7 arg8 harg8 arg9 harg9 f1 f2 f3 f4 f5 f8 g0)) (ix2 0 ch)
      = (if kernelRun.sl.v2 i = 1#1 then 0 else arg8.view.read (Elt Ideal) f8 (ix2 0 ch) : EReal)
        + ksx (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) ch.val * kr (fun r c => at3 (arg1.view.read (Elt Ideal) f1) 0 r c) ch.val := by
  unfold kernelRun.sl.H8_1
  refine (read_full2 _ _ _ _ _ _).trans ?_
  refine (p393 _ _ _ ch).trans ?_
  rw [e_r16 c i arg1 harg1 arg2 harg2 arg3 harg3 arg4 harg4 arg5 harg5 arg6 harg6 arg7 harg7 arg8 harg8 arg9 harg9 f1 f2 f3 f4 f5 g0 h4 hX, e_r7 c i arg1 harg1 arg2 harg2 arg3 harg3 arg4 harg4 arg5 harg5 arg6 harg6 arg7 harg7 arg8 harg8 arg9 harg9 f1 g0 h4 hX]
  congr 1
  unfold kernelRun.sl.v124
  refine (readAt_full2 _ _ _ _ _).trans ?_
  split
  · exact (read_full2 _ _ _ _ _ _).trans (p358 ch)
  · rfl

/-- What the body leaves of the beta gradient. -/
theorem e_db (ch : Fin 320) :
    arg9.view.read (Elt Ideal) (arg9.view.writes (Elt Ideal) arg9.view.junk (kernelRun.sl.H9_1 (F := Ideal) c i arg1 harg1 arg2 harg2 arg3 harg3 arg4 harg4 arg5 harg5 arg6 harg6 arg7 harg7 arg8 harg8 arg9 harg9 f1 f2 f3 f4 f5 f9 g0)) (ix2 0 ch)
      = (if kernelRun.sl.v2 i = 1#1 then 0 else arg9.view.read (Elt Ideal) f9 (ix2 0 ch) : EReal)
        + ksh (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) ch.val := by
  unfold kernelRun.sl.H9_1
  refine (read_full2 _ _ _ _ _ _).trans ?_
  refine (p394 _ _ ch).trans ?_
  rw [e_r15 c i arg1 harg1 arg2 harg2 arg3 harg3 arg4 harg4 arg5 harg5 arg6 harg6 arg7 harg7 arg8 harg8 arg9 harg9 f1 f2 f3 f4 f5 g0 h4 hX]
  congr 1
  unfold kernelRun.sl.v129
  refine (readAt_full2 _ _ _ _ _).trans ?_
  split
  · exact (read_full2 _ _ _ _ _ _).trans (p359 ch)
  · rfl

end Cert.KernelIdeal.Hand
-- ==== Proof.VMax.lean ====
/- The maxima a trip of 256 rows takes, and the value a row is stored as. -/
module

public import proofs.«01_k».proof.Proof.VBase

@[expose] public section

set_option maxRecDepth 16384

noncomputable section

namespace Cert.Nat

open Idealize.ShloMosaic Idealize.ShloMosaic.TcCoe

/-- The gradient at x over the reciprocal deviation: upstream times one coefficient, less x times another, less a third. -/
def wv (s x d e c : EReal) : EReal := s * d - x * e - c

/-- The magnitude. -/
def av (x : EReal) : EReal := max x (-x)

/-- The code of a stored value: scaled and clamped to the range of the eight-bit format. -/
def cv (x k : EReal) : EReal :=
  min (Ideal.ofBits FTy.f32 1197473792#32) (max (Ideal.ofBits FTy.f32 3344957440#32) (x * k))

/-- Minus infinity's pattern denotes minus infinity. -/
theorem ninf_eq : Ideal.ofBits FTy.f32 4286578688#32 = (⊥ : EReal) := by
  simp [Ideal.ofBits, Ideal.ieee]

/-- A fold of maxima from minus infinity over an index type is the supremum over its numbers. -/
theorem fold_range (n : ℕ) (g : ℕ → EReal) :
    Finset.fold max (Ideal.ofBits FTy.f32 4286578688#32 : EReal) (fun x : Fin n => g x.val) Finset.univ = (Finset.range n).sup g := by
  rw [ninf_eq]
  apply le_antisymm
  · exact (Finset.fold_max_le _).2 ⟨bot_le, fun x _ => Finset.le_sup (f := g) (Finset.mem_range.2 x.isLt)⟩
  · exact Finset.sup_le fun q hq => (Finset.le_fold_max _).2 (Or.inr ⟨⟨q, Finset.mem_range.1 hq⟩, Finset.mem_univ _, le_rfl⟩)

/-- A range's supremum, in two parts. -/
theorem sup_range_add (m n : ℕ) (f : ℕ → EReal) :
    max ((Finset.range m).sup f) ((Finset.range n).sup fun x => f (m + x)) = (Finset.range (m + n)).sup f := by
  apply le_antisymm
  · refine max_le (Finset.sup_le fun q hq => ?_) (Finset.sup_le fun q hq => ?_)
    · exact Finset.le_sup (f := f) (Finset.mem_range.2 (by have := Finset.mem_range.1 hq; omega))
    · exact Finset.le_sup (f := f) (Finset.mem_range.2 (by have := Finset.mem_range.1 hq; omega))
  · refine Finset.sup_le fun q hq => ?_
    have := Finset.mem_range.1 hq
    by_cases h : q < m
    · exact le_max_of_le_left (Finset.le_sup (f := f) (Finset.mem_range.2 h))
    · refine le_max_of_le_right ?_
      have h2 := Finset.le_sup (f := fun x => f (m + x)) (s := Finset.range n) (b := q - m) (Finset.mem_range.2 (by omega))
      simpa only [show m + (q - m) = q by omega] using h2

/-- `sup_range_add` under a maximum. -/
theorem max_sup_add (a : EReal) (m n : ℕ) (f : ℕ → EReal) :
    max (max a ((Finset.range m).sup f)) ((Finset.range n).sup fun x => f (m + x)) = max a ((Finset.range (m + n)).sup f) := by
  rw [max_assoc, sup_range_add]

/-- One chunk of four sublane rows. -/
theorem chunk4 (f : ℕ → EReal) (b i o m : ℕ) (h : o = 8 * m) :
    Finset.fold max (Ideal.ofBits FTy.f32 4286578688#32 : EReal) (fun x : Fin 4 => f (b + o + (x.val * 8 + i))) Finset.univ
      = (Finset.range 4).sup fun x => (fun q => f (b + (8 * q + i))) (m + x) := by
  rw [fold_range 4 (fun x => f (b + o + (x * 8 + i)))]
  congr 1; funext x
  show f (b + o + (x * 8 + i)) = f (b + (8 * (m + x) + i))
  congr 1; omega

/-- Eight chunks of four sublane rows each are 32 consecutive sublane rows. -/
theorem max8 (f : ℕ → EReal) (b i : ℕ) (a : EReal) :
    max (max (max (max (max (max (max (max a
      (Finset.fold max (Ideal.ofBits FTy.f32 4286578688#32 : EReal) (fun x : Fin 4 => f (b + 0 + (x.val * 8 + i))) Finset.univ))
      (Finset.fold max (Ideal.ofBits FTy.f32 4286578688#32 : EReal) (fun x : Fin 4 => f (b + 32 + (x.val * 8 + i))) Finset.univ))
      (Finset.fold max (Ideal.ofBits FTy.f32 4286578688#32 : EReal) (fun x : Fin 4 => f (b + 64 + (x.val * 8 + i))) Finset.univ))
      (Finset.fold max (Ideal.ofBits FTy.f32 4286578688#32 : EReal) (fun x : Fin 4 => f (b + 96 + (x.val * 8 + i))) Finset.univ))
      (Finset.fold max (Ideal.ofBits FTy.f32 4286578688#32 : EReal) (fun x : Fin 4 => f (b + 128 + (x.val * 8 + i))) Finset.univ))
      (Finset.fold max (Ideal.ofBits FTy.f32 4286578688#32 : EReal) (fun x : Fin 4 => f (b + 160 + (x.val * 8 + i))) Finset.univ))
      (Finset.fold max (Ideal.ofBits FTy.f32 4286578688#32 : EReal) (fun x : Fin 4 => f (b + 192 + (x.val * 8 + i))) Finset.univ))
      (Finset.fold max (Ideal.ofBits FTy.f32 4286578688#32 : EReal) (fun x : Fin 4 => f (b + 224 + (x.val * 8 + i))) Finset.univ)
      = max a ((Finset.range 32).sup fun q => f (b + (8 * q + i))) := by
  rw [chunk4 f b i 0 0 rfl, chunk4 f b i 32 4 rfl, chunk4 f b i 64 8 rfl, chunk4 f b i 96 12 rfl, chunk4 f b i 128 16 rfl,
    chunk4 f b i 160 20 rfl, chunk4 f b i 192 24 rfl, chunk4 f b i 224 28 rfl]
  have h0 : ((Finset.range 4).sup fun x => (fun q => f (b + (8 * q + i))) (0 + x)) = (Finset.range 4).sup fun q => f (b + (8 * q + i)) := by
    simp only [Nat.zero_add]
  rw [h0, max_sup_add, max_sup_add, max_sup_add, max_sup_add, max_sup_add, max_sup_add, max_sup_add]

/-- The eight sublanes' maxima over 32 sublane rows are one maximum over 256 rows. -/
theorem sup256 (f : ℕ → EReal) (b : ℕ) :
    ((Finset.range 8).sup fun i => (Finset.range 32).sup fun q => f (b + (8 * q + i))) = (Finset.range 256).sup fun r => f (b + r) := by
  apply le_antisymm
  · refine Finset.sup_le fun i hi => Finset.sup_le fun q hq => ?_
    have := Finset.mem_range.1 hi; have := Finset.mem_range.1 hq
    exact Finset.le_sup (f := fun r => f (b + r)) (Finset.mem_range.2 (show 8 * q + i < 256 by omega))
  · refine Finset.sup_le fun r hr => ?_
    have := Finset.mem_range.1 hr
    refine le_trans ?_ (Finset.le_sup (f := fun i => (Finset.range 32).sup fun q => f (b + (8 * q + i))) (Finset.mem_range.2 (show r % 8 < 8 by omega)))
    have h2 := Finset.le_sup (f := fun q => f (b + (8 * q + r % 8))) (Finset.mem_range.2 (show r / 8 < 32 by omega))
    simpa only [show 8 * (r / 8) + r % 8 = r by omega] using h2

/-- A carried maximum of the eight sublanes whose every trip takes 256 rows holds, after `n` trips, `256 n` rows. -/
theorem max_total (S : ℕ → ℕ → EReal) (f : ℕ → EReal) (N : ℕ) (h0 : ∀ i < 8, S 0 i = 0)
    (h : ∀ k < N, ∀ i < 8, S (k + 1) i = max (S k i) ((Finset.range 32).sup fun q => f (256 * k + (8 * q + i)))) (n : ℕ) (hn : n ≤ N) :
    (Finset.range 8).sup (S n) = max 0 ((Finset.range (256 * n)).sup f) := by
  induction n with
  | zero =>
    apply le_antisymm
    · exact Finset.sup_le fun i hi => by rw [h0 i (Finset.mem_range.1 hi)]; exact le_max_left _ _
    · refine max_le ?_ (by simp)
      have := Finset.le_sup (f := S 0) (Finset.mem_range.2 (show 0 < 8 by omega))
      rwa [h0 0 (by omega)] at this
  | succ n ih =>
    have e : (Finset.range 8).sup (S (n + 1)) = max ((Finset.range 8).sup (S n)) ((Finset.range 8).sup fun i => (Finset.range 32).sup fun q => f (256 * n + (8 * q + i))) := by
      have hc : (Finset.range 8).sup (S (n + 1)) = (Finset.range 8).sup fun i => max (S n i) ((Finset.range 32).sup fun q => f (256 * n + (8 * q + i))) :=
        Finset.sup_congr rfl fun i hi => h n (by omega) i (Finset.mem_range.1 hi)
      rw [hc]; exact Finset.sup_sup
    rw [e, ih (by omega), sup256, max_sup_add, Nat.mul_succ]

/-- Two bands 2048 rows apart are one band of a row's residue. -/
theorem band_pair (t o r c : ℕ) (ho : o + 32 ≤ 2048) (A B R : EReal) :
    (if (0 ≤ t ∧ t < 0 + 1) ∧ (o + 2048 ≤ r ∧ r < o + 2048 + 32) ∧ (256 ≤ c ∧ c < 256 + 64) then B
      else if (0 ≤ t ∧ t < 0 + 1) ∧ (o ≤ r ∧ r < o + 32) ∧ (256 ≤ c ∧ c < 256 + 64) then A else R)
      = if (0 ≤ t ∧ t < 0 + 1) ∧ (o ≤ r % 2048 ∧ r % 2048 < o + 32 ∧ r < 4096) ∧ (256 ≤ c ∧ c < 256 + 64) then (if r < 2048 then A else B) else R := by
  by_cases h1 : (0 ≤ t ∧ t < 0 + 1) ∧ (o ≤ r % 2048 ∧ r % 2048 < o + 32 ∧ r < 4096) ∧ (256 ≤ c ∧ c < 256 + 64)
  · rw [if_pos h1]
    by_cases h2 : r < 2048
    · rw [if_pos h2, if_neg (by omega), if_pos (by omega)]
    · rw [if_neg h2, if_pos (by omega)]
  · rw [if_neg h1, if_neg (by omega), if_neg (by omega)]

/-- Two adjacent bands of a row's residue are one. -/
theorem band_join2 (t o n r c : ℕ) (a R : EReal) :
    (if (0 ≤ t ∧ t < 0 + 1) ∧ (o + n ≤ r % 2048 ∧ r % 2048 < o + n + 32 ∧ r < 4096) ∧ (256 ≤ c ∧ c < 256 + 64) then a
      else if (0 ≤ t ∧ t < 0 + 1) ∧ (o ≤ r % 2048 ∧ r % 2048 < o + n ∧ r < 4096) ∧ (256 ≤ c ∧ c < 256 + 64) then a else R)
      = if (0 ≤ t ∧ t < 0 + 1) ∧ (o ≤ r % 2048 ∧ r % 2048 < o + (n + 32) ∧ r < 4096) ∧ (256 ≤ c ∧ c < 256 + 64) then a else R := by
  by_cases h1 : (0 ≤ t ∧ t < 0 + 1) ∧ (o ≤ r % 2048 ∧ r % 2048 < o + (n + 32) ∧ r < 4096) ∧ (256 ≤ c ∧ c < 256 + 64)
  · rw [if_pos h1]
    by_cases h2 : r % 2048 < o + n
    · rw [if_neg (by omega), if_pos (by omega)]
    · rw [if_pos (by omega)]
  · rw [if_neg h1, if_neg (by omega), if_neg (by omega)]

/-- Sixteen bands, eight pairs 2048 rows apart, are two bands of 256 rows. -/
theorem bands16 (t k r c : ℕ) (hk : k < 8) (A B R : EReal) :
    (if (0 ≤ t ∧ t < 0 + 1) ∧ (256 * k + 224 + 2048 ≤ r ∧ r < 256 * k + 224 + 2048 + 32) ∧ (256 ≤ c ∧ c < 256 + 64) then B else if (0 ≤ t ∧ t < 0 + 1) ∧ (256 * k + 224 ≤ r ∧ r < 256 * k + 224 + 32) ∧ (256 ≤ c ∧ c < 256 + 64) then A else if (0 ≤ t ∧ t < 0 + 1) ∧ (256 * k + 192 + 2048 ≤ r ∧ r < 256 * k + 192 + 2048 + 32) ∧ (256 ≤ c ∧ c < 256 + 64) then B else if (0 ≤ t ∧ t < 0 + 1) ∧ (256 * k + 192 ≤ r ∧ r < 256 * k + 192 + 32) ∧ (256 ≤ c ∧ c < 256 + 64) then A else if (0 ≤ t ∧ t < 0 + 1) ∧ (256 * k + 160 + 2048 ≤ r ∧ r < 256 * k + 160 + 2048 + 32) ∧ (256 ≤ c ∧ c < 256 + 64) then B else if (0 ≤ t ∧ t < 0 + 1) ∧ (256 * k + 160 ≤ r ∧ r < 256 * k + 160 + 32) ∧ (256 ≤ c ∧ c < 256 + 64) then A else if (0 ≤ t ∧ t < 0 + 1) ∧ (256 * k + 128 + 2048 ≤ r ∧ r < 256 * k + 128 + 2048 + 32) ∧ (256 ≤ c ∧ c < 256 + 64) then B else if (0 ≤ t ∧ t < 0 + 1) ∧ (256 * k + 128 ≤ r ∧ r < 256 * k + 128 + 32) ∧ (256 ≤ c ∧ c < 256 + 64) then A else if (0 ≤ t ∧ t < 0 + 1) ∧ (256 * k + 96 + 2048 ≤ r ∧ r < 256 * k + 96 + 2048 + 32) ∧ (256 ≤ c ∧ c < 256 + 64) then B else if (0 ≤ t ∧ t < 0 + 1) ∧ (256 * k + 96 ≤ r ∧ r < 256 * k + 96 + 32) ∧ (256 ≤ c ∧ c < 256 + 64) then A else if (0 ≤ t ∧ t < 0 + 1) ∧ (256 * k + 64 + 2048 ≤ r ∧ r < 256 * k + 64 + 2048 + 32) ∧ (256 ≤ c ∧ c < 256 + 64) then B else if (0 ≤ t ∧ t < 0 + 1) ∧ (256 * k + 64 ≤ r ∧ r < 256 * k + 64 + 32) ∧ (256 ≤ c ∧ c < 256 + 64) then A else if (0 ≤ t ∧ t < 0 + 1) ∧ (256 * k + 32 + 2048 ≤ r ∧ r < 256 * k + 32 + 2048 + 32) ∧ (256 ≤ c ∧ c < 256 + 64) then B else if (0 ≤ t ∧ t < 0 + 1) ∧ (256 * k + 32 ≤ r ∧ r < 256 * k + 32 + 32) ∧ (256 ≤ c ∧ c < 256 + 64) then A else if (0 ≤ t ∧ t < 0 + 1) ∧ (256 * k + 0 + 2048 ≤ r ∧ r < 256 * k + 0 + 2048 + 32) ∧ (256 ≤ c ∧ c < 256 + 64) then B else if (0 ≤ t ∧ t < 0 + 1) ∧ (256 * k + 0 ≤ r ∧ r < 256 * k + 0 + 32) ∧ (256 ≤ c ∧ c < 256 + 64) then A else R)
      = if (0 ≤ t ∧ t < 0 + 1) ∧ (256 * k ≤ r % 2048 ∧ r % 2048 < 256 * k + 256 ∧ r < 4096) ∧ (256 ≤ c ∧ c < 256 + 64) then (if r < 2048 then A else B) else R := by
  rw [band_pair t (256 * k + 224) r c (by omega), band_pair t (256 * k + 192) r c (by omega), band_pair t (256 * k + 160) r c (by omega), band_pair t (256 * k + 128) r c (by omega), band_pair t (256 * k + 96) r c (by omega), band_pair t (256 * k + 64) r c (by omega), band_pair t (256 * k + 32) r c (by omega), band_pair t (256 * k + 0) r c (by omega)]
  rw [show 256 * k + 0 = 256 * k by rfl]
  rw [band_join2 t (256 * k) 32, band_join2 t (256 * k) 64, band_join2 t (256 * k) 96, band_join2 t (256 * k) 128, band_join2 t (256 * k) 160, band_join2 t (256 * k) 192, band_join2 t (256 * k) 224]

end Cert.Nat

end
-- ==== Proof.VPay2.lean ====
module

public import proofs.«01_k».proof.Proof.VPay
public import proofs.«01_k».proof.Proof.VMax

@[expose] public section
set_option maxRecDepth 16384
noncomputable section
namespace Cert.KernelIdeal.Hand
open Idealize.ShloMosaic Idealize.ShloMosaic.TcCoe Idealize.SL.Sem Cert.Nat Cert.KernelIdeal Cert.KernelIdeal.Gen

/-- Column maxima of a map of rows and channels over the 4096 rows, from 0; 0 in the padding lanes. -/
def cmx (f : ℕ → ℕ → EReal) (c : ℕ) : EReal := if c < 320 then max 0 ((Finset.range 4096).sup fun r => f r c) else 0

/-- The maximum over a channel's group as the kernel takes it: sixteen rows, each the group sum of what one place in a group holds. -/
def gmx (S : ℕ → EReal) (c : ℕ) : EReal := (Finset.range 16).sup fun j => gsum (fun x => if x % 10 = j then S x else 0) c

/-- The three tiles' lane maxima, the last tile folded, are the column maxima. -/
theorem fold3m (A0 A1 A2 : Fin 128 → EReal) (f : ℕ → ℕ → EReal)
    (h0 : ∀ l, A0 l = max 0 ((Finset.range 4096).sup fun r => tl 0 f r l.val)) (h1 : ∀ l, A1 l = max 0 ((Finset.range 4096).sup fun r => tl 1 f r l.val))
    (h2 : ∀ l, A2 l = max 0 ((Finset.range 2048).sup fun r => tl 2 f r l.val)) (c : Fin 384) :
    (if h : c.val < 128 then A0 ⟨c.val, h⟩ else if h : c.val - 128 < 128 then A1 ⟨c.val - 128, h⟩
      else if h : c.val - 128 - 128 < 64 then max (A2 ⟨c.val - 128 - 128, by omega⟩) (A2 ⟨64 + (c.val - 128 - 128), by omega⟩) else 0) = cmx f c.val := by
  unfold cmx
  split_ifs with a b d e e e
  · rw [h0]; simp only [tl0]
  · omega
  · rw [h1]; simp only [tl1]; congr 2; funext r; congr 1; omega
  · omega
  · rw [h2, h2, Finset.sup_congr rfl (fun r _ => tl2_lt f r (c.val - 128 - 128) (by omega)),
      Finset.sup_congr rfl (fun r _ => tl2_ge f r (64 + (c.val - 128 - 128)) (by omega)), show (4096 : ℕ) = 2048 + 2048 from rfl, ← max_sup_add]
    have e1 : (fun r => f r (256 + (c.val - 128 - 128))) = fun r => f r c.val := by funext r; congr 1; omega
    have e2 : (fun r => f (r + 2048) (256 + (64 + (c.val - 128 - 128) - 64))) = fun r => f (2048 + r) c.val := by funext r; congr 1 <;> omega
    rw [e1, e2, max_assoc, max_assoc, max_left_comm ((Finset.range 2048).sup _) 0, ← max_assoc 0 0, max_self]
  · omega
  · omega
  · rfl

variable (v4 : Vec Ideal S384x384 .bf16) (v8 v58 v64 v107 v122 : FVec Ideal S1x384 .f32)

theorem p395_0 (h4 : ∀ a b : Fin 384, v4 (ix2 a b) = pind a.val b.val) (S : ℕ → EReal) (hS : ∀ x, ∃ r : ℝ, S x = r)
    (h : ∀ c : Fin 384, (v107 (ix2 0 c) * v8 (ix2 0 c) : EReal) = S c.val) (c : Fin 384) :
    k0_pay395 v4 v8 v64 v107 v122 (ix2 0 c) = gsum S c.val * ((1 / 40960 : ℝ) : EReal) := by
  pointwise [k0_pay395]
  simp only [h]
  rw [inv_n_eq, split_sum S hS v4 h4 c]

theorem p395_1 (h4 : ∀ a b : Fin 384, v4 (ix2 a b) = pind a.val b.val) (S : ℕ → EReal) (hS : ∀ x, ∃ r : ℝ, S x = r)
    (h : ∀ c : Fin 384, (v122 (ix2 0 c) * v64 (ix2 0 c) * v8 (ix2 0 c) : EReal) = S c.val) (c : Fin 384) :
    k0_pay395 v4 v8 v64 v107 v122 (ix2 1 c) = gsum S c.val * ((1 / 40960 : ℝ) : EReal) := by
  pointwise [k0_pay395, k0_pay392]
  simp only [h]
  rw [inv_n_eq, split_sum S hS v4 h4 c]

theorem p396 (v94 : Elt Ideal .f32) (c : Fin 384) : k0_pay396 v8 v94 (ix2 0 c) = v8 (ix2 0 c) * v94 := by
  pointwise [k0_pay396]
theorem p397 (c : Fin 384) : k0_pay397 v4 v8 v64 v107 v122 (ix2 0 c) = v64 (ix2 0 c) * k0_pay395 v4 v8 v64 v107 v122 (ix2 1 c) := by
  pointwise [k0_pay397]
theorem p398 (c : Fin 384) : k0_pay398 v4 v8 v58 v64 v107 v122 (ix2 0 c) = k0_pay395 v4 v8 v64 v107 v122 (ix2 0 c) - v58 (ix2 0 c) * k0_pay397 v4 v8 v64 v107 v122 (ix2 0 c) := by
  pointwise [k0_pay398]
theorem p399 (v94 : Elt Ideal .f32) (r : Fin 32) (l : Fin 128) : k0_pay399 v8 v94 (ix2 r l) = at2 (k0_pay396 v8 v94) 0 l.val := by
  pointwise [k0_pay399]
  exact at2_ix (k0_pay396 v8 v94) _ _
theorem p400 (r : Fin 32) (l : Fin 128) : k0_pay400 v4 v8 v64 v107 v122 (ix2 r l) = at2 (k0_pay397 v4 v8 v64 v107 v122) 0 l.val := by
  pointwise [k0_pay400]
  exact at2_ix (k0_pay397 v4 v8 v64 v107 v122) _ _
theorem p401 (r : Fin 32) (l : Fin 128) : k0_pay401 v4 v8 v58 v64 v107 v122 (ix2 r l) = at2 (k0_pay398 v4 v8 v58 v64 v107 v122) 0 l.val := by
  pointwise [k0_pay401]
  exact at2_ix (k0_pay398 v4 v8 v58 v64 v107 v122) _ _

/-- The channels' maxima. -/
theorem p414 (a0 a1 a2 : FVec Ideal S8x128 .f32) (f : ℕ → ℕ → EReal)
    (h0 : ∀ l : Fin 128, Finset.fold max (Ideal.ofBits FTy.f32 4286578688#32 : EReal) (fun x : Fin 8 => a0 (ix2 x l)) Finset.univ = max 0 ((Finset.range 4096).sup fun r => tl 0 f r l.val))
    (h1 : ∀ l : Fin 128, Finset.fold max (Ideal.ofBits FTy.f32 4286578688#32 : EReal) (fun x : Fin 8 => a1 (ix2 x l)) Finset.univ = max 0 ((Finset.range 4096).sup fun r => tl 1 f r l.val))
    (h2 : ∀ l : Fin 128, Finset.fold max (Ideal.ofBits FTy.f32 4286578688#32 : EReal) (fun x : Fin 8 => a2 (ix2 x l)) Finset.univ = max 0 ((Finset.range 2048).sup fun r => tl 2 f r l.val)) (c : Fin 384) :
    k0_pay414 v64 a0 a1 a2 (ix2 0 c) = cmx f c.val * v64 (ix2 0 c) := by
  pointwise [k0_pay414]
  rw [← fold3m (fun l => Finset.fold max (Ideal.ofBits FTy.f32 4286578688#32 : EReal) (fun x : Fin 8 => a0 (ix2 x l)) Finset.univ) (fun l => Finset.fold max (Ideal.ofBits FTy.f32 4286578688#32 : EReal) (fun x : Fin 8 => a1 (ix2 x l)) Finset.univ) (fun l => Finset.fold max (Ideal.ofBits FTy.f32 4286578688#32 : EReal) (fun x : Fin 8 => a2 (ix2 x l)) Finset.univ) f h0 h1 h2 c]

/-- A channel's place in its group, as the kernel's words compute it. -/
theorem pmod (a : Fin 384) : Scalar.select
      (IntOp.andi (IntOp.xori (IntOp.cmpi CmpIPredicate.slt (IntOp.remsi ArithUnit.vector (BitVec.ofNat 32 a.val) (Scalar.select (Scalar.cmpi CmpIPredicate.eq 10#32 0#32) 1#32 10#32)) 0#32) (Scalar.cmpi CmpIPredicate.slt 10#32 0#32))
        (IntOp.cmpi CmpIPredicate.ne (IntOp.remsi ArithUnit.vector (BitVec.ofNat 32 a.val) (Scalar.select (Scalar.cmpi CmpIPredicate.eq 10#32 0#32) 1#32 10#32)) 0#32))
      (IntOp.addi (IntOp.remsi ArithUnit.vector (BitVec.ofNat 32 a.val) (Scalar.select (Scalar.cmpi CmpIPredicate.eq 10#32 0#32) 1#32 10#32)) 10#32)
      (IntOp.remsi ArithUnit.vector (BitVec.ofNat 32 a.val) (Scalar.select (Scalar.cmpi CmpIPredicate.eq 10#32 0#32) 1#32 10#32)) = BitVec.ofNat 32 (a.val % 10) := by
  revert a; decide +kernel
theorem peq16 : ∀ (x : Fin 16) (y : Fin 10), IntOp.cmpi CmpIPredicate.eq (BitVec.ofNat 32 x.val) (BitVec.ofNat 32 y.val) = if y.val = x.val then 1#1 else 0#1 := by
  decide +kernel
theorem psel (j : Fin 16) (x : Fin 384) (a : EReal) :
    Scalar.select (IntOp.cmpi CmpIPredicate.eq (BitVec.ofNat 32 j.val) (BitVec.ofNat 32 (x.val % 10))) a (0 : EReal) = if x.val % 10 = j.val then a else 0 := by
  rw [peq16 j ⟨x.val % 10, by omega⟩]
  by_cases h : x.val % 10 = j.val <;> simp only [h, if_true, if_false] <;> rfl

/-- Numbers whose bits are an exponent alone are powers of two. -/
theorem pow_bits (n : ℕ) (h0 : 1 ≤ n) (h1 : n ≤ 254) : Ideal.ofBits FTy.f32 (BitVec.ofNat 32 n <<< 23) = (((2 : ℝ) ^ ((n : ℤ) - 127) : ℝ) : EReal) := by
  have a : ∀ k : Fin 255, (BitVec.ofNat 32 k.val <<< 23).extractLsb' 31 1 = 0#1 ∧ ((BitVec.ofNat 32 k.val <<< 23).extractLsb' 23 8).toNat = k.val ∧ ((BitVec.ofNat 32 k.val <<< 23).extractLsb' 0 23).toNat = 0 := by decide +kernel
  obtain ⟨a1, a2, a3⟩ := a ⟨n, by omega⟩
  show Ideal.ieee 8 23 (BitVec.ofNat 32 n <<< 23) = _
  unfold Ideal.ieee
  simp only [show 8 + 23 = 31 from rfl]
  simp only [a1, a2, a3]
  rw [if_neg (by omega), if_neg (by omega)]
  refine congrArg (fun r : ℝ => (r : EReal)) ?_
  have e : ((n : ℤ) - (2 ^ (8 - 1) - 1) - 23) = ((n : ℤ) - 127) + (-23) := by norm_num; ring
  simp only [Nat.cast_ofNat]
  rw [e, zpow_add₀ (by norm_num : (2 : ℝ) ≠ 0)]
  have z : (2 : ℝ) ^ (-23 : ℤ) = 1 / 8388608 := by norm_num
  rw [z]
  norm_num
  ring
theorem shl_eq : ∀ n : Fin 255, IntOp.shli ArithUnit.vector (BitVec.ofNat 32 n.val) 23#32 = BitVec.ofNat 32 n.val <<< 23 := by decide +kernel
theorem inc_eq : ∀ n : Fin 252, IntOp.addi (BitVec.ofNat 32 n.val) 1#32 = BitVec.ofNat 32 (n.val + 1) := by decide +kernel

theorem p416 (h4 : ∀ a b : Fin 384, v4 (ix2 a b) = pind a.val b.val) (v3 : IVec S1x384 32) (h3 : ∀ c : Fin 384, v3 (ix2 0 c) = BitVec.ofNat 32 c.val)
    (v208 : IVec S16x384 32) (h208 : ∀ (j : Fin 16) (c : Fin 384), v208 (ix2 j c) = BitVec.ofNat 32 j.val)
    (v207 : FVec Ideal S1x384 .f32) (S : ℕ → EReal) (hS : ∀ x, ∃ r : ℝ, S x = r) (h : ∀ c : Fin 384, v207 (ix2 0 c) = S c.val) (i : Fin 252) (c : Fin 384) :
    k0_pay416 v3 v4 v207 v208 10#32 k0_pay415 (ix2 i c)
      = if (((2 : ℝ) ^ ((i.val : ℤ) - 126) : ℝ) : EReal) ≤ gmx S c.val * Ideal.ofBits FTy.f32 0x37924925#32 then 1#32 else 0#32 := by
  pointwise [k0_pay416, k0_pay415]
  simp only [h, h3, h208, pmod, psel]
  rw [inc_eq i, shl_eq ⟨i.val + 1, by omega⟩, pow_bits (i.val + 1) (by omega) (by omega), show (((i.val + 1 : ℕ) : ℤ) - 127) = (i.val : ℤ) - 126 by push_cast; ring]
  have d1 : ∀ x : Fin 16, ¬ (32 + x.val < 16) := fun x => by omega
  have d2 : ∀ x : Fin 16, ¬ (32 + x.val - 16 < 16) := fun x => by omega
  have d3 : ∀ x : Fin 16, 32 + x.val - 16 - 16 = x.val := fun x => by omega
  simp only [d1, d2, d3, dite_false, psel]
  have e : ∀ j : Fin 16, _ = gsum (fun x => if x % 10 = j.val then S x else 0) c.val := fun j =>
    split_sum (fun x => if x % 10 = j.val then S x else 0) (fun x => by
      by_cases hx : x % 10 = j.val
      · simp only [hx, if_true]; exact hS x
      · exact ⟨0, by simp only [hx, if_false]; rfl⟩) v4 h4 c
  beta_reduce at e
  have z : ∀ (x : Fin 16) (y : Fin 384), (if y.val % 10 = x.val then S y.val * (v4 (ix2 y c) : EReal) else 0) = (if y.val % 10 = x.val then S y.val else 0) * (v4 (ix2 y c) : EReal) := fun x y => by
    split
    · rfl
    · rw [zero_mul]
  simp only [z]
  simp only [e]
  rw [fold_range 16 (fun j => gsum (fun x => if x % 10 = j then S x else 0) c.val)]
  rfl

/-- How many of the powers 2^-126 … 2^125 are at or below a number. -/
def npow (q : EReal) : ℕ := ((Finset.range 252).filter fun i : ℕ => (((2 : ℝ) ^ ((i : ℤ) - 126) : ℝ) : EReal) ≤ q).card
theorem npow_le (q : EReal) : npow q ≤ 252 := by
  unfold npow
  exact (Finset.card_filter_le _ _).trans (by simp)
/-- The exponent of the scale. -/
def kexp (q : EReal) : ℤ := if npow q = 0 then 0 else (npow q : ℤ) - 126

/-- A sum of words 1 and 0 counts. -/
theorem fold_count {n : ℕ} (p : ℕ → Prop) [DecidablePred p] (f : Fin n → BitVec 32) (hf : ∀ i, f i = if p i.val then 1#32 else 0#32) :
    Finset.fold IntOp.addi (0#32) f Finset.univ = BitVec.ofNat 32 ((Finset.range n).filter p).card := by
  have h : ∀ s : Finset (Fin n), Finset.fold IntOp.addi (0#32) f s = BitVec.ofNat 32 (s.filter fun i => p i.val).card := by
    intro s
    classical
    induction s using Finset.induction_on with
    | empty => rfl
    | insert a s ha ih =>
      rw [Finset.fold_insert ha, ih, hf]
      by_cases hp : p a.val
      · rw [if_pos hp, Finset.filter_insert, if_pos hp, Finset.card_insert_of_notMem (by simp [ha]), Nat.add_comm]
        exact (BitVec.ofNat_add _ _).symm
      · rw [if_neg hp, Finset.filter_insert, if_neg hp]
        exact BitVec.zero_add _
  rw [h]
  congr 1
  refine Finset.card_bij (fun a _ => a.val) ?_ ?_ ?_
  · intro a ha; simp only [Finset.mem_filter, Finset.mem_range] at ha ⊢; exact ⟨a.isLt, ha.2⟩
  · intro a _ b _ hab; exact Fin.ext hab
  · intro b hb; simp only [Finset.mem_filter, Finset.mem_range] at hb; exact ⟨⟨b, hb.1⟩, by simp [hb.2], rfl⟩

/-- The exponent's two fields, as words. -/
theorem fields : ∀ n : Fin 253,
    (IntOp.addi (127#32) (Scalar.select (IntOp.cmpi CmpIPredicate.eq (IntOp.subi (BitVec.ofNat 32 n.val) 126#32) 4294967170#32) (0#32) (IntOp.subi (BitVec.ofNat 32 n.val) 126#32)) = BitVec.ofNat 32 (if n.val = 0 then 127 else n.val + 1))
    ∧ (IntOp.subi (127#32) (Scalar.select (IntOp.cmpi CmpIPredicate.eq (IntOp.subi (BitVec.ofNat 32 n.val) 126#32) 4294967170#32) (0#32) (IntOp.subi (BitVec.ofNat 32 n.val) 126#32)) = BitVec.ofNat 32 (if n.val = 0 then 127 else 253 - n.val)) := by decide +kernel

theorem p417 (v259 : IVec S252x384 32) (c : Fin 384) (q : EReal) (h : ∀ i : Fin 252, v259 (ix2 i c) = if (((2 : ℝ) ^ ((i.val : ℤ) - 126) : ℝ) : EReal) ≤ q then 1#32 else 0#32) :
    k0_pay417 v259 (ix2 0 c) = Scalar.select (IntOp.cmpi CmpIPredicate.eq (IntOp.subi (BitVec.ofNat 32 (npow q)) 126#32) 4294967170#32) (0#32) (IntOp.subi (BitVec.ofNat 32 (npow q)) 126#32) := by
  pointwise [k0_pay417]
  rw [fold_count (fun i : ℕ => (((2 : ℝ) ^ ((i : ℤ) - 126) : ℝ) : EReal) ≤ q) (fun x : Fin 252 => v259 (ix2 x c)) h]
  rfl
theorem p419 (v259 : IVec S252x384 32) (c : Fin 384) (q : EReal) (h : ∀ i : Fin 252, v259 (ix2 i c) = if (((2 : ℝ) ^ ((i.val : ℤ) - 126) : ℝ) : EReal) ≤ q then 1#32 else 0#32) :
    k0_pay419 v64 v259 (ix2 0 c) = v64 (ix2 0 c) * (((2 : ℝ) ^ (-kexp q) : ℝ) : EReal) := by
  pointwise [k0_pay419]
  have l := npow_le q
  have g0 : 1 ≤ (if npow q = 0 then 127 else 253 - npow q) := by split <;> omega
  have g1 : (if npow q = 0 then 127 else 253 - npow q) ≤ 254 := by split <;> omega
  have g2 := (fields ⟨npow q, by omega⟩).2
  dsimp only at g2
  rw [p417 v259 c q h, g2, shl_eq ⟨if npow q = 0 then 127 else 253 - npow q, by omega⟩, pow_bits _ g0 g1]
  congr 3
  unfold kexp
  split
  · norm_num
  · rename_i h0
    rw [Nat.cast_sub (by omega)]; push_cast; ring
end Cert.KernelIdeal.Hand
-- ==== Proof.VT7.lean ====
module

public import proofs.«01_k».proof.Proof.Gen.KernelIdeal.Loops
public import proofs.«01_k».proof.Proof.VMax

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X11 : BufTy.Contents (Elt Ideal) arg11.view.ty)
set_option maxHeartbeats 2000000

/-- One trip of the third loop over column tile 0 takes the running maximum of the magnitude over 32 sublane rows. -/
theorem t7_step [Named Ideal] (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32) (D E C : ℕ → EReal) (h162 : ∀ (r : Fin 32) (l : Fin 128), v162 (ix2 r l) = D l.val) (h165 : ∀ (r : Fin 32) (l : Fin 128), v165 (ix2 r l) = E l.val) (h168 : ∀ (r : Fin 32) (l : Fin 128), v168 (ix2 r l) = C l.val) (k : Fin k0_t7_loop.trips) (acc : FVec Ideal S8x128 .f32) (f12 : BufTy.Contents (Elt Ideal) arg12.view.ty) (a : Fin 8) (l : Fin 128) :
    ((trip_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 k).1 acc f12) (ix2 a l) = max (acc (ix2 a l)) ((Finset.range 32).sup fun q => av (wv (at3 (arg12.view.read (Elt Ideal) f12) 0 (256 * k.val + (8 * q + a.val)) l.val) (at3 (arg11.view.read (Elt Ideal) X11) 0 (256 * k.val + (8 * q + a.val)) l.val) (D l.val) (E l.val) (C l.val))) := by
  have o0 : k0_off12 k 0#32 = ![0, 256 * k.val + 0, 0] := k0_off12_eq k 0
  have o1 : k0_off12 k 32#32 = ![0, 256 * k.val + 32, 0] := k0_off12_eq k 1
  have o2 : k0_off12 k 64#32 = ![0, 256 * k.val + 64, 0] := k0_off12_eq k 2
  have o3 : k0_off12 k 96#32 = ![0, 256 * k.val + 96, 0] := k0_off12_eq k 3
  have o4 : k0_off12 k 128#32 = ![0, 256 * k.val + 128, 0] := k0_off12_eq k 4
  have o5 : k0_off12 k 160#32 = ![0, 256 * k.val + 160, 0] := k0_off12_eq k 5
  have o6 : k0_off12 k 192#32 = ![0, 256 * k.val + 192, 0] := k0_off12_eq k 6
  have o7 : k0_off12 k 224#32 = ![0, 256 * k.val + 224, 0] := k0_off12_eq k 7
  unfold trip_k0_t7
  dsimp only
  pointwise [k0_pay402, k0_pay403, trip_k0_t7.sl.arg14, trip_k0_t7.sl.cst_113, trip_k0_t7.sl.v299, trip_k0_t7.sl.v301, trip_k0_t7.sl.v302, trip_k0_t7.sl.v304, trip_k0_t7.sl.v305, trip_k0_t7.sl.v308, trip_k0_t7.sl.v309, trip_k0_t7.sl.v310, trip_k0_t7.sl.v311, trip_k0_t7.sl.v315, trip_k0_t7.sl.v316, trip_k0_t7.sl.v317, trip_k0_t7.sl.v318, trip_k0_t7.sl.v319, trip_k0_t7.sl.v322, trip_k0_t7.sl.v323, trip_k0_t7.sl.v324, trip_k0_t7.sl.v325, trip_k0_t7.sl.v326, trip_k0_t7.sl.v329, trip_k0_t7.sl.v330, trip_k0_t7.sl.v331, trip_k0_t7.sl.v332, trip_k0_t7.sl.v336, trip_k0_t7.sl.v337, trip_k0_t7.sl.v338, trip_k0_t7.sl.v339, trip_k0_t7.sl.v340, trip_k0_t7.sl.v343, trip_k0_t7.sl.v344, trip_k0_t7.sl.v345, trip_k0_t7.sl.v346, trip_k0_t7.sl.v347, trip_k0_t7.sl.v350, trip_k0_t7.sl.v351, trip_k0_t7.sl.v352, trip_k0_t7.sl.v353, trip_k0_t7.sl.v357, trip_k0_t7.sl.v358, trip_k0_t7.sl.v359, trip_k0_t7.sl.v360, trip_k0_t7.sl.v361, trip_k0_t7.sl.v364, trip_k0_t7.sl.v365, trip_k0_t7.sl.v366, trip_k0_t7.sl.v367, trip_k0_t7.sl.v368, trip_k0_t7.sl.v371, trip_k0_t7.sl.v372, trip_k0_t7.sl.v373, trip_k0_t7.sl.v374, trip_k0_t7.sl.v378, trip_k0_t7.sl.v379, trip_k0_t7.sl.v380, trip_k0_t7.sl.v381, trip_k0_t7.sl.v382, trip_k0_t7.sl.v385, trip_k0_t7.sl.v386, trip_k0_t7.sl.v387, trip_k0_t7.sl.v388, trip_k0_t7.sl.v389, trip_k0_t7.sl.v392, trip_k0_t7.sl.v393, trip_k0_t7.sl.v394, trip_k0_t7.sl.v395, trip_k0_t7.sl.v399, trip_k0_t7.sl.v400, trip_k0_t7.sl.v401, trip_k0_t7.sl.v402, trip_k0_t7.sl.v403, trip_k0_t7.sl.v406, trip_k0_t7.sl.v407, trip_k0_t7.sl.v408, trip_k0_t7.sl.v409, trip_k0_t7.sl.v410, trip_k0_t7.sl.v413, trip_k0_t7.sl.v414, trip_k0_t7.sl.v415, trip_k0_t7.sl.v416, trip_k0_t7.sl.v420, trip_k0_t7.sl.v421, trip_k0_t7.sl.v422, trip_k0_t7.sl.v423, trip_k0_t7.sl.v424, trip_k0_t7.sl.v427, trip_k0_t7.sl.v428, trip_k0_t7.sl.v429, trip_k0_t7.sl.v430, trip_k0_t7.sl.v431, trip_k0_t7.sl.v434, trip_k0_t7.sl.v435, trip_k0_t7.sl.v436, trip_k0_t7.sl.v437, trip_k0_t7.sl.v441, trip_k0_t7.sl.v442, trip_k0_t7.sl.v443, trip_k0_t7.sl.v444, trip_k0_t7.sl.v445, trip_k0_t7.sl.v448, trip_k0_t7.sl.v449, trip_k0_t7.sl.v450, trip_k0_t7.sl.v451, trip_k0_t7.sl.v452, trip_k0_t7.sl.v455, trip_k0_t7.sl.v456, trip_k0_t7.sl.v457, trip_k0_t7.sl.v458]
  simp only [readAt_f32, h162, h165, h168, o0, o1, o2, o3, o4, o5, o6, o7, Matrix.cons_val, Fin.isValue, Fin.val_zero, Fin.val_one, Fin.val_two, Nat.zero_add]
  exact max8 (fun r => av (wv (at3 (arg12.view.read (Elt Ideal) f12) 0 r l.val) (at3 (arg11.view.read (Elt Ideal) X11) 0 r l.val) (D l.val) (E l.val) (C l.val))) (256 * k.val) a.val _

/-- One trip of the third loop over column tile 0 stores 256 rows of the unscaled gradient over the upstream gradient. -/
theorem t7_band12 [Named Ideal] (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32) (D E C : ℕ → EReal) (h162 : ∀ (r : Fin 32) (l : Fin 128), v162 (ix2 r l) = D l.val) (h165 : ∀ (r : Fin 32) (l : Fin 128), v165 (ix2 r l) = E l.val) (h168 : ∀ (r : Fin 32) (l : Fin 128), v168 (ix2 r l) = C l.val) (k : Fin k0_t7_loop.trips) (acc : FVec Ideal S8x128 .f32) (f12 : BufTy.Contents (Elt Ideal) arg12.view.ty)
    (G : BufTy.Contents (Elt Ideal) arg12.view.ty) (L : List (View.Piece (Elt Ideal) S3x4096x128 .f32)) (t r l : ℕ) :
    at3 (arg12.view.read (Elt Ideal) (arg12.view.writes (Elt Ideal) G ((trip_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 k).2.1 acc f12 ++ L))) t r l
      = if (0 ≤ t ∧ t < 0 + 1) ∧ (256 * k.val ≤ r ∧ r < 256 * k.val + 256) ∧ (0 ≤ l ∧ l < 0 + 128) then (wv (at3 (arg12.view.read (Elt Ideal) f12) 0 r l) (at3 (arg11.view.read (Elt Ideal) X11) 0 r l) (D l) (E l) (C l))
        else at3 (arg12.view.read (Elt Ideal) (arg12.view.writes (Elt Ideal) G L)) t r l := by
  have o0 : k0_off12 k 0#32 = ![0, 256 * k.val + 0, 0] := k0_off12_eq k 0
  have o1 : k0_off12 k 32#32 = ![0, 256 * k.val + 32, 0] := k0_off12_eq k 1
  have o2 : k0_off12 k 64#32 = ![0, 256 * k.val + 64, 0] := k0_off12_eq k 2
  have o3 : k0_off12 k 96#32 = ![0, 256 * k.val + 96, 0] := k0_off12_eq k 3
  have o4 : k0_off12 k 128#32 = ![0, 256 * k.val + 128, 0] := k0_off12_eq k 4
  have o5 : k0_off12 k 160#32 = ![0, 256 * k.val + 160, 0] := k0_off12_eq k 5
  have o6 : k0_off12 k 192#32 = ![0, 256 * k.val + 192, 0] := k0_off12_eq k 6
  have o7 : k0_off12 k 224#32 = ![0, 256 * k.val + 224, 0] := k0_off12_eq k 7
  unfold trip_k0_t7
  dsimp only
  simp only [List.cons_append, List.nil_append]
  rw [band_f32 (V := fun _ r l => (wv (at3 (arg12.view.read (Elt Ideal) f12) 0 r l) (at3 (arg11.view.read (Elt Ideal) X11) 0 r l) (D l) (E l) (C l))) (ho := o7), band_f32 (V := fun _ r l => (wv (at3 (arg12.view.read (Elt Ideal) f12) 0 r l) (at3 (arg11.view.read (Elt Ideal) X11) 0 r l) (D l) (E l) (C l))) (ho := o6), band_f32 (V := fun _ r l => (wv (at3 (arg12.view.read (Elt Ideal) f12) 0 r l) (at3 (arg11.view.read (Elt Ideal) X11) 0 r l) (D l) (E l) (C l))) (ho := o5), band_f32 (V := fun _ r l => (wv (at3 (arg12.view.read (Elt Ideal) f12) 0 r l) (at3 (arg11.view.read (Elt Ideal) X11) 0 r l) (D l) (E l) (C l))) (ho := o4), band_f32 (V := fun _ r l => (wv (at3 (arg12.view.read (Elt Ideal) f12) 0 r l) (at3 (arg11.view.read (Elt Ideal) X11) 0 r l) (D l) (E l) (C l))) (ho := o3), band_f32 (V := fun _ r l => (wv (at3 (arg12.view.read (Elt Ideal) f12) 0 r l) (at3 (arg11.view.read (Elt Ideal) X11) 0 r l) (D l) (E l) (C l))) (ho := o2), band_f32 (V := fun _ r l => (wv (at3 (arg12.view.read (Elt Ideal) f12) 0 r l) (at3 (arg11.view.read (Elt Ideal) X11) 0 r l) (D l) (E l) (C l))) (ho := o1), band_f32 (V := fun _ r l => (wv (at3 (arg12.view.read (Elt Ideal) f12) 0 r l) (at3 (arg11.view.read (Elt Ideal) X11) 0 r l) (D l) (E l) (C l))) (ho := o0)]
  · split_ifs <;> first | rfl | (exfalso; omega)
  all_goals
    intro i j l
    simp only [Nat.zero_add]
    pointwise [k0_pay402, k0_pay403, trip_k0_t7.sl.arg14, trip_k0_t7.sl.cst_113, trip_k0_t7.sl.v299, trip_k0_t7.sl.v301, trip_k0_t7.sl.v302, trip_k0_t7.sl.v304, trip_k0_t7.sl.v305, trip_k0_t7.sl.v308, trip_k0_t7.sl.v309, trip_k0_t7.sl.v310, trip_k0_t7.sl.v311, trip_k0_t7.sl.v315, trip_k0_t7.sl.v316, trip_k0_t7.sl.v317, trip_k0_t7.sl.v318, trip_k0_t7.sl.v319, trip_k0_t7.sl.v322, trip_k0_t7.sl.v323, trip_k0_t7.sl.v324, trip_k0_t7.sl.v325, trip_k0_t7.sl.v326, trip_k0_t7.sl.v329, trip_k0_t7.sl.v330, trip_k0_t7.sl.v331, trip_k0_t7.sl.v332, trip_k0_t7.sl.v336, trip_k0_t7.sl.v337, trip_k0_t7.sl.v338, trip_k0_t7.sl.v339, trip_k0_t7.sl.v340, trip_k0_t7.sl.v343, trip_k0_t7.sl.v344, trip_k0_t7.sl.v345, trip_k0_t7.sl.v346, trip_k0_t7.sl.v347, trip_k0_t7.sl.v350, trip_k0_t7.sl.v351, trip_k0_t7.sl.v352, trip_k0_t7.sl.v353, trip_k0_t7.sl.v357, trip_k0_t7.sl.v358, trip_k0_t7.sl.v359, trip_k0_t7.sl.v360, trip_k0_t7.sl.v361, trip_k0_t7.sl.v364, trip_k0_t7.sl.v365, trip_k0_t7.sl.v366, trip_k0_t7.sl.v367, trip_k0_t7.sl.v368, trip_k0_t7.sl.v371, trip_k0_t7.sl.v372, trip_k0_t7.sl.v373, trip_k0_t7.sl.v374, trip_k0_t7.sl.v378, trip_k0_t7.sl.v379, trip_k0_t7.sl.v380, trip_k0_t7.sl.v381, trip_k0_t7.sl.v382, trip_k0_t7.sl.v385, trip_k0_t7.sl.v386, trip_k0_t7.sl.v387, trip_k0_t7.sl.v388, trip_k0_t7.sl.v389, trip_k0_t7.sl.v392, trip_k0_t7.sl.v393, trip_k0_t7.sl.v394, trip_k0_t7.sl.v395, trip_k0_t7.sl.v399, trip_k0_t7.sl.v400, trip_k0_t7.sl.v401, trip_k0_t7.sl.v402, trip_k0_t7.sl.v403, trip_k0_t7.sl.v406, trip_k0_t7.sl.v407, trip_k0_t7.sl.v408, trip_k0_t7.sl.v409, trip_k0_t7.sl.v410, trip_k0_t7.sl.v413, trip_k0_t7.sl.v414, trip_k0_t7.sl.v415, trip_k0_t7.sl.v416, trip_k0_t7.sl.v420, trip_k0_t7.sl.v421, trip_k0_t7.sl.v422, trip_k0_t7.sl.v423, trip_k0_t7.sl.v424, trip_k0_t7.sl.v427, trip_k0_t7.sl.v428, trip_k0_t7.sl.v429, trip_k0_t7.sl.v430, trip_k0_t7.sl.v431, trip_k0_t7.sl.v434, trip_k0_t7.sl.v435, trip_k0_t7.sl.v436, trip_k0_t7.sl.v437, trip_k0_t7.sl.v441, trip_k0_t7.sl.v442, trip_k0_t7.sl.v443, trip_k0_t7.sl.v444, trip_k0_t7.sl.v445, trip_k0_t7.sl.v448, trip_k0_t7.sl.v449, trip_k0_t7.sl.v450, trip_k0_t7.sl.v451, trip_k0_t7.sl.v452, trip_k0_t7.sl.v455, trip_k0_t7.sl.v456, trip_k0_t7.sl.v457, trip_k0_t7.sl.v458]
    simp only [readAt_f32, h162, h165, h168, o0, o1, o2, o3, o4, o5, o6, o7, Matrix.cons_val, Fin.isValue, Fin.val_zero, Fin.val_one, Fin.val_two, Nat.zero_add]
    first | rfl | done

end Cert.KernelIdeal.Hand
end
-- ==== Proof.VT8.lean ====
module

public import proofs.«01_k».proof.Proof.Gen.KernelIdeal.Loops
public import proofs.«01_k».proof.Proof.VMax

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X11 : BufTy.Contents (Elt Ideal) arg11.view.ty)
set_option maxHeartbeats 2000000

/-- One trip of the third loop over column tile 1 takes the running maximum of the magnitude over 32 sublane rows. -/
theorem t8_step [Named Ideal] (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32)  (k : Fin k0_t8_loop.trips) (acc : FVec Ideal S8x128 .f32) (f12 : BufTy.Contents (Elt Ideal) arg12.view.ty) (a : Fin 8) (l : Fin 128) :
    ((trip_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 k).1 acc f12) (ix2 a l) = max (acc (ix2 a l)) ((Finset.range 32).sup fun q => av (wv (at3 (arg12.view.read (Elt Ideal) f12) 1 (256 * k.val + (8 * q + a.val)) l.val) (at3 (arg11.view.read (Elt Ideal) X11) 1 (256 * k.val + (8 * q + a.val)) l.val) (at2 v154 0 (128 + l.val)) (at2 v156 0 (128 + l.val)) (at2 v159 0 (128 + l.val)))) := by
  have o0 : k0_off13 k 0#32 = ![1, 256 * k.val + 0, 0] := k0_off13_eq k 0
  have o1 : k0_off13 k 32#32 = ![1, 256 * k.val + 32, 0] := k0_off13_eq k 1
  have o2 : k0_off13 k 64#32 = ![1, 256 * k.val + 64, 0] := k0_off13_eq k 2
  have o3 : k0_off13 k 96#32 = ![1, 256 * k.val + 96, 0] := k0_off13_eq k 3
  have o4 : k0_off13 k 128#32 = ![1, 256 * k.val + 128, 0] := k0_off13_eq k 4
  have o5 : k0_off13 k 160#32 = ![1, 256 * k.val + 160, 0] := k0_off13_eq k 5
  have o6 : k0_off13 k 192#32 = ![1, 256 * k.val + 192, 0] := k0_off13_eq k 6
  have o7 : k0_off13 k 224#32 = ![1, 256 * k.val + 224, 0] := k0_off13_eq k 7
  unfold trip_k0_t8
  dsimp only
  pointwise [k0_pay404, k0_pay405, k0_pay406, k0_pay407, k0_pay408, trip_k0_t8.sl.arg14, trip_k0_t8.sl.cst_112, trip_k0_t8.sl.v299, trip_k0_t8.sl.v301, trip_k0_t8.sl.v302, trip_k0_t8.sl.v304, trip_k0_t8.sl.v305, trip_k0_t8.sl.v308, trip_k0_t8.sl.v309, trip_k0_t8.sl.v310, trip_k0_t8.sl.v311, trip_k0_t8.sl.v315, trip_k0_t8.sl.v316, trip_k0_t8.sl.v317, trip_k0_t8.sl.v318, trip_k0_t8.sl.v319, trip_k0_t8.sl.v322, trip_k0_t8.sl.v323, trip_k0_t8.sl.v324, trip_k0_t8.sl.v325, trip_k0_t8.sl.v326, trip_k0_t8.sl.v329, trip_k0_t8.sl.v330, trip_k0_t8.sl.v331, trip_k0_t8.sl.v332, trip_k0_t8.sl.v336, trip_k0_t8.sl.v337, trip_k0_t8.sl.v338, trip_k0_t8.sl.v339, trip_k0_t8.sl.v340, trip_k0_t8.sl.v343, trip_k0_t8.sl.v344, trip_k0_t8.sl.v345, trip_k0_t8.sl.v346, trip_k0_t8.sl.v347, trip_k0_t8.sl.v350, trip_k0_t8.sl.v351, trip_k0_t8.sl.v352, trip_k0_t8.sl.v353, trip_k0_t8.sl.v357, trip_k0_t8.sl.v358, trip_k0_t8.sl.v359, trip_k0_t8.sl.v360, trip_k0_t8.sl.v361, trip_k0_t8.sl.v364, trip_k0_t8.sl.v365, trip_k0_t8.sl.v366, trip_k0_t8.sl.v367, trip_k0_t8.sl.v368, trip_k0_t8.sl.v371, trip_k0_t8.sl.v372, trip_k0_t8.sl.v373, trip_k0_t8.sl.v374, trip_k0_t8.sl.v378, trip_k0_t8.sl.v379, trip_k0_t8.sl.v380, trip_k0_t8.sl.v381, trip_k0_t8.sl.v382, trip_k0_t8.sl.v385, trip_k0_t8.sl.v386, trip_k0_t8.sl.v387, trip_k0_t8.sl.v388, trip_k0_t8.sl.v389, trip_k0_t8.sl.v392, trip_k0_t8.sl.v393, trip_k0_t8.sl.v394, trip_k0_t8.sl.v395, trip_k0_t8.sl.v399, trip_k0_t8.sl.v400, trip_k0_t8.sl.v401, trip_k0_t8.sl.v402, trip_k0_t8.sl.v403, trip_k0_t8.sl.v406, trip_k0_t8.sl.v407, trip_k0_t8.sl.v408, trip_k0_t8.sl.v409, trip_k0_t8.sl.v410, trip_k0_t8.sl.v413, trip_k0_t8.sl.v414, trip_k0_t8.sl.v415, trip_k0_t8.sl.v416, trip_k0_t8.sl.v420, trip_k0_t8.sl.v421, trip_k0_t8.sl.v422, trip_k0_t8.sl.v423, trip_k0_t8.sl.v424, trip_k0_t8.sl.v427, trip_k0_t8.sl.v428, trip_k0_t8.sl.v429, trip_k0_t8.sl.v430, trip_k0_t8.sl.v431, trip_k0_t8.sl.v434, trip_k0_t8.sl.v435, trip_k0_t8.sl.v436, trip_k0_t8.sl.v437, trip_k0_t8.sl.v441, trip_k0_t8.sl.v442, trip_k0_t8.sl.v443, trip_k0_t8.sl.v444, trip_k0_t8.sl.v445, trip_k0_t8.sl.v448, trip_k0_t8.sl.v449, trip_k0_t8.sl.v450, trip_k0_t8.sl.v451, trip_k0_t8.sl.v452, trip_k0_t8.sl.v455, trip_k0_t8.sl.v456, trip_k0_t8.sl.v457, trip_k0_t8.sl.v458]
  simp only [readAt_f32, at2_ix v154, at2_ix v156, at2_ix v159, o0, o1, o2, o3, o4, o5, o6, o7, Matrix.cons_val, Fin.isValue, Fin.val_zero, Fin.val_one, Fin.val_two, Nat.zero_add]
  exact max8 (fun r => av (wv (at3 (arg12.view.read (Elt Ideal) f12) 1 r l.val) (at3 (arg11.view.read (Elt Ideal) X11) 1 r l.val) (at2 v154 0 (128 + l.val)) (at2 v156 0 (128 + l.val)) (at2 v159 0 (128 + l.val)))) (256 * k.val) a.val _

/-- One trip of the third loop over column tile 1 stores 256 rows of the unscaled gradient over the upstream gradient. -/
theorem t8_band12 [Named Ideal] (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32)  (k : Fin k0_t8_loop.trips) (acc : FVec Ideal S8x128 .f32) (f12 : BufTy.Contents (Elt Ideal) arg12.view.ty)
    (G : BufTy.Contents (Elt Ideal) arg12.view.ty) (L : List (View.Piece (Elt Ideal) S3x4096x128 .f32)) (t r l : ℕ) :
    at3 (arg12.view.read (Elt Ideal) (arg12.view.writes (Elt Ideal) G ((trip_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 k).2.1 acc f12 ++ L))) t r l
      = if (1 ≤ t ∧ t < 1 + 1) ∧ (256 * k.val ≤ r ∧ r < 256 * k.val + 256) ∧ (0 ≤ l ∧ l < 0 + 128) then (wv (at3 (arg12.view.read (Elt Ideal) f12) 1 r l) (at3 (arg11.view.read (Elt Ideal) X11) 1 r l) (at2 v154 0 (128 + l)) (at2 v156 0 (128 + l)) (at2 v159 0 (128 + l)))
        else at3 (arg12.view.read (Elt Ideal) (arg12.view.writes (Elt Ideal) G L)) t r l := by
  have o0 : k0_off13 k 0#32 = ![1, 256 * k.val + 0, 0] := k0_off13_eq k 0
  have o1 : k0_off13 k 32#32 = ![1, 256 * k.val + 32, 0] := k0_off13_eq k 1
  have o2 : k0_off13 k 64#32 = ![1, 256 * k.val + 64, 0] := k0_off13_eq k 2
  have o3 : k0_off13 k 96#32 = ![1, 256 * k.val + 96, 0] := k0_off13_eq k 3
  have o4 : k0_off13 k 128#32 = ![1, 256 * k.val + 128, 0] := k0_off13_eq k 4
  have o5 : k0_off13 k 160#32 = ![1, 256 * k.val + 160, 0] := k0_off13_eq k 5
  have o6 : k0_off13 k 192#32 = ![1, 256 * k.val + 192, 0] := k0_off13_eq k 6
  have o7 : k0_off13 k 224#32 = ![1, 256 * k.val + 224, 0] := k0_off13_eq k 7
  unfold trip_k0_t8
  dsimp only
  simp only [List.cons_append, List.nil_append]
  rw [band_f32 (V := fun _ r l => (wv (at3 (arg12.view.read (Elt Ideal) f12) 1 r l) (at3 (arg11.view.read (Elt Ideal) X11) 1 r l) (at2 v154 0 (128 + l)) (at2 v156 0 (128 + l)) (at2 v159 0 (128 + l)))) (ho := o7), band_f32 (V := fun _ r l => (wv (at3 (arg12.view.read (Elt Ideal) f12) 1 r l) (at3 (arg11.view.read (Elt Ideal) X11) 1 r l) (at2 v154 0 (128 + l)) (at2 v156 0 (128 + l)) (at2 v159 0 (128 + l)))) (ho := o6), band_f32 (V := fun _ r l => (wv (at3 (arg12.view.read (Elt Ideal) f12) 1 r l) (at3 (arg11.view.read (Elt Ideal) X11) 1 r l) (at2 v154 0 (128 + l)) (at2 v156 0 (128 + l)) (at2 v159 0 (128 + l)))) (ho := o5), band_f32 (V := fun _ r l => (wv (at3 (arg12.view.read (Elt Ideal) f12) 1 r l) (at3 (arg11.view.read (Elt Ideal) X11) 1 r l) (at2 v154 0 (128 + l)) (at2 v156 0 (128 + l)) (at2 v159 0 (128 + l)))) (ho := o4), band_f32 (V := fun _ r l => (wv (at3 (arg12.view.read (Elt Ideal) f12) 1 r l) (at3 (arg11.view.read (Elt Ideal) X11) 1 r l) (at2 v154 0 (128 + l)) (at2 v156 0 (128 + l)) (at2 v159 0 (128 + l)))) (ho := o3), band_f32 (V := fun _ r l => (wv (at3 (arg12.view.read (Elt Ideal) f12) 1 r l) (at3 (arg11.view.read (Elt Ideal) X11) 1 r l) (at2 v154 0 (128 + l)) (at2 v156 0 (128 + l)) (at2 v159 0 (128 + l)))) (ho := o2), band_f32 (V := fun _ r l => (wv (at3 (arg12.view.read (Elt Ideal) f12) 1 r l) (at3 (arg11.view.read (Elt Ideal) X11) 1 r l) (at2 v154 0 (128 + l)) (at2 v156 0 (128 + l)) (at2 v159 0 (128 + l)))) (ho := o1), band_f32 (V := fun _ r l => (wv (at3 (arg12.view.read (Elt Ideal) f12) 1 r l) (at3 (arg11.view.read (Elt Ideal) X11) 1 r l) (at2 v154 0 (128 + l)) (at2 v156 0 (128 + l)) (at2 v159 0 (128 + l)))) (ho := o0)]
  · split_ifs <;> first | rfl | (exfalso; omega)
  all_goals
    intro i j l
    simp only [Nat.zero_add]
    pointwise [k0_pay404, k0_pay405, k0_pay406, k0_pay407, k0_pay408, trip_k0_t8.sl.arg14, trip_k0_t8.sl.cst_112, trip_k0_t8.sl.v299, trip_k0_t8.sl.v301, trip_k0_t8.sl.v302, trip_k0_t8.sl.v304, trip_k0_t8.sl.v305, trip_k0_t8.sl.v308, trip_k0_t8.sl.v309, trip_k0_t8.sl.v310, trip_k0_t8.sl.v311, trip_k0_t8.sl.v315, trip_k0_t8.sl.v316, trip_k0_t8.sl.v317, trip_k0_t8.sl.v318, trip_k0_t8.sl.v319, trip_k0_t8.sl.v322, trip_k0_t8.sl.v323, trip_k0_t8.sl.v324, trip_k0_t8.sl.v325, trip_k0_t8.sl.v326, trip_k0_t8.sl.v329, trip_k0_t8.sl.v330, trip_k0_t8.sl.v331, trip_k0_t8.sl.v332, trip_k0_t8.sl.v336, trip_k0_t8.sl.v337, trip_k0_t8.sl.v338, trip_k0_t8.sl.v339, trip_k0_t8.sl.v340, trip_k0_t8.sl.v343, trip_k0_t8.sl.v344, trip_k0_t8.sl.v345, trip_k0_t8.sl.v346, trip_k0_t8.sl.v347, trip_k0_t8.sl.v350, trip_k0_t8.sl.v351, trip_k0_t8.sl.v352, trip_k0_t8.sl.v353, trip_k0_t8.sl.v357, trip_k0_t8.sl.v358, trip_k0_t8.sl.v359, trip_k0_t8.sl.v360, trip_k0_t8.sl.v361, trip_k0_t8.sl.v364, trip_k0_t8.sl.v365, trip_k0_t8.sl.v366, trip_k0_t8.sl.v367, trip_k0_t8.sl.v368, trip_k0_t8.sl.v371, trip_k0_t8.sl.v372, trip_k0_t8.sl.v373, trip_k0_t8.sl.v374, trip_k0_t8.sl.v378, trip_k0_t8.sl.v379, trip_k0_t8.sl.v380, trip_k0_t8.sl.v381, trip_k0_t8.sl.v382, trip_k0_t8.sl.v385, trip_k0_t8.sl.v386, trip_k0_t8.sl.v387, trip_k0_t8.sl.v388, trip_k0_t8.sl.v389, trip_k0_t8.sl.v392, trip_k0_t8.sl.v393, trip_k0_t8.sl.v394, trip_k0_t8.sl.v395, trip_k0_t8.sl.v399, trip_k0_t8.sl.v400, trip_k0_t8.sl.v401, trip_k0_t8.sl.v402, trip_k0_t8.sl.v403, trip_k0_t8.sl.v406, trip_k0_t8.sl.v407, trip_k0_t8.sl.v408, trip_k0_t8.sl.v409, trip_k0_t8.sl.v410, trip_k0_t8.sl.v413, trip_k0_t8.sl.v414, trip_k0_t8.sl.v415, trip_k0_t8.sl.v416, trip_k0_t8.sl.v420, trip_k0_t8.sl.v421, trip_k0_t8.sl.v422, trip_k0_t8.sl.v423, trip_k0_t8.sl.v424, trip_k0_t8.sl.v427, trip_k0_t8.sl.v428, trip_k0_t8.sl.v429, trip_k0_t8.sl.v430, trip_k0_t8.sl.v431, trip_k0_t8.sl.v434, trip_k0_t8.sl.v435, trip_k0_t8.sl.v436, trip_k0_t8.sl.v437, trip_k0_t8.sl.v441, trip_k0_t8.sl.v442, trip_k0_t8.sl.v443, trip_k0_t8.sl.v444, trip_k0_t8.sl.v445, trip_k0_t8.sl.v448, trip_k0_t8.sl.v449, trip_k0_t8.sl.v450, trip_k0_t8.sl.v451, trip_k0_t8.sl.v452, trip_k0_t8.sl.v455, trip_k0_t8.sl.v456, trip_k0_t8.sl.v457, trip_k0_t8.sl.v458]
    simp only [readAt_f32, at2_ix v154, at2_ix v156, at2_ix v159, o0, o1, o2, o3, o4, o5, o6, o7, Matrix.cons_val, Fin.isValue, Fin.val_zero, Fin.val_one, Fin.val_two, Nat.zero_add]
    first | rfl | done

end Cert.KernelIdeal.Hand
end
-- ==== Proof.VT9.lean ====
module

public import proofs.«01_k».proof.Proof.Gen.KernelIdeal.Loops
public import proofs.«01_k».proof.Proof.VMax

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X11 : BufTy.Contents (Elt Ideal) arg11.view.ty)
set_option maxHeartbeats 2000000

/-- One trip of the third loop over column tile 2 takes the running maximum of the magnitude over 32 sublane rows. -/
theorem t9_step [Named Ideal] (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32)  (k : Fin k0_t9_loop.trips) (acc : FVec Ideal S8x128 .f32) (f12 : BufTy.Contents (Elt Ideal) arg12.view.ty) (a : Fin 8) (l : Fin 128) :
    ((trip_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 k).1 acc f12) (ix2 a l) = max (acc (ix2 a l)) ((Finset.range 32).sup fun q => av (wv (at3 (arg12.view.read (Elt Ideal) f12) 2 (256 * k.val + (8 * q + a.val)) l.val) (at3 (arg11.view.read (Elt Ideal) X11) 2 (256 * k.val + (8 * q + a.val)) l.val) (at2 v154 0 (256 + l.val % 64)) (at2 v156 0 (256 + l.val % 64)) (at2 v159 0 (256 + l.val % 64)))) := by
  have o0 : k0_off14 k 0#32 = ![2, 256 * k.val + 0, 0] := k0_off14_eq k 0
  have o1 : k0_off14 k 32#32 = ![2, 256 * k.val + 32, 0] := k0_off14_eq k 1
  have o2 : k0_off14 k 64#32 = ![2, 256 * k.val + 64, 0] := k0_off14_eq k 2
  have o3 : k0_off14 k 96#32 = ![2, 256 * k.val + 96, 0] := k0_off14_eq k 3
  have o4 : k0_off14 k 128#32 = ![2, 256 * k.val + 128, 0] := k0_off14_eq k 4
  have o5 : k0_off14 k 160#32 = ![2, 256 * k.val + 160, 0] := k0_off14_eq k 5
  have o6 : k0_off14 k 192#32 = ![2, 256 * k.val + 192, 0] := k0_off14_eq k 6
  have o7 : k0_off14 k 224#32 = ![2, 256 * k.val + 224, 0] := k0_off14_eq k 7
  have hl : ∀ (v : FVec Ideal S1x384 .f32) (l : Fin 128), (if h : l.val < 64 then at2 v 0 (256 + l.val) else at2 v 0 (256 + (l.val - 64))) = at2 v 0 (256 + l.val % 64) := by
    intro v l; have := l.isLt; split_ifs <;> (congr 1; omega)
  unfold trip_k0_t9
  dsimp only
  pointwise [k0_pay409, k0_pay410, k0_pay411, k0_pay412, k0_pay413, trip_k0_t9.sl.arg14, trip_k0_t9.sl.cst_112, trip_k0_t9.sl.v299, trip_k0_t9.sl.v301, trip_k0_t9.sl.v302, trip_k0_t9.sl.v304, trip_k0_t9.sl.v305, trip_k0_t9.sl.v308, trip_k0_t9.sl.v309, trip_k0_t9.sl.v310, trip_k0_t9.sl.v311, trip_k0_t9.sl.v315, trip_k0_t9.sl.v316, trip_k0_t9.sl.v317, trip_k0_t9.sl.v318, trip_k0_t9.sl.v319, trip_k0_t9.sl.v322, trip_k0_t9.sl.v323, trip_k0_t9.sl.v324, trip_k0_t9.sl.v325, trip_k0_t9.sl.v326, trip_k0_t9.sl.v329, trip_k0_t9.sl.v330, trip_k0_t9.sl.v331, trip_k0_t9.sl.v332, trip_k0_t9.sl.v336, trip_k0_t9.sl.v337, trip_k0_t9.sl.v338, trip_k0_t9.sl.v339, trip_k0_t9.sl.v340, trip_k0_t9.sl.v343, trip_k0_t9.sl.v344, trip_k0_t9.sl.v345, trip_k0_t9.sl.v346, trip_k0_t9.sl.v347, trip_k0_t9.sl.v350, trip_k0_t9.sl.v351, trip_k0_t9.sl.v352, trip_k0_t9.sl.v353, trip_k0_t9.sl.v357, trip_k0_t9.sl.v358, trip_k0_t9.sl.v359, trip_k0_t9.sl.v360, trip_k0_t9.sl.v361, trip_k0_t9.sl.v364, trip_k0_t9.sl.v365, trip_k0_t9.sl.v366, trip_k0_t9.sl.v367, trip_k0_t9.sl.v368, trip_k0_t9.sl.v371, trip_k0_t9.sl.v372, trip_k0_t9.sl.v373, trip_k0_t9.sl.v374, trip_k0_t9.sl.v378, trip_k0_t9.sl.v379, trip_k0_t9.sl.v380, trip_k0_t9.sl.v381, trip_k0_t9.sl.v382, trip_k0_t9.sl.v385, trip_k0_t9.sl.v386, trip_k0_t9.sl.v387, trip_k0_t9.sl.v388, trip_k0_t9.sl.v389, trip_k0_t9.sl.v392, trip_k0_t9.sl.v393, trip_k0_t9.sl.v394, trip_k0_t9.sl.v395, trip_k0_t9.sl.v399, trip_k0_t9.sl.v400, trip_k0_t9.sl.v401, trip_k0_t9.sl.v402, trip_k0_t9.sl.v403, trip_k0_t9.sl.v406, trip_k0_t9.sl.v407, trip_k0_t9.sl.v408, trip_k0_t9.sl.v409, trip_k0_t9.sl.v410, trip_k0_t9.sl.v413, trip_k0_t9.sl.v414, trip_k0_t9.sl.v415, trip_k0_t9.sl.v416, trip_k0_t9.sl.v420, trip_k0_t9.sl.v421, trip_k0_t9.sl.v422, trip_k0_t9.sl.v423, trip_k0_t9.sl.v424, trip_k0_t9.sl.v427, trip_k0_t9.sl.v428, trip_k0_t9.sl.v429, trip_k0_t9.sl.v430, trip_k0_t9.sl.v431, trip_k0_t9.sl.v434, trip_k0_t9.sl.v435, trip_k0_t9.sl.v436, trip_k0_t9.sl.v437, trip_k0_t9.sl.v441, trip_k0_t9.sl.v442, trip_k0_t9.sl.v443, trip_k0_t9.sl.v444, trip_k0_t9.sl.v445, trip_k0_t9.sl.v448, trip_k0_t9.sl.v449, trip_k0_t9.sl.v450, trip_k0_t9.sl.v451, trip_k0_t9.sl.v452, trip_k0_t9.sl.v455, trip_k0_t9.sl.v456, trip_k0_t9.sl.v457, trip_k0_t9.sl.v458]
  simp only [readAt_f32, at2_ix v154, at2_ix v156, at2_ix v159, hl, o0, o1, o2, o3, o4, o5, o6, o7, Matrix.cons_val, Fin.isValue, Fin.val_zero, Fin.val_one, Fin.val_two, Nat.zero_add]
  exact max8 (fun r => av (wv (at3 (arg12.view.read (Elt Ideal) f12) 2 r l.val) (at3 (arg11.view.read (Elt Ideal) X11) 2 r l.val) (at2 v154 0 (256 + l.val % 64)) (at2 v156 0 (256 + l.val % 64)) (at2 v159 0 (256 + l.val % 64)))) (256 * k.val) a.val _

/-- One trip of the third loop over column tile 2 stores 256 rows of the unscaled gradient over the upstream gradient. -/
theorem t9_band12 [Named Ideal] (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32)  (k : Fin k0_t9_loop.trips) (acc : FVec Ideal S8x128 .f32) (f12 : BufTy.Contents (Elt Ideal) arg12.view.ty)
    (G : BufTy.Contents (Elt Ideal) arg12.view.ty) (L : List (View.Piece (Elt Ideal) S3x4096x128 .f32)) (t r l : ℕ) :
    at3 (arg12.view.read (Elt Ideal) (arg12.view.writes (Elt Ideal) G ((trip_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 k).2.1 acc f12 ++ L))) t r l
      = if (2 ≤ t ∧ t < 2 + 1) ∧ (256 * k.val ≤ r ∧ r < 256 * k.val + 256) ∧ (0 ≤ l ∧ l < 0 + 128) then (wv (at3 (arg12.view.read (Elt Ideal) f12) 2 r l) (at3 (arg11.view.read (Elt Ideal) X11) 2 r l) (at2 v154 0 (256 + l % 64)) (at2 v156 0 (256 + l % 64)) (at2 v159 0 (256 + l % 64)))
        else at3 (arg12.view.read (Elt Ideal) (arg12.view.writes (Elt Ideal) G L)) t r l := by
  have o0 : k0_off14 k 0#32 = ![2, 256 * k.val + 0, 0] := k0_off14_eq k 0
  have o1 : k0_off14 k 32#32 = ![2, 256 * k.val + 32, 0] := k0_off14_eq k 1
  have o2 : k0_off14 k 64#32 = ![2, 256 * k.val + 64, 0] := k0_off14_eq k 2
  have o3 : k0_off14 k 96#32 = ![2, 256 * k.val + 96, 0] := k0_off14_eq k 3
  have o4 : k0_off14 k 128#32 = ![2, 256 * k.val + 128, 0] := k0_off14_eq k 4
  have o5 : k0_off14 k 160#32 = ![2, 256 * k.val + 160, 0] := k0_off14_eq k 5
  have o6 : k0_off14 k 192#32 = ![2, 256 * k.val + 192, 0] := k0_off14_eq k 6
  have o7 : k0_off14 k 224#32 = ![2, 256 * k.val + 224, 0] := k0_off14_eq k 7
  have hl : ∀ (v : FVec Ideal S1x384 .f32) (l : Fin 128), (if h : l.val < 64 then at2 v 0 (256 + l.val) else at2 v 0 (256 + (l.val - 64))) = at2 v 0 (256 + l.val % 64) := by
    intro v l; have := l.isLt; split_ifs <;> (congr 1; omega)
  unfold trip_k0_t9
  dsimp only
  simp only [List.cons_append, List.nil_append]
  rw [band_f32 (V := fun _ r l => (wv (at3 (arg12.view.read (Elt Ideal) f12) 2 r l) (at3 (arg11.view.read (Elt Ideal) X11) 2 r l) (at2 v154 0 (256 + l % 64)) (at2 v156 0 (256 + l % 64)) (at2 v159 0 (256 + l % 64)))) (ho := o7), band_f32 (V := fun _ r l => (wv (at3 (arg12.view.read (Elt Ideal) f12) 2 r l) (at3 (arg11.view.read (Elt Ideal) X11) 2 r l) (at2 v154 0 (256 + l % 64)) (at2 v156 0 (256 + l % 64)) (at2 v159 0 (256 + l % 64)))) (ho := o6), band_f32 (V := fun _ r l => (wv (at3 (arg12.view.read (Elt Ideal) f12) 2 r l) (at3 (arg11.view.read (Elt Ideal) X11) 2 r l) (at2 v154 0 (256 + l % 64)) (at2 v156 0 (256 + l % 64)) (at2 v159 0 (256 + l % 64)))) (ho := o5), band_f32 (V := fun _ r l => (wv (at3 (arg12.view.read (Elt Ideal) f12) 2 r l) (at3 (arg11.view.read (Elt Ideal) X11) 2 r l) (at2 v154 0 (256 + l % 64)) (at2 v156 0 (256 + l % 64)) (at2 v159 0 (256 + l % 64)))) (ho := o4), band_f32 (V := fun _ r l => (wv (at3 (arg12.view.read (Elt Ideal) f12) 2 r l) (at3 (arg11.view.read (Elt Ideal) X11) 2 r l) (at2 v154 0 (256 + l % 64)) (at2 v156 0 (256 + l % 64)) (at2 v159 0 (256 + l % 64)))) (ho := o3), band_f32 (V := fun _ r l => (wv (at3 (arg12.view.read (Elt Ideal) f12) 2 r l) (at3 (arg11.view.read (Elt Ideal) X11) 2 r l) (at2 v154 0 (256 + l % 64)) (at2 v156 0 (256 + l % 64)) (at2 v159 0 (256 + l % 64)))) (ho := o2), band_f32 (V := fun _ r l => (wv (at3 (arg12.view.read (Elt Ideal) f12) 2 r l) (at3 (arg11.view.read (Elt Ideal) X11) 2 r l) (at2 v154 0 (256 + l % 64)) (at2 v156 0 (256 + l % 64)) (at2 v159 0 (256 + l % 64)))) (ho := o1), band_f32 (V := fun _ r l => (wv (at3 (arg12.view.read (Elt Ideal) f12) 2 r l) (at3 (arg11.view.read (Elt Ideal) X11) 2 r l) (at2 v154 0 (256 + l % 64)) (at2 v156 0 (256 + l % 64)) (at2 v159 0 (256 + l % 64)))) (ho := o0)]
  · split_ifs <;> first | rfl | (exfalso; omega)
  all_goals
    intro i j l
    simp only [Nat.zero_add]
    pointwise [k0_pay409, k0_pay410, k0_pay411, k0_pay412, k0_pay413, trip_k0_t9.sl.arg14, trip_k0_t9.sl.cst_112, trip_k0_t9.sl.v299, trip_k0_t9.sl.v301, trip_k0_t9.sl.v302, trip_k0_t9.sl.v304, trip_k0_t9.sl.v305, trip_k0_t9.sl.v308, trip_k0_t9.sl.v309, trip_k0_t9.sl.v310, trip_k0_t9.sl.v311, trip_k0_t9.sl.v315, trip_k0_t9.sl.v316, trip_k0_t9.sl.v317, trip_k0_t9.sl.v318, trip_k0_t9.sl.v319, trip_k0_t9.sl.v322, trip_k0_t9.sl.v323, trip_k0_t9.sl.v324, trip_k0_t9.sl.v325, trip_k0_t9.sl.v326, trip_k0_t9.sl.v329, trip_k0_t9.sl.v330, trip_k0_t9.sl.v331, trip_k0_t9.sl.v332, trip_k0_t9.sl.v336, trip_k0_t9.sl.v337, trip_k0_t9.sl.v338, trip_k0_t9.sl.v339, trip_k0_t9.sl.v340, trip_k0_t9.sl.v343, trip_k0_t9.sl.v344, trip_k0_t9.sl.v345, trip_k0_t9.sl.v346, trip_k0_t9.sl.v347, trip_k0_t9.sl.v350, trip_k0_t9.sl.v351, trip_k0_t9.sl.v352, trip_k0_t9.sl.v353, trip_k0_t9.sl.v357, trip_k0_t9.sl.v358, trip_k0_t9.sl.v359, trip_k0_t9.sl.v360, trip_k0_t9.sl.v361, trip_k0_t9.sl.v364, trip_k0_t9.sl.v365, trip_k0_t9.sl.v366, trip_k0_t9.sl.v367, trip_k0_t9.sl.v368, trip_k0_t9.sl.v371, trip_k0_t9.sl.v372, trip_k0_t9.sl.v373, trip_k0_t9.sl.v374, trip_k0_t9.sl.v378, trip_k0_t9.sl.v379, trip_k0_t9.sl.v380, trip_k0_t9.sl.v381, trip_k0_t9.sl.v382, trip_k0_t9.sl.v385, trip_k0_t9.sl.v386, trip_k0_t9.sl.v387, trip_k0_t9.sl.v388, trip_k0_t9.sl.v389, trip_k0_t9.sl.v392, trip_k0_t9.sl.v393, trip_k0_t9.sl.v394, trip_k0_t9.sl.v395, trip_k0_t9.sl.v399, trip_k0_t9.sl.v400, trip_k0_t9.sl.v401, trip_k0_t9.sl.v402, trip_k0_t9.sl.v403, trip_k0_t9.sl.v406, trip_k0_t9.sl.v407, trip_k0_t9.sl.v408, trip_k0_t9.sl.v409, trip_k0_t9.sl.v410, trip_k0_t9.sl.v413, trip_k0_t9.sl.v414, trip_k0_t9.sl.v415, trip_k0_t9.sl.v416, trip_k0_t9.sl.v420, trip_k0_t9.sl.v421, trip_k0_t9.sl.v422, trip_k0_t9.sl.v423, trip_k0_t9.sl.v424, trip_k0_t9.sl.v427, trip_k0_t9.sl.v428, trip_k0_t9.sl.v429, trip_k0_t9.sl.v430, trip_k0_t9.sl.v431, trip_k0_t9.sl.v434, trip_k0_t9.sl.v435, trip_k0_t9.sl.v436, trip_k0_t9.sl.v437, trip_k0_t9.sl.v441, trip_k0_t9.sl.v442, trip_k0_t9.sl.v443, trip_k0_t9.sl.v444, trip_k0_t9.sl.v445, trip_k0_t9.sl.v448, trip_k0_t9.sl.v449, trip_k0_t9.sl.v450, trip_k0_t9.sl.v451, trip_k0_t9.sl.v452, trip_k0_t9.sl.v455, trip_k0_t9.sl.v456, trip_k0_t9.sl.v457, trip_k0_t9.sl.v458]
    simp only [readAt_f32, at2_ix v154, at2_ix v156, at2_ix v159, hl, o0, o1, o2, o3, o4, o5, o6, o7, Matrix.cons_val, Fin.isValue, Fin.val_zero, Fin.val_one, Fin.val_two, Nat.zero_add]
    first | rfl | done

end Cert.KernelIdeal.Hand
end
-- ==== Proof.VT10.lean ====
module

public import proofs.«01_k».proof.Proof.Gen.KernelIdeal.Loops
public import proofs.«01_k».proof.Proof.VMax

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X12 : BufTy.Contents (Elt Ideal) arg12.view.ty)
set_option maxHeartbeats 2000000

/-- One trip of the last loop over column tile 0 stores the codes of 256 rows of the tile. -/
theorem t10_band6 [Named Ideal] (arg0 : BitVec 32) (v64 : FVec Ideal S1x384 .f32) (v259 : IVec S252x384 32) (k : Fin k0_t10_loop.trips)
    (G : BufTy.Contents (Elt Ideal) arg6.view.ty) (L : List (View.Piece (Elt Ideal) S1x4096x320 .fp8e5m2)) (t r ch : ℕ) :
    at3 (arg6.view.read (Elt Ideal) (arg6.view.writes (Elt Ideal) G ((trip_k0_t10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 k).1 ++ L))) t r ch
      = if (0 ≤ t ∧ t < 0 + 1) ∧ (256 * k.val ≤ r ∧ r < 256 * k.val + 256) ∧ (0 ≤ ch ∧ ch < 0 + 128) then cv (at3 (arg12.view.read (Elt Ideal) X12) 0 r (ch - 0)) (at2 (k0_pay419 v64 v259) 0 ch)
        else at3 (arg6.view.read (Elt Ideal) (arg6.view.writes (Elt Ideal) G L)) t r ch := by
  have o0 : k0_off16 k 0#32 = ![0, 256 * k.val + 0, 0] := k0_off16_eq k 0
  have o1 : k0_off16 k 32#32 = ![0, 256 * k.val + 32, 0] := k0_off16_eq k 1
  have o2 : k0_off16 k 64#32 = ![0, 256 * k.val + 64, 0] := k0_off16_eq k 2
  have o3 : k0_off16 k 96#32 = ![0, 256 * k.val + 96, 0] := k0_off16_eq k 3
  have o4 : k0_off16 k 128#32 = ![0, 256 * k.val + 128, 0] := k0_off16_eq k 4
  have o5 : k0_off16 k 160#32 = ![0, 256 * k.val + 160, 0] := k0_off16_eq k 5
  have o6 : k0_off16 k 192#32 = ![0, 256 * k.val + 192, 0] := k0_off16_eq k 6
  have o7 : k0_off16 k 224#32 = ![0, 256 * k.val + 224, 0] := k0_off16_eq k 7
  have s0 : k0_off17 k 0#32 = ![0, 256 * k.val + 0, 0] := k0_off17_eq k 0
  have s1 : k0_off17 k 32#32 = ![0, 256 * k.val + 32, 0] := k0_off17_eq k 1
  have s2 : k0_off17 k 64#32 = ![0, 256 * k.val + 64, 0] := k0_off17_eq k 2
  have s3 : k0_off17 k 96#32 = ![0, 256 * k.val + 96, 0] := k0_off17_eq k 3
  have s4 : k0_off17 k 128#32 = ![0, 256 * k.val + 128, 0] := k0_off17_eq k 4
  have s5 : k0_off17 k 160#32 = ![0, 256 * k.val + 160, 0] := k0_off17_eq k 5
  have s6 : k0_off17 k 192#32 = ![0, 256 * k.val + 192, 0] := k0_off17_eq k 6
  have s7 : k0_off17 k 224#32 = ![0, 256 * k.val + 224, 0] := k0_off17_eq k 7
  unfold trip_k0_t10
  dsimp only
  simp only [List.cons_append, List.nil_append]
  rw [band_fp8 (V := fun _ r c => cv (at3 (arg12.view.read (Elt Ideal) X12) 0 r (c - 0)) (at2 (k0_pay419 v64 v259) 0 c)) (ho := s7), band_fp8 (V := fun _ r c => cv (at3 (arg12.view.read (Elt Ideal) X12) 0 r (c - 0)) (at2 (k0_pay419 v64 v259) 0 c)) (ho := s6), band_fp8 (V := fun _ r c => cv (at3 (arg12.view.read (Elt Ideal) X12) 0 r (c - 0)) (at2 (k0_pay419 v64 v259) 0 c)) (ho := s5), band_fp8 (V := fun _ r c => cv (at3 (arg12.view.read (Elt Ideal) X12) 0 r (c - 0)) (at2 (k0_pay419 v64 v259) 0 c)) (ho := s4), band_fp8 (V := fun _ r c => cv (at3 (arg12.view.read (Elt Ideal) X12) 0 r (c - 0)) (at2 (k0_pay419 v64 v259) 0 c)) (ho := s3), band_fp8 (V := fun _ r c => cv (at3 (arg12.view.read (Elt Ideal) X12) 0 r (c - 0)) (at2 (k0_pay419 v64 v259) 0 c)) (ho := s2), band_fp8 (V := fun _ r c => cv (at3 (arg12.view.read (Elt Ideal) X12) 0 r (c - 0)) (at2 (k0_pay419 v64 v259) 0 c)) (ho := s1), band_fp8 (V := fun _ r c => cv (at3 (arg12.view.read (Elt Ideal) X12) 0 r (c - 0)) (at2 (k0_pay419 v64 v259) 0 c)) (ho := s0)]
  · split_ifs <;> first | rfl | (exfalso; omega)
  all_goals
    intro i j l
    pointwise [k0_pay420, k0_pay421, trip_k0_t10.sl.arg14, trip_k0_t10.sl.cst_109, trip_k0_t10.sl.cst_110, trip_k0_t10.sl.r, trip_k0_t10.sl.v299, trip_k0_t10.sl.v301, trip_k0_t10.sl.v302, trip_k0_t10.sl.v304, trip_k0_t10.sl.v305, trip_k0_t10.sl.v306, trip_k0_t10.sl.v307, trip_k0_t10.sl.v308, trip_k0_t10.sl.v309, trip_k0_t10.sl.v310, trip_k0_t10.sl.v313, trip_k0_t10.sl.v314, trip_k0_t10.sl.v317, trip_k0_t10.sl.v318, trip_k0_t10.sl.v320, trip_k0_t10.sl.v321, trip_k0_t10.sl.v323, trip_k0_t10.sl.v325, trip_k0_t10.sl.v326, trip_k0_t10.sl.v328, trip_k0_t10.sl.v329, trip_k0_t10.sl.v330, trip_k0_t10.sl.v333, trip_k0_t10.sl.v334, trip_k0_t10.sl.v336, trip_k0_t10.sl.v337, trip_k0_t10.sl.v339, trip_k0_t10.sl.v341, trip_k0_t10.sl.v342, trip_k0_t10.sl.v344, trip_k0_t10.sl.v345, trip_k0_t10.sl.v346, trip_k0_t10.sl.v349, trip_k0_t10.sl.v350, trip_k0_t10.sl.v352, trip_k0_t10.sl.v353, trip_k0_t10.sl.v355, trip_k0_t10.sl.v357, trip_k0_t10.sl.v358, trip_k0_t10.sl.v360, trip_k0_t10.sl.v361, trip_k0_t10.sl.v362, trip_k0_t10.sl.v365, trip_k0_t10.sl.v366, trip_k0_t10.sl.v368, trip_k0_t10.sl.v369, trip_k0_t10.sl.v371, trip_k0_t10.sl.v373, trip_k0_t10.sl.v374, trip_k0_t10.sl.v376, trip_k0_t10.sl.v377, trip_k0_t10.sl.v378, trip_k0_t10.sl.v381, trip_k0_t10.sl.v382, trip_k0_t10.sl.v384, trip_k0_t10.sl.v385, trip_k0_t10.sl.v387, trip_k0_t10.sl.v389, trip_k0_t10.sl.v390, trip_k0_t10.sl.v392, trip_k0_t10.sl.v393, trip_k0_t10.sl.v394, trip_k0_t10.sl.v397, trip_k0_t10.sl.v398, trip_k0_t10.sl.v400, trip_k0_t10.sl.v401, trip_k0_t10.sl.v403, trip_k0_t10.sl.v405, trip_k0_t10.sl.v406, trip_k0_t10.sl.v408, trip_k0_t10.sl.v409, trip_k0_t10.sl.v410]
    simp only [readAt_f32, at2_ix (k0_pay419 v64 v259), o0, o1, o2, o3, o4, o5, o6, o7, Matrix.cons_val, Fin.isValue, Fin.val_zero, Fin.val_one, Fin.val_two, Nat.zero_add, Nat.add_zero, Nat.add_sub_cancel_left, Nat.sub_zero]
    rfl

end Cert.KernelIdeal.Hand
end
-- ==== Proof.VT11.lean ====
module

public import proofs.«01_k».proof.Proof.Gen.KernelIdeal.Loops
public import proofs.«01_k».proof.Proof.VMax

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X12 : BufTy.Contents (Elt Ideal) arg12.view.ty)
set_option maxHeartbeats 2000000

/-- One trip of the last loop over column tile 1 stores the codes of 256 rows of the tile. -/
theorem t11_band6 [Named Ideal] (arg0 : BitVec 32) (v64 : FVec Ideal S1x384 .f32) (v259 : IVec S252x384 32) (k : Fin k0_t11_loop.trips)
    (G : BufTy.Contents (Elt Ideal) arg6.view.ty) (L : List (View.Piece (Elt Ideal) S1x4096x320 .fp8e5m2)) (t r ch : ℕ) :
    at3 (arg6.view.read (Elt Ideal) (arg6.view.writes (Elt Ideal) G ((trip_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 k).1 ++ L))) t r ch
      = if (0 ≤ t ∧ t < 0 + 1) ∧ (256 * k.val ≤ r ∧ r < 256 * k.val + 256) ∧ (128 ≤ ch ∧ ch < 128 + 128) then cv (at3 (arg12.view.read (Elt Ideal) X12) 1 r (ch - 128)) (at2 (k0_pay419 v64 v259) 0 ch)
        else at3 (arg6.view.read (Elt Ideal) (arg6.view.writes (Elt Ideal) G L)) t r ch := by
  have o0 : k0_off18 k 0#32 = ![1, 256 * k.val + 0, 0] := k0_off18_eq k 0
  have o1 : k0_off18 k 32#32 = ![1, 256 * k.val + 32, 0] := k0_off18_eq k 1
  have o2 : k0_off18 k 64#32 = ![1, 256 * k.val + 64, 0] := k0_off18_eq k 2
  have o3 : k0_off18 k 96#32 = ![1, 256 * k.val + 96, 0] := k0_off18_eq k 3
  have o4 : k0_off18 k 128#32 = ![1, 256 * k.val + 128, 0] := k0_off18_eq k 4
  have o5 : k0_off18 k 160#32 = ![1, 256 * k.val + 160, 0] := k0_off18_eq k 5
  have o6 : k0_off18 k 192#32 = ![1, 256 * k.val + 192, 0] := k0_off18_eq k 6
  have o7 : k0_off18 k 224#32 = ![1, 256 * k.val + 224, 0] := k0_off18_eq k 7
  have s0 : k0_off19 k 0#32 = ![0, 256 * k.val + 0, 128] := k0_off19_eq k 0
  have s1 : k0_off19 k 32#32 = ![0, 256 * k.val + 32, 128] := k0_off19_eq k 1
  have s2 : k0_off19 k 64#32 = ![0, 256 * k.val + 64, 128] := k0_off19_eq k 2
  have s3 : k0_off19 k 96#32 = ![0, 256 * k.val + 96, 128] := k0_off19_eq k 3
  have s4 : k0_off19 k 128#32 = ![0, 256 * k.val + 128, 128] := k0_off19_eq k 4
  have s5 : k0_off19 k 160#32 = ![0, 256 * k.val + 160, 128] := k0_off19_eq k 5
  have s6 : k0_off19 k 192#32 = ![0, 256 * k.val + 192, 128] := k0_off19_eq k 6
  have s7 : k0_off19 k 224#32 = ![0, 256 * k.val + 224, 128] := k0_off19_eq k 7
  unfold trip_k0_t11
  dsimp only
  simp only [List.cons_append, List.nil_append]
  rw [band_fp8 (V := fun _ r c => cv (at3 (arg12.view.read (Elt Ideal) X12) 1 r (c - 128)) (at2 (k0_pay419 v64 v259) 0 c)) (ho := s7), band_fp8 (V := fun _ r c => cv (at3 (arg12.view.read (Elt Ideal) X12) 1 r (c - 128)) (at2 (k0_pay419 v64 v259) 0 c)) (ho := s6), band_fp8 (V := fun _ r c => cv (at3 (arg12.view.read (Elt Ideal) X12) 1 r (c - 128)) (at2 (k0_pay419 v64 v259) 0 c)) (ho := s5), band_fp8 (V := fun _ r c => cv (at3 (arg12.view.read (Elt Ideal) X12) 1 r (c - 128)) (at2 (k0_pay419 v64 v259) 0 c)) (ho := s4), band_fp8 (V := fun _ r c => cv (at3 (arg12.view.read (Elt Ideal) X12) 1 r (c - 128)) (at2 (k0_pay419 v64 v259) 0 c)) (ho := s3), band_fp8 (V := fun _ r c => cv (at3 (arg12.view.read (Elt Ideal) X12) 1 r (c - 128)) (at2 (k0_pay419 v64 v259) 0 c)) (ho := s2), band_fp8 (V := fun _ r c => cv (at3 (arg12.view.read (Elt Ideal) X12) 1 r (c - 128)) (at2 (k0_pay419 v64 v259) 0 c)) (ho := s1), band_fp8 (V := fun _ r c => cv (at3 (arg12.view.read (Elt Ideal) X12) 1 r (c - 128)) (at2 (k0_pay419 v64 v259) 0 c)) (ho := s0)]
  · split_ifs <;> first | rfl | (exfalso; omega)
  all_goals
    intro i j l
    pointwise [k0_pay422, k0_pay423, trip_k0_t11.sl.arg14, trip_k0_t11.sl.cst_108, trip_k0_t11.sl.cst_109, trip_k0_t11.sl.r, trip_k0_t11.sl.v299, trip_k0_t11.sl.v301, trip_k0_t11.sl.v302, trip_k0_t11.sl.v304, trip_k0_t11.sl.v305, trip_k0_t11.sl.v306, trip_k0_t11.sl.v307, trip_k0_t11.sl.v308, trip_k0_t11.sl.v309, trip_k0_t11.sl.v310, trip_k0_t11.sl.v313, trip_k0_t11.sl.v314, trip_k0_t11.sl.v317, trip_k0_t11.sl.v318, trip_k0_t11.sl.v320, trip_k0_t11.sl.v321, trip_k0_t11.sl.v323, trip_k0_t11.sl.v325, trip_k0_t11.sl.v326, trip_k0_t11.sl.v328, trip_k0_t11.sl.v329, trip_k0_t11.sl.v330, trip_k0_t11.sl.v333, trip_k0_t11.sl.v334, trip_k0_t11.sl.v336, trip_k0_t11.sl.v337, trip_k0_t11.sl.v339, trip_k0_t11.sl.v341, trip_k0_t11.sl.v342, trip_k0_t11.sl.v344, trip_k0_t11.sl.v345, trip_k0_t11.sl.v346, trip_k0_t11.sl.v349, trip_k0_t11.sl.v350, trip_k0_t11.sl.v352, trip_k0_t11.sl.v353, trip_k0_t11.sl.v355, trip_k0_t11.sl.v357, trip_k0_t11.sl.v358, trip_k0_t11.sl.v360, trip_k0_t11.sl.v361, trip_k0_t11.sl.v362, trip_k0_t11.sl.v365, trip_k0_t11.sl.v366, trip_k0_t11.sl.v368, trip_k0_t11.sl.v369, trip_k0_t11.sl.v371, trip_k0_t11.sl.v373, trip_k0_t11.sl.v374, trip_k0_t11.sl.v376, trip_k0_t11.sl.v377, trip_k0_t11.sl.v378, trip_k0_t11.sl.v381, trip_k0_t11.sl.v382, trip_k0_t11.sl.v384, trip_k0_t11.sl.v385, trip_k0_t11.sl.v387, trip_k0_t11.sl.v389, trip_k0_t11.sl.v390, trip_k0_t11.sl.v392, trip_k0_t11.sl.v393, trip_k0_t11.sl.v394, trip_k0_t11.sl.v397, trip_k0_t11.sl.v398, trip_k0_t11.sl.v400, trip_k0_t11.sl.v401, trip_k0_t11.sl.v403, trip_k0_t11.sl.v405, trip_k0_t11.sl.v406, trip_k0_t11.sl.v408, trip_k0_t11.sl.v409, trip_k0_t11.sl.v410]
    simp only [readAt_f32, at2_ix (k0_pay419 v64 v259), o0, o1, o2, o3, o4, o5, o6, o7, Matrix.cons_val, Fin.isValue, Fin.val_zero, Fin.val_one, Fin.val_two, Nat.zero_add, Nat.add_zero, Nat.add_sub_cancel_left, Nat.sub_zero]
    rfl

end Cert.KernelIdeal.Hand
end
-- ==== Proof.VT12.lean ====
module

public import proofs.«01_k».proof.Proof.Gen.KernelIdeal.Loops
public import proofs.«01_k».proof.Proof.VMax

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X12 : BufTy.Contents (Elt Ideal) arg12.view.ty)
set_option maxHeartbeats 2000000

/-- One trip of the last loop over column tile 2 stores the codes of 256 rows of each half. -/
theorem t12_band6 [Named Ideal] (arg0 : BitVec 32) (v64 : FVec Ideal S1x384 .f32) (v259 : IVec S252x384 32) (k : Fin k0_t12_loop.trips)
    (G : BufTy.Contents (Elt Ideal) arg6.view.ty) (L : List (View.Piece (Elt Ideal) S1x4096x320 .fp8e5m2)) (t r ch : ℕ) :
    at3 (arg6.view.read (Elt Ideal) (arg6.view.writes (Elt Ideal) G ((trip_k0_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 k).1 ++ L))) t r ch
      = if (0 ≤ t ∧ t < 0 + 1) ∧ (256 * k.val ≤ r % 2048 ∧ r % 2048 < 256 * k.val + 256 ∧ r < 4096) ∧ (256 ≤ ch ∧ ch < 256 + 64) then if r < 2048 then cv (at3 (arg12.view.read (Elt Ideal) X12) 2 r (ch - 256)) (at2 (k0_pay419 v64 v259) 0 ch) else cv (at3 (arg12.view.read (Elt Ideal) X12) 2 (r - 2048) (ch - 256 + 64)) (at2 (k0_pay419 v64 v259) 0 ch)
        else at3 (arg6.view.read (Elt Ideal) (arg6.view.writes (Elt Ideal) G L)) t r ch := by
  have o0 : k0_off20 k 0#32 = ![2, 256 * k.val + 0, 0] := k0_off20_eq k 0
  have o1 : k0_off20 k 32#32 = ![2, 256 * k.val + 32, 0] := k0_off20_eq k 1
  have o2 : k0_off20 k 64#32 = ![2, 256 * k.val + 64, 0] := k0_off20_eq k 2
  have o3 : k0_off20 k 96#32 = ![2, 256 * k.val + 96, 0] := k0_off20_eq k 3
  have o4 : k0_off20 k 128#32 = ![2, 256 * k.val + 128, 0] := k0_off20_eq k 4
  have o5 : k0_off20 k 160#32 = ![2, 256 * k.val + 160, 0] := k0_off20_eq k 5
  have o6 : k0_off20 k 192#32 = ![2, 256 * k.val + 192, 0] := k0_off20_eq k 6
  have o7 : k0_off20 k 224#32 = ![2, 256 * k.val + 224, 0] := k0_off20_eq k 7
  have s0 : k0_off21 k 0#32 = ![0, 256 * k.val + 0, 256] := k0_off21_eq k 0
  have s1 : k0_off21 k 32#32 = ![0, 256 * k.val + 32, 256] := k0_off21_eq k 1
  have s2 : k0_off21 k 64#32 = ![0, 256 * k.val + 64, 256] := k0_off21_eq k 2
  have s3 : k0_off21 k 96#32 = ![0, 256 * k.val + 96, 256] := k0_off21_eq k 3
  have s4 : k0_off21 k 128#32 = ![0, 256 * k.val + 128, 256] := k0_off21_eq k 4
  have s5 : k0_off21 k 160#32 = ![0, 256 * k.val + 160, 256] := k0_off21_eq k 5
  have s6 : k0_off21 k 192#32 = ![0, 256 * k.val + 192, 256] := k0_off21_eq k 6
  have s7 : k0_off21 k 224#32 = ![0, 256 * k.val + 224, 256] := k0_off21_eq k 7
  have u0 : k0_off22 k 0#32 = ![0, 256 * k.val + 0 + 2048, 256] := k0_off22_eq k 0
  have u1 : k0_off22 k 32#32 = ![0, 256 * k.val + 32 + 2048, 256] := k0_off22_eq k 1
  have u2 : k0_off22 k 64#32 = ![0, 256 * k.val + 64 + 2048, 256] := k0_off22_eq k 2
  have u3 : k0_off22 k 96#32 = ![0, 256 * k.val + 96 + 2048, 256] := k0_off22_eq k 3
  have u4 : k0_off22 k 128#32 = ![0, 256 * k.val + 128 + 2048, 256] := k0_off22_eq k 4
  have u5 : k0_off22 k 160#32 = ![0, 256 * k.val + 160 + 2048, 256] := k0_off22_eq k 5
  have u6 : k0_off22 k 192#32 = ![0, 256 * k.val + 192 + 2048, 256] := k0_off22_eq k 6
  have u7 : k0_off22 k 224#32 = ![0, 256 * k.val + 224 + 2048, 256] := k0_off22_eq k 7
  have hk : k.val < 8 := Nat.lt_of_lt_of_le k.isLt k0_t12_abs.2.1
  have hr : ∀ l : Fin 64, (l.val + 128 - 64) % 128 = l.val + 64 := fun l => by have := l.isLt; omega
  have hA : ∀ l : Fin 64, (if h : l.val < 64 then at2 (k0_pay419 v64 v259) 0 (256 + l.val) else at2 (k0_pay419 v64 v259) 0 (256 + (l.val - 64))) = at2 (k0_pay419 v64 v259) 0 (256 + l.val) := fun l => dif_pos l.isLt
  have hB : ∀ l : Fin 64, (if h : l.val + 64 < 64 then at2 (k0_pay419 v64 v259) 0 (256 + (l.val + 64)) else at2 (k0_pay419 v64 v259) 0 (256 + (l.val + 64 - 64))) = at2 (k0_pay419 v64 v259) 0 (256 + l.val) := fun l => by rw [dif_neg (by omega)]; congr 1
  have hs : ∀ a j : ℕ, a + 2048 + j - 2048 = a + j := fun a j => by omega
  unfold trip_k0_t12
  dsimp only
  simp only [List.cons_append, List.nil_append]
  rw [band_fp8 (V := fun _ r c => cv (at3 (arg12.view.read (Elt Ideal) X12) 2 (r - 2048) (c - 256 + 64)) (at2 (k0_pay419 v64 v259) 0 c)) (ho := u7), band_fp8 (V := fun _ r c => cv (at3 (arg12.view.read (Elt Ideal) X12) 2 r (c - 256)) (at2 (k0_pay419 v64 v259) 0 c)) (ho := s7), band_fp8 (V := fun _ r c => cv (at3 (arg12.view.read (Elt Ideal) X12) 2 (r - 2048) (c - 256 + 64)) (at2 (k0_pay419 v64 v259) 0 c)) (ho := u6), band_fp8 (V := fun _ r c => cv (at3 (arg12.view.read (Elt Ideal) X12) 2 r (c - 256)) (at2 (k0_pay419 v64 v259) 0 c)) (ho := s6), band_fp8 (V := fun _ r c => cv (at3 (arg12.view.read (Elt Ideal) X12) 2 (r - 2048) (c - 256 + 64)) (at2 (k0_pay419 v64 v259) 0 c)) (ho := u5), band_fp8 (V := fun _ r c => cv (at3 (arg12.view.read (Elt Ideal) X12) 2 r (c - 256)) (at2 (k0_pay419 v64 v259) 0 c)) (ho := s5), band_fp8 (V := fun _ r c => cv (at3 (arg12.view.read (Elt Ideal) X12) 2 (r - 2048) (c - 256 + 64)) (at2 (k0_pay419 v64 v259) 0 c)) (ho := u4), band_fp8 (V := fun _ r c => cv (at3 (arg12.view.read (Elt Ideal) X12) 2 r (c - 256)) (at2 (k0_pay419 v64 v259) 0 c)) (ho := s4), band_fp8 (V := fun _ r c => cv (at3 (arg12.view.read (Elt Ideal) X12) 2 (r - 2048) (c - 256 + 64)) (at2 (k0_pay419 v64 v259) 0 c)) (ho := u3), band_fp8 (V := fun _ r c => cv (at3 (arg12.view.read (Elt Ideal) X12) 2 r (c - 256)) (at2 (k0_pay419 v64 v259) 0 c)) (ho := s3), band_fp8 (V := fun _ r c => cv (at3 (arg12.view.read (Elt Ideal) X12) 2 (r - 2048) (c - 256 + 64)) (at2 (k0_pay419 v64 v259) 0 c)) (ho := u2), band_fp8 (V := fun _ r c => cv (at3 (arg12.view.read (Elt Ideal) X12) 2 r (c - 256)) (at2 (k0_pay419 v64 v259) 0 c)) (ho := s2), band_fp8 (V := fun _ r c => cv (at3 (arg12.view.read (Elt Ideal) X12) 2 (r - 2048) (c - 256 + 64)) (at2 (k0_pay419 v64 v259) 0 c)) (ho := u1), band_fp8 (V := fun _ r c => cv (at3 (arg12.view.read (Elt Ideal) X12) 2 r (c - 256)) (at2 (k0_pay419 v64 v259) 0 c)) (ho := s1), band_fp8 (V := fun _ r c => cv (at3 (arg12.view.read (Elt Ideal) X12) 2 (r - 2048) (c - 256 + 64)) (at2 (k0_pay419 v64 v259) 0 c)) (ho := u0), band_fp8 (V := fun _ r c => cv (at3 (arg12.view.read (Elt Ideal) X12) 2 r (c - 256)) (at2 (k0_pay419 v64 v259) 0 c)) (ho := s0)]
  · exact bands16 t k.val r ch hk _ _ _
  all_goals
    intro i j l
    pointwise [k0_pay424, k0_pay425, k0_pay426, trip_k0_t12.sl.arg14, trip_k0_t12.sl.cst_108, trip_k0_t12.sl.cst_109, trip_k0_t12.sl.v299, trip_k0_t12.sl.v301, trip_k0_t12.sl.v302, trip_k0_t12.sl.v304, trip_k0_t12.sl.v305, trip_k0_t12.sl.v306, trip_k0_t12.sl.v307, trip_k0_t12.sl.v308, trip_k0_t12.sl.v309, trip_k0_t12.sl.v310, trip_k0_t12.sl.v311, trip_k0_t12.sl.v312, trip_k0_t12.sl.v313, trip_k0_t12.sl.v316, trip_k0_t12.sl.v317, trip_k0_t12.sl.v318, trip_k0_t12.sl.v319, trip_k0_t12.sl.v320, trip_k0_t12.sl.v321, trip_k0_t12.sl.v322, trip_k0_t12.sl.v323, trip_k0_t12.sl.v326, trip_k0_t12.sl.v327, trip_k0_t12.sl.v329, trip_k0_t12.sl.v330, trip_k0_t12.sl.v332, trip_k0_t12.sl.v334, trip_k0_t12.sl.v335, trip_k0_t12.sl.v336, trip_k0_t12.sl.v337, trip_k0_t12.sl.v338, trip_k0_t12.sl.v340, trip_k0_t12.sl.v341, trip_k0_t12.sl.v342, trip_k0_t12.sl.v343, trip_k0_t12.sl.v344, trip_k0_t12.sl.v345, trip_k0_t12.sl.v346, trip_k0_t12.sl.v347, trip_k0_t12.sl.v348, trip_k0_t12.sl.v351, trip_k0_t12.sl.v352, trip_k0_t12.sl.v354, trip_k0_t12.sl.v355, trip_k0_t12.sl.v357, trip_k0_t12.sl.v359, trip_k0_t12.sl.v360, trip_k0_t12.sl.v361, trip_k0_t12.sl.v362, trip_k0_t12.sl.v363, trip_k0_t12.sl.v365, trip_k0_t12.sl.v366, trip_k0_t12.sl.v367, trip_k0_t12.sl.v368, trip_k0_t12.sl.v369, trip_k0_t12.sl.v370, trip_k0_t12.sl.v371, trip_k0_t12.sl.v372, trip_k0_t12.sl.v373, trip_k0_t12.sl.v376, trip_k0_t12.sl.v377, trip_k0_t12.sl.v379, trip_k0_t12.sl.v380, trip_k0_t12.sl.v382, trip_k0_t12.sl.v384, trip_k0_t12.sl.v385, trip_k0_t12.sl.v386, trip_k0_t12.sl.v387, trip_k0_t12.sl.v388, trip_k0_t12.sl.v390, trip_k0_t12.sl.v391, trip_k0_t12.sl.v392, trip_k0_t12.sl.v393, trip_k0_t12.sl.v394, trip_k0_t12.sl.v395, trip_k0_t12.sl.v396, trip_k0_t12.sl.v397, trip_k0_t12.sl.v398, trip_k0_t12.sl.v401, trip_k0_t12.sl.v402, trip_k0_t12.sl.v404, trip_k0_t12.sl.v405, trip_k0_t12.sl.v407, trip_k0_t12.sl.v409, trip_k0_t12.sl.v410, trip_k0_t12.sl.v411, trip_k0_t12.sl.v412, trip_k0_t12.sl.v413, trip_k0_t12.sl.v415, trip_k0_t12.sl.v416, trip_k0_t12.sl.v417, trip_k0_t12.sl.v418, trip_k0_t12.sl.v419, trip_k0_t12.sl.v420, trip_k0_t12.sl.v421, trip_k0_t12.sl.v422, trip_k0_t12.sl.v423, trip_k0_t12.sl.v426, trip_k0_t12.sl.v427, trip_k0_t12.sl.v429, trip_k0_t12.sl.v430, trip_k0_t12.sl.v432, trip_k0_t12.sl.v434, trip_k0_t12.sl.v435, trip_k0_t12.sl.v436, trip_k0_t12.sl.v437, trip_k0_t12.sl.v438, trip_k0_t12.sl.v440, trip_k0_t12.sl.v441, trip_k0_t12.sl.v442, trip_k0_t12.sl.v443, trip_k0_t12.sl.v444, trip_k0_t12.sl.v445, trip_k0_t12.sl.v446, trip_k0_t12.sl.v447, trip_k0_t12.sl.v448, trip_k0_t12.sl.v451, trip_k0_t12.sl.v452, trip_k0_t12.sl.v454, trip_k0_t12.sl.v455, trip_k0_t12.sl.v457, trip_k0_t12.sl.v459, trip_k0_t12.sl.v460, trip_k0_t12.sl.v461, trip_k0_t12.sl.v462, trip_k0_t12.sl.v463, trip_k0_t12.sl.v465, trip_k0_t12.sl.v466, trip_k0_t12.sl.v467, trip_k0_t12.sl.v468, trip_k0_t12.sl.v469, trip_k0_t12.sl.v470, trip_k0_t12.sl.v471, trip_k0_t12.sl.v472, trip_k0_t12.sl.v473, trip_k0_t12.sl.v476, trip_k0_t12.sl.v477, trip_k0_t12.sl.v479, trip_k0_t12.sl.v480, trip_k0_t12.sl.v482, trip_k0_t12.sl.v484, trip_k0_t12.sl.v485, trip_k0_t12.sl.v486, trip_k0_t12.sl.v487, trip_k0_t12.sl.v488, trip_k0_t12.sl.v490]
    simp only [readAt_f32, at2_ix (k0_pay419 v64 v259), o0, o1, o2, o3, o4, o5, o6, o7, Matrix.cons_val, Fin.isValue, Fin.val_zero, Fin.val_one, Fin.val_two, Nat.zero_add, Nat.add_zero, Nat.add_sub_cancel_left, Nat.sub_zero, hr, hA, hB, hs]
    rfl

end Cert.KernelIdeal.Hand
end
-- ==== Proof.VTot2.lean ====
module

public import proofs.«01_k».proof.Proof.Gen.KernelIdeal.Loops
public import proofs.«01_k».proof.Proof.VPay
public import proofs.«01_k».proof.Proof.VMax
public import proofs.«01_k».proof.Proof.VT4
public import proofs.«01_k».proof.Proof.VT5
public import proofs.«01_k».proof.Proof.VT6
public import proofs.«01_k».proof.Proof.VT7
public import proofs.«01_k».proof.Proof.VT8
public import proofs.«01_k».proof.Proof.VT9
public import proofs.«01_k».proof.Proof.VT10
public import proofs.«01_k».proof.Proof.VT11
public import proofs.«01_k».proof.Proof.VT12

@[expose] public section
set_option maxRecDepth 16384
noncomputable section
namespace Cert.KernelIdeal.Hand
open Idealize.ShloMosaic Idealize.ShloMosaic.TcCoe Idealize.SL.Sem Cert.Nat Cert.KernelIdeal Cert.KernelIdeal.Gen
variable (𝒱 : Variants) (c : Dev nD) (bd : Option 𝒱.V) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole) (arg10 : Memref sig .tc .vmem S384x384 .bf16) (harg10 : arg10.IsWhole) (arg11 : Memref sig .tc .vmem S3x4096x128 .f32) (harg11 : arg11.IsWhole) (arg12 : Memref sig .tc .vmem S3x4096x128 .f32) (harg12 : arg12.IsWhole) (arg13 : Memref sig .tc .vmem S8x384 .f32) (harg13 : arg13.IsWhole)
variable (X1 : BufTy.Contents (Elt Ideal) arg1.view.ty)

variable (X11 : BufTy.Contents (Elt Ideal) arg11.view.ty) (X12 : BufTy.Contents (Elt Ideal) arg12.view.ty)
variable (X4 : BufTy.Contents (Elt Ideal) arg4.view.ty)

/-- A buffer whose every trip maps one band of 256 rows holds, after `n` trips, the mapped band of `256 n` rows. -/
theorem bands_total2 (S : ℕ → ℕ → EReal) (W : ℕ → EReal → EReal) (N : ℕ) (p : Prop) [Decidable p] (r : ℕ)
    (h : ∀ k < N, S (k + 1) r = if p ∧ (256 * k ≤ r ∧ r < 256 * k + 256) then W r (S k r) else S k r) (n : ℕ) (hn : n ≤ N) :
    S n r = if p ∧ r < 256 * n then W r (S 0 r) else S 0 r := by
  induction n with
  | zero => rw [if_neg (by omega)]
  | succ n ih =>
    rw [h n (by omega), ih (by omega)]
    by_cases hp : p
    · simp only [hp, true_and]
      by_cases h1 : r < 256 * n
      · rw [if_neg (by omega), if_pos h1, if_pos (by omega)]
      · by_cases h2 : r < 256 * (n + 1)
        · rw [if_pos (by omega), if_neg h1, if_pos h2]
        · rw [if_neg (by omega), if_neg h1, if_neg h2]
    · simp only [hp, false_and, if_false]

/-- A fold of maxima over eight sublanes is a supremum over their numbers. -/
theorem fold8 (F : Fin 8 → EReal) : Finset.fold max (Ideal.ofBits FTy.f32 4286578688#32 : EReal) F Finset.univ
    = (Finset.range 8).sup fun q => if h : q < 8 then F ⟨q, h⟩ else 0 := by
  rw [← fold_range 8 (fun q => if h : q < 8 then F ⟨q, h⟩ else 0)]
  congr 1
  funext x; rw [dif_pos x.isLt]

/-- What the middle loop over column tile 0 leaves in scratch x. -/
theorem t4_w11 (v4 : Vec Ideal S384x384 .bf16) (v8 : FVec Ideal S1x384 .f32) (v11 : FVec Ideal S1x384 .f32) (v12 : FVec Ideal S8x128 .f32) (v16_1 : FVec Ideal S8x128 .f32) (v18_1 : FVec Ideal S8x128 .f32) (v29 : FVec Ideal S1x384 .f32) (v30 : FVec Ideal S128 .f32)  (G : BufTy.Contents (Elt Ideal) arg11.view.ty) (L : List (View.Piece (Elt Ideal) S3x4096x128 .f32)) (t r l : ℕ) :
    at3 (arg11.view.read (Elt Ideal) (arg11.view.writes (Elt Ideal) G ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) 16).2.1 ++ L))) t r l
      = if (((0 ≤ t ∧ t < 0 + 1) ∧ (0 ≤ l ∧ l < 0 + 128)) ∧ r < 256 * 16) then tl 0 (fun r c => at3 (arg1.view.read (Elt Ideal) X1) 0 r c) r l else at3 (arg11.view.read (Elt Ideal) (arg11.view.writes (Elt Ideal) G L)) t r l := by
  have tr : k0_t4_loop.trips = 16 := by decide +kernel
  refine bands_total (fun k r => at3 (arg11.view.read (Elt Ideal) (arg11.view.writes (Elt Ideal) G ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) k).2.1 ++ L))) t r l) (fun r => tl 0 (fun r c => at3 (arg1.view.read (Elt Ideal) X1) 0 r c) r l) 16 ((0 ≤ t ∧ t < 0 + 1) ∧ (0 ≤ l ∧ l < 0 + 128)) r (fun k hk => ?_) 16 le_rfl
  have hk' : k < k0_t4_loop.trips := by omega
  have h := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) ⟨k, hk'⟩
  simp only [] at h
  beta_reduce
  rw [h]
  refine (congrArg (fun M => at3 (arg11.view.read (Elt Ideal) (arg11.view.writes (Elt Ideal) G M)) t r l) (List.append_assoc _ _ _)).trans ?_
  refine (t4_band11 𝒱 c bd i arg1 harg1 arg2 harg2 arg3 harg3 arg4 harg4 arg5 harg5 arg6 harg6 arg7 harg7 arg8 harg8 arg9 harg9 arg10 harg10 arg11 harg11 arg12 harg12 arg13 harg13 X1 X4 v4 v8 v11 v12 v16_1 v18_1 v29 v30 ⟨k, hk'⟩ (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) k).1 G _ t r l).trans ?_
  exact if_congr (by simp only []; omega) rfl rfl

/-- What the middle loop over column tile 0 leaves in scratch dh. -/
theorem t4_w12 (v4 : Vec Ideal S384x384 .bf16) (v8 : FVec Ideal S1x384 .f32) (v11 : FVec Ideal S1x384 .f32) (v12 : FVec Ideal S8x128 .f32) (v16_1 : FVec Ideal S8x128 .f32) (v18_1 : FVec Ideal S8x128 .f32) (v29 : FVec Ideal S1x384 .f32) (v30 : FVec Ideal S128 .f32)  (G : BufTy.Contents (Elt Ideal) arg12.view.ty) (L : List (View.Piece (Elt Ideal) S3x4096x128 .f32)) (t r l : ℕ) :
    at3 (arg12.view.read (Elt Ideal) (arg12.view.writes (Elt Ideal) G ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) 16).2.2 ++ L))) t r l
      = if (((0 ≤ t ∧ t < 0 + 1) ∧ (0 ≤ l ∧ l < 0 + 128)) ∧ r < 256 * 16) then tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l else at3 (arg12.view.read (Elt Ideal) (arg12.view.writes (Elt Ideal) G L)) t r l := by
  have tr : k0_t4_loop.trips = 16 := by decide +kernel
  refine bands_total (fun k r => at3 (arg12.view.read (Elt Ideal) (arg12.view.writes (Elt Ideal) G ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) k).2.2 ++ L))) t r l) (fun r => tl 0 (fun r c => at3 (arg4.view.read (Elt Ideal) X4) 0 r c * dfac (at3 (arg1.view.read (Elt Ideal) X1) 0 r c * at2 (k0_pay378 v4 v8 v16_1 v18_1 v29 v30) 0 c + at2 (k0_pay379 v4 v8 v11 v16_1 v18_1 v29 v30) 0 c)) r l) 16 ((0 ≤ t ∧ t < 0 + 1) ∧ (0 ≤ l ∧ l < 0 + 128)) r (fun k hk => ?_) 16 le_rfl
  have hk' : k < k0_t4_loop.trips := by omega
  have h := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) ⟨k, hk'⟩
  simp only [] at h
  beta_reduce
  rw [h]
  refine (congrArg (fun M => at3 (arg12.view.read (Elt Ideal) (arg12.view.writes (Elt Ideal) G M)) t r l) (List.append_assoc _ _ _)).trans ?_
  refine (t4_band12 𝒱 c bd i arg1 harg1 arg2 harg2 arg3 harg3 arg4 harg4 arg5 harg5 arg6 harg6 arg7 harg7 arg8 harg8 arg9 harg9 arg10 harg10 arg11 harg11 arg12 harg12 arg13 harg13 X1 X4 v4 v8 v11 v12 v16_1 v18_1 v29 v30 ⟨k, hk'⟩ (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 v4 v8 v11 v12 v16_1 v18_1 v29 v30 X1 X4 (k0_pay363, k0_pay363) k).1 G _ t r l).trans ?_
  exact if_congr (by simp only []; omega) rfl rfl

/-- What the middle loop over column tile 1 leaves in scratch x. -/
theorem t5_w11 (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32) (A B : ℕ → EReal) (h78 : ∀ (r : Fin 32) (l : Fin 128), v78 (ix2 r l) = A (128 + l.val)) (h80 : ∀ l : Fin 128, v80 (ix2 0 l) = B (128 + l.val)) (G : BufTy.Contents (Elt Ideal) arg11.view.ty) (L : List (View.Piece (Elt Ideal) S3x4096x128 .f32)) (t r l : ℕ) :
    at3 (arg11.view.read (Elt Ideal) (arg11.view.writes (Elt Ideal) G ((st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) 16).2.1 ++ L))) t r l
      = if (((1 ≤ t ∧ t < 1 + 1) ∧ (0 ≤ l ∧ l < 0 + 128)) ∧ r < 256 * 16) then tl 1 (fun r c => at3 (arg1.view.read (Elt Ideal) X1) 0 r c) r l else at3 (arg11.view.read (Elt Ideal) (arg11.view.writes (Elt Ideal) G L)) t r l := by
  have tr : k0_t5_loop.trips = 16 := by decide +kernel
  refine bands_total (fun k r => at3 (arg11.view.read (Elt Ideal) (arg11.view.writes (Elt Ideal) G ((st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).2.1 ++ L))) t r l) (fun r => tl 1 (fun r c => at3 (arg1.view.read (Elt Ideal) X1) 0 r c) r l) 16 ((1 ≤ t ∧ t < 1 + 1) ∧ (0 ≤ l ∧ l < 0 + 128)) r (fun k hk => ?_) 16 le_rfl
  have hk' : k < k0_t5_loop.trips := by omega
  have h := st_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) ⟨k, hk'⟩
  simp only [] at h
  beta_reduce
  rw [h]
  refine (congrArg (fun M => at3 (arg11.view.read (Elt Ideal) (arg11.view.writes (Elt Ideal) G M)) t r l) (List.append_assoc _ _ _)).trans ?_
  refine (t5_band11 𝒱 c bd i arg1 harg1 arg2 harg2 arg3 harg3 arg4 harg4 arg5 harg5 arg6 harg6 arg7 harg7 arg8 harg8 arg9 harg9 arg10 harg10 arg11 harg11 arg12 harg12 arg13 harg13 X1 X4 v12 v58 v65 v67 v75_0 v75_1 v78 v80 A B h78 h80 ⟨k, hk'⟩ (st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).1 G _ t r l).trans ?_
  exact if_congr (by simp only []; omega) rfl rfl

/-- What the middle loop over column tile 1 leaves in scratch dh. -/
theorem t5_w12 (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32) (A B : ℕ → EReal) (h78 : ∀ (r : Fin 32) (l : Fin 128), v78 (ix2 r l) = A (128 + l.val)) (h80 : ∀ l : Fin 128, v80 (ix2 0 l) = B (128 + l.val)) (G : BufTy.Contents (Elt Ideal) arg12.view.ty) (L : List (View.Piece (Elt Ideal) S3x4096x128 .f32)) (t r l : ℕ) :
    at3 (arg12.view.read (Elt Ideal) (arg12.view.writes (Elt Ideal) G ((st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) 16).2.2 ++ L))) t r l
      = if (((1 ≤ t ∧ t < 1 + 1) ∧ (0 ≤ l ∧ l < 0 + 128)) ∧ r < 256 * 16) then tl 1 (fun r c => at3 (arg4.view.read (Elt Ideal) X4) 0 r c * dfac (at3 (arg1.view.read (Elt Ideal) X1) 0 r c * A c + B c)) r l else at3 (arg12.view.read (Elt Ideal) (arg12.view.writes (Elt Ideal) G L)) t r l := by
  have tr : k0_t5_loop.trips = 16 := by decide +kernel
  refine bands_total (fun k r => at3 (arg12.view.read (Elt Ideal) (arg12.view.writes (Elt Ideal) G ((st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).2.2 ++ L))) t r l) (fun r => tl 1 (fun r c => at3 (arg4.view.read (Elt Ideal) X4) 0 r c * dfac (at3 (arg1.view.read (Elt Ideal) X1) 0 r c * A c + B c)) r l) 16 ((1 ≤ t ∧ t < 1 + 1) ∧ (0 ≤ l ∧ l < 0 + 128)) r (fun k hk => ?_) 16 le_rfl
  have hk' : k < k0_t5_loop.trips := by omega
  have h := st_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) ⟨k, hk'⟩
  simp only [] at h
  beta_reduce
  rw [h]
  refine (congrArg (fun M => at3 (arg12.view.read (Elt Ideal) (arg12.view.writes (Elt Ideal) G M)) t r l) (List.append_assoc _ _ _)).trans ?_
  refine (t5_band12 𝒱 c bd i arg1 harg1 arg2 harg2 arg3 harg3 arg4 harg4 arg5 harg5 arg6 harg6 arg7 harg7 arg8 harg8 arg9 harg9 arg10 harg10 arg11 harg11 arg12 harg12 arg13 harg13 X1 X4 v12 v58 v65 v67 v75_0 v75_1 v78 v80 A B h78 h80 ⟨k, hk'⟩ (st_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).1 G _ t r l).trans ?_
  exact if_congr (by simp only []; omega) rfl rfl

/-- What the middle loop over column tile 2 leaves in scratch x. -/
theorem t6_w11 (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32)  (G : BufTy.Contents (Elt Ideal) arg11.view.ty) (L : List (View.Piece (Elt Ideal) S3x4096x128 .f32)) (t r l : ℕ) :
    at3 (arg11.view.read (Elt Ideal) (arg11.view.writes (Elt Ideal) G ((st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) 8).2.1 ++ L))) t r l
      = if (((2 ≤ t ∧ t < 2 + 1) ∧ (0 ≤ l ∧ l < 0 + 128)) ∧ r < 256 * 8) then tl 2 (fun r c => at3 (arg1.view.read (Elt Ideal) X1) 0 r c) r l else at3 (arg11.view.read (Elt Ideal) (arg11.view.writes (Elt Ideal) G L)) t r l := by
  have tr : k0_t6_loop.trips = 8 := by decide +kernel
  refine bands_total (fun k r => at3 (arg11.view.read (Elt Ideal) (arg11.view.writes (Elt Ideal) G ((st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).2.1 ++ L))) t r l) (fun r => tl 2 (fun r c => at3 (arg1.view.read (Elt Ideal) X1) 0 r c) r l) 8 ((2 ≤ t ∧ t < 2 + 1) ∧ (0 ≤ l ∧ l < 0 + 128)) r (fun k hk => ?_) 8 le_rfl
  have hk' : k < k0_t6_loop.trips := by omega
  have h := st_k0_t6_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) ⟨k, hk'⟩
  simp only [] at h
  beta_reduce
  rw [h]
  refine (congrArg (fun M => at3 (arg11.view.read (Elt Ideal) (arg11.view.writes (Elt Ideal) G M)) t r l) (List.append_assoc _ _ _)).trans ?_
  refine (t6_band11 𝒱 c bd i arg1 harg1 arg2 harg2 arg3 harg3 arg4 harg4 arg5 harg5 arg6 harg6 arg7 harg7 arg8 harg8 arg9 harg9 arg10 harg10 arg11 harg11 arg12 harg12 arg13 harg13 X1 X4 v12 v58 v65 v67 v75_0 v75_1 v78 v80 ⟨k, hk'⟩ (st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).1 G _ t r l).trans ?_
  exact if_congr (by simp only []; omega) rfl rfl

/-- What the middle loop over column tile 2 leaves in scratch dh. -/
theorem t6_w12 (v12 : FVec Ideal S8x128 .f32) (v58 : FVec Ideal S1x384 .f32) (v65 : FVec Ideal S1x384 .f32) (v67 : FVec Ideal S1x384 .f32) (v75_0 : FVec Ideal S8x128 .f32) (v75_1 : FVec Ideal S8x128 .f32) (v78 : FVec Ideal S32x128 .f32) (v80 : FVec Ideal S1x128 .f32)  (G : BufTy.Contents (Elt Ideal) arg12.view.ty) (L : List (View.Piece (Elt Ideal) S3x4096x128 .f32)) (t r l : ℕ) :
    at3 (arg12.view.read (Elt Ideal) (arg12.view.writes (Elt Ideal) G ((st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) 8).2.2 ++ L))) t r l
      = if (((2 ≤ t ∧ t < 2 + 1) ∧ (0 ≤ l ∧ l < 0 + 128)) ∧ r < 256 * 8) then tl 2 (fun r c => at3 (arg4.view.read (Elt Ideal) X4) 0 r c * dfac (at3 (arg1.view.read (Elt Ideal) X1) 0 r c * at2 v65 0 c + at2 v67 0 c)) r l else at3 (arg12.view.read (Elt Ideal) (arg12.view.writes (Elt Ideal) G L)) t r l := by
  have tr : k0_t6_loop.trips = 8 := by decide +kernel
  refine bands_total (fun k r => at3 (arg12.view.read (Elt Ideal) (arg12.view.writes (Elt Ideal) G ((st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).2.2 ++ L))) t r l) (fun r => tl 2 (fun r c => at3 (arg4.view.read (Elt Ideal) X4) 0 r c * dfac (at3 (arg1.view.read (Elt Ideal) X1) 0 r c * at2 v65 0 c + at2 v67 0 c)) r l) 8 ((2 ≤ t ∧ t < 2 + 1) ∧ (0 ≤ l ∧ l < 0 + 128)) r (fun k hk => ?_) 8 le_rfl
  have hk' : k < k0_t6_loop.trips := by omega
  have h := st_k0_t6_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) ⟨k, hk'⟩
  simp only [] at h
  beta_reduce
  rw [h]
  refine (congrArg (fun M => at3 (arg12.view.read (Elt Ideal) (arg12.view.writes (Elt Ideal) G M)) t r l) (List.append_assoc _ _ _)).trans ?_
  refine (t6_band12 𝒱 c bd i arg1 harg1 arg2 harg2 arg3 harg3 arg4 harg4 arg5 harg5 arg6 harg6 arg7 harg7 arg8 harg8 arg9 harg9 arg10 harg10 arg11 harg11 arg12 harg12 arg13 harg13 X1 X4 v12 v58 v65 v67 v75_0 v75_1 v78 v80 ⟨k, hk'⟩ (st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v58 v65 v67 v75_0 v75_1 v78 v80 X1 X4 (k0_pay363, k0_pay363) k).1 G _ t r l).trans ?_
  exact if_congr (by simp only []; omega) rfl rfl

/-- What the gradient loop over column tile 0 leaves, after `n` trips. -/
theorem t7_wn (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32) (D E C : ℕ → EReal) (h162 : ∀ (r : Fin 32) (l : Fin 128), v162 (ix2 r l) = D l.val) (h165 : ∀ (r : Fin 32) (l : Fin 128), v165 (ix2 r l) = E l.val) (h168 : ∀ (r : Fin 32) (l : Fin 128), v168 (ix2 r l) = C l.val) (G : BufTy.Contents (Elt Ideal) arg12.view.ty) (t r l n : ℕ) (hn : n ≤ 16) :
    at3 (arg12.view.read (Elt Ideal) (arg12.view.writes (Elt Ideal) G (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 n).2)) t r l
      = if (((0 ≤ t ∧ t < 0 + 1) ∧ (0 ≤ l ∧ l < 0 + 128)) ∧ r < 256 * n) then wv (at3 (arg12.view.read (Elt Ideal) G) t r l) (at3 (arg11.view.read (Elt Ideal) X11) 0 r l) (D l) (E l) (C l) else at3 (arg12.view.read (Elt Ideal) G) t r l := by
  have tr : k0_t7_loop.trips = 16 := by decide +kernel
  refine bands_total2 (fun k r => at3 (arg12.view.read (Elt Ideal) (arg12.view.writes (Elt Ideal) G (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).2)) t r l) (fun r x => wv (x) (at3 (arg11.view.read (Elt Ideal) X11) 0 r l) (D l) (E l) (C l)) 16 ((0 ≤ t ∧ t < 0 + 1) ∧ (0 ≤ l ∧ l < 0 + 128)) r (fun k hk => ?_) n hn
  have hk' : k < k0_t7_loop.trips := by omega
  have h := st_k0_t7_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 ⟨k, hk'⟩
  simp only [] at h
  beta_reduce
  rw [h]
  refine (t7_band12 𝒱 c bd i arg1 harg1 arg2 harg2 arg3 harg3 arg4 harg4 arg5 harg5 arg6 harg6 arg7 harg7 arg8 harg8 arg9 harg9 arg10 harg10 arg11 harg11 arg12 harg12 arg13 harg13 X11 v12 v64 v154 v156 v159 v162 v165 v168 c0_i32_59 c16_i32_60 D E C h162 h165 h168 ⟨k, hk'⟩ (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).1 (arg12.view.writes (Elt Ideal) G (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).2) G _ t r l).trans ?_
  by_cases ht : 0 ≤ t ∧ t < 0 + 1
  · obtain rfl : t = 0 := by omega
    exact if_congr (by simp only []; omega) rfl rfl
  · rw [if_neg (by tauto), if_neg (by tauto)]

/-- The maximum the gradient loop over column tile 0 carries. -/
theorem t7_max (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32) (D E C : ℕ → EReal) (h162 : ∀ (r : Fin 32) (l : Fin 128), v162 (ix2 r l) = D l.val) (h165 : ∀ (r : Fin 32) (l : Fin 128), v165 (ix2 r l) = E l.val) (h168 : ∀ (r : Fin 32) (l : Fin 128), v168 (ix2 r l) = C l.val) (G : BufTy.Contents (Elt Ideal) arg12.view.ty) (l : Fin 128) :
    Finset.fold max (Ideal.ofBits FTy.f32 4286578688#32 : EReal) (fun x : Fin 8 => (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 16).1 (ix2 x l)) Finset.univ
      = max 0 ((Finset.range 4096).sup fun r => av (wv (at3 (arg12.view.read (Elt Ideal) G) 0 r l.val) (at3 (arg11.view.read (Elt Ideal) X11) 0 r l.val) (D l.val) (E l.val) (C l.val))) := by
  have tr : k0_t7_loop.trips = 16 := by decide +kernel
  refine (fold8 _).trans ?_
  refine max_total (fun (k q : ℕ) => if h : q < 8 then ((st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).1 (ix2 ⟨q, h⟩ l) : EReal) else 0) (fun r => av (wv (at3 (arg12.view.read (Elt Ideal) G) 0 r l.val) (at3 (arg11.view.read (Elt Ideal) X11) 0 r l.val) (D l.val) (E l.val) (C l.val))) 16 (fun q hq => ?_) (fun k hk q hq => ?_) 16 le_rfl
  · beta_reduce; rw [dif_pos hq]; exact p363 ⟨q, hq⟩ l
  · beta_reduce
    rw [dif_pos hq, dif_pos hq]
    have hk' : k < k0_t7_loop.trips := by omega
    have h := st_k0_t7_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 ⟨k, hk'⟩
    simp only [] at h
    rw [h]
    refine (t7_step 𝒱 c bd i arg1 harg1 arg2 harg2 arg3 harg3 arg4 harg4 arg5 harg5 arg6 harg6 arg7 harg7 arg8 harg8 arg9 harg9 arg10 harg10 arg11 harg11 arg12 harg12 arg13 harg13 X11 v12 v64 v154 v156 v159 v162 v165 v168 c0_i32_59 c16_i32_60 D E C h162 h165 h168 ⟨k, hk'⟩ (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).1 (arg12.view.writes (Elt Ideal) G (st_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).2) ⟨q, hq⟩ l).trans ?_
    refine congrArg (max _) (Finset.sup_congr rfl fun u hu => ?_)
    have hu' := Finset.mem_range.1 hu
    rw [t7_wn 𝒱 c bd i arg1 harg1 arg2 harg2 arg3 harg3 arg4 harg4 arg5 harg5 arg6 harg6 arg7 harg7 arg8 harg8 arg9 harg9 arg10 harg10 arg11 harg11 arg12 harg12 arg13 harg13 X11 v12 v64 v154 v156 v159 v162 v165 v168 c0_i32_59 c16_i32_60 D E C h162 h165 h168 G 0 _ l.val k (by omega), if_neg (by simp only []; omega)]

/-- What the gradient loop over column tile 1 leaves, after `n` trips. -/
theorem t8_wn (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32)  (G : BufTy.Contents (Elt Ideal) arg12.view.ty) (t r l n : ℕ) (hn : n ≤ 16) :
    at3 (arg12.view.read (Elt Ideal) (arg12.view.writes (Elt Ideal) G (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 n).2)) t r l
      = if (((1 ≤ t ∧ t < 1 + 1) ∧ (0 ≤ l ∧ l < 0 + 128)) ∧ r < 256 * n) then wv (at3 (arg12.view.read (Elt Ideal) G) t r l) (at3 (arg11.view.read (Elt Ideal) X11) 1 r l) (at2 v154 0 (128 + l)) (at2 v156 0 (128 + l)) (at2 v159 0 (128 + l)) else at3 (arg12.view.read (Elt Ideal) G) t r l := by
  have tr : k0_t8_loop.trips = 16 := by decide +kernel
  refine bands_total2 (fun k r => at3 (arg12.view.read (Elt Ideal) (arg12.view.writes (Elt Ideal) G (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).2)) t r l) (fun r x => wv (x) (at3 (arg11.view.read (Elt Ideal) X11) 1 r l) (at2 v154 0 (128 + l)) (at2 v156 0 (128 + l)) (at2 v159 0 (128 + l))) 16 ((1 ≤ t ∧ t < 1 + 1) ∧ (0 ≤ l ∧ l < 0 + 128)) r (fun k hk => ?_) n hn
  have hk' : k < k0_t8_loop.trips := by omega
  have h := st_k0_t8_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 ⟨k, hk'⟩
  simp only [] at h
  beta_reduce
  rw [h]
  refine (t8_band12 𝒱 c bd i arg1 harg1 arg2 harg2 arg3 harg3 arg4 harg4 arg5 harg5 arg6 harg6 arg7 harg7 arg8 harg8 arg9 harg9 arg10 harg10 arg11 harg11 arg12 harg12 arg13 harg13 X11 v12 v64 v154 v156 v159 v162 v165 v168 c0_i32_59 c16_i32_60 ⟨k, hk'⟩ (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).1 (arg12.view.writes (Elt Ideal) G (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).2) G _ t r l).trans ?_
  by_cases ht : 1 ≤ t ∧ t < 1 + 1
  · obtain rfl : t = 1 := by omega
    exact if_congr (by simp only []; omega) rfl rfl
  · rw [if_neg (by tauto), if_neg (by tauto)]

/-- The maximum the gradient loop over column tile 1 carries. -/
theorem t8_max (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32)  (G : BufTy.Contents (Elt Ideal) arg12.view.ty) (l : Fin 128) :
    Finset.fold max (Ideal.ofBits FTy.f32 4286578688#32 : EReal) (fun x : Fin 8 => (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 16).1 (ix2 x l)) Finset.univ
      = max 0 ((Finset.range 4096).sup fun r => av (wv (at3 (arg12.view.read (Elt Ideal) G) 1 r l.val) (at3 (arg11.view.read (Elt Ideal) X11) 1 r l.val) (at2 v154 0 (128 + l.val)) (at2 v156 0 (128 + l.val)) (at2 v159 0 (128 + l.val)))) := by
  have tr : k0_t8_loop.trips = 16 := by decide +kernel
  refine (fold8 _).trans ?_
  refine max_total (fun (k q : ℕ) => if h : q < 8 then ((st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).1 (ix2 ⟨q, h⟩ l) : EReal) else 0) (fun r => av (wv (at3 (arg12.view.read (Elt Ideal) G) 1 r l.val) (at3 (arg11.view.read (Elt Ideal) X11) 1 r l.val) (at2 v154 0 (128 + l.val)) (at2 v156 0 (128 + l.val)) (at2 v159 0 (128 + l.val)))) 16 (fun q hq => ?_) (fun k hk q hq => ?_) 16 le_rfl
  · beta_reduce; rw [dif_pos hq]; exact p363 ⟨q, hq⟩ l
  · beta_reduce
    rw [dif_pos hq, dif_pos hq]
    have hk' : k < k0_t8_loop.trips := by omega
    have h := st_k0_t8_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 ⟨k, hk'⟩
    simp only [] at h
    rw [h]
    refine (t8_step 𝒱 c bd i arg1 harg1 arg2 harg2 arg3 harg3 arg4 harg4 arg5 harg5 arg6 harg6 arg7 harg7 arg8 harg8 arg9 harg9 arg10 harg10 arg11 harg11 arg12 harg12 arg13 harg13 X11 v12 v64 v154 v156 v159 v162 v165 v168 c0_i32_59 c16_i32_60 ⟨k, hk'⟩ (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).1 (arg12.view.writes (Elt Ideal) G (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).2) ⟨q, hq⟩ l).trans ?_
    refine congrArg (max _) (Finset.sup_congr rfl fun u hu => ?_)
    have hu' := Finset.mem_range.1 hu
    rw [t8_wn 𝒱 c bd i arg1 harg1 arg2 harg2 arg3 harg3 arg4 harg4 arg5 harg5 arg6 harg6 arg7 harg7 arg8 harg8 arg9 harg9 arg10 harg10 arg11 harg11 arg12 harg12 arg13 harg13 X11 v12 v64 v154 v156 v159 v162 v165 v168 c0_i32_59 c16_i32_60 G 1 _ l.val k (by omega), if_neg (by simp only []; omega)]

/-- What the gradient loop over column tile 2 leaves, after `n` trips. -/
theorem t9_wn (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32)  (G : BufTy.Contents (Elt Ideal) arg12.view.ty) (t r l n : ℕ) (hn : n ≤ 8) :
    at3 (arg12.view.read (Elt Ideal) (arg12.view.writes (Elt Ideal) G (st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 n).2)) t r l
      = if (((2 ≤ t ∧ t < 2 + 1) ∧ (0 ≤ l ∧ l < 0 + 128)) ∧ r < 256 * n) then wv (at3 (arg12.view.read (Elt Ideal) G) t r l) (at3 (arg11.view.read (Elt Ideal) X11) 2 r l) (at2 v154 0 (256 + l % 64)) (at2 v156 0 (256 + l % 64)) (at2 v159 0 (256 + l % 64)) else at3 (arg12.view.read (Elt Ideal) G) t r l := by
  have tr : k0_t9_loop.trips = 8 := by decide +kernel
  refine bands_total2 (fun k r => at3 (arg12.view.read (Elt Ideal) (arg12.view.writes (Elt Ideal) G (st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).2)) t r l) (fun r x => wv (x) (at3 (arg11.view.read (Elt Ideal) X11) 2 r l) (at2 v154 0 (256 + l % 64)) (at2 v156 0 (256 + l % 64)) (at2 v159 0 (256 + l % 64))) 8 ((2 ≤ t ∧ t < 2 + 1) ∧ (0 ≤ l ∧ l < 0 + 128)) r (fun k hk => ?_) n hn
  have hk' : k < k0_t9_loop.trips := by omega
  have h := st_k0_t9_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 ⟨k, hk'⟩
  simp only [] at h
  beta_reduce
  rw [h]
  refine (t9_band12 𝒱 c bd i arg1 harg1 arg2 harg2 arg3 harg3 arg4 harg4 arg5 harg5 arg6 harg6 arg7 harg7 arg8 harg8 arg9 harg9 arg10 harg10 arg11 harg11 arg12 harg12 arg13 harg13 X11 v12 v64 v154 v156 v159 v162 v165 v168 c0_i32_59 c16_i32_60 ⟨k, hk'⟩ (st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).1 (arg12.view.writes (Elt Ideal) G (st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).2) G _ t r l).trans ?_
  by_cases ht : 2 ≤ t ∧ t < 2 + 1
  · obtain rfl : t = 2 := by omega
    exact if_congr (by simp only []; omega) rfl rfl
  · rw [if_neg (by tauto), if_neg (by tauto)]

/-- The maximum the gradient loop over column tile 2 carries. -/
theorem t9_max (v12 : FVec Ideal S8x128 .f32) (v64 : FVec Ideal S1x384 .f32) (v154 : FVec Ideal S1x384 .f32) (v156 : FVec Ideal S1x384 .f32) (v159 : FVec Ideal S1x384 .f32) (v162 : FVec Ideal S32x128 .f32) (v165 : FVec Ideal S32x128 .f32) (v168 : FVec Ideal S32x128 .f32) (c0_i32_59 c16_i32_60 : BitVec 32)  (G : BufTy.Contents (Elt Ideal) arg12.view.ty) (l : Fin 128) :
    Finset.fold max (Ideal.ofBits FTy.f32 4286578688#32 : EReal) (fun x : Fin 8 => (st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 8).1 (ix2 x l)) Finset.univ
      = max 0 ((Finset.range 2048).sup fun r => av (wv (at3 (arg12.view.read (Elt Ideal) G) 2 r l.val) (at3 (arg11.view.read (Elt Ideal) X11) 2 r l.val) (at2 v154 0 (256 + l.val % 64)) (at2 v156 0 (256 + l.val % 64)) (at2 v159 0 (256 + l.val % 64)))) := by
  have tr : k0_t9_loop.trips = 8 := by decide +kernel
  refine (fold8 _).trans ?_
  refine max_total (fun (k q : ℕ) => if h : q < 8 then ((st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).1 (ix2 ⟨q, h⟩ l) : EReal) else 0) (fun r => av (wv (at3 (arg12.view.read (Elt Ideal) G) 2 r l.val) (at3 (arg11.view.read (Elt Ideal) X11) 2 r l.val) (at2 v154 0 (256 + l.val % 64)) (at2 v156 0 (256 + l.val % 64)) (at2 v159 0 (256 + l.val % 64)))) 8 (fun q hq => ?_) (fun k hk q hq => ?_) 8 le_rfl
  · beta_reduce; rw [dif_pos hq]; exact p363 ⟨q, hq⟩ l
  · beta_reduce
    rw [dif_pos hq, dif_pos hq]
    have hk' : k < k0_t9_loop.trips := by omega
    have h := st_k0_t9_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 ⟨k, hk'⟩
    simp only [] at h
    rw [h]
    refine (t9_step 𝒱 c bd i arg1 harg1 arg2 harg2 arg3 harg3 arg4 harg4 arg5 harg5 arg6 harg6 arg7 harg7 arg8 harg8 arg9 harg9 arg10 harg10 arg11 harg11 arg12 harg12 arg13 harg13 X11 v12 v64 v154 v156 v159 v162 v165 v168 c0_i32_59 c16_i32_60 ⟨k, hk'⟩ (st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).1 (arg12.view.writes (Elt Ideal) G (st_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 v12 v64 v154 v156 v159 v162 v165 v168 c0_i32_59 c16_i32_60 X11 G k0_pay363 k).2) ⟨q, hq⟩ l).trans ?_
    refine congrArg (max _) (Finset.sup_congr rfl fun u hu => ?_)
    have hu' := Finset.mem_range.1 hu
    rw [t9_wn 𝒱 c bd i arg1 harg1 arg2 harg2 arg3 harg3 arg4 harg4 arg5 harg5 arg6 harg6 arg7 harg7 arg8 harg8 arg9 harg9 arg10 harg10 arg11 harg11 arg12 harg12 arg13 harg13 X11 v12 v64 v154 v156 v159 v162 v165 v168 c0_i32_59 c16_i32_60 G 2 _ l.val k (by omega), if_neg (by simp only []; omega)]

/-- What the quantising loop over column tile 0 leaves. -/
theorem t10_w6 (arg0 : BitVec 32) (v64 : FVec Ideal S1x384 .f32) (v259 : IVec S252x384 32) (G : BufTy.Contents (Elt Ideal) arg6.view.ty) (L : List (View.Piece (Elt Ideal) S1x4096x320 .fp8e5m2)) (t r ch : ℕ) :
    at3 (arg6.view.read (Elt Ideal) (arg6.view.writes (Elt Ideal) G ((pb_k0_t10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 16) ++ L))) t r ch
      = if (((0 ≤ t ∧ t < 0 + 1) ∧ (0 ≤ ch ∧ ch < 0 + 128)) ∧ r < 256 * 16) then (cv (at3 (arg12.view.read (Elt Ideal) X12) 0 r (ch - 0)) (at2 (k0_pay419 v64 v259) 0 ch)) else at3 (arg6.view.read (Elt Ideal) (arg6.view.writes (Elt Ideal) G L)) t r ch := by
  have tr : k0_t10_loop.trips = 16 := by decide +kernel
  refine bands_total (fun k r => at3 (arg6.view.read (Elt Ideal) (arg6.view.writes (Elt Ideal) G ((pb_k0_t10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 k) ++ L))) t r ch) (fun r => cv (at3 (arg12.view.read (Elt Ideal) X12) 0 r (ch - 0)) (at2 (k0_pay419 v64 v259) 0 ch)) 16 ((0 ≤ t ∧ t < 0 + 1) ∧ (0 ≤ ch ∧ ch < 0 + 128)) (r) (fun k hk => ?_) 16 le_rfl
  have hk' : k < k0_t10_loop.trips := by omega
  have h := pb_k0_t10_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 ⟨k, hk'⟩
  simp only [] at h
  beta_reduce
  rw [h]
  refine (congrArg (fun M => at3 (arg6.view.read (Elt Ideal) (arg6.view.writes (Elt Ideal) G M)) t r ch) (List.append_assoc _ _ _)).trans ?_
  refine (t10_band6 𝒱 c bd i arg1 harg1 arg2 harg2 arg3 harg3 arg4 harg4 arg5 harg5 arg6 harg6 arg7 harg7 arg8 harg8 arg9 harg9 arg10 harg10 arg11 harg11 arg12 harg12 arg13 harg13 X12 arg0 v64 v259 ⟨k, hk'⟩ G _ t r ch).trans ?_
  exact if_congr (by simp only []; omega) rfl rfl

/-- What the quantising loop over column tile 1 leaves. -/
theorem t11_w6 (arg0 : BitVec 32) (v64 : FVec Ideal S1x384 .f32) (v259 : IVec S252x384 32) (G : BufTy.Contents (Elt Ideal) arg6.view.ty) (L : List (View.Piece (Elt Ideal) S1x4096x320 .fp8e5m2)) (t r ch : ℕ) :
    at3 (arg6.view.read (Elt Ideal) (arg6.view.writes (Elt Ideal) G ((pb_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 16) ++ L))) t r ch
      = if (((0 ≤ t ∧ t < 0 + 1) ∧ (128 ≤ ch ∧ ch < 128 + 128)) ∧ r < 256 * 16) then (cv (at3 (arg12.view.read (Elt Ideal) X12) 1 r (ch - 128)) (at2 (k0_pay419 v64 v259) 0 ch)) else at3 (arg6.view.read (Elt Ideal) (arg6.view.writes (Elt Ideal) G L)) t r ch := by
  have tr : k0_t11_loop.trips = 16 := by decide +kernel
  refine bands_total (fun k r => at3 (arg6.view.read (Elt Ideal) (arg6.view.writes (Elt Ideal) G ((pb_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 k) ++ L))) t r ch) (fun r => cv (at3 (arg12.view.read (Elt Ideal) X12) 1 r (ch - 128)) (at2 (k0_pay419 v64 v259) 0 ch)) 16 ((0 ≤ t ∧ t < 0 + 1) ∧ (128 ≤ ch ∧ ch < 128 + 128)) (r) (fun k hk => ?_) 16 le_rfl
  have hk' : k < k0_t11_loop.trips := by omega
  have h := pb_k0_t11_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 ⟨k, hk'⟩
  simp only [] at h
  beta_reduce
  rw [h]
  refine (congrArg (fun M => at3 (arg6.view.read (Elt Ideal) (arg6.view.writes (Elt Ideal) G M)) t r ch) (List.append_assoc _ _ _)).trans ?_
  refine (t11_band6 𝒱 c bd i arg1 harg1 arg2 harg2 arg3 harg3 arg4 harg4 arg5 harg5 arg6 harg6 arg7 harg7 arg8 harg8 arg9 harg9 arg10 harg10 arg11 harg11 arg12 harg12 arg13 harg13 X12 arg0 v64 v259 ⟨k, hk'⟩ G _ t r ch).trans ?_
  exact if_congr (by simp only []; omega) rfl rfl

/-- What the quantising loop over column tile 2 leaves. -/
theorem t12_w6 (arg0 : BitVec 32) (v64 : FVec Ideal S1x384 .f32) (v259 : IVec S252x384 32) (G : BufTy.Contents (Elt Ideal) arg6.view.ty) (L : List (View.Piece (Elt Ideal) S1x4096x320 .fp8e5m2)) (t r ch : ℕ) :
    at3 (arg6.view.read (Elt Ideal) (arg6.view.writes (Elt Ideal) G ((pb_k0_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 8) ++ L))) t r ch
      = if (((0 ≤ t ∧ t < 0 + 1) ∧ (256 ≤ ch ∧ ch < 256 + 64) ∧ r < 4096) ∧ r % 2048 < 256 * 8) then (if r < 2048 then cv (at3 (arg12.view.read (Elt Ideal) X12) 2 r (ch - 256)) (at2 (k0_pay419 v64 v259) 0 ch) else cv (at3 (arg12.view.read (Elt Ideal) X12) 2 (r - 2048) (ch - 256 + 64)) (at2 (k0_pay419 v64 v259) 0 ch)) else at3 (arg6.view.read (Elt Ideal) (arg6.view.writes (Elt Ideal) G L)) t r ch := by
  have tr : k0_t12_loop.trips = 8 := by decide +kernel
  refine bands_total (fun k _ => at3 (arg6.view.read (Elt Ideal) (arg6.view.writes (Elt Ideal) G ((pb_k0_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 k) ++ L))) t r ch) (fun _ => if r < 2048 then cv (at3 (arg12.view.read (Elt Ideal) X12) 2 r (ch - 256)) (at2 (k0_pay419 v64 v259) 0 ch) else cv (at3 (arg12.view.read (Elt Ideal) X12) 2 (r - 2048) (ch - 256 + 64)) (at2 (k0_pay419 v64 v259) 0 ch)) 8 ((0 ≤ t ∧ t < 0 + 1) ∧ (256 ≤ ch ∧ ch < 256 + 64) ∧ r < 4096) (r % 2048) (fun k hk => ?_) 8 le_rfl
  have hk' : k < k0_t12_loop.trips := by omega
  have h := pb_k0_t12_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg0 v64 v259 X12 ⟨k, hk'⟩
  simp only [] at h
  beta_reduce
  rw [h]
  refine (congrArg (fun M => at3 (arg6.view.read (Elt Ideal) (arg6.view.writes (Elt Ideal) G M)) t r ch) (List.append_assoc _ _ _)).trans ?_
  refine (t12_band6 𝒱 c bd i arg1 harg1 arg2 harg2 arg3 harg3 arg4 harg4 arg5 harg5 arg6 harg6 arg7 harg7 arg8 harg8 arg9 harg9 arg10 harg10 arg11 harg11 arg12 harg12 arg13 harg13 X12 arg0 v64 v259 ⟨k, hk'⟩ G _ t r ch).trans ?_
  exact if_congr (by simp only []; omega) rfl rfl

end Cert.KernelIdeal.Hand
-- ==== Proof.VStage.lean ====
/- What the scratch buffers hold after each group of three tile loops, over any lists of stores that do what those loops do. -/
module

public import proofs.«01_k».proof.Proof.VMax

@[expose] public section
set_option maxRecDepth 16384
noncomputable section
namespace Cert.Nat
open Idealize.ShloMosaic Idealize.SL.Sem

/-- Tiles only read the 320 channels. -/
theorem tl_congr (f g : ℕ → ℕ → EReal) (h : ∀ r c, c < 320 → f r c = g r c) (t r l : ℕ) (ht : t < 3) (hl : l < 128) : tl t f r l = tl t g r l := by
  unfold tl
  split
  · split
    · exact h _ _ (by omega)
    · exact h _ _ (by omega)
  · exact h _ _ (by omega)

/-- The places of the scratch buffers that the tiles fill. -/
def okp (t r : ℕ) : Prop := (t < 2 ∧ r < 4096) ∨ (t = 2 ∧ r < 2048)

variable {sig : RefSig} {κ : Kind} {sp : Space}

/-- Three loops that each fill their tile fill the buffer. -/
theorem fill3 (v : View sig κ sp ⟨3, ![3, 4096, 128]⟩ .f32) (G : v.ty.Contents (Elt Ideal)) (T4 T5 T6 : List (View.Piece (Elt Ideal) ⟨3, ![3, 4096, 128]⟩ .f32))
    (f f4 f5 f6 : ℕ → ℕ → EReal) (e4 : ∀ r c, c < 320 → f4 r c = f r c) (e5 : ∀ r c, c < 320 → f5 r c = f r c) (e6 : ∀ r c, c < 320 → f6 r c = f r c)
    (h4 : ∀ L t r l, at3 (v.read (Elt Ideal) (v.writes (Elt Ideal) G (T4 ++ L))) t r l = if (((0 ≤ t ∧ t < 0 + 1) ∧ (0 ≤ l ∧ l < 0 + 128)) ∧ r < 256 * 16) then tl 0 f4 r l else at3 (v.read (Elt Ideal) (v.writes (Elt Ideal) G L)) t r l)
    (h5 : ∀ L t r l, at3 (v.read (Elt Ideal) (v.writes (Elt Ideal) G (T5 ++ L))) t r l = if (((1 ≤ t ∧ t < 1 + 1) ∧ (0 ≤ l ∧ l < 0 + 128)) ∧ r < 256 * 16) then tl 1 f5 r l else at3 (v.read (Elt Ideal) (v.writes (Elt Ideal) G L)) t r l)
    (h6 : ∀ L t r l, at3 (v.read (Elt Ideal) (v.writes (Elt Ideal) G (T6 ++ L))) t r l = if (((2 ≤ t ∧ t < 2 + 1) ∧ (0 ≤ l ∧ l < 0 + 128)) ∧ r < 256 * 8) then tl 2 f6 r l else at3 (v.read (Elt Ideal) (v.writes (Elt Ideal) G L)) t r l)
    (t r l : ℕ) (hl : l < 128) (hok : okp t r) :
    at3 (v.read (Elt Ideal) (v.writes (Elt Ideal) G (T6 ++ (T5 ++ T4)))) t r l = tl t f r l := by
  unfold okp at hok
  rw [h6]
  split
  · obtain rfl : t = 2 := by omega
    exact tl_congr _ _ e6 _ _ _ (by omega) hl
  · rw [h5]
    split
    · obtain rfl : t = 1 := by omega
      exact tl_congr _ _ e5 _ _ _ (by omega) hl
    · have h := h4 [] t r l
      rw [List.append_nil] at h
      rw [h, if_pos (by omega)]
      obtain rfl : t = 0 := by omega
      exact tl_congr _ _ e4 _ _ _ (by omega) hl

/-- Three loops that each map their tile map the buffer, and each finds its tile unmapped. -/
theorem map3 (Z Z7 Z8 Z9 : Vec Ideal ⟨3, ![3, 4096, 128]⟩ .f32) (R : ℕ → ℕ → ℕ → EReal) (P X : ℕ → ℕ → EReal) (D E C : ℕ → EReal)
    (hZ : ∀ t r l, l < 128 → okp t r → at3 Z t r l = tl t P r l) (hR : ∀ t r l, l < 128 → okp t r → R t r l = tl t X r l)
    (h7 : ∀ t r l, at3 Z7 t r l = if (((0 ≤ t ∧ t < 0 + 1) ∧ (0 ≤ l ∧ l < 0 + 128)) ∧ r < 256 * 16) then wv (at3 Z t r l) (R 0 r l) (D l) (E l) (C l) else at3 Z t r l)
    (h8 : ∀ t r l, at3 Z8 t r l = if (((1 ≤ t ∧ t < 1 + 1) ∧ (0 ≤ l ∧ l < 0 + 128)) ∧ r < 256 * 16) then wv (at3 Z7 t r l) (R 1 r l) (D (128 + l)) (E (128 + l)) (C (128 + l)) else at3 Z7 t r l)
    (h9 : ∀ t r l, at3 Z9 t r l = if (((2 ≤ t ∧ t < 2 + 1) ∧ (0 ≤ l ∧ l < 0 + 128)) ∧ r < 256 * 8) then wv (at3 Z8 t r l) (R 2 r l) (D (256 + l % 64)) (E (256 + l % 64)) (C (256 + l % 64)) else at3 Z8 t r l) :
    (∀ r l, r < 4096 → l < 128 → wv (at3 Z 0 r l) (R 0 r l) (D l) (E l) (C l) = tl 0 (fun r c => wv (P r c) (X r c) (D c) (E c) (C c)) r l)
    ∧ (∀ r l, r < 4096 → l < 128 → wv (at3 Z7 1 r l) (R 1 r l) (D (128 + l)) (E (128 + l)) (C (128 + l)) = tl 1 (fun r c => wv (P r c) (X r c) (D c) (E c) (C c)) r l)
    ∧ (∀ r l, r < 2048 → l < 128 → wv (at3 Z8 2 r l) (R 2 r l) (D (256 + l % 64)) (E (256 + l % 64)) (C (256 + l % 64)) = tl 2 (fun r c => wv (P r c) (X r c) (D c) (E c) (C c)) r l)
    ∧ (∀ t r l, l < 128 → okp t r → at3 Z9 t r l = tl t (fun r c => wv (P r c) (X r c) (D c) (E c) (C c)) r l) := by
  have a0 : ∀ r l, r < 4096 → l < 128 → wv (at3 Z 0 r l) (R 0 r l) (D l) (E l) (C l) = tl 0 (fun r c => wv (P r c) (X r c) (D c) (E c) (C c)) r l := fun r l hr hl => by
    rw [hZ 0 r l hl (Or.inl ⟨by omega, hr⟩), hR 0 r l hl (Or.inl ⟨by omega, hr⟩)]
    simp only [tl0]
  have a1 : ∀ r l, r < 4096 → l < 128 → wv (at3 Z7 1 r l) (R 1 r l) (D (128 + l)) (E (128 + l)) (C (128 + l)) = tl 1 (fun r c => wv (P r c) (X r c) (D c) (E c) (C c)) r l := fun r l hr hl => by
    rw [h7, if_neg (by omega), hZ 1 r l hl (Or.inl ⟨by omega, hr⟩), hR 1 r l hl (Or.inl ⟨by omega, hr⟩)]
    simp only [tl1]
  have a2 : ∀ r l, r < 2048 → l < 128 → wv (at3 Z8 2 r l) (R 2 r l) (D (256 + l % 64)) (E (256 + l % 64)) (C (256 + l % 64)) = tl 2 (fun r c => wv (P r c) (X r c) (D c) (E c) (C c)) r l := fun r l hr hl => by
    rw [h8, if_neg (by omega), h7, if_neg (by omega), hZ 2 r l hl (Or.inr ⟨rfl, hr⟩), hR 2 r l hl (Or.inr ⟨rfl, hr⟩)]
    by_cases h : l < 64
    · rw [Nat.mod_eq_of_lt h]
      simp only [tl2_lt _ _ _ h]
    · rw [show l % 64 = l - 64 by omega]
      simp only [tl2_ge _ _ _ h]
  refine ⟨a0, a1, a2, fun t r l hl hok => ?_⟩
  unfold okp at hok
  rw [h9]
  split
  · obtain rfl : t = 2 := by omega
    exact a2 r l (by omega) hl
  · rw [h8]
    split
    · obtain rfl : t = 1 := by omega
      exact a1 r l (by omega) hl
    · rw [h7]
      split
      · obtain rfl : t = 0 := by omega
        exact a0 r l (by omega) hl
      · omega

/-- Three loops that each store their tile's codes store all of them. -/
theorem code3 (A A10 A11 A12 : Vec Ideal ⟨3, ![1, 4096, 320]⟩ .fp8e5m2) (R : ℕ → ℕ → ℕ → EReal) (W : ℕ → ℕ → EReal) (K : ℕ → EReal)
    (hR : ∀ t r l, l < 128 → okp t r → R t r l = tl t W r l)
    (h10 : ∀ t r ch, at3 A10 t r ch = if (((0 ≤ t ∧ t < 0 + 1) ∧ (0 ≤ ch ∧ ch < 0 + 128)) ∧ r < 256 * 16) then (cv (R 0 r (ch - 0)) (K ch)) else at3 A t r ch)
    (h11 : ∀ t r ch, at3 A11 t r ch = if (((0 ≤ t ∧ t < 0 + 1) ∧ (128 ≤ ch ∧ ch < 128 + 128)) ∧ r < 256 * 16) then (cv (R 1 r (ch - 128)) (K ch)) else at3 A10 t r ch)
    (h12 : ∀ t r ch, at3 A12 t r ch = if (((0 ≤ t ∧ t < 0 + 1) ∧ (256 ≤ ch ∧ ch < 256 + 64) ∧ r < 4096) ∧ r % 2048 < 256 * 8) then
        (if r < 2048 then cv (R 2 r (ch - 256)) (K ch) else cv (R 2 (r - 2048) (ch - 256 + 64)) (K ch)) else at3 A11 t r ch)
    (r ch : ℕ) (hr : r < 4096) (hc : ch < 320) : at3 A12 0 r ch = cv (W r ch) (K ch) := by
  rw [h12]
  split
  · split
    · rw [hR 2 r (ch - 256) (by omega) (Or.inr ⟨rfl, by omega⟩), tl2_lt _ _ _ (by omega), show 256 + (ch - 256) = ch by omega]
    · rw [hR 2 (r - 2048) (ch - 256 + 64) (by omega) (Or.inr ⟨rfl, by omega⟩), tl2_ge _ _ _ (by omega), show r - 2048 + 2048 = r by omega,
        show 256 + (ch - 256 + 64 - 64) = ch by omega]
  · rw [h11]
    split
    · rw [hR 1 r (ch - 128) (by omega) (Or.inl ⟨by omega, hr⟩), tl1, show 128 + (ch - 128) = ch by omega]
    · rw [h10, if_pos (by omega), hR 0 r (ch - 0) (by omega) (Or.inl ⟨by omega, hr⟩), tl0, show ch - 0 = ch by omega]

end Cert.Nat
-- ==== Proof.VBody2.lean ====
module

public import proofs.«01_k».proof.Proof.VBody
public import proofs.«01_k».proof.Proof.VPay2
public import proofs.«01_k».proof.Proof.VTot2
public import proofs.«01_k».proof.Proof.VStage

@[expose] public section
set_option maxRecDepth 16384
set_option maxHeartbeats 1000000
noncomputable section
namespace Cert.KernelIdeal.Hand
open Idealize.ShloMosaic Idealize.ShloMosaic.TcCoe Idealize.SL.Sem Cert.Nat Cert.KernelIdeal Cert.KernelIdeal.Gen

/-- The kernel's coefficients of the gradient at x, that gradient over the reciprocal deviation, the maxima of its magnitude and the code. -/
def mg0 (X D : ℕ → ℕ → EReal) (G B : ℕ → EReal) (s : EReal) (c : ℕ) : EReal := gsum (fun c => ksh X D G B s c * G c) c * ((1 / 40960 : ℝ) : EReal)
@[inherit_doc mg0] def mg1 (X D : ℕ → ℕ → EReal) (G B : ℕ → EReal) (s : EReal) (c : ℕ) : EReal := gsum (fun c => ksx X D G B s c * kr X c * G c) c * ((1 / 40960 : ℝ) : EReal)
@[inherit_doc mg0] def kx (X D : ℕ → ℕ → EReal) (G B : ℕ → EReal) (s : EReal) (c : ℕ) : EReal := kr X c * mg1 X D G B s c
@[inherit_doc mg0] def kc (X D : ℕ → ℕ → EReal) (G B : ℕ → EReal) (s : EReal) (c : ℕ) : EReal := mg0 X D G B s c - km X c * kx X D G B s c
@[inherit_doc mg0] def kw (X D : ℕ → ℕ → EReal) (G B : ℕ → EReal) (s : EReal) (r c : ℕ) : EReal :=
  wv (kp X D G B r c) (X r c) (G c * s) (kx X D G B s c) (kc X D G B s c)
@[inherit_doc mg0] def am (X D : ℕ → ℕ → EReal) (G B : ℕ → EReal) (s : EReal) (c : ℕ) : EReal := cmx (fun r c => av (kw X D G B s r c)) c * kr X c
@[inherit_doc mg0] def kcode (X D : ℕ → ℕ → EReal) (G B : ℕ → EReal) (s : EReal) (r c : ℕ) : EReal :=
  cv (kw X D G B s r c) (kr X c * (((2 : ℝ) ^ (-kexp (gmx (am X D G B s) c * Ideal.ofBits FTy.f32 0x37924925#32)) : ℝ) : EReal))

/-- A map of the entries is a map of the tiles. -/
theorem tl_map (φ : EReal → EReal) (t : ℕ) (f : ℕ → ℕ → EReal) (r l : ℕ) : tl t (fun r c => φ (f r c)) r l = φ (tl t f r l) := by
  unfold tl
  split
  · split <;> rfl
  · rfl
theorem cmx_congr (f g : ℕ → ℕ → EReal) (h : ∀ r c, c < 320 → f r c = g r c) (c : ℕ) : cmx f c = cmx g c := by
  unfold cmx
  split
  · rw [Finset.sup_congr rfl fun r _ => h r c ‹_›]
  · rfl

variable (c : Dev nD) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole)
variable (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (g0 : BufTy.Contents (Elt Ideal) (sc0).view.ty)
variable (g1 : BufTy.Contents (Elt Ideal) (sc1).view.ty) (g2 : BufTy.Contents (Elt Ideal) (sc2).view.ty)

/-- What the loops store in the two scratch buffers, the last store first, and the buffers' contents. -/
abbrev L11 : List (View.Piece (Elt Ideal) S3x4096x128 .f32) := (st_k0_t6 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) k0_pay363 (kernelRun.sl.r_6 (F := Ideal) c i arg1 harg1 arg2 harg2 arg3 harg3 arg4 harg4 arg5 harg5 arg6 harg6 arg7 harg7 arg8 harg8 arg9 harg9 f1 g0) (kernelRun.sl.r_8 (F := Ideal) c i arg1 harg1 arg2 harg2 arg3 harg3 arg4 harg4 arg5 harg5 arg6 harg6 arg7 harg7 arg8 harg8 arg9 harg9 f1 f2 g0) (kernelRun.sl.r_9 (F := Ideal) c i arg1 harg1 arg2 harg2 arg3 harg3 arg4 harg4 arg5 harg5 arg6 harg6 arg7 harg7 arg8 harg8 arg9 harg9 f1 f2 f3 g0) (kernelRun.sl.r_10 (F := Ideal) c i arg1 harg1 arg2 harg2 arg3 harg3 arg4 harg4 arg5 harg5 arg6 harg6 arg7 harg7 arg8 harg8 arg9 harg9 f1 f2 f3 f4 g0) (kernelRun.sl.r_11 (F := Ideal) c i arg1 harg1 arg2 harg2 arg3 harg3 arg4 harg4 arg5 harg5 arg6 harg6 arg7 harg7 arg8 harg8 arg9 harg9 f1 f2 f3 f4 g0) (kernelRun.sl.r_12 (F := Ideal) c i arg1 harg1 arg2 harg2 arg3 harg3 arg4 harg4 arg5 harg5 arg6 harg6 arg7 harg7 arg8 harg8 arg9 harg9 f1 f2 g0) (kernelRun.sl.r_13 (F := Ideal) c i arg1 harg1 arg2 harg2 arg3 harg3 arg4 harg4 arg5 harg5 arg6 harg6 arg7 harg7 arg8 harg8 arg9 harg9 f1 f2 f3 g0) f1 f4 (k0_pay363, k0_pay363) (Scf.trips k0_t6_loop.lb k0_t6_loop.ub k0_t6_loop.st)).2.1 ++ ((st_k0_t5 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) k0_pay363 (kernelRun.sl.r_6 (F := Ideal) c i arg1 harg1 arg2 harg2 arg3 harg3 arg4 harg4 arg5 harg5 arg6 harg6 arg7 harg7 arg8 harg8 arg9 harg9 f1 g0) (kernelRun.sl.r_8 (F := Ideal) c i arg1 harg1 arg2 harg2 arg3 harg3 arg4 harg4 arg5 harg5 arg6 harg6 arg7 harg7 arg8 harg8 arg9 harg9 f1 f2 g0) (kernelRun.sl.r_9 (F := Ideal) c i arg1 harg1 arg2 harg2 arg3 harg3 arg4 harg4 arg5 harg5 arg6 harg6 arg7 harg7 arg8 harg8 arg9 harg9 f1 f2 f3 g0) (kernelRun.sl.r_10 (F := Ideal) c i arg1 harg1 arg2 harg2 arg3 harg3 arg4 harg4 arg5 harg5 arg6 harg6 arg7 harg7 arg8 harg8 arg9 harg9 f1 f2 f3 f4 g0) (kernelRun.sl.r_11 (F := Ideal) c i arg1 harg1 arg2 harg2 arg3 harg3 arg4 harg4 arg5 harg5 arg6 harg6 arg7 harg7 arg8 harg8 arg9 harg9 f1 f2 f3 f4 g0) (kernelRun.sl.r_12 (F := Ideal) c i arg1 harg1 arg2 harg2 arg3 harg3 arg4 harg4 arg5 harg5 arg6 harg6 arg7 harg7 arg8 harg8 arg9 harg9 f1 f2 g0) (kernelRun.sl.r_13 (F := Ideal) c i arg1 harg1 arg2 harg2 arg3 harg3 arg4 harg4 arg5 harg5 arg6 harg6 arg7 harg7 arg8 harg8 arg9 harg9 f1 f2 f3 g0) f1 f4 (k0_pay363, k0_pay363) (Scf.trips k0_t5_loop.lb k0_t5_loop.ub k0_t5_loop.st)).2.1 ++ (st_k0_t4 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) (kernelRun.sl.v4 (F := Ideal) c i g0) (kernelRun.sl.r (F := Ideal) c arg2 f2) (kernelRun.sl.r_1 (F := Ideal) c arg3 f3) k0_pay363 (kernelRun.sl.r_2 (F := Ideal) c i arg1 harg1 arg2 harg2 arg3 harg3 arg4 harg4 arg5 harg5 arg6 harg6 arg7 harg7 arg8 harg8 arg9 harg9 f1) (kernelRun.sl.r_3 (F := Ideal) c i arg1 harg1 arg2 harg2 arg3 harg3 arg4 harg4 arg5 harg5 arg6 harg6 arg7 harg7 arg8 harg8 arg9 harg9 f1) (kernelRun.sl.r_4 (F := Ideal) c i arg1 harg1 arg2 harg2 arg3 harg3 arg4 harg4 arg5 harg5 arg6 harg6 arg7 harg7 arg8 harg8 arg9 harg9 f1) (kernelRun.sl.r_5 (F := Ideal) c i arg1 harg1 arg2 harg2 arg3 harg3 arg4 harg4 arg5 harg5 arg6 harg6 arg7 harg7 arg8 harg8 arg9 harg9 f1) f1 f4 (k0_pay363, k0_pay363) (Scf.trips k0_t4_loop.lb k0_t4_loop.ub k0_t4_loop.st)).2.1)
@[inherit_doc L11] abbrev L12 : List (View.Piece (Elt Ideal) S3x4096x128 .f32) := (st_k0_t6 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) k0_pay363 (kernelRun.sl.r_6 (F := Ideal) c i arg1 harg1 arg2 harg2 arg3 harg3 arg4 harg4 arg5 harg5 arg6 harg6 arg7 harg7 arg8 harg8 arg9 harg9 f1 g0) (kernelRun.sl.r_8 (F := Ideal) c i arg1 harg1 arg2 harg2 arg3 harg3 arg4 harg4 arg5 harg5 arg6 harg6 arg7 harg7 arg8 harg8 arg9 harg9 f1 f2 g0) (kernelRun.sl.r_9 (F := Ideal) c i arg1 harg1 arg2 harg2 arg3 harg3 arg4 harg4 arg5 harg5 arg6 harg6 arg7 harg7 arg8 harg8 arg9 harg9 f1 f2 f3 g0) (kernelRun.sl.r_10 (F := Ideal) c i arg1 harg1 arg2 harg2 arg3 harg3 arg4 harg4 arg5 harg5 arg6 harg6 arg7 harg7 arg8 harg8 arg9 harg9 f1 f2 f3 f4 g0) (kernelRun.sl.r_11 (F := Ideal) c i arg1 harg1 arg2 harg2 arg3 harg3 arg4 harg4 arg5 harg5 arg6 harg6 arg7 harg7 arg8 harg8 arg9 harg9 f1 f2 f3 f4 g0) (kernelRun.sl.r_12 (F := Ideal) c i arg1 harg1 arg2 harg2 arg3 harg3 arg4 harg4 arg5 harg5 arg6 harg6 arg7 harg7 arg8 harg8 arg9 harg9 f1 f2 g0) (kernelRun.sl.r_13 (F := Ideal) c i arg1 harg1 arg2 harg2 arg3 harg3 arg4 harg4 arg5 harg5 arg6 harg6 arg7 harg7 arg8 harg8 arg9 harg9 f1 f2 f3 g0) f1 f4 (k0_pay363, k0_pay363) (Scf.trips k0_t6_loop.lb k0_t6_loop.ub k0_t6_loop.st)).2.2 ++ ((st_k0_t5 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) k0_pay363 (kernelRun.sl.r_6 (F := Ideal) c i arg1 harg1 arg2 harg2 arg3 harg3 arg4 harg4 arg5 harg5 arg6 harg6 arg7 harg7 arg8 harg8 arg9 harg9 f1 g0) (kernelRun.sl.r_8 (F := Ideal) c i arg1 harg1 arg2 harg2 arg3 harg3 arg4 harg4 arg5 harg5 arg6 harg6 arg7 harg7 arg8 harg8 arg9 harg9 f1 f2 g0) (kernelRun.sl.r_9 (F := Ideal) c i arg1 harg1 arg2 harg2 arg3 harg3 arg4 harg4 arg5 harg5 arg6 harg6 arg7 harg7 arg8 harg8 arg9 harg9 f1 f2 f3 g0) (kernelRun.sl.r_10 (F := Ideal) c i arg1 harg1 arg2 harg2 arg3 harg3 arg4 harg4 arg5 harg5 arg6 harg6 arg7 harg7 arg8 harg8 arg9 harg9 f1 f2 f3 f4 g0) (kernelRun.sl.r_11 (F := Ideal) c i arg1 harg1 arg2 harg2 arg3 harg3 arg4 harg4 arg5 harg5 arg6 harg6 arg7 harg7 arg8 harg8 arg9 harg9 f1 f2 f3 f4 g0) (kernelRun.sl.r_12 (F := Ideal) c i arg1 harg1 arg2 harg2 arg3 harg3 arg4 harg4 arg5 harg5 arg6 harg6 arg7 harg7 arg8 harg8 arg9 harg9 f1 f2 g0) (kernelRun.sl.r_13 (F := Ideal) c i arg1 harg1 arg2 harg2 arg3 harg3 arg4 harg4 arg5 harg5 arg6 harg6 arg7 harg7 arg8 harg8 arg9 harg9 f1 f2 f3 g0) f1 f4 (k0_pay363, k0_pay363) (Scf.trips k0_t5_loop.lb k0_t5_loop.ub k0_t5_loop.st)).2.2 ++ (st_k0_t4 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) (kernelRun.sl.v4 (F := Ideal) c i g0) (kernelRun.sl.r (F := Ideal) c arg2 f2) (kernelRun.sl.r_1 (F := Ideal) c arg3 f3) k0_pay363 (kernelRun.sl.r_2 (F := Ideal) c i arg1 harg1 arg2 harg2 arg3 harg3 arg4 harg4 arg5 harg5 arg6 harg6 arg7 harg7 arg8 harg8 arg9 harg9 f1) (kernelRun.sl.r_3 (F := Ideal) c i arg1 harg1 arg2 harg2 arg3 harg3 arg4 harg4 arg5 harg5 arg6 harg6 arg7 harg7 arg8 harg8 arg9 harg9 f1) (kernelRun.sl.r_4 (F := Ideal) c i arg1 harg1 arg2 harg2 arg3 harg3 arg4 harg4 arg5 harg5 arg6 harg6 arg7 harg7 arg8 harg8 arg9 harg9 f1) (kernelRun.sl.r_5 (F := Ideal) c i arg1 harg1 arg2 harg2 arg3 harg3 arg4 harg4 arg5 harg5 arg6 harg6 arg7 harg7 arg8 harg8 arg9 harg9 f1) f1 f4 (k0_pay363, k0_pay363) (Scf.trips k0_t4_loop.lb k0_t4_loop.ub k0_t4_loop.st)).2.2)
@[inherit_doc L11] abbrev Z1 : BufTy.Contents (Elt Ideal) (sc1).view.ty := (sc1).view.writes (Elt Ideal) g1 (L11 c i arg1 harg1 arg2 harg2 arg3 harg3 arg4 harg4 arg5 harg5 arg6 harg6 arg7 harg7 arg8 harg8 arg9 harg9 f1 f2 f3 f4 g0)
@[inherit_doc L11] abbrev Z2 : BufTy.Contents (Elt Ideal) (sc2).view.ty := (sc2).view.writes (Elt Ideal) g2 (L12 c i arg1 harg1 arg2 harg2 arg3 harg3 arg4 harg4 arg5 harg5 arg6 harg6 arg7 harg7 arg8 harg8 arg9 harg9 f1 f2 f3 f4 g0)
@[inherit_doc L11] abbrev L7 : List (View.Piece (Elt Ideal) S3x4096x128 .f32) := (st_k0_t7 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) k0_pay363 (kernelRun.sl.r_7 (F := Ideal) c i arg1 harg1 arg2 harg2 arg3 harg3 arg4 harg4 arg5 harg5 arg6 harg6 arg7 harg7 arg8 harg8 arg9 harg9 f1 g0) (kernelRun.sl.r_17 (F := Ideal) c arg2 arg5 f2 f5) (kernelRun.sl.r_18 (F := Ideal) c i arg1 harg1 arg2 harg2 arg3 harg3 arg4 harg4 arg5 harg5 arg6 harg6 arg7 harg7 arg8 harg8 arg9 harg9 f1 f2 f3 f4 f5 g0) (kernelRun.sl.r_19 (F := Ideal) c i arg1 harg1 arg2 harg2 arg3 harg3 arg4 harg4 arg5 harg5 arg6 harg6 arg7 harg7 arg8 harg8 arg9 harg9 f1 f2 f3 f4 f5 g0) (kernelRun.sl.r_20 (F := Ideal) c arg2 arg5 f2 f5) (kernelRun.sl.r_21 (F := Ideal) c i arg1 harg1 arg2 harg2 arg3 harg3 arg4 harg4 arg5 harg5 arg6 harg6 arg7 harg7 arg8 harg8 arg9 harg9 f1 f2 f3 f4 f5 g0) (kernelRun.sl.r_22 (F := Ideal) c i arg1 harg1 arg2 harg2 arg3 harg3 arg4 harg4 arg5 harg5 arg6 harg6 arg7 harg7 arg8 harg8 arg9 harg9 f1 f2 f3 f4 f5 g0) 0#32 16#32 (Z1 c i arg1 harg1 arg2 harg2 arg3 harg3 arg4 harg4 arg5 harg5 arg6 harg6 arg7 harg7 arg8 harg8 arg9 harg9 f1 f2 f3 f4 g0 g1) (Z2 c i arg1 harg1 arg2 harg2 arg3 harg3 arg4 harg4 arg5 harg5 arg6 harg6 arg7 harg7 arg8 harg8 arg9 harg9 f1 f2 f3 f4 g0 g2) k0_pay363 (Scf.trips k0_t7_loop.lb k0_t7_loop.ub k0_t7_loop.st)).2 ++ (L12 c i arg1 harg1 arg2 harg2 arg3 harg3 arg4 harg4 arg5 harg5 arg6 harg6 arg7 harg7 arg8 harg8 arg9 harg9 f1 f2 f3 f4 g0)
@[inherit_doc L11] abbrev Z7 : BufTy.Contents (Elt Ideal) (sc2).view.ty := (sc2).view.writes (Elt Ideal) g2 (L7 c i arg1 harg1 arg2 harg2 arg3 harg3 arg4 harg4 arg5 harg5 arg6 harg6 arg7 harg7 arg8 harg8 arg9 harg9 f1 f2 f3 f4 f5 g0 g1 g2)
@[inherit_doc L11] abbrev L8 : List (View.Piece (Elt Ideal) S3x4096x128 .f32) := (st_k0_t8 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) k0_pay363 (kernelRun.sl.r_7 (F := Ideal) c i arg1 harg1 arg2 harg2 arg3 harg3 arg4 harg4 arg5 harg5 arg6 harg6 arg7 harg7 arg8 harg8 arg9 harg9 f1 g0) (kernelRun.sl.r_17 (F := Ideal) c arg2 arg5 f2 f5) (kernelRun.sl.r_18 (F := Ideal) c i arg1 harg1 arg2 harg2 arg3 harg3 arg4 harg4 arg5 harg5 arg6 harg6 arg7 harg7 arg8 harg8 arg9 harg9 f1 f2 f3 f4 f5 g0) (kernelRun.sl.r_19 (F := Ideal) c i arg1 harg1 arg2 harg2 arg3 harg3 arg4 harg4 arg5 harg5 arg6 harg6 arg7 harg7 arg8 harg8 arg9 harg9 f1 f2 f3 f4 f5 g0) (kernelRun.sl.r_20 (F := Ideal) c arg2 arg5 f2 f5) (kernelRun.sl.r_21 (F := Ideal) c i arg1 harg1 arg2 harg2 arg3 harg3 arg4 harg4 arg5 harg5 arg6 harg6 arg7 harg7 arg8 harg8 arg9 harg9 f1 f2 f3 f4 f5 g0) (kernelRun.sl.r_22 (F := Ideal) c i arg1 harg1 arg2 harg2 arg3 harg3 arg4 harg4 arg5 harg5 arg6 harg6 arg7 harg7 arg8 harg8 arg9 harg9 f1 f2 f3 f4 f5 g0) 0#32 16#32 (Z1 c i arg1 harg1 arg2 harg2 arg3 harg3 arg4 harg4 arg5 harg5 arg6 harg6 arg7 harg7 arg8 harg8 arg9 harg9 f1 f2 f3 f4 g0 g1) (Z7 c i arg1 harg1 arg2 harg2 arg3 harg3 arg4 harg4 arg5 harg5 arg6 harg6 arg7 harg7 arg8 harg8 arg9 harg9 f1 f2 f3 f4 f5 g0 g1 g2) k0_pay363 (Scf.trips k0_t8_loop.lb k0_t8_loop.ub k0_t8_loop.st)).2 ++ (L7 c i arg1 harg1 arg2 harg2 arg3 harg3 arg4 harg4 arg5 harg5 arg6 harg6 arg7 harg7 arg8 harg8 arg9 harg9 f1 f2 f3 f4 f5 g0 g1 g2)
@[inherit_doc L11] abbrev Z8 : BufTy.Contents (Elt Ideal) (sc2).view.ty := (sc2).view.writes (Elt Ideal) g2 (L8 c i arg1 harg1 arg2 harg2 arg3 harg3 arg4 harg4 arg5 harg5 arg6 harg6 arg7 harg7 arg8 harg8 arg9 harg9 f1 f2 f3 f4 f5 g0 g1 g2)
@[inherit_doc L11] abbrev L9 : List (View.Piece (Elt Ideal) S3x4096x128 .f32) := (st_k0_t9 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) k0_pay363 (kernelRun.sl.r_7 (F := Ideal) c i arg1 harg1 arg2 harg2 arg3 harg3 arg4 harg4 arg5 harg5 arg6 harg6 arg7 harg7 arg8 harg8 arg9 harg9 f1 g0) (kernelRun.sl.r_17 (F := Ideal) c arg2 arg5 f2 f5) (kernelRun.sl.r_18 (F := Ideal) c i arg1 harg1 arg2 harg2 arg3 harg3 arg4 harg4 arg5 harg5 arg6 harg6 arg7 harg7 arg8 harg8 arg9 harg9 f1 f2 f3 f4 f5 g0) (kernelRun.sl.r_19 (F := Ideal) c i arg1 harg1 arg2 harg2 arg3 harg3 arg4 harg4 arg5 harg5 arg6 harg6 arg7 harg7 arg8 harg8 arg9 harg9 f1 f2 f3 f4 f5 g0) (kernelRun.sl.r_20 (F := Ideal) c arg2 arg5 f2 f5) (kernelRun.sl.r_21 (F := Ideal) c i arg1 harg1 arg2 harg2 arg3 harg3 arg4 harg4 arg5 harg5 arg6 harg6 arg7 harg7 arg8 harg8 arg9 harg9 f1 f2 f3 f4 f5 g0) (kernelRun.sl.r_22 (F := Ideal) c i arg1 harg1 arg2 harg2 arg3 harg3 arg4 harg4 arg5 harg5 arg6 harg6 arg7 harg7 arg8 harg8 arg9 harg9 f1 f2 f3 f4 f5 g0) 0#32 16#32 (Z1 c i arg1 harg1 arg2 harg2 arg3 harg3 arg4 harg4 arg5 harg5 arg6 harg6 arg7 harg7 arg8 harg8 arg9 harg9 f1 f2 f3 f4 g0 g1) (Z8 c i arg1 harg1 arg2 harg2 arg3 harg3 arg4 harg4 arg5 harg5 arg6 harg6 arg7 harg7 arg8 harg8 arg9 harg9 f1 f2 f3 f4 f5 g0 g1 g2) k0_pay363 (Scf.trips k0_t9_loop.lb k0_t9_loop.ub k0_t9_loop.st)).2 ++ (L8 c i arg1 harg1 arg2 harg2 arg3 harg3 arg4 harg4 arg5 harg5 arg6 harg6 arg7 harg7 arg8 harg8 arg9 harg9 f1 f2 f3 f4 f5 g0 g1 g2)
@[inherit_doc L11] abbrev Z9 : BufTy.Contents (Elt Ideal) (sc2).view.ty := (sc2).view.writes (Elt Ideal) g2 (L9 c i arg1 harg1 arg2 harg2 arg3 harg3 arg4 harg4 arg5 harg5 arg6 harg6 arg7 harg7 arg8 harg8 arg9 harg9 f1 f2 f3 f4 f5 g0 g1 g2)

theorem e_z1 (t r l : ℕ) (hl : l < 128) (hok : okp t r) : at3 ((sc1).view.read (Elt Ideal) (Z1 c i arg1 harg1 arg2 harg2 arg3 harg3 arg4 harg4 arg5 harg5 arg6 harg6 arg7 harg7 arg8 harg8 arg9 harg9 f1 f2 f3 f4 g0 g1)) t r l = tl t (fun r c => at3 (arg1.view.read (Elt Ideal) f1) 0 r c) r l :=
  fill3 _ _ _ _ _ (fun r c => at3 (arg1.view.read (Elt Ideal) f1) 0 r c) (fun r c => at3 (arg1.view.read (Elt Ideal) f1) 0 r c) (fun r c => at3 (arg1.view.read (Elt Ideal) f1) 0 r c) (fun r c => at3 (arg1.view.read (Elt Ideal) f1) 0 r c) (fun _ _ _ => rfl) (fun _ _ _ => rfl) (fun _ _ _ => rfl)
    (fun L t r l => t4_w11 _ _ _ _ _ _ _ _ _ _ _ _ _ _ _ _ _ _ _ _ _ _ _ _ _ _ _ _ _ _ f1 f4 _ _ _ _ _ _ _ _ _ L t r l)
    (fun L t r l => t5_w11 _ _ _ _ _ _ _ _ _ _ _ _ _ _ _ _ _ _ _ _ _ _ _ _ _ _ _ _ _ _ f1 f4 _ _ _ _ _ _ _ _ (at2 (kernelRun.sl.r_8 (F := Ideal) c i arg1 harg1 arg2 harg2 arg3 harg3 arg4 harg4 arg5 harg5 arg6 harg6 arg7 harg7 arg8 harg8 arg9 harg9 f1 f2 g0) 0) (at2 (kernelRun.sl.r_9 (F := Ideal) c i arg1 harg1 arg2 harg2 arg3 harg3 arg4 harg4 arg5 harg5 arg6 harg6 arg7 harg7 arg8 harg8 arg9 harg9 f1 f2 f3 g0) 0) (fun r l => p383 _ _ _ _ _ _ r l) (fun l => p384 _ _ _ _ _ _ _ l) _ L t r l)
    (fun L t r l => t6_w11 _ _ _ _ _ _ _ _ _ _ _ _ _ _ _ _ _ _ _ _ _ _ _ _ _ _ _ _ _ _ f1 f4 _ _ _ _ _ _ _ _ _ L t r l) t r l hl hok

theorem e_r (ch : Fin 384) : (kernelRun.sl.r (F := Ideal) c arg2 f2) (ix2 0 ch) = at2 (arg2.view.read (Elt Ideal) f2) 0 ch.val := by
  unfold kernelRun.sl.r
  rw [p361]
  beta_reduce
  unfold at2
  split
  · exact readAt_full2 _ _ _ _ _
  · rfl

theorem e_r17 (ch : Fin 384) : (kernelRun.sl.r_17 (F := Ideal) c arg2 arg5 f2 f5) (ix2 0 ch) = (fun c => at2 (arg2.view.read (Elt Ideal) f2) 0 c) ch.val * (kernelRun.sl.r_14 (F := Ideal) c arg5 f5) := by
  unfold kernelRun.sl.r_17
  rw [p396, e_r c arg2 f2]

variable (h4 : ∀ a b : Fin 384, (kernelRun.sl.v4 (F := Ideal) c i g0) (ix2 a b) = pind a.val b.val) (hX : ∀ r c, ∃ y : ℝ, at3 (arg1.view.read (Elt Ideal) f1) 0 r c = y)
include h4 hX

theorem e_z2 (t r l : ℕ) (hl : l < 128) (hok : okp t r) : at3 ((sc2).view.read (Elt Ideal) (Z2 c i arg1 harg1 arg2 harg2 arg3 harg3 arg4 harg4 arg5 harg5 arg6 harg6 arg7 harg7 arg8 harg8 arg9 harg9 f1 f2 f3 f4 g0 g2)) t r l = tl t (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c)) r l :=
  fill3 _ _ _ _ _ (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c)) (fun r ch => at3 (arg4.view.read (Elt Ideal) f4) 0 r ch * dfac (at3 (arg1.view.read (Elt Ideal) f1) 0 r ch * at2 (kernelRun.sl.r_8 (F := Ideal) c i arg1 harg1 arg2 harg2 arg3 harg3 arg4 harg4 arg5 harg5 arg6 harg6 arg7 harg7 arg8 harg8 arg9 harg9 f1 f2 g0) 0 ch + at2 (kernelRun.sl.r_9 (F := Ideal) c i arg1 harg1 arg2 harg2 arg3 harg3 arg4 harg4 arg5 harg5 arg6 harg6 arg7 harg7 arg8 harg8 arg9 harg9 f1 f2 f3 g0) 0 ch)) (fun r ch => at3 (arg4.view.read (Elt Ideal) f4) 0 r ch * dfac (at3 (arg1.view.read (Elt Ideal) f1) 0 r ch * at2 (kernelRun.sl.r_8 (F := Ideal) c i arg1 harg1 arg2 harg2 arg3 harg3 arg4 harg4 arg5 harg5 arg6 harg6 arg7 harg7 arg8 harg8 arg9 harg9 f1 f2 g0) 0 ch + at2 (kernelRun.sl.r_9 (F := Ideal) c i arg1 harg1 arg2 harg2 arg3 harg3 arg4 harg4 arg5 harg5 arg6 harg6 arg7 harg7 arg8 harg8 arg9 harg9 f1 f2 f3 g0) 0 ch)) (fun r ch => at3 (arg4.view.read (Elt Ideal) f4) 0 r ch * dfac (at3 (arg1.view.read (Elt Ideal) f1) 0 r ch * at2 (kernelRun.sl.r_8 (F := Ideal) c i arg1 harg1 arg2 harg2 arg3 harg3 arg4 harg4 arg5 harg5 arg6 harg6 arg7 harg7 arg8 harg8 arg9 harg9 f1 f2 g0) 0 ch + at2 (kernelRun.sl.r_9 (F := Ideal) c i arg1 harg1 arg2 harg2 arg3 harg3 arg4 harg4 arg5 harg5 arg6 harg6 arg7 harg7 arg8 harg8 arg9 harg9 f1 f2 f3 g0) 0 ch)) (fun r ch hc => kp_eq c i arg1 harg1 arg2 harg2 arg3 harg3 arg4 harg4 arg5 harg5 arg6 harg6 arg7 harg7 arg8 harg8 arg9 harg9 f1 f2 f3 f4 g0 h4 hX r ch hc) (fun r ch hc => kp_eq c i arg1 harg1 arg2 harg2 arg3 harg3 arg4 harg4 arg5 harg5 arg6 harg6 arg7 harg7 arg8 harg8 arg9 harg9 f1 f2 f3 f4 g0 h4 hX r ch hc) (fun r ch hc => kp_eq c i arg1 harg1 arg2 harg2 arg3 harg3 arg4 harg4 arg5 harg5 arg6 harg6 arg7 harg7 arg8 harg8 arg9 harg9 f1 f2 f3 f4 g0 h4 hX r ch hc)
    (fun L t r l => t4_w12 _ _ _ _ _ _ _ _ _ _ _ _ _ _ _ _ _ _ _ _ _ _ _ _ _ _ _ _ _ _ f1 f4 _ _ _ _ _ _ _ _ _ L t r l)
    (fun L t r l => t5_w12 _ _ _ _ _ _ _ _ _ _ _ _ _ _ _ _ _ _ _ _ _ _ _ _ _ _ _ _ _ _ f1 f4 _ _ _ _ _ _ _ _ (at2 (kernelRun.sl.r_8 (F := Ideal) c i arg1 harg1 arg2 harg2 arg3 harg3 arg4 harg4 arg5 harg5 arg6 harg6 arg7 harg7 arg8 harg8 arg9 harg9 f1 f2 g0) 0) (at2 (kernelRun.sl.r_9 (F := Ideal) c i arg1 harg1 arg2 harg2 arg3 harg3 arg4 harg4 arg5 harg5 arg6 harg6 arg7 harg7 arg8 harg8 arg9 harg9 f1 f2 f3 g0) 0) (fun r l => p383 _ _ _ _ _ _ r l) (fun l => p384 _ _ _ _ _ _ _ l) _ L t r l)
    (fun L t r l => t6_w12 _ _ _ _ _ _ _ _ _ _ _ _ _ _ _ _ _ _ _ _ _ _ _ _ _ _ _ _ _ _ f1 f4 _ _ _ _ _ _ _ _ _ L t r l) t r l hl hok

theorem e_map : (∀ r l, r < 4096 → l < 128 → wv (at3 ((sc2).view.read (Elt Ideal) (Z2 c i arg1 harg1 arg2 harg2 arg3 harg3 arg4 harg4 arg5 harg5 arg6 harg6 arg7 harg7 arg8 harg8 arg9 harg9 f1 f2 f3 f4 g0 g2)) 0 r l) (at3 ((sc1).view.read (Elt Ideal) (Z1 c i arg1 harg1 arg2 harg2 arg3 harg3 arg4 harg4 arg5 harg5 arg6 harg6 arg7 harg7 arg8 harg8 arg9 harg9 f1 f2 f3 f4 g0 g1)) 0 r l) ((at2 (kernelRun.sl.r_17 (F := Ideal) c arg2 arg5 f2 f5) 0) l) ((at2 (kernelRun.sl.r_18 (F := Ideal) c i arg1 harg1 arg2 harg2 arg3 harg3 arg4 harg4 arg5 harg5 arg6 harg6 arg7 harg7 arg8 harg8 arg9 harg9 f1 f2 f3 f4 f5 g0) 0) l) ((at2 (kernelRun.sl.r_19 (F := Ideal) c i arg1 harg1 arg2 harg2 arg3 harg3 arg4 harg4 arg5 harg5 arg6 harg6 arg7 harg7 arg8 harg8 arg9 harg9 f1 f2 f3 f4 f5 g0) 0) l) = tl 0 (fun r ch => wv (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) r ch) ((fun r c => at3 (arg1.view.read (Elt Ideal) f1) 0 r c) r ch) ((at2 (kernelRun.sl.r_17 (F := Ideal) c arg2 arg5 f2 f5) 0) ch) ((at2 (kernelRun.sl.r_18 (F := Ideal) c i arg1 harg1 arg2 harg2 arg3 harg3 arg4 harg4 arg5 harg5 arg6 harg6 arg7 harg7 arg8 harg8 arg9 harg9 f1 f2 f3 f4 f5 g0) 0) ch) ((at2 (kernelRun.sl.r_19 (F := Ideal) c i arg1 harg1 arg2 harg2 arg3 harg3 arg4 harg4 arg5 harg5 arg6 harg6 arg7 harg7 arg8 harg8 arg9 harg9 f1 f2 f3 f4 f5 g0) 0) ch)) r l)
    ∧ (∀ r l, r < 4096 → l < 128 → wv (at3 ((sc2).view.read (Elt Ideal) (Z7 c i arg1 harg1 arg2 harg2 arg3 harg3 arg4 harg4 arg5 harg5 arg6 harg6 arg7 harg7 arg8 harg8 arg9 harg9 f1 f2 f3 f4 f5 g0 g1 g2)) 1 r l) (at3 ((sc1).view.read (Elt Ideal) (Z1 c i arg1 harg1 arg2 harg2 arg3 harg3 arg4 harg4 arg5 harg5 arg6 harg6 arg7 harg7 arg8 harg8 arg9 harg9 f1 f2 f3 f4 g0 g1)) 1 r l) ((at2 (kernelRun.sl.r_17 (F := Ideal) c arg2 arg5 f2 f5) 0) (128 + l)) ((at2 (kernelRun.sl.r_18 (F := Ideal) c i arg1 harg1 arg2 harg2 arg3 harg3 arg4 harg4 arg5 harg5 arg6 harg6 arg7 harg7 arg8 harg8 arg9 harg9 f1 f2 f3 f4 f5 g0) 0) (128 + l)) ((at2 (kernelRun.sl.r_19 (F := Ideal) c i arg1 harg1 arg2 harg2 arg3 harg3 arg4 harg4 arg5 harg5 arg6 harg6 arg7 harg7 arg8 harg8 arg9 harg9 f1 f2 f3 f4 f5 g0) 0) (128 + l)) = tl 1 (fun r ch => wv (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) r ch) ((fun r c => at3 (arg1.view.read (Elt Ideal) f1) 0 r c) r ch) ((at2 (kernelRun.sl.r_17 (F := Ideal) c arg2 arg5 f2 f5) 0) ch) ((at2 (kernelRun.sl.r_18 (F := Ideal) c i arg1 harg1 arg2 harg2 arg3 harg3 arg4 harg4 arg5 harg5 arg6 harg6 arg7 harg7 arg8 harg8 arg9 harg9 f1 f2 f3 f4 f5 g0) 0) ch) ((at2 (kernelRun.sl.r_19 (F := Ideal) c i arg1 harg1 arg2 harg2 arg3 harg3 arg4 harg4 arg5 harg5 arg6 harg6 arg7 harg7 arg8 harg8 arg9 harg9 f1 f2 f3 f4 f5 g0) 0) ch)) r l)
    ∧ (∀ r l, r < 2048 → l < 128 → wv (at3 ((sc2).view.read (Elt Ideal) (Z8 c i arg1 harg1 arg2 harg2 arg3 harg3 arg4 harg4 arg5 harg5 arg6 harg6 arg7 harg7 arg8 harg8 arg9 harg9 f1 f2 f3 f4 f5 g0 g1 g2)) 2 r l) (at3 ((sc1).view.read (Elt Ideal) (Z1 c i arg1 harg1 arg2 harg2 arg3 harg3 arg4 harg4 arg5 harg5 arg6 harg6 arg7 harg7 arg8 harg8 arg9 harg9 f1 f2 f3 f4 g0 g1)) 2 r l) ((at2 (kernelRun.sl.r_17 (F := Ideal) c arg2 arg5 f2 f5) 0) (256 + l % 64)) ((at2 (kernelRun.sl.r_18 (F := Ideal) c i arg1 harg1 arg2 harg2 arg3 harg3 arg4 harg4 arg5 harg5 arg6 harg6 arg7 harg7 arg8 harg8 arg9 harg9 f1 f2 f3 f4 f5 g0) 0) (256 + l % 64)) ((at2 (kernelRun.sl.r_19 (F := Ideal) c i arg1 harg1 arg2 harg2 arg3 harg3 arg4 harg4 arg5 harg5 arg6 harg6 arg7 harg7 arg8 harg8 arg9 harg9 f1 f2 f3 f4 f5 g0) 0) (256 + l % 64)) = tl 2 (fun r ch => wv (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) r ch) ((fun r c => at3 (arg1.view.read (Elt Ideal) f1) 0 r c) r ch) ((at2 (kernelRun.sl.r_17 (F := Ideal) c arg2 arg5 f2 f5) 0) ch) ((at2 (kernelRun.sl.r_18 (F := Ideal) c i arg1 harg1 arg2 harg2 arg3 harg3 arg4 harg4 arg5 harg5 arg6 harg6 arg7 harg7 arg8 harg8 arg9 harg9 f1 f2 f3 f4 f5 g0) 0) ch) ((at2 (kernelRun.sl.r_19 (F := Ideal) c i arg1 harg1 arg2 harg2 arg3 harg3 arg4 harg4 arg5 harg5 arg6 harg6 arg7 harg7 arg8 harg8 arg9 harg9 f1 f2 f3 f4 f5 g0) 0) ch)) r l)
    ∧ (∀ t r l, l < 128 → okp t r → at3 ((sc2).view.read (Elt Ideal) (Z9 c i arg1 harg1 arg2 harg2 arg3 harg3 arg4 harg4 arg5 harg5 arg6 harg6 arg7 harg7 arg8 harg8 arg9 harg9 f1 f2 f3 f4 f5 g0 g1 g2)) t r l = tl t (fun r ch => wv (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) r ch) ((fun r c => at3 (arg1.view.read (Elt Ideal) f1) 0 r c) r ch) ((at2 (kernelRun.sl.r_17 (F := Ideal) c arg2 arg5 f2 f5) 0) ch) ((at2 (kernelRun.sl.r_18 (F := Ideal) c i arg1 harg1 arg2 harg2 arg3 harg3 arg4 harg4 arg5 harg5 arg6 harg6 arg7 harg7 arg8 harg8 arg9 harg9 f1 f2 f3 f4 f5 g0) 0) ch) ((at2 (kernelRun.sl.r_19 (F := Ideal) c i arg1 harg1 arg2 harg2 arg3 harg3 arg4 harg4 arg5 harg5 arg6 harg6 arg7 harg7 arg8 harg8 arg9 harg9 f1 f2 f3 f4 f5 g0) 0) ch)) r l) := map3 ((sc2).view.read (Elt Ideal) (Z2 c i arg1 harg1 arg2 harg2 arg3 harg3 arg4 harg4 arg5 harg5 arg6 harg6 arg7 harg7 arg8 harg8 arg9 harg9 f1 f2 f3 f4 g0 g2)) ((sc2).view.read (Elt Ideal) (Z7 c i arg1 harg1 arg2 harg2 arg3 harg3 arg4 harg4 arg5 harg5 arg6 harg6 arg7 harg7 arg8 harg8 arg9 harg9 f1 f2 f3 f4 f5 g0 g1 g2)) ((sc2).view.read (Elt Ideal) (Z8 c i arg1 harg1 arg2 harg2 arg3 harg3 arg4 harg4 arg5 harg5 arg6 harg6 arg7 harg7 arg8 harg8 arg9 harg9 f1 f2 f3 f4 f5 g0 g1 g2)) ((sc2).view.read (Elt Ideal) (Z9 c i arg1 harg1 arg2 harg2 arg3 harg3 arg4 harg4 arg5 harg5 arg6 harg6 arg7 harg7 arg8 harg8 arg9 harg9 f1 f2 f3 f4 f5 g0 g1 g2)) (at3 ((sc1).view.read (Elt Ideal) (Z1 c i arg1 harg1 arg2 harg2 arg3 harg3 arg4 harg4 arg5 harg5 arg6 harg6 arg7 harg7 arg8 harg8 arg9 harg9 f1 f2 f3 f4 g0 g1))) (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c)) (fun r c => at3 (arg1.view.read (Elt Ideal) f1) 0 r c) (at2 (kernelRun.sl.r_17 (F := Ideal) c arg2 arg5 f2 f5) 0) (at2 (kernelRun.sl.r_18 (F := Ideal) c i arg1 harg1 arg2 harg2 arg3 harg3 arg4 harg4 arg5 harg5 arg6 harg6 arg7 harg7 arg8 harg8 arg9 harg9 f1 f2 f3 f4 f5 g0) 0) (at2 (kernelRun.sl.r_19 (F := Ideal) c i arg1 harg1 arg2 harg2 arg3 harg3 arg4 harg4 arg5 harg5 arg6 harg6 arg7 harg7 arg8 harg8 arg9 harg9 f1 f2 f3 f4 f5 g0) 0)
    (e_z2 c i arg1 harg1 arg2 harg2 arg3 harg3 arg4 harg4 arg5 harg5 arg6 harg6 arg7 harg7 arg8 harg8 arg9 harg9 f1 f2 f3 f4 g0 g2 h4 hX) (e_z1 c i arg1 harg1 arg2 harg2 arg3 harg3 arg4 harg4 arg5 harg5 arg6 harg6 arg7 harg7 arg8 harg8 arg9 harg9 f1 f2 f3 f4 g0 g1)
    (fun t r l => (congrArg (fun z => at3 ((sc2).view.read (Elt Ideal) z) t r l) (View.writes_append (Val := Elt Ideal) _ _ _ _)).trans (t7_wn _ _ _ _ _ _ _ _ _ _ _ _ _ _ _ _ _ _ _ _ _ _ _ _ _ _ _ _ _ _ (Z1 c i arg1 harg1 arg2 harg2 arg3 harg3 arg4 harg4 arg5 harg5 arg6 harg6 arg7 harg7 arg8 harg8 arg9 harg9 f1 f2 f3 f4 g0 g1) k0_pay363 (kernelRun.sl.r_7 (F := Ideal) c i arg1 harg1 arg2 harg2 arg3 harg3 arg4 harg4 arg5 harg5 arg6 harg6 arg7 harg7 arg8 harg8 arg9 harg9 f1 g0) (kernelRun.sl.r_17 (F := Ideal) c arg2 arg5 f2 f5) (kernelRun.sl.r_18 (F := Ideal) c i arg1 harg1 arg2 harg2 arg3 harg3 arg4 harg4 arg5 harg5 arg6 harg6 arg7 harg7 arg8 harg8 arg9 harg9 f1 f2 f3 f4 f5 g0) (kernelRun.sl.r_19 (F := Ideal) c i arg1 harg1 arg2 harg2 arg3 harg3 arg4 harg4 arg5 harg5 arg6 harg6 arg7 harg7 arg8 harg8 arg9 harg9 f1 f2 f3 f4 f5 g0) (kernelRun.sl.r_20 (F := Ideal) c arg2 arg5 f2 f5) (kernelRun.sl.r_21 (F := Ideal) c i arg1 harg1 arg2 harg2 arg3 harg3 arg4 harg4 arg5 harg5 arg6 harg6 arg7 harg7 arg8 harg8 arg9 harg9 f1 f2 f3 f4 f5 g0) (kernelRun.sl.r_22 (F := Ideal) c i arg1 harg1 arg2 harg2 arg3 harg3 arg4 harg4 arg5 harg5 arg6 harg6 arg7 harg7 arg8 harg8 arg9 harg9 f1 f2 f3 f4 f5 g0) 0#32 16#32 (at2 (kernelRun.sl.r_17 (F := Ideal) c arg2 arg5 f2 f5) 0) (at2 (kernelRun.sl.r_18 (F := Ideal) c i arg1 harg1 arg2 harg2 arg3 harg3 arg4 harg4 arg5 harg5 arg6 harg6 arg7 harg7 arg8 harg8 arg9 harg9 f1 f2 f3 f4 f5 g0) 0) (at2 (kernelRun.sl.r_19 (F := Ideal) c i arg1 harg1 arg2 harg2 arg3 harg3 arg4 harg4 arg5 harg5 arg6 harg6 arg7 harg7 arg8 harg8 arg9 harg9 f1 f2 f3 f4 f5 g0) 0) (fun r l => p399 _ _ r l) (fun r l => p400 _ _ _ _ _ r l) (fun r l => p401 _ _ _ _ _ _ r l) (Z2 c i arg1 harg1 arg2 harg2 arg3 harg3 arg4 harg4 arg5 harg5 arg6 harg6 arg7 harg7 arg8 harg8 arg9 harg9 f1 f2 f3 f4 g0 g2) t r l 16 le_rfl))
    (fun t r l => (congrArg (fun z => at3 ((sc2).view.read (Elt Ideal) z) t r l) (View.writes_append (Val := Elt Ideal) _ _ _ _)).trans (t8_wn _ _ _ _ _ _ _ _ _ _ _ _ _ _ _ _ _ _ _ _ _ _ _ _ _ _ _ _ _ _ (Z1 c i arg1 harg1 arg2 harg2 arg3 harg3 arg4 harg4 arg5 harg5 arg6 harg6 arg7 harg7 arg8 harg8 arg9 harg9 f1 f2 f3 f4 g0 g1) k0_pay363 (kernelRun.sl.r_7 (F := Ideal) c i arg1 harg1 arg2 harg2 arg3 harg3 arg4 harg4 arg5 harg5 arg6 harg6 arg7 harg7 arg8 harg8 arg9 harg9 f1 g0) (kernelRun.sl.r_17 (F := Ideal) c arg2 arg5 f2 f5) (kernelRun.sl.r_18 (F := Ideal) c i arg1 harg1 arg2 harg2 arg3 harg3 arg4 harg4 arg5 harg5 arg6 harg6 arg7 harg7 arg8 harg8 arg9 harg9 f1 f2 f3 f4 f5 g0) (kernelRun.sl.r_19 (F := Ideal) c i arg1 harg1 arg2 harg2 arg3 harg3 arg4 harg4 arg5 harg5 arg6 harg6 arg7 harg7 arg8 harg8 arg9 harg9 f1 f2 f3 f4 f5 g0) (kernelRun.sl.r_20 (F := Ideal) c arg2 arg5 f2 f5) (kernelRun.sl.r_21 (F := Ideal) c i arg1 harg1 arg2 harg2 arg3 harg3 arg4 harg4 arg5 harg5 arg6 harg6 arg7 harg7 arg8 harg8 arg9 harg9 f1 f2 f3 f4 f5 g0) (kernelRun.sl.r_22 (F := Ideal) c i arg1 harg1 arg2 harg2 arg3 harg3 arg4 harg4 arg5 harg5 arg6 harg6 arg7 harg7 arg8 harg8 arg9 harg9 f1 f2 f3 f4 f5 g0) 0#32 16#32 (Z7 c i arg1 harg1 arg2 harg2 arg3 harg3 arg4 harg4 arg5 harg5 arg6 harg6 arg7 harg7 arg8 harg8 arg9 harg9 f1 f2 f3 f4 f5 g0 g1 g2) t r l 16 le_rfl))
    (fun t r l => (congrArg (fun z => at3 ((sc2).view.read (Elt Ideal) z) t r l) (View.writes_append (Val := Elt Ideal) _ _ _ _)).trans (t9_wn _ _ _ _ _ _ _ _ _ _ _ _ _ _ _ _ _ _ _ _ _ _ _ _ _ _ _ _ _ _ (Z1 c i arg1 harg1 arg2 harg2 arg3 harg3 arg4 harg4 arg5 harg5 arg6 harg6 arg7 harg7 arg8 harg8 arg9 harg9 f1 f2 f3 f4 g0 g1) k0_pay363 (kernelRun.sl.r_7 (F := Ideal) c i arg1 harg1 arg2 harg2 arg3 harg3 arg4 harg4 arg5 harg5 arg6 harg6 arg7 harg7 arg8 harg8 arg9 harg9 f1 g0) (kernelRun.sl.r_17 (F := Ideal) c arg2 arg5 f2 f5) (kernelRun.sl.r_18 (F := Ideal) c i arg1 harg1 arg2 harg2 arg3 harg3 arg4 harg4 arg5 harg5 arg6 harg6 arg7 harg7 arg8 harg8 arg9 harg9 f1 f2 f3 f4 f5 g0) (kernelRun.sl.r_19 (F := Ideal) c i arg1 harg1 arg2 harg2 arg3 harg3 arg4 harg4 arg5 harg5 arg6 harg6 arg7 harg7 arg8 harg8 arg9 harg9 f1 f2 f3 f4 f5 g0) (kernelRun.sl.r_20 (F := Ideal) c arg2 arg5 f2 f5) (kernelRun.sl.r_21 (F := Ideal) c i arg1 harg1 arg2 harg2 arg3 harg3 arg4 harg4 arg5 harg5 arg6 harg6 arg7 harg7 arg8 harg8 arg9 harg9 f1 f2 f3 f4 f5 g0) (kernelRun.sl.r_22 (F := Ideal) c i arg1 harg1 arg2 harg2 arg3 harg3 arg4 harg4 arg5 harg5 arg6 harg6 arg7 harg7 arg8 harg8 arg9 harg9 f1 f2 f3 f4 f5 g0) 0#32 16#32 (Z8 c i arg1 harg1 arg2 harg2 arg3 harg3 arg4 harg4 arg5 harg5 arg6 harg6 arg7 harg7 arg8 harg8 arg9 harg9 f1 f2 f3 f4 f5 g0 g1 g2) t r l 8 le_rfl))

theorem e_r23_0 (ch : Fin 384) : (kernelRun.sl.r_23 (F := Ideal) c i arg1 harg1 arg2 harg2 arg3 harg3 arg4 harg4 arg5 harg5 arg6 harg6 arg7 harg7 arg8 harg8 arg9 harg9 f1 f2 f3 f4 f5 g0 g1 g2) (ix2 0 ch) = cmx (fun r ch => av ((fun r ch => wv (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) r ch) ((fun r c => at3 (arg1.view.read (Elt Ideal) f1) 0 r c) r ch) ((at2 (kernelRun.sl.r_17 (F := Ideal) c arg2 arg5 f2 f5) 0) ch) ((at2 (kernelRun.sl.r_18 (F := Ideal) c i arg1 harg1 arg2 harg2 arg3 harg3 arg4 harg4 arg5 harg5 arg6 harg6 arg7 harg7 arg8 harg8 arg9 harg9 f1 f2 f3 f4 f5 g0) 0) ch) ((at2 (kernelRun.sl.r_19 (F := Ideal) c i arg1 harg1 arg2 harg2 arg3 harg3 arg4 harg4 arg5 harg5 arg6 harg6 arg7 harg7 arg8 harg8 arg9 harg9 f1 f2 f3 f4 f5 g0) 0) ch)) r ch)) ch.val * (kernelRun.sl.r_7 (F := Ideal) c i arg1 harg1 arg2 harg2 arg3 harg3 arg4 harg4 arg5 harg5 arg6 harg6 arg7 harg7 arg8 harg8 arg9 harg9 f1 g0) (ix2 0 ch) := by
  unfold kernelRun.sl.r_23
  exact p414 _ _ _ _ (fun r ch => av ((fun r ch => wv (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) r ch) ((fun r c => at3 (arg1.view.read (Elt Ideal) f1) 0 r c) r ch) ((at2 (kernelRun.sl.r_17 (F := Ideal) c arg2 arg5 f2 f5) 0) ch) ((at2 (kernelRun.sl.r_18 (F := Ideal) c i arg1 harg1 arg2 harg2 arg3 harg3 arg4 harg4 arg5 harg5 arg6 harg6 arg7 harg7 arg8 harg8 arg9 harg9 f1 f2 f3 f4 f5 g0) 0) ch) ((at2 (kernelRun.sl.r_19 (F := Ideal) c i arg1 harg1 arg2 harg2 arg3 harg3 arg4 harg4 arg5 harg5 arg6 harg6 arg7 harg7 arg8 harg8 arg9 harg9 f1 f2 f3 f4 f5 g0) 0) ch)) r ch))
    (fun l => (t7_max _ _ _ _ _ _ _ _ _ _ _ _ _ _ _ _ _ _ _ _ _ _ _ _ _ _ _ _ _ _ (Z1 c i arg1 harg1 arg2 harg2 arg3 harg3 arg4 harg4 arg5 harg5 arg6 harg6 arg7 harg7 arg8 harg8 arg9 harg9 f1 f2 f3 f4 g0 g1) k0_pay363 (kernelRun.sl.r_7 (F := Ideal) c i arg1 harg1 arg2 harg2 arg3 harg3 arg4 harg4 arg5 harg5 arg6 harg6 arg7 harg7 arg8 harg8 arg9 harg9 f1 g0) (kernelRun.sl.r_17 (F := Ideal) c arg2 arg5 f2 f5) (kernelRun.sl.r_18 (F := Ideal) c i arg1 harg1 arg2 harg2 arg3 harg3 arg4 harg4 arg5 harg5 arg6 harg6 arg7 harg7 arg8 harg8 arg9 harg9 f1 f2 f3 f4 f5 g0) (kernelRun.sl.r_19 (F := Ideal) c i arg1 harg1 arg2 harg2 arg3 harg3 arg4 harg4 arg5 harg5 arg6 harg6 arg7 harg7 arg8 harg8 arg9 harg9 f1 f2 f3 f4 f5 g0) (kernelRun.sl.r_20 (F := Ideal) c arg2 arg5 f2 f5) (kernelRun.sl.r_21 (F := Ideal) c i arg1 harg1 arg2 harg2 arg3 harg3 arg4 harg4 arg5 harg5 arg6 harg6 arg7 harg7 arg8 harg8 arg9 harg9 f1 f2 f3 f4 f5 g0) (kernelRun.sl.r_22 (F := Ideal) c i arg1 harg1 arg2 harg2 arg3 harg3 arg4 harg4 arg5 harg5 arg6 harg6 arg7 harg7 arg8 harg8 arg9 harg9 f1 f2 f3 f4 f5 g0) 0#32 16#32 (at2 (kernelRun.sl.r_17 (F := Ideal) c arg2 arg5 f2 f5) 0) (at2 (kernelRun.sl.r_18 (F := Ideal) c i arg1 harg1 arg2 harg2 arg3 harg3 arg4 harg4 arg5 harg5 arg6 harg6 arg7 harg7 arg8 harg8 arg9 harg9 f1 f2 f3 f4 f5 g0) 0) (at2 (kernelRun.sl.r_19 (F := Ideal) c i arg1 harg1 arg2 harg2 arg3 harg3 arg4 harg4 arg5 harg5 arg6 harg6 arg7 harg7 arg8 harg8 arg9 harg9 f1 f2 f3 f4 f5 g0) 0) (fun r l => p399 _ _ r l) (fun r l => p400 _ _ _ _ _ r l) (fun r l => p401 _ _ _ _ _ _ r l) (Z2 c i arg1 harg1 arg2 harg2 arg3 harg3 arg4 harg4 arg5 harg5 arg6 harg6 arg7 harg7 arg8 harg8 arg9 harg9 f1 f2 f3 f4 g0 g2) l).trans (congrArg (max 0) (Finset.sup_congr rfl fun r hr => (congrArg av ((e_map c i arg1 harg1 arg2 harg2 arg3 harg3 arg4 harg4 arg5 harg5 arg6 harg6 arg7 harg7 arg8 harg8 arg9 harg9 f1 f2 f3 f4 f5 g0 g1 g2 h4 hX).1 r l.val (Finset.mem_range.1 hr) l.isLt)).trans (tl_map av _ _ _ _).symm)))
    (fun l => (t8_max _ _ _ _ _ _ _ _ _ _ _ _ _ _ _ _ _ _ _ _ _ _ _ _ _ _ _ _ _ _ (Z1 c i arg1 harg1 arg2 harg2 arg3 harg3 arg4 harg4 arg5 harg5 arg6 harg6 arg7 harg7 arg8 harg8 arg9 harg9 f1 f2 f3 f4 g0 g1) k0_pay363 (kernelRun.sl.r_7 (F := Ideal) c i arg1 harg1 arg2 harg2 arg3 harg3 arg4 harg4 arg5 harg5 arg6 harg6 arg7 harg7 arg8 harg8 arg9 harg9 f1 g0) (kernelRun.sl.r_17 (F := Ideal) c arg2 arg5 f2 f5) (kernelRun.sl.r_18 (F := Ideal) c i arg1 harg1 arg2 harg2 arg3 harg3 arg4 harg4 arg5 harg5 arg6 harg6 arg7 harg7 arg8 harg8 arg9 harg9 f1 f2 f3 f4 f5 g0) (kernelRun.sl.r_19 (F := Ideal) c i arg1 harg1 arg2 harg2 arg3 harg3 arg4 harg4 arg5 harg5 arg6 harg6 arg7 harg7 arg8 harg8 arg9 harg9 f1 f2 f3 f4 f5 g0) (kernelRun.sl.r_20 (F := Ideal) c arg2 arg5 f2 f5) (kernelRun.sl.r_21 (F := Ideal) c i arg1 harg1 arg2 harg2 arg3 harg3 arg4 harg4 arg5 harg5 arg6 harg6 arg7 harg7 arg8 harg8 arg9 harg9 f1 f2 f3 f4 f5 g0) (kernelRun.sl.r_22 (F := Ideal) c i arg1 harg1 arg2 harg2 arg3 harg3 arg4 harg4 arg5 harg5 arg6 harg6 arg7 harg7 arg8 harg8 arg9 harg9 f1 f2 f3 f4 f5 g0) 0#32 16#32 (Z7 c i arg1 harg1 arg2 harg2 arg3 harg3 arg4 harg4 arg5 harg5 arg6 harg6 arg7 harg7 arg8 harg8 arg9 harg9 f1 f2 f3 f4 f5 g0 g1 g2) l).trans (congrArg (max 0) (Finset.sup_congr rfl fun r hr => (congrArg av ((e_map c i arg1 harg1 arg2 harg2 arg3 harg3 arg4 harg4 arg5 harg5 arg6 harg6 arg7 harg7 arg8 harg8 arg9 harg9 f1 f2 f3 f4 f5 g0 g1 g2 h4 hX).2.1 r l.val (Finset.mem_range.1 hr) l.isLt)).trans (tl_map av _ _ _ _).symm)))
    (fun l => (t9_max _ _ _ _ _ _ _ _ _ _ _ _ _ _ _ _ _ _ _ _ _ _ _ _ _ _ _ _ _ _ (Z1 c i arg1 harg1 arg2 harg2 arg3 harg3 arg4 harg4 arg5 harg5 arg6 harg6 arg7 harg7 arg8 harg8 arg9 harg9 f1 f2 f3 f4 g0 g1) k0_pay363 (kernelRun.sl.r_7 (F := Ideal) c i arg1 harg1 arg2 harg2 arg3 harg3 arg4 harg4 arg5 harg5 arg6 harg6 arg7 harg7 arg8 harg8 arg9 harg9 f1 g0) (kernelRun.sl.r_17 (F := Ideal) c arg2 arg5 f2 f5) (kernelRun.sl.r_18 (F := Ideal) c i arg1 harg1 arg2 harg2 arg3 harg3 arg4 harg4 arg5 harg5 arg6 harg6 arg7 harg7 arg8 harg8 arg9 harg9 f1 f2 f3 f4 f5 g0) (kernelRun.sl.r_19 (F := Ideal) c i arg1 harg1 arg2 harg2 arg3 harg3 arg4 harg4 arg5 harg5 arg6 harg6 arg7 harg7 arg8 harg8 arg9 harg9 f1 f2 f3 f4 f5 g0) (kernelRun.sl.r_20 (F := Ideal) c arg2 arg5 f2 f5) (kernelRun.sl.r_21 (F := Ideal) c i arg1 harg1 arg2 harg2 arg3 harg3 arg4 harg4 arg5 harg5 arg6 harg6 arg7 harg7 arg8 harg8 arg9 harg9 f1 f2 f3 f4 f5 g0) (kernelRun.sl.r_22 (F := Ideal) c i arg1 harg1 arg2 harg2 arg3 harg3 arg4 harg4 arg5 harg5 arg6 harg6 arg7 harg7 arg8 harg8 arg9 harg9 f1 f2 f3 f4 f5 g0) 0#32 16#32 (Z8 c i arg1 harg1 arg2 harg2 arg3 harg3 arg4 harg4 arg5 harg5 arg6 harg6 arg7 harg7 arg8 harg8 arg9 harg9 f1 f2 f3 f4 f5 g0 g1 g2) l).trans (congrArg (max 0) (Finset.sup_congr rfl fun r hr => (congrArg av ((e_map c i arg1 harg1 arg2 harg2 arg3 harg3 arg4 harg4 arg5 harg5 arg6 harg6 arg7 harg7 arg8 harg8 arg9 harg9 f1 f2 f3 f4 f5 g0 g1 g2 h4 hX).2.2.1 r l.val (Finset.mem_range.1 hr) l.isLt)).trans (tl_map av _ _ _ _).symm))) ch

variable (hS0 : ∀ x, ∃ y : ℝ, ksh (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) x * (fun c => at2 (arg2.view.read (Elt Ideal) f2) 0 c) x = y) (hS1 : ∀ x, ∃ y : ℝ, ksx (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) x * kr (fun r c => at3 (arg1.view.read (Elt Ideal) f1) 0 r c) x * (fun c => at2 (arg2.view.read (Elt Ideal) f2) 0 c) x = y)
include hS0 hS1

theorem e_395_0 (ch : Fin 384) : k0_pay395 (kernelRun.sl.v4 (F := Ideal) c i g0) (kernelRun.sl.r (F := Ideal) c arg2 f2) (kernelRun.sl.r_7 (F := Ideal) c i arg1 harg1 arg2 harg2 arg3 harg3 arg4 harg4 arg5 harg5 arg6 harg6 arg7 harg7 arg8 harg8 arg9 harg9 f1 g0) (kernelRun.sl.r_15 (F := Ideal) c i arg1 harg1 arg2 harg2 arg3 harg3 arg4 harg4 arg5 harg5 arg6 harg6 arg7 harg7 arg8 harg8 arg9 harg9 f1 f2 f3 f4 f5 g0) (kernelRun.sl.r_16 (F := Ideal) c i arg1 harg1 arg2 harg2 arg3 harg3 arg4 harg4 arg5 harg5 arg6 harg6 arg7 harg7 arg8 harg8 arg9 harg9 f1 f2 f3 f4 f5 g0) (ix2 0 ch) = mg0 (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) ch.val :=
  p395_0 _ _ _ _ _ h4 (fun x => ksh (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) x * (fun c => at2 (arg2.view.read (Elt Ideal) f2) 0 c) x) hS0 (fun c' => congrArg₂ (· * ·) (e_r15 c i arg1 harg1 arg2 harg2 arg3 harg3 arg4 harg4 arg5 harg5 arg6 harg6 arg7 harg7 arg8 harg8 arg9 harg9 f1 f2 f3 f4 f5 g0 h4 hX c') (e_r c arg2 f2 c')) ch
theorem e_395_1 (ch : Fin 384) : k0_pay395 (kernelRun.sl.v4 (F := Ideal) c i g0) (kernelRun.sl.r (F := Ideal) c arg2 f2) (kernelRun.sl.r_7 (F := Ideal) c i arg1 harg1 arg2 harg2 arg3 harg3 arg4 harg4 arg5 harg5 arg6 harg6 arg7 harg7 arg8 harg8 arg9 harg9 f1 g0) (kernelRun.sl.r_15 (F := Ideal) c i arg1 harg1 arg2 harg2 arg3 harg3 arg4 harg4 arg5 harg5 arg6 harg6 arg7 harg7 arg8 harg8 arg9 harg9 f1 f2 f3 f4 f5 g0) (kernelRun.sl.r_16 (F := Ideal) c i arg1 harg1 arg2 harg2 arg3 harg3 arg4 harg4 arg5 harg5 arg6 harg6 arg7 harg7 arg8 harg8 arg9 harg9 f1 f2 f3 f4 f5 g0) (ix2 1 ch) = mg1 (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) ch.val :=
  p395_1 _ _ _ _ _ h4 (fun x => ksx (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) x * kr (fun r c => at3 (arg1.view.read (Elt Ideal) f1) 0 r c) x * (fun c => at2 (arg2.view.read (Elt Ideal) f2) 0 c) x) hS1
    (fun c' => congrArg₂ (· * ·) (congrArg₂ (· * ·) (e_r16 c i arg1 harg1 arg2 harg2 arg3 harg3 arg4 harg4 arg5 harg5 arg6 harg6 arg7 harg7 arg8 harg8 arg9 harg9 f1 f2 f3 f4 f5 g0 h4 hX c') (e_r7 c i arg1 harg1 arg2 harg2 arg3 harg3 arg4 harg4 arg5 harg5 arg6 harg6 arg7 harg7 arg8 harg8 arg9 harg9 f1 g0 h4 hX c')) (e_r c arg2 f2 c')) ch
theorem e_r18 (ch : Fin 384) : (kernelRun.sl.r_18 (F := Ideal) c i arg1 harg1 arg2 harg2 arg3 harg3 arg4 harg4 arg5 harg5 arg6 harg6 arg7 harg7 arg8 harg8 arg9 harg9 f1 f2 f3 f4 f5 g0) (ix2 0 ch) = kx (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) ch.val := by
  unfold kernelRun.sl.r_18
  rw [p397, e_395_1 c i arg1 harg1 arg2 harg2 arg3 harg3 arg4 harg4 arg5 harg5 arg6 harg6 arg7 harg7 arg8 harg8 arg9 harg9 f1 f2 f3 f4 f5 g0 h4 hX hS0 hS1, e_r7 c i arg1 harg1 arg2 harg2 arg3 harg3 arg4 harg4 arg5 harg5 arg6 harg6 arg7 harg7 arg8 harg8 arg9 harg9 f1 g0 h4 hX ]
  rfl
theorem e_r19 (ch : Fin 384) : (kernelRun.sl.r_19 (F := Ideal) c i arg1 harg1 arg2 harg2 arg3 harg3 arg4 harg4 arg5 harg5 arg6 harg6 arg7 harg7 arg8 harg8 arg9 harg9 f1 f2 f3 f4 f5 g0) (ix2 0 ch) = kc (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) ch.val := by
  unfold kernelRun.sl.r_19
  rw [p398, e_395_0 c i arg1 harg1 arg2 harg2 arg3 harg3 arg4 harg4 arg5 harg5 arg6 harg6 arg7 harg7 arg8 harg8 arg9 harg9 f1 f2 f3 f4 f5 g0 h4 hX hS0 hS1, e_r6 c i arg1 harg1 arg2 harg2 arg3 harg3 arg4 harg4 arg5 harg5 arg6 harg6 arg7 harg7 arg8 harg8 arg9 harg9 f1 g0 h4 hX ]
  exact congrArg (fun z => mg0 (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) ch.val - km (fun r c => at3 (arg1.view.read (Elt Ideal) f1) 0 r c) ch.val * z) (e_r18 c i arg1 harg1 arg2 harg2 arg3 harg3 arg4 harg4 arg5 harg5 arg6 harg6 arg7 harg7 arg8 harg8 arg9 harg9 f1 f2 f3 f4 f5 g0 h4 hX hS0 hS1 ch)

/-- The stored gradient in the kernel's own terms. -/
theorem e_kw (r ch : ℕ) (hc : ch < 320) : (fun r ch => wv (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) r ch) ((fun r c => at3 (arg1.view.read (Elt Ideal) f1) 0 r c) r ch) ((at2 (kernelRun.sl.r_17 (F := Ideal) c arg2 arg5 f2 f5) 0) ch) ((at2 (kernelRun.sl.r_18 (F := Ideal) c i arg1 harg1 arg2 harg2 arg3 harg3 arg4 harg4 arg5 harg5 arg6 harg6 arg7 harg7 arg8 harg8 arg9 harg9 f1 f2 f3 f4 f5 g0) 0) ch) ((at2 (kernelRun.sl.r_19 (F := Ideal) c i arg1 harg1 arg2 harg2 arg3 harg3 arg4 harg4 arg5 harg5 arg6 harg6 arg7 harg7 arg8 harg8 arg9 harg9 f1 f2 f3 f4 f5 g0) 0) ch)) r ch = (kw (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5)) r ch := by
  have a17 := (at2_ix (kernelRun.sl.r_17 (F := Ideal) c arg2 arg5 f2 f5) 0 ⟨ch, by omega⟩).symm.trans (e_r17 c arg2 arg5 f2 f5 ⟨ch, by omega⟩)
  have a18 := (at2_ix (kernelRun.sl.r_18 (F := Ideal) c i arg1 harg1 arg2 harg2 arg3 harg3 arg4 harg4 arg5 harg5 arg6 harg6 arg7 harg7 arg8 harg8 arg9 harg9 f1 f2 f3 f4 f5 g0) 0 ⟨ch, by omega⟩).symm.trans (e_r18 c i arg1 harg1 arg2 harg2 arg3 harg3 arg4 harg4 arg5 harg5 arg6 harg6 arg7 harg7 arg8 harg8 arg9 harg9 f1 f2 f3 f4 f5 g0 h4 hX hS0 hS1 ⟨ch, by omega⟩)
  have a19 := (at2_ix (kernelRun.sl.r_19 (F := Ideal) c i arg1 harg1 arg2 harg2 arg3 harg3 arg4 harg4 arg5 harg5 arg6 harg6 arg7 harg7 arg8 harg8 arg9 harg9 f1 f2 f3 f4 f5 g0) 0 ⟨ch, by omega⟩).symm.trans (e_r19 c i arg1 harg1 arg2 harg2 arg3 harg3 arg4 harg4 arg5 harg5 arg6 harg6 arg7 harg7 arg8 harg8 arg9 harg9 f1 f2 f3 f4 f5 g0 h4 hX hS0 hS1 ⟨ch, by omega⟩)
  unfold kw
  exact congr (congr (congrArg (wv _ _) a17) a18) a19

theorem e_r23 (ch : Fin 384) : (kernelRun.sl.r_23 (F := Ideal) c i arg1 harg1 arg2 harg2 arg3 harg3 arg4 harg4 arg5 harg5 arg6 harg6 arg7 harg7 arg8 harg8 arg9 harg9 f1 f2 f3 f4 f5 g0 g1 g2) (ix2 0 ch) = am (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) ch.val := by
  rw [e_r23_0 c i arg1 harg1 arg2 harg2 arg3 harg3 arg4 harg4 arg5 harg5 arg6 harg6 arg7 harg7 arg8 harg8 arg9 harg9 f1 f2 f3 f4 f5 g0 g1 g2 h4 hX ch, e_r7 c i arg1 harg1 arg2 harg2 arg3 harg3 arg4 harg4 arg5 harg5 arg6 harg6 arg7 harg7 arg8 harg8 arg9 harg9 f1 g0 h4 hX ch]
  unfold am
  rw [cmx_congr _ (fun r ch => av ((kw (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5)) r ch)) fun r ch hc => congrArg av (e_kw c i arg1 harg1 arg2 harg2 arg3 harg3 arg4 harg4 arg5 harg5 arg6 harg6 arg7 harg7 arg8 harg8 arg9 harg9 f1 f2 f3 f4 f5 g0 h4 hX hS0 hS1 r ch hc)]

theorem e_r24 (hS2 : ∀ x, ∃ y : ℝ, am (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) x = y) (j : Fin 252) (ch : Fin 384) : (kernelRun.sl.r_24 (F := Ideal) c i arg1 harg1 arg2 harg2 arg3 harg3 arg4 harg4 arg5 harg5 arg6 harg6 arg7 harg7 arg8 harg8 arg9 harg9 f1 f2 f3 f4 f5 g0 g1 g2) (ix2 j ch)
    = if (((2 : ℝ) ^ ((j.val : ℤ) - 126) : ℝ) : EReal) ≤ gmx (am (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5)) ch.val * Ideal.ofBits FTy.f32 0x37924925#32 then 1#32 else 0#32 := by
  unfold kernelRun.sl.r_24
  have h208 : ∀ (j : Fin 16) (c : Fin 384), kernelRun.sl.v208 (ix2 j c) = BitVec.ofNat 32 j.val := fun j c => by pointwise [kernelRun.sl.v208]
  have h3 : ∀ c : Fin 384, kernelRun.sl.v3 (ix2 0 c) = BitVec.ofNat 32 c.val := fun c => by pointwise [kernelRun.sl.v3]
  exact p416 _ h4 _ h3 _ h208 _ (am (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5)) hS2 (e_r23 c i arg1 harg1 arg2 harg2 arg3 harg3 arg4 harg4 arg5 harg5 arg6 harg6 arg7 harg7 arg8 harg8 arg9 harg9 f1 f2 f3 f4 f5 g0 g1 g2 h4 hX hS0 hS1) j ch

theorem e_419 (hS2 : ∀ x, ∃ y : ℝ, am (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) x = y) (ch : Fin 384) : k0_pay419 (kernelRun.sl.r_7 (F := Ideal) c i arg1 harg1 arg2 harg2 arg3 harg3 arg4 harg4 arg5 harg5 arg6 harg6 arg7 harg7 arg8 harg8 arg9 harg9 f1 g0) (kernelRun.sl.r_24 (F := Ideal) c i arg1 harg1 arg2 harg2 arg3 harg3 arg4 harg4 arg5 harg5 arg6 harg6 arg7 harg7 arg8 harg8 arg9 harg9 f1 f2 f3 f4 f5 g0 g1 g2) (ix2 0 ch)
    = kr (fun r c => at3 (arg1.view.read (Elt Ideal) f1) 0 r c) ch.val * (((2 : ℝ) ^ (-kexp (gmx (am (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5)) ch.val * Ideal.ofBits FTy.f32 0x37924925#32)) : ℝ) : EReal) := by
  rw [p419 _ _ ch _ (fun j => e_r24 c i arg1 harg1 arg2 harg2 arg3 harg3 arg4 harg4 arg5 harg5 arg6 harg6 arg7 harg7 arg8 harg8 arg9 harg9 f1 f2 f3 f4 f5 g0 g1 g2 h4 hX hS0 hS1 hS2 j ch), e_r7 c i arg1 harg1 arg2 harg2 arg3 harg3 arg4 harg4 arg5 harg5 arg6 harg6 arg7 harg7 arg8 harg8 arg9 harg9 f1 g0 h4 hX ]

/-- The codes the body leaves. -/
theorem e_code (hS2 : ∀ x, ∃ y : ℝ, am (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) x = y) (a0 a1 a2 : BitVec 32) (G6 : BufTy.Contents (Elt Ideal) arg6.view.ty) (r ch : ℕ) (hr : r < 4096) (hc : ch < 320) :
    at3 (arg6.view.read (Elt Ideal) (arg6.view.writes (Elt Ideal) G6
      (pb_k0_t12 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) a2 (kernelRun.sl.r_7 (F := Ideal) c i arg1 harg1 arg2 harg2 arg3 harg3 arg4 harg4 arg5 harg5 arg6 harg6 arg7 harg7 arg8 harg8 arg9 harg9 f1 g0) (kernelRun.sl.r_24 (F := Ideal) c i arg1 harg1 arg2 harg2 arg3 harg3 arg4 harg4 arg5 harg5 arg6 harg6 arg7 harg7 arg8 harg8 arg9 harg9 f1 f2 f3 f4 f5 g0 g1 g2) (Z9 c i arg1 harg1 arg2 harg2 arg3 harg3 arg4 harg4 arg5 harg5 arg6 harg6 arg7 harg7 arg8 harg8 arg9 harg9 f1 f2 f3 f4 f5 g0 g1 g2) (Scf.trips k0_t12_loop.lb k0_t12_loop.ub k0_t12_loop.st)
        ++ (pb_k0_t11 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) a1 (kernelRun.sl.r_7 (F := Ideal) c i arg1 harg1 arg2 harg2 arg3 harg3 arg4 harg4 arg5 harg5 arg6 harg6 arg7 harg7 arg8 harg8 arg9 harg9 f1 g0) (kernelRun.sl.r_24 (F := Ideal) c i arg1 harg1 arg2 harg2 arg3 harg3 arg4 harg4 arg5 harg5 arg6 harg6 arg7 harg7 arg8 harg8 arg9 harg9 f1 f2 f3 f4 f5 g0 g1 g2) (Z9 c i arg1 harg1 arg2 harg2 arg3 harg3 arg4 harg4 arg5 harg5 arg6 harg6 arg7 harg7 arg8 harg8 arg9 harg9 f1 f2 f3 f4 f5 g0 g1 g2) (Scf.trips k0_t11_loop.lb k0_t11_loop.ub k0_t11_loop.st)
          ++ pb_k0_t10 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) a0 (kernelRun.sl.r_7 (F := Ideal) c i arg1 harg1 arg2 harg2 arg3 harg3 arg4 harg4 arg5 harg5 arg6 harg6 arg7 harg7 arg8 harg8 arg9 harg9 f1 g0) (kernelRun.sl.r_24 (F := Ideal) c i arg1 harg1 arg2 harg2 arg3 harg3 arg4 harg4 arg5 harg5 arg6 harg6 arg7 harg7 arg8 harg8 arg9 harg9 f1 f2 f3 f4 f5 g0 g1 g2) (Z9 c i arg1 harg1 arg2 harg2 arg3 harg3 arg4 harg4 arg5 harg5 arg6 harg6 arg7 harg7 arg8 harg8 arg9 harg9 f1 f2 f3 f4 f5 g0 g1 g2) (Scf.trips k0_t10_loop.lb k0_t10_loop.ub k0_t10_loop.st))))) 0 r ch = kcode (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) (kernelRun.sl.r_14 (F := Ideal) c arg5 f5) r ch := by
  have h10 : ∀ t r ch, _ := fun t r ch => (congrArg (fun M => at3 (arg6.view.read (Elt Ideal) (arg6.view.writes (Elt Ideal) G6 M)) t r ch)
      (List.append_nil (pb_k0_t10 (F := Ideal) Variants.none c none i arg1 harg1 arg2 harg2 arg3 harg3 arg4 harg4 arg5 harg5 arg6 harg6 arg7 harg7 arg8 harg8 arg9 harg9 sc0 (Memref.isWhole_whole _) sc1 (Memref.isWhole_whole _) sc2 (Memref.isWhole_whole _) sc3 (Memref.isWhole_whole _) a0 (kernelRun.sl.r_7 (F := Ideal) c i arg1 harg1 arg2 harg2 arg3 harg3 arg4 harg4 arg5 harg5 arg6 harg6 arg7 harg7 arg8 harg8 arg9 harg9 f1 g0) (kernelRun.sl.r_24 (F := Ideal) c i arg1 harg1 arg2 harg2 arg3 harg3 arg4 harg4 arg5 harg5 arg6 harg6 arg7 harg7 arg8 harg8 arg9 harg9 f1 f2 f3 f4 f5 g0 g1 g2) (Z9 c i arg1 harg1 arg2 harg2 arg3 harg3 arg4 harg4 arg5 harg5 arg6 harg6 arg7 harg7 arg8 harg8 arg9 harg9 f1 f2 f3 f4 f5 g0 g1 g2) (Scf.trips k0_t10_loop.lb k0_t10_loop.ub k0_t10_loop.st))).symm).trans (t10_w6 _ _ _ _ _ _ _ _ _ _ _ _ _ _ _ _ _ _ _ _ _ _ _ _ _ _ _ _ _ _ (Z9 c i arg1 harg1 arg2 harg2 arg3 harg3 arg4 harg4 arg5 harg5 arg6 harg6 arg7 harg7 arg8 harg8 arg9 harg9 f1 f2 f3 f4 f5 g0 g1 g2) a0 (kernelRun.sl.r_7 (F := Ideal) c i arg1 harg1 arg2 harg2 arg3 harg3 arg4 harg4 arg5 harg5 arg6 harg6 arg7 harg7 arg8 harg8 arg9 harg9 f1 g0) (kernelRun.sl.r_24 (F := Ideal) c i arg1 harg1 arg2 harg2 arg3 harg3 arg4 harg4 arg5 harg5 arg6 harg6 arg7 harg7 arg8 harg8 arg9 harg9 f1 f2 f3 f4 f5 g0 g1 g2) G6 [] t r ch)
  refine (code3 _ _ _ _ (at3 ((sc2).view.read (Elt Ideal) (Z9 c i arg1 harg1 arg2 harg2 arg3 harg3 arg4 harg4 arg5 harg5 arg6 harg6 arg7 harg7 arg8 harg8 arg9 harg9 f1 f2 f3 f4 f5 g0 g1 g2))) (fun r ch => wv (kp (fun r c => at3 (arg1.view.read (Elt Ideal) f1) 0 r c) (fun r c => at3 (arg4.view.read (Elt Ideal) f4) 0 r c) (fun c => at2 (arg2.view.read (Elt Ideal) f2) 0 c) (fun c => at2 (arg3.view.read (Elt Ideal) f3) 0 c) r ch) ((fun r c => at3 (arg1.view.read (Elt Ideal) f1) 0 r c) r ch) ((at2 (kernelRun.sl.r_17 (F := Ideal) c arg2 arg5 f2 f5) 0) ch) ((at2 (kernelRun.sl.r_18 (F := Ideal) c i arg1 harg1 arg2 harg2 arg3 harg3 arg4 harg4 arg5 harg5 arg6 harg6 arg7 harg7 arg8 harg8 arg9 harg9 f1 f2 f3 f4 f5 g0) 0) ch) ((at2 (kernelRun.sl.r_19 (F := Ideal) c i arg1 harg1 arg2 harg2 arg3 harg3 arg4 harg4 arg5 harg5 arg6 harg6 arg7 harg7 arg8 harg8 arg9 harg9 f1 f2 f3 f4 f5 g0) 0) ch)) (at2 (k0_pay419 (kernelRun.sl.r_7 (F := Ideal) c i arg1 harg1 arg2 harg2 arg3 harg3 arg4 harg4 arg5 harg5 arg6 harg6 arg7 harg7 arg8 harg8 arg9 harg9 f1 g0) (kernelRun.sl.r_24 (F := Ideal) c i arg1 harg1 arg2 harg2 arg3 harg3 arg4 harg4 arg5 harg5 arg6 harg6 arg7 harg7 arg8 harg8 arg9 harg9 f1 f2 f3 f4 f5 g0 g1 g2)) 0) (e_map c i arg1 harg1 arg2 harg2 arg3 harg3 arg4 harg4 arg5 harg5 arg6 harg6 arg7 harg7 arg8 harg8 arg9 harg9 f1 f2 f3 f4 f5 g0 g1 g2 h4 hX).2.2.2
    h10 (fun t r ch => t11_w6 _ _ _ _ _ _ _ _ _ _ _ _ _ _ _ _ _ _ _ _ _ _ _ _ _ _ _ _ _ _ (Z9 c i arg1 harg1 arg2 harg2 arg3 harg3 arg4 harg4 arg5 harg5 arg6 harg6 arg7 harg7 arg8 harg8 arg9 harg9 f1 f2 f3 f4 f5 g0 g1 g2) a1 (kernelRun.sl.r_7 (F := Ideal) c i arg1 harg1 arg2 harg2 arg3 harg3 arg4 harg4 arg5 harg5 arg6 harg6 arg7 harg7 arg8 harg8 arg9 harg9 f1 g0) (kernelRun.sl.r_24 (F := Ideal) c i arg1 harg1 arg2 harg2 arg3 harg3 arg4 harg4 arg5 harg5 arg6 harg6 arg7 harg7 arg8 harg8 arg9 harg9 f1 f2 f3 f4 f5 g0 g1 g2) G6 _ t r ch) (fun t r ch => t12_w6 _ _ _ _ _ _ _ _ _ _ _ _ _ _ _ _ _ _ _ _ _ _ _ _ _ _ _ _ _ _ (Z9 c i arg1 harg1 arg2 harg2 arg3 harg3 arg4 harg4 arg5 harg5 arg6 harg6 arg7 harg7 arg8 harg8 arg9 harg9 f1 f2 f3 f4 f5 g0 g1 g2) a2 (kernelRun.sl.r_7 (F := Ideal) c i arg1 harg1 arg2 harg2 arg3 harg3 arg4 harg4 arg5 harg5 arg6 harg6 arg7 harg7 arg8 harg8 arg9 harg9 f1 g0) (kernelRun.sl.r_24 (F := Ideal) c i arg1 harg1 arg2 harg2 arg3 harg3 arg4 harg4 arg5 harg5 arg6 harg6 arg7 harg7 arg8 harg8 arg9 harg9 f1 f2 f3 f4 f5 g0 g1 g2) G6 _ t r ch) r ch hr hc).trans ?_
  unfold kcode
  exact congrArg₂ cv (e_kw c i arg1 harg1 arg2 harg2 arg3 harg3 arg4 harg4 arg5 harg5 arg6 harg6 arg7 harg7 arg8 harg8 arg9 harg9 f1 f2 f3 f4 f5 g0 h4 hX hS0 hS1 r ch hc)
    ((at2_ix (k0_pay419 (kernelRun.sl.r_7 (F := Ideal) c i arg1 harg1 arg2 harg2 arg3 harg3 arg4 harg4 arg5 harg5 arg6 harg6 arg7 harg7 arg8 harg8 arg9 harg9 f1 g0) (kernelRun.sl.r_24 (F := Ideal) c i arg1 harg1 arg2 harg2 arg3 harg3 arg4 harg4 arg5 harg5 arg6 harg6 arg7 harg7 arg8 harg8 arg9 harg9 f1 f2 f3 f4 f5 g0 g1 g2)) 0 ⟨ch, by omega⟩).symm.trans (e_419 c i arg1 harg1 arg2 harg2 arg3 harg3 arg4 harg4 arg5 harg5 arg6 harg6 arg7 harg7 arg8 harg8 arg9 harg9 f1 f2 f3 f4 f5 g0 g1 g2 h4 hX hS0 hS1 hS2 ⟨ch, by omega⟩))

end Cert.KernelIdeal.Hand
-- ==== Proof.VRun.lean ====
module

public import proofs.«01_k».proof.Proof.VBody
public import proofs.«01_k».proof.Proof.VBody2
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Nat
/-- The group indicator as the first scratch buffer's contents. -/
def pindv : S384x384.Idx → Elt Ideal .bf16 := fun y => pind (y 0).val (y 1).val

/-- What a grid point leaves of the gamma gradient, from the point's blocks and what the buffer held. -/
def outg (i : grid0.Coords) (X1 : S1x4096x320.Idx → Elt Ideal .bf16) (X2 X3 : S1x320.Idx → Elt Ideal .f32) (X4 : S1x4096x320.Idx → Elt Ideal .fp8e5m2)
    (X5 : S1x1.Idx → Elt Ideal .f32) (X8 : S1x320.Idx → Elt Ideal .f32) : S1x320.Idx → Elt Ideal .f32 := fun y =>
  ((if (i 0).val = 0 then 0 else X8 y : EReal)
    + ksx (fun r l => at3 X1 0 r l) (fun r l => at3 X4 0 r l) (fun l => at2 X2 0 l) (fun l => at2 X3 0 l) (X5 (ix2 0 0)) (y 1).val * kr (fun r l => at3 X1 0 r l) (y 1).val : EReal)
/-- The same for the beta gradient. -/
def outb (i : grid0.Coords) (X1 : S1x4096x320.Idx → Elt Ideal .bf16) (X2 X3 : S1x320.Idx → Elt Ideal .f32) (X4 : S1x4096x320.Idx → Elt Ideal .fp8e5m2)
    (X5 : S1x1.Idx → Elt Ideal .f32) (X8 : S1x320.Idx → Elt Ideal .f32) : S1x320.Idx → Elt Ideal .f32 := fun y =>
  ((if (i 0).val = 0 then 0 else X8 y : EReal)
    + ksh (fun r l => at3 X1 0 r l) (fun r l => at3 X4 0 r l) (fun l => at2 X2 0 l) (fun l => at2 X3 0 l) (X5 (ix2 0 0)) (y 1).val : EReal)

/-- The codes a grid point stores, from the point's blocks. -/
def outc (X1 : S1x4096x320.Idx → Elt Ideal .bf16) (X2 X3 : S1x320.Idx → Elt Ideal .f32) (X4 : S1x4096x320.Idx → Elt Ideal .fp8e5m2)
    (X5 : S1x1.Idx → Elt Ideal .f32) : S1x4096x320.Idx → Elt Ideal .fp8e5m2 := fun y =>
  (kcode (fun r l => at3 X1 0 r l) (fun r l => at3 X4 0 r l) (fun l => at2 X2 0 l) (fun l => at2 X3 0 l) (X5 (ix2 0 0)) (y 1).val (y 2).val : EReal)

theorem ix3_row (y : S1x4096x320.Idx) : y = ix3 0 (y 1) (y 2) := by
  funext a
  fin_cases a
  · exact Fin.ext (by have h := (y 0).isLt; change (y 0).val < 1 at h; show (y 0).val = 0; omega)
  · rfl
  · rfl

theorem codes_ext (x : S1x4096x320.Idx → Elt Ideal .fp8e5m2) (X1 : S1x4096x320.Idx → Elt Ideal .bf16) (X2 X3 : S1x320.Idx → Elt Ideal .f32) (X4 : S1x4096x320.Idx → Elt Ideal .fp8e5m2)
    (X5 : S1x1.Idx → Elt Ideal .f32) (h : ∀ r l : ℕ, r < 4096 → l < 320 → at3 (A := 1) (B := 4096) (C := 320) x 0 r l
      = kcode (fun r l => at3 X1 0 r l) (fun r l => at3 X4 0 r l) (fun l => at2 X2 0 l) (fun l => at2 X3 0 l) (X5 (ix2 0 0)) r l) : x = outc X1 X2 X3 X4 X5 := by
  funext y
  rw [ix3_row y]
  exact (at3_ix (A := 1) (B := 4096) (C := 320) x 0 (y 1) (y 2)).trans (h _ _ (y 1).isLt (y 2).isLt)

/-- What the second half of the body asks of its blocks: the sums that make the coefficients, and the scaled maxima, are real. -/
def Sums (X1 : S1x4096x320.Idx → Elt Ideal .bf16) (X2 X3 : S1x320.Idx → Elt Ideal .f32) (X4 : S1x4096x320.Idx → Elt Ideal .fp8e5m2) (X5 : S1x1.Idx → Elt Ideal .f32) : Prop :=
  (∀ x, ∃ y : ℝ, ksh (fun r l => at3 X1 0 r l) (fun r l => at3 X4 0 r l) (fun l => at2 X2 0 l) (fun l => at2 X3 0 l) (X5 (ix2 0 0)) x * at2 X2 0 x = y)
  ∧ (∀ x, ∃ y : ℝ, ksx (fun r l => at3 X1 0 r l) (fun r l => at3 X4 0 r l) (fun l => at2 X2 0 l) (fun l => at2 X3 0 l) (X5 (ix2 0 0)) x
      * kr (fun r l => at3 X1 0 r l) x * at2 X2 0 x = y)
  ∧ ∀ x, ∃ y : ℝ, am (fun r l => at3 X1 0 r l) (fun r l => at3 X4 0 r l) (fun l => at2 X2 0 l) (fun l => at2 X3 0 l) (X5 (ix2 0 0)) x = y

theorem ix2_self (y : S384x384.Idx) : y = ix2 (y 0) (y 1) := by
  funext a; fin_cases a <;> rfl
theorem ix2_row (y : S1x320.Idx) : y = ix2 0 (y 1) := by
  funext a
  fin_cases a
  · exact Fin.ext (by have h := (y 0).isLt; change (y 0).val < 1 at h; show (y 0).val = 0; omega)
  · rfl

section
variable (c : Dev nD) (i : grid0.Coords) (arg1 : Memref sig .tc .vmem S1x4096x320 .bf16) (harg1 : arg1.IsWhole) (arg2 : Memref sig .tc .vmem S1x320 .f32) (harg2 : arg2.IsWhole) (arg3 : Memref sig .tc .vmem S1x320 .f32) (harg3 : arg3.IsWhole) (arg4 : Memref sig .tc .vmem S1x4096x320 .fp8e5m2) (harg4 : arg4.IsWhole) (arg5 : Memref sig .tc .smem S1x1 .f32) (harg5 : arg5.IsWhole) (arg6 : Memref sig .tc .vmem S1x4096x320 .fp8e5m2) (harg6 : arg6.IsWhole) (arg7 : Memref sig .tc .vmem S8x32 .f32) (harg7 : arg7.IsWhole) (arg8 : Memref sig .tc .vmem S1x320 .f32) (harg8 : arg8.IsWhole) (arg9 : Memref sig .tc .vmem S1x320 .f32) (harg9 : arg9.IsWhole)
variable (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f8 : BufTy.Contents (Elt Ideal) arg8.view.ty) (f9 : BufTy.Contents (Elt Ideal) arg9.view.ty) (g0 : BufTy.Contents (Elt Ideal) (sc0).view.ty)

theorem h4_of (hP : (i 0).val = 0 ∨ (sc0).view.read (Elt Ideal) g0 = pindv) (a b : Fin 384) : (kernelRun.sl.v4 (F := Ideal) c i g0) (ix2 a b) = pind a.val b.val := by
  unfold kernelRun.sl.v4
  refine (readAt_full2 _ _ _ _ _).trans ?_
  split
  · exact (read_full2 _ _ _ _ _ _).trans (pind_eq a b)
  · rename_i h
    rcases hP with h0 | h0
    · exact absurd ((first_iff i).2 h0) h
    · rw [h0]; rfl

theorem pind_of (hP : (i 0).val = 0 ∨ (sc0).view.read (Elt Ideal) g0 = pindv) :
    (sc0).view.read (Elt Ideal) (if kernelRun.sl.v2 i = 1#1 then (sc0).view.writes (Elt Ideal) g0 [⟨Rect.unit (s := S384x384) ![0, 0] S384x384.size inb_S384x384_S384x384_0_0,
      k0_pay357 (F := Ideal) kernelRun.sl.v299 kernelRun.sl.v300 kernelRun.sl.v324 (divsi kernelRun.sl.v300 kernelRun.sl.v301) (andi kernelRun.sl.v340 kernelRun.sl.v344)⟩] else g0) = pindv := by
  funext y
  rw [ix2_self y]
  split
  · exact (read_full2 _ _ _ _ _ _).trans (pind_eq _ _)
  · rename_i h
    rcases hP with h0 | h0
    · exact absurd ((first_iff i).2 h0) h
    · rw [h0]

theorem r14_eq : kernelRun.sl.r_14 (F := Ideal) c arg5 f5 = arg5.view.read (Elt Ideal) f5 (ix2 0 0) := by
  unfold kernelRun.sl.r_14
  refine congrArg (arg5.view.read (Elt Ideal) f5) (funext fun a => Fin.ext ?_)
  fin_cases a <;> rfl

variable (h4 : ∀ a b : Fin 384, (kernelRun.sl.v4 (F := Ideal) c i g0) (ix2 a b) = pind a.val b.val) (hX : ∀ r c, ∃ y : ℝ, at3 (arg1.view.read (Elt Ideal) f1) 0 r c = y)
include h4 hX
theorem e_dgv : arg8.view.read (Elt Ideal) (arg8.view.writes (Elt Ideal) arg8.view.junk (kernelRun.sl.H8_1 (F := Ideal) c i arg1 harg1 arg2 harg2 arg3 harg3 arg4 harg4 arg5 harg5 arg6 harg6 arg7 harg7 arg8 harg8 arg9 harg9 f1 f2 f3 f4 f5 f8 g0))
    = outg i (arg1.view.read (Elt Ideal) f1) (arg2.view.read (Elt Ideal) f2) (arg3.view.read (Elt Ideal) f3) (arg4.view.read (Elt Ideal) f4) (arg5.view.read (Elt Ideal) f5) (arg8.view.read (Elt Ideal) f8) := by
  funext y
  rw [ix2_row y]
  refine (e_dg c i arg1 harg1 arg2 harg2 arg3 harg3 arg4 harg4 arg5 harg5 arg6 harg6 arg7 harg7 arg8 harg8 arg9 harg9 f1 f2 f3 f4 f5 f8 g0 h4 hX (y 1)).trans ?_
  unfold outg
  rw [r14_eq]
  simp only [first_iff]
  rfl
theorem e_dbv : arg9.view.read (Elt Ideal) (arg9.view.writes (Elt Ideal) arg9.view.junk (kernelRun.sl.H9_1 (F := Ideal) c i arg1 harg1 arg2 harg2 arg3 harg3 arg4 harg4 arg5 harg5 arg6 harg6 arg7 harg7 arg8 harg8 arg9 harg9 f1 f2 f3 f4 f5 f9 g0))
    = outb i (arg1.view.read (Elt Ideal) f1) (arg2.view.read (Elt Ideal) f2) (arg3.view.read (Elt Ideal) f3) (arg4.view.read (Elt Ideal) f4) (arg5.view.read (Elt Ideal) f5) (arg9.view.read (Elt Ideal) f9) := by
  funext y
  rw [ix2_row y]
  refine (e_db c i arg1 harg1 arg2 harg2 arg3 harg3 arg4 harg4 arg5 harg5 arg6 harg6 arg7 harg7 arg8 harg8 arg9 harg9 f1 f2 f3 f4 f5 f9 g0 h4 hX (y 1)).trans ?_
  unfold outb
  rw [r14_eq]
  simp only [first_iff]
  rfl
end

set_option maxHeartbeats 2000000 in
/-- The kernel's body runs to its return, for any continuation: from its staging memrefs and scratch buffers at any contents it
    hands every one of them back, the inputs at the contents they had. -/
theorem kernelRunV (c : Dev nD) (i : grid0.Coords)
    (arg1 : Memref sig .tc .vmem S1x4096x320 .bf16) (harg1 : arg1.IsWhole) (arg2 : Memref sig .tc .vmem S1x320 .f32) (harg2 : arg2.IsWhole)
    (arg3 : Memref sig .tc .vmem S1x320 .f32) (harg3 : arg3.IsWhole) (arg4 : Memref sig .tc .vmem S1x4096x320 .fp8e5m2) (harg4 : arg4.IsWhole)
    (arg5 : Memref sig .tc .smem S1x1 .f32) (harg5 : arg5.IsWhole) (arg6 : Memref sig .tc .vmem S1x4096x320 .fp8e5m2) (harg6 : arg6.IsWhole)
    (arg7 : Memref sig .tc .vmem S8x32 .f32) (harg7 : arg7.IsWhole) (arg8 : Memref sig .tc .vmem S1x320 .f32) (harg8 : arg8.IsWhole)
    (arg9 : Memref sig .tc .vmem S1x320 .f32) (harg9 : arg9.IsWhole)
    (X1 : S1x4096x320.Idx → Elt Ideal .bf16) (X2 X3 : S1x320.Idx → Elt Ideal .f32) (X4 : S1x4096x320.Idx → Elt Ideal .fp8e5m2) (X5 : S1x1.Idx → Elt Ideal .f32)
    (X8 X9 : S1x320.Idx → Elt Ideal .f32) (P : S384x384.Idx → Elt Ideal .bf16)
    (hX : ∀ r l, ∃ y : ℝ, at3 X1 0 r l = y) (hS : Sums X1 X2 X3 X4 X5) (hP : (i 0).val = 0 ∨ P = pindv) (K : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5
        ∗ (∃ d, owns (c : Thread nD τ) arg6 fullShare d) ∗ (∃ d, owns (c : Thread nD τ) arg7 fullShare d)
        ∗ owns (c : Thread nD τ) arg8 fullShare X8 ∗ owns (c : Thread nD τ) arg9 fullShare X9
        ∗ owns (c : Thread nD τ) sc0 fullShare P ∗ (∃ d, owns (c : Thread nD τ) sc1 fullShare d)
        ∗ (∃ d, owns (c : Thread nD τ) sc2 fullShare d) ∗ (∃ d, owns (c : Thread nD τ) sc3 fullShare d)
        ∗ (iprop(owns (c : Thread nD τ) arg1 fullShare X1 ∗ owns (c : Thread nD τ) arg2 fullShare X2 ∗ owns (c : Thread nD τ) arg3 fullShare X3
            ∗ owns (c : Thread nD τ) arg4 fullShare X4 ∗ owns (c : Thread nD τ) arg5 fullShare X5
            ∗ owns (c : Thread nD τ) arg6 fullShare (outc X1 X2 X3 X4 X5) ∗ (∃ d, owns (c : Thread nD τ) arg7 fullShare d)
            ∗ owns (c : Thread nD τ) arg8 fullShare (outg i X1 X2 X3 X4 X5 X8) ∗ owns (c : Thread nD τ) arg9 fullShare (outb i X1 X2 X3 X4 X5 X9)
            ∗ owns (c : Thread nD τ) sc0 fullShare pindv ∗ (∃ d, owns (c : Thread nD τ) sc1 fullShare d)
            ∗ (∃ d, owns (c : Thread nD τ) sc2 fullShare d) ∗ (∃ d, owns (c : Thread nD τ) sc3 fullShare d)) -∗ K ⟨⟩))
      ⊢ wp frame (wpE (defs₀ (F := Ideal)) Variants.none c none) Set.univ
          (cc0_gn_silu_bwd i arg1 harg1 arg2 harg2 arg3 harg3 arg4 harg4 arg5 harg5 arg6 harg6 arg7 harg7 arg8 harg8 arg9 harg9
            sc0 (Memref.isWhole_whole _) sc1 (Memref.isWhole_whole _) sc2 (Memref.isWhole_whole _) sc3 (Memref.isWhole_whole _)) K := by
  simp only [cc0_gn_silu_bwd_eq_skeleton]; unfold cc0_gn_silu_bwd_skel
  simp only [k0_part65_eq_skeleton, k0_part66_eq_skeleton, k0_part67_eq_skeleton, k0_part68_eq_skeleton, k0_part69_eq_skeleton, k0_part70_eq_skeleton, k0_part71_eq_skeleton]
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%f8, %h8, H8⟩, ⟨%f9, %h9, H9⟩, ⟨%g0, %hg, G0⟩, ⟨%e1, %g1, -, G1⟩, ⟨%e2, %g2, -, G2⟩, ⟨%e3, %g3, -, G3⟩, Hk⟩
  subst h1 h2 h3 h4 h5 h8 h9 hg
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    have hq := r14_eq c arg5 f5
    refine codes_ext _ _ _ _ _ _ fun r l hr hl => ?_
    rw [← hq]
    exact e_code c i arg1 harg1 arg2 harg2 arg3 harg3 arg4 harg4 arg5 harg5 arg6 harg6 arg7 harg7 arg8 harg8 arg9 harg9 f1 f2 f3 f4 f5 g0 g1 g2 (h4_of c i g0 hP) hX (by rw [hq]; exact hS.1) (by rw [hq]; exact hS.2.1)
      (by rw [hq]; exact hS.2.2) _ _ _ f6 r l hr hl
  isplitl [H7]
  · iexists _, _; isplitr; swap; · iexact H7
    ipureintro; rfl
  isplitl [H8]
  · iexists _; isplitr; swap; · iexact H8
    ipureintro; exact e_dgv c i arg1 harg1 arg2 harg2 arg3 harg3 arg4 harg4 arg5 harg5 arg6 harg6 arg7 harg7 arg8 harg8 arg9 harg9 f1 f2 f3 f4 f5 f8 g0 (h4_of c i g0 hP) hX
  isplitl [H9]
  · iexists _; isplitr; swap; · iexact H9
    ipureintro; exact e_dbv c i arg1 harg1 arg2 harg2 arg3 harg3 arg4 harg4 arg5 harg5 arg6 harg6 arg7 harg7 arg8 harg8 arg9 harg9 f1 f2 f3 f4 f5 f9 g0 (h4_of c i g0 hP) hX
  isplitl [G0]
  · iexists _; isplitr; swap; · iexact G0
    ipureintro; exact pind_of i g0 hP
  isplitl [G1]
  · iexists _, _; isplitr; swap; · iexact G1
    ipureintro; rfl
  isplitl [G2]
  · iexists _, _; isplitr; swap; · iexact G2
    ipureintro; rfl
  iexists _, _; isplitr; swap; · iexact G3
  ipureintro; rfl

end Cert.KernelIdeal.Hand

end
-- ==== Proof.VFrame.lean ====
module

public import proofs.«01_k».proof.Proof.VRun
public import proofs.«01_k».proof.Proof.IFrame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Nat Cert.KernelIdeal.Hand

variable (m : (ℓ : Loc nD τ sig) → Buf (Elt Ideal) ℓ) (ρ : Dev nD → PrngReg)

/-- The input windows' blocks at a grid point. -/
abbrev b0 (c : Dev nD) (t : Fin cfg0.N) : S1x4096x320.Idx → Elt Ideal .bf16 := iblk m c 0 t
@[inherit_doc b0] abbrev b1 (c : Dev nD) (t : Fin cfg0.N) : S1x320.Idx → Elt Ideal .f32 := iblk m c 1 t
@[inherit_doc b0] abbrev b2 (c : Dev nD) (t : Fin cfg0.N) : S1x320.Idx → Elt Ideal .f32 := iblk m c 2 t
@[inherit_doc b0] abbrev b3 (c : Dev nD) (t : Fin cfg0.N) : S1x4096x320.Idx → Elt Ideal .fp8e5m2 := iblk m c 3 t
@[inherit_doc b0] abbrev b4 (c : Dev nD) (t : Fin cfg0.N) : S1x1.Idx → Elt Ideal .f32 := iblk m c 4 t

/-- What the body adds to the gamma gradient at a grid point. -/
def ctg (c : Dev nD) (t : Fin cfg0.N) (ch : ℕ) : EReal :=
  ksx (fun r l => at3 (b0 m c t) 0 r l) (fun r l => at3 (b3 m c t) 0 r l) (fun l => at2 (b1 m c t) 0 l) (fun l => at2 (b2 m c t) 0 l) (b4 m c t (ix2 0 0)) ch
    * kr (fun r l => at3 (b0 m c t) 0 r l) ch
/-- What the body adds to the beta gradient at a grid point. -/
def ctb (c : Dev nD) (t : Fin cfg0.N) (ch : ℕ) : EReal :=
  ksh (fun r l => at3 (b0 m c t) 0 r l) (fun r l => at3 (b3 m c t) 0 r l) (fun l => at2 (b1 m c t) 0 l) (fun l => at2 (b2 m c t) 0 l) (b4 m c t (ix2 0 0)) ch

/-- The first `n` grid points' contributions added up. -/
def accg (c : Dev nD) (n : ℕ) (ch : ℕ) : EReal := ∑ b ∈ Finset.range n, if h : b < cfg0.N then ctg m c ⟨b, h⟩ ch else 0
@[inherit_doc accg] def accb (c : Dev nD) (n : ℕ) (ch : ℕ) : EReal := ∑ b ∈ Finset.range n, if h : b < cfg0.N then ctb m c ⟨b, h⟩ ch else 0

/-- The window of the result not claimed: nothing here reads what the kernel leaves in it. -/
def forgetsV : Fin 9 → Bool := fun w => decide (w.val = 6)

/-- What the body leaves in each window: the inputs' own blocks, the point's codes, and in the gradients' windows the sums so far. -/
def afterV (c : Dev nD) : (w : Fin cfg0.W) → (t : Fin cfg0.N) → (cfg0.win w).block.Idx → Elt Ideal (cfg0.win w).elt
  | 0, t => iblk m c 0 t
  | 1, t => iblk m c 1 t
  | 2, t => iblk m c 2 t
  | 3, t => iblk m c 3 t
  | 4, t => iblk m c 4 t
  | 5, t => fun (y : S1x4096x320.Idx) => outc (b0 m c t) (b1 m c t) (b2 m c t) (b3 m c t) (b4 m c t) y
  | 6, t => Pipeline.Dat.unnamed (cfg := cfg0) 6 t
  | 7, t => fun (y : S1x320.Idx) => accg m c (t.val + 1) (y 1).val
  | 8, t => fun (y : S1x320.Idx) => accb m c (t.val + 1) (y 1).val
  | ⟨_ + 9, h⟩, _ => absurd h (Nat.not_lt.2 (Nat.le_add_left _ _))

/-- The scratch buffers after the first point: the first holds the group indicator. -/
def PhiP (c : Dev nD) : sProp 𝕄 :=
  iprop(iprop(owns (c : Thread nD τ) sc0 fullShare pindv ∗ (∃ d, owns (c : Thread nD τ) sc1 fullShare d)
          ∗ (∃ d, owns (c : Thread nD τ) sc2 fullShare d) ∗ (∃ d, owns (c : Thread nD τ) sc3 fullShare d)) ∗ (∃ r, prngReg c r))

/-- The proof data on core `c`: the arrays as the region finds them, and after the first point the group indicator in scratch. -/
def dats (_ : Fin 1) (c : Dev nD) : Dat τ (Elt Ideal) Unit ℕ (UR sig nD τ) ℕ cfg0 c where
  A w := V m c (Pipeline.arrRef spec0 w)
  after := afterV m c
  Φ t := if t.val = 0 then Pipeline.ΦA spec0 c else PhiP c
  q _ := fullShare
  owed _ := 0

theorem A_eq (c : Dev nD) (w : Fin cfg0.W) : (dats m 0 c).A w = V m c (Pipeline.arrRef spec0 w) := by dsimp only [dats]

theorem Phi_of (c : Dev nD) (k : Fin (cfg0.N + 1)) : (dats m 0 c).Φ k = if k.val = 0 then Pipeline.ΦA spec0 c else PhiP c := rfl
theorem Phi_pos (c : Dev nD) (k : Fin (cfg0.N + 1)) (h : k.val ≠ 0) : (dats m 0 c).Φ k = PhiP c := by rw [Phi_of, if_neg h]
theorem Phi_first (c : Dev nD) : (Pipeline.ΦA spec0 c : sProp 𝕄) ⊢ (dats m 0 c).Φ 0 := by rw [Phi_of, if_pos (show ((0 : Fin (cfg0.N + 1)).val = 0) from rfl)]

theorem before0 (c : Dev nD) (t : Fin cfg0.N) (d) : (dats m 0 c).before 0 t d = iblk m c 0 t :=
  before0_0_of m (dats m 0 c) (A_eq m c 0) (fun _ => rfl) t d
theorem before1 (c : Dev nD) (t : Fin cfg0.N) (d) : (dats m 0 c).before 1 t d = iblk m c 1 t :=
  before0_1_of m (dats m 0 c) (A_eq m c 1) (fun _ => rfl) t d
theorem before2 (c : Dev nD) (t : Fin cfg0.N) (d) : (dats m 0 c).before 2 t d = iblk m c 2 t :=
  before0_2_of m (dats m 0 c) (A_eq m c 2) (fun _ => rfl) t d
theorem before3 (c : Dev nD) (t : Fin cfg0.N) (d) : (dats m 0 c).before 3 t d = iblk m c 3 t :=
  before0_3_of m (dats m 0 c) (A_eq m c 3) (fun _ => rfl) t d
theorem before4 (c : Dev nD) (t : Fin cfg0.N) (d) : (dats m 0 c).before 4 t d = iblk m c 4 t :=
  before0_4_of m (dats m 0 c) (A_eq m c 4) (fun _ => rfl) t d

theorem prev_flush7 (t : Fin cfg0.N) (ht : t.val ≠ 0) (h : t.val - 1 < cfg0.N) : ¬ (cfg0.win 7).flush ⟨t.val - 1, h⟩ = true := fun e => by
  have h1 := (flush0_7 _).1 e
  have h2 : t.val < 8 := t.isLt
  dsimp only at h1
  omega
theorem prev_flush8 (t : Fin cfg0.N) (ht : t.val ≠ 0) (h : t.val - 1 < cfg0.N) : ¬ (cfg0.win 8).flush ⟨t.val - 1, h⟩ = true := fun e => by
  have h1 := (flush0_8 _).1 e
  have h2 : t.val < 8 := t.isLt
  dsimp only at h1
  omega

/-- After the first point the gradients' buffers hold the sums so far when the body starts. -/
theorem before7 (c : Dev nD) (t : Fin cfg0.N) (d) : t.val = 0 ∨ (dats m 0 c).before 7 t d = fun (y : S1x320.Idx) => accg m c t.val (y 1).val := by
  by_cases ht : t.val = 0
  · exact Or.inl ht
  · refine Or.inr ?_
    rw [(dats m 0 c).before_of_pos 7 t ht rfl d, if_neg (prev_flush7 t ht _)]
    show (fun (y : S1x320.Idx) => accg m c (t.val - 1 + 1) (y 1).val) = _
    rw [Nat.sub_add_cancel (Nat.one_le_iff_ne_zero.2 ht)]
theorem before8 (c : Dev nD) (t : Fin cfg0.N) (d) : t.val = 0 ∨ (dats m 0 c).before 8 t d = fun (y : S1x320.Idx) => accb m c t.val (y 1).val := by
  by_cases ht : t.val = 0
  · exact Or.inl ht
  · refine Or.inr ?_
    rw [(dats m 0 c).before_of_pos 8 t ht rfl d, if_neg (prev_flush8 t ht _)]
    show (fun (y : S1x320.Idx) => accb m c (t.val - 1 + 1) (y 1).val) = _
    rw [Nat.sub_add_cancel (Nat.one_le_iff_ne_zero.2 ht)]

theorem coords0 : ∀ t : Fin cfg0.N, ((grid0.coords t) 0).val = t.val := by decide +kernel

theorem outg_eq (c : Dev nD) (t : Fin cfg0.N) (X8 : S1x320.Idx → Elt Ideal .f32) (h : t.val = 0 ∨ X8 = fun y => accg m c t.val (y 1).val) :
    outg (grid0.coords t) (b0 m c t) (b1 m c t) (b2 m c t) (b3 m c t) (b4 m c t) X8 = fun y => accg m c (t.val + 1) (y 1).val := by
  funext y
  unfold outg
  rw [coords0]
  show _ = accg m c (t.val + 1) (y 1).val
  unfold accg
  rw [Finset.sum_range_succ, dif_pos t.isLt]
  refine congrArg₂ (· + ·) ?_ rfl
  by_cases ht : t.val = 0
  · rw [if_pos ht, ht]; rfl
  · rw [if_neg ht, h.resolve_left ht]; rfl
theorem outb_eq (c : Dev nD) (t : Fin cfg0.N) (X8 : S1x320.Idx → Elt Ideal .f32) (h : t.val = 0 ∨ X8 = fun y => accb m c t.val (y 1).val) :
    outb (grid0.coords t) (b0 m c t) (b1 m c t) (b2 m c t) (b3 m c t) (b4 m c t) X8 = fun y => accb m c (t.val + 1) (y 1).val := by
  funext y
  unfold outb
  rw [coords0]
  show _ = accb m c (t.val + 1) (y 1).val
  unfold accb
  rw [Finset.sum_range_succ, dif_pos t.isLt]
  refine congrArg₂ (· + ·) ?_ rfl
  by_cases ht : t.val = 0
  · rw [if_pos ht, ht]; rfl
  · rw [if_neg ht, h.resolve_left ht]; rfl

/-- The scratch buffers as the body finds them. -/
theorem Phi_open (c : Dev nD) (t : Fin cfg0.N) : (dats m 0 c).Φ t.castSucc
    ⊢ iprop(∃ P, ⌜t.val = 0 ∨ P = pindv⌝ ∗ owns (c : Thread nD τ) sc0 fullShare P ∗ (∃ d, owns (c : Thread nD τ) sc1 fullShare d)
          ∗ (∃ d, owns (c : Thread nD τ) sc2 fullShare d) ∗ (∃ d, owns (c : Thread nD τ) sc3 fullShare d) ∗ (∃ r, prngReg c r) : sProp 𝕄) := by
  by_cases ht : t.val = 0
  · rw [show (dats m 0 c).Φ t.castSucc = Pipeline.ΦA spec0 c from if_pos ht, Phi_eq]
    iintro ⟨⟨⟨%d, G0⟩, G1, G2, G3⟩, Hg⟩
    iexists d
    isplitr
    · ipureintro; exact Or.inl ht
    isplitl [G0]; · iexact G0
    isplitl [G1]; · iexact G1
    isplitl [G2]; · iexact G2
    isplitl [G3]; · iexact G3
    iexact Hg
  · rw [show (dats m 0 c).Φ t.castSucc = PhiP c from if_neg ht]
    unfold PhiP
    iintro ⟨⟨G0, G1, G2, G3⟩, Hg⟩
    iexists pindv
    isplitr
    · ipureintro; exact Or.inr rfl
    isplitl [G0]; · iexact G0
    isplitl [G1]; · iexact G1
    isplitl [G2]; · iexact G2
    isplitl [G3]; · iexact G3
    iexact Hg

theorem Phi_last (c : Dev nD) : (dats m 0 c).Φ (Fin.last cfg0.N) ⊢ (Pipeline.ΦA spec0 c : sProp 𝕄) := by
  rw [Phi_pos m c (Fin.last cfg0.N) (by decide), Phi_eq]
  unfold PhiP
  iintro ⟨⟨G0, G1, G2, G3⟩, Hg⟩
  isplitl [G0 G1 G2 G3]
  · isplitl [G0]; · iexists _; iexact G0
    isplitl [G1]; · iexact G1
    isplitl [G2]; · iexact G2
    iexact G3
  iexact Hg

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)) ∗ (∃ d, owns (c : Thread nD τ) (st0_6 t) fullShare d)
    ∗ (∃ d, owns (c : Thread nD τ) (st0_7 t) fullShare ((dats m 0 c).before 7 t d))
    ∗ (∃ d, owns (c : Thread nD τ) (st0_8 t) fullShare ((dats m 0 c).before 8 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t) ∗ (∃ d, owns (c : Thread nD τ) (st0_6 t) fullShare d)
    ∗ owns (c : Thread nD τ) (st0_7 t) fullShare ((dats m 0 c).after 7 t)
    ∗ owns (c : Thread nD τ) (st0_8 t) fullShare ((dats m 0 c).after 8 t))

variable (hX : ∀ (c : Dev nD) (t : Fin cfg0.N) (r l : ℕ), ∃ y : ℝ, at3 (b0 m c t) 0 r l = y)
  (hS : ∀ (c : Dev nD) (t : Fin cfg0.N), Sums (b0 m c t) (b1 m c t) (b2 m c t) (b3 m c t) (b4 m c t))
include hX hS

set_option maxHeartbeats 1000000 in
/-- The body at a grid point: the invariant opened, the body's run, the invariant closed. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl,
    Phi_pos m c t.succ (Nat.succ_ne_zero _)]
  simp only [before0, before1, before2, before3, before4]
  rw [show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl,
    show (dats m 0 c).after 5 t = outc (b0 m c t) (b1 m c t) (b2 m c t) (b3 m c t) (b4 m c t) from rfl]
  iintro ⟨HΦ, HO, ⟨%d0, H0⟩, ⟨%d1, H1⟩, ⟨%d2, H2⟩, ⟨%d3, H3⟩, ⟨%d4, H4⟩, ⟨%d5, H5⟩, H6, ⟨%d7, H7⟩, ⟨%d8, H8⟩⟩
  ihave HQ := (Phi_open m c t) $$ HΦ
  icases HQ with ⟨%P, %hP, G0, G1, G2, G3, Hg⟩
  have e7 := outg_eq m c t ((dats m 0 c).before 7 t d7) (before7 m c t d7)
  have e8 := outb_eq m c t ((dats m 0 c).before 8 t d8) (before8 m c t d8)
  rw [show (dats m 0 c).after 7 t = outg (grid0.coords t) (b0 m c t) (b1 m c t) (b2 m c t) (b3 m c t) (b4 m c t) ((dats m 0 c).before 7 t d7) from e7.symm,
    show (dats m 0 c).after 8 t = outb (grid0.coords t) (b0 m c t) (b1 m c t) (b2 m c t) (b3 m c t) (b4 m c t) ((dats m 0 c).before 8 t d8) from e8.symm]
  iapply (kernelRunV c (grid0.coords t) _ _ _ _ _ _ _ _ _ _ _ _ _ _ _ _ _ _ (b0 m c t) (b1 m c t) (b2 m c t) (b3 m c t) (b4 m c t)
    ((dats m 0 c).before 7 t d7) ((dats m 0 c).before 8 t d8) P (hX c t) (hS c t) (by rw [coords0]; exact hP) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  isplitl [G0]; · iexact G0
  isplitl [G1]; · iexact G1
  isplitl [G2]; · iexact G2
  isplitl [G3]; · iexact G3
  iintro ⟨H0, H1, H2, H3, H4, H5, H6, H7, H8, G0, G1, G2, G3⟩
  isplitl [G0 G1 G2 G3 Hg]
  · unfold PhiP
    isplitl [G0 G1 G2 G3]
    · isplitl [G0]; · iexact G0
      isplitl [G1]; · iexact G1
      isplitl [G2]; · iexact G2
      iexact G3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1000000 in
/-- The library's body obligation with the two unclaimed outputs forgotten. -/
theorem body_obligation (c : Dev nD) :
    BodyObligation (dats m 0 c) (defs₀ (F := Ideal)) Variants.none () Set.univ forgetsV := fun t => by
  rw [bigSep_W0, bigSep_W0, defs₀_row]
  exact triple_restated (sound_body m hX hS c t) rfl .rfl fun _ => .rfl

set_option backward.isDefEq.respectTransparency.types false in
/-- Every fair execution terminates with nothing faulting, the windows' arrays at what the proof data says of them. -/
theorem run_main :
    θ_run defs (onTc (τ := τ) (main (F := Ideal))) (s₀ m ρ)
      (fun r => Pipeline.RDat.FramePost (cfgs 0) (fun c => (dats m 0 c).toRForget forgetsV) (V m) r ∧ r.2.sem = fun _ => 0) :=
  Pipeline.θ_run_frame_track_forget (Q' := _) cfgs (dats m) (0 : Fin 1) launch0 defs₀ Variants.none forgetsV m ρ main
    (hbody := fun c => (body_obligation m hX hS c).loose) (hshare := fun c => (dats m 0 c).share_full fun _ => rfl)
    (howed := fun _ _ => rfl) (V := V m) (hmain := hmain m Variants.none) (hA := A_eq m)
    (hin := fun c => Phi_first m c) (hout := fun c => Phi_last m c) (hQ' := fun _ h => h)

omit hX hS
/-- The codes over the whole grid: each batch entry's are its grid point's. -/
def codes (c : Dev nD) : S8x4096x320.Idx → Elt Ideal .fp8e5m2 := fun z =>
  outc (b0 m c ⟨(z 0).val, (z 0).isLt⟩) (b1 m c ⟨(z 0).val, (z 0).isLt⟩) (b2 m c ⟨(z 0).val, (z 0).isLt⟩) (b3 m c ⟨(z 0).val, (z 0).isLt⟩) (b4 m c ⟨(z 0).val, (z 0).isLt⟩)
    (ix3 0 (z 1) (z 2))
theorem codes_of (c : Dev nD) (t : Fin cfg0.N) (z : S8x4096x320.Idx) (y : S1x4096x320.Idx) (h0 : (z 0).val = t.val) (h1 : (z 1).val = (y 1).val) (h2 : (z 2).val = (y 2).val) :
    outc (b0 m c t) (b1 m c t) (b2 m c t) (b3 m c t) (b4 m c t) y = codes m c z := by
  unfold codes
  rw [show (⟨(z 0).val, (z 0).isLt⟩ : Fin cfg0.N) = t from Fin.ext h0]
  refine congrArg (outc _ _ _ _ _) (funext fun a => Fin.ext ?_)
  fin_cases a
  · have h := (y 0).isLt; change (y 0).val < 1 at h; show (y 0).val = 0; omega
  · exact h1.symm
  · exact h2.symm
/-- The codes' array ends at them. -/
theorem final5 (c : Dev nD) : (dats m 0 c).arrAt 5 cfg0.N = codes m c := by
  have hi : ∀ t : Fin cfg0.N, win0_5.index t 0 = t.val ∧ win0_5.index t 1 = 0 ∧ win0_5.index t 2 = 0 := by decide +kernel
  refine (dats m 0 c).arrAt_eq_of_covers 5 (codes m c) (by decide +kernel) fun t _ y => ?_
  refine codes_of m c t _ _ ?_ ?_ ?_
  · refine (congrArg (fun n => n * 1 + 1 * (y 0).val) (hi t).1).trans ?_
    have h : (y 0).val < 1 := (y 0).isLt
    omega
  · refine (congrArg (fun n => n * 4096 + 1 * (y 1).val) (hi t).2.1).trans ?_
    show 0 * 4096 + 1 * (y 1).val = (y 1).val
    omega
  · refine (congrArg (fun n => n * 320 + 1 * (y 2).val) (hi t).2.2).trans ?_
    show 0 * 320 + 1 * (y 2).val = (y 2).val
    omega
/-- The gamma gradient's array ends at the sum over the grid. -/
theorem final7 (c : Dev nD) : (dats m 0 c).arrAt 7 cfg0.N = fun (y : S1x320.Idx) => accg m c 8 (y 1).val := by
  refine (dats m 0 c).arrAt_eq_of_after_last 7 (⟨7, by decide⟩ : Fin cfg0.N) (by decide +kernel) (fun (y : S1x320.Idx) => accg m c 8 (y 1).val) fun j => ?_
  blk_simp
  rfl
theorem final8 (c : Dev nD) : (dats m 0 c).arrAt 8 cfg0.N = fun (y : S1x320.Idx) => accb m c 8 (y 1).val := by
  refine (dats m 0 c).arrAt_eq_of_after_last 8 (⟨7, by decide⟩ : Fin cfg0.N) (by decide +kernel) (fun (y : S1x320.Idx) => accb m c 8 (y 1).val) fun j => ?_
  blk_simp
  rfl

end Cert.KernelIdeal.Value

end
-- ==== Proof.VRef.lean ====
module

public import proofs.«01_k».proof.Proof.Gen.ReferenceIdeal.Frame
public import proofs.«01_k».proof.Proof.VPay
public import proofs.«01_k».proof.Proof.VMax
public import Idealize.ShloMosaic.Lib.Claim

@[expose] public section
set_option maxRecDepth 16384
noncomputable section
namespace Cert.ReferenceIdeal.Hand
open Idealize.ShloMosaic Idealize.ShloMosaic.TcCoe Idealize.SL.Sem Cert.Nat Cert.ReferenceIdeal Cert.ReferenceIdeal.Gen
open Cert.KernelIdeal.Hand (cs gsum)

/-- The reference's mean, reciprocal deviation, normalised input and gradient, over maps of rows and channels of one batch entry. -/
def rm (X : ℕ → ℕ → EReal) (c : ℕ) : EReal := Ideal.div (gsum (cs X) c) (Ideal.ofBits .f32 0x47200000#32)
@[inherit_doc rm] def rr (X : ℕ → ℕ → EReal) (c : ℕ) : EReal :=
  Ideal.rsqrt (Ideal.div (gsum (cs fun r c => (X r c - rm X c) * (X r c - rm X c)) c) (Ideal.ofBits .f32 0x47200000#32) + Ideal.ofBits .f32 0x3727C5AC#32)
@[inherit_doc rm] def rx (X : ℕ → ℕ → EReal) (r c : ℕ) : EReal := (X r c - rm X c) * rr X c
@[inherit_doc rm] def rh (X D : ℕ → ℕ → EReal) (G B : ℕ → EReal) (s : EReal) (r c : ℕ) : EReal :=
  D r c * s * Ideal.logistic (rx X r c * G c + B c) * (1 + (rx X r c * G c + B c) * (1 - Ideal.logistic (rx X r c * G c + B c)))

/-- The reference's gradient at xhat, its two group means, the gradient at x, the maximum of its magnitude over a group, and the
    exponent of a number: as `frexp` gives it for a number that is not subnormal, and zero for the others. -/
def rg (X D : ℕ → ℕ → EReal) (G B : ℕ → EReal) (s : EReal) (r c : ℕ) : EReal := rh X D G B s r c * G c
@[inherit_doc rg] def rmg0 (X D : ℕ → ℕ → EReal) (G B : ℕ → EReal) (s : EReal) (c : ℕ) : EReal :=
  Ideal.div (gsum (cs (rg X D G B s)) c) (Ideal.ofBits .f32 0x47200000#32)
@[inherit_doc rg] def rmg1 (X D : ℕ → ℕ → EReal) (G B : ℕ → EReal) (s : EReal) (c : ℕ) : EReal :=
  Ideal.div (gsum (cs fun r c => rg X D G B s r c * rx X r c) c) (Ideal.ofBits .f32 0x47200000#32)
@[inherit_doc rg] def rdx (X D : ℕ → ℕ → EReal) (G B : ℕ → EReal) (s : EReal) (r c : ℕ) : EReal :=
  rr X c * (rg X D G B s r c - rmg0 X D G B s c - rx X r c * rmg1 X D G B s c)
@[inherit_doc rg] def ra (W : ℕ → ℕ → EReal) (c : ℕ) : EReal :=
  (Finset.range 10).sup fun j => (Finset.range 4096).sup fun r => av (W r (c / 10 * 10 + j))
@[inherit_doc rg] def re (q : EReal) : EReal :=
  if q < Ideal.ofBits FTy.f32 8388608#32 then 0
  else min (Ideal.liftRound Int.floor (Ideal.div (Ideal.log q) (Ideal.log (Ideal.ofBits FTy.f32 1073741824#32))) + 1) (Ideal.ofBits FTy.f32 1123811328#32)
@[inherit_doc rg] def rcode (W : ℕ → ℕ → EReal) (r c : ℕ) : EReal :=
  cv (W r c) (Ideal.exp2 (0 - re (ra W c * Ideal.ofBits FTy.f32 932333861#32)))

/-- Sums over a group's channels and the rows, as sums of column sums. -/
theorem gs (f : ℕ → ℕ → EReal) (c : ℕ) (hc : c < 320) : ∑ x : Fin 10, ∑ y : Fin 4096, f y.val (c / 10 * 10 + x.val) = gsum (cs f) c := by
  unfold gsum
  rw [if_pos hc, ← Fin.sum_univ_eq_sum_range (fun j => cs f (10 * (c / 10) + j))]
  refine Finset.sum_congr rfl fun x _ => ?_
  unfold cs
  rw [if_pos (by have := x.isLt; omega), ← Fin.sum_univ_eq_sum_range (fun r => f r (10 * (c / 10) + x.val)), Nat.mul_comm 10]

theorem q7 (v4 : Vec Ideal S8x4096x320 .bf16) (b : Fin 8) (r : Fin 4096) (c : Fin 320) :
    k0_pay6 v4 (ix3 b r c) = rx (fun r c => at3 v4 b.val r c) r.val c.val := by
  have g1 : ∀ (c : ℕ) (hc : c < 320) (h : ∀ x : Fin 10, c / 10 * 10 + x.val < 320),
      ∑ x : Fin 10, ∑ y : Fin 4096, v4 (ix3 b y ⟨c / 10 * 10 + x.val, h x⟩) = gsum (cs fun r c => at3 v4 b.val r c) c := by
    intro c hc h
    rw [← gs _ c hc]
    exact Finset.sum_congr rfl fun x _ => Finset.sum_congr rfl fun y _ => at3_ix v4 b y _
  pointwise [k0_pay6, k0_pay4, k0_pay5]
  unfold rx rr
  refine congrArg₂ (· * ·) (congrArg₂ (· - ·) (at3_ix v4 b r c) (congrArg (Ideal.div · _) (g1 _ c.isLt _)))
    (congrArg Ideal.rsqrt (congrArg (· + _) (congrArg (Ideal.div · _) ?_)))
  rw [← gs _ c.val c.isLt]
  refine Finset.sum_congr rfl fun x _ => Finset.sum_congr rfl fun y _ => ?_
  have hx : c.val / 10 * 10 + x.val < 320 := by have := x.isLt; have := c.isLt; omega
  refine congrArg₂ (· * ·) (congrArg₂ (· - ·) (at3_ix v4 b y _) (congrArg (Ideal.div · _) (g1 _ hx _)))
    (congrArg₂ (· - ·) (at3_ix v4 b y _) (congrArg (Ideal.div · _) (g1 _ hx _)))

/-- The gradient at an entry. -/
theorem q1 (v0 v2 : Vec Ideal S1x320 .f32) (v4 : Vec Ideal S8x4096x320 .bf16) (v6 : Vec Ideal S8x4096x320 .fp8e5m2) (v9 : Vec Ideal S1x1 .f32)
    (b : Fin 8) (r : Fin 4096) (c : Fin 320) :
    k0_pay7 (k0_pay1 v0) (k0_pay2 v2) (k0_pay3 v6 v9) (k0_pay6 v4) (ix3 b r c)
      = rh (fun r c => at3 v4 b.val r c) (fun r c => at3 v6 b.val r c) (fun c => at2 v0 0 c) (fun c => at2 v2 0 c) (v9 (ix2 0 0)) r.val c.val := by
  pointwise [k0_pay7, k0_pay1, k0_pay2, k0_pay3]
  rw [q7, at3_ix v6, at2_ix v0, at2_ix v2]
  rfl

/-- The gamma gradient the reference stores. -/
theorem q2 (v0 v2 : Vec Ideal S1x320 .f32) (v4 : Vec Ideal S8x4096x320 .bf16) (v6 : Vec Ideal S8x4096x320 .fp8e5m2) (v9 : Vec Ideal S1x1 .f32) (c : Fin 320) :
    k0_pay8 (k0_pay1 v0) (k0_pay2 v2) (k0_pay3 v6 v9) (k0_pay6 v4) (ix2 0 c)
      = ∑ b : Fin 8, cs (fun r c => rh (fun r c => at3 v4 b.val r c) (fun r c => at3 v6 b.val r c) (fun c => at2 v0 0 c) (fun c => at2 v2 0 c) (v9 (ix2 0 0)) r c
          * rx (fun r c => at3 v4 b.val r c) r c) c.val := by
  pointwise [k0_pay8]
  refine Finset.sum_congr rfl fun b _ => ?_
  unfold cs
  rw [if_pos c.isLt, ← Fin.sum_univ_eq_sum_range (fun r => rh (fun r c => at3 v4 b.val r c) (fun r c => at3 v6 b.val r c) (fun c => at2 v0 0 c) (fun c => at2 v2 0 c) (v9 (ix2 0 0)) r c.val
          * rx (fun r c => at3 v4 b.val r c) r c.val)]
  exact Finset.sum_congr rfl fun r _ => congrArg₂ (· * ·) (q1 v0 v2 v4 v6 v9 b r c) (q7 v4 b r c)

/-- The beta gradient the reference stores. -/
theorem q3 (v0 v2 : Vec Ideal S1x320 .f32) (v4 : Vec Ideal S8x4096x320 .bf16) (v6 : Vec Ideal S8x4096x320 .fp8e5m2) (v9 : Vec Ideal S1x1 .f32) (c : Fin 320) :
    k0_pay9 (k0_pay1 v0) (k0_pay2 v2) (k0_pay3 v6 v9) (k0_pay6 v4) (ix2 0 c)
      = ∑ b : Fin 8, cs (fun r c => rh (fun r c => at3 v4 b.val r c) (fun r c => at3 v6 b.val r c) (fun c => at2 v0 0 c) (fun c => at2 v2 0 c) (v9 (ix2 0 0)) r c) c.val := by
  pointwise [k0_pay9]
  refine Finset.sum_congr rfl fun b _ => ?_
  unfold cs
  rw [if_pos c.isLt, ← Fin.sum_univ_eq_sum_range (fun r => rh (fun r c => at3 v4 b.val r c) (fun r c => at3 v6 b.val r c) (fun c => at2 v0 0 c) (fun c => at2 v2 0 c) (v9 (ix2 0 0)) r c.val)]
  exact Finset.sum_congr rfl fun r _ => q1 v0 v2 v4 v6 v9 b r c

theorem q5 (v4 : Vec Ideal S8x4096x320 .bf16) (b : Fin 8) (c : Fin 320) :
    k0_pay5 v4 (ix3 b 0 c) = rr (fun r c => at3 v4 b.val r c) c.val := by
  have g1 : ∀ (c : ℕ) (hc : c < 320) (h : ∀ x : Fin 10, c / 10 * 10 + x.val < 320),
      ∑ x : Fin 10, ∑ y : Fin 4096, v4 (ix3 b y ⟨c / 10 * 10 + x.val, h x⟩) = gsum (cs fun r c => at3 v4 b.val r c) c := by
    intro c hc h
    rw [← gs _ c hc]
    exact Finset.sum_congr rfl fun x _ => Finset.sum_congr rfl fun y _ => at3_ix v4 b y _
  pointwise [k0_pay5, k0_pay4]
  unfold rr
  refine congrArg Ideal.rsqrt (congrArg (· + _) (congrArg (Ideal.div · _) ?_))
  rw [← gs _ c.val c.isLt]
  refine Finset.sum_congr rfl fun x _ => Finset.sum_congr rfl fun y _ => ?_
  have hx : c.val / 10 * 10 + x.val < 320 := by have := x.isLt; have := c.isLt; omega
  refine congrArg₂ (· * ·) (congrArg₂ (· - ·) (at3_ix v4 b y _) (congrArg (Ideal.div · _) (g1 _ hx _)))
    (congrArg₂ (· - ·) (at3_ix v4 b y _) (congrArg (Ideal.div · _) (g1 _ hx _)))

/-- A fold of maxima over rows and then over a group's channels is the group's supremum. -/
theorem fold_ra (W : ℕ → ℕ → EReal) (c : ℕ) (F : Fin 10 → Fin 4096 → EReal) (h : ∀ x y, F x y = av (W y.val (c / 10 * 10 + x.val))) :
    Finset.fold max (Ideal.ofBits FTy.f32 4286578688#32 : EReal) (fun x => Finset.fold max (Ideal.ofBits FTy.f32 4286578688#32 : EReal) (fun y => F x y) Finset.univ) Finset.univ
      = ra W c := by
  unfold ra
  rw [← fold_range 10 (fun j => (Finset.range 4096).sup fun r => av (W r (c / 10 * 10 + j)))]
  refine congrArg (fun F => Finset.fold max (Ideal.ofBits FTy.f32 4286578688#32 : EReal) F Finset.univ) (funext fun x => ?_)
  rw [← fold_range 4096 (fun r => av (W r (c / 10 * 10 + x.val)))]
  exact congrArg (fun F => Finset.fold max (Ideal.ofBits FTy.f32 4286578688#32 : EReal) F Finset.univ) (funext fun y => h x y)

/-- The codes, from the gradient at x. -/
theorem q13 (v38 : FVec Ideal S8x1x320 .f32) (v40 v66 : FVec Ideal S8x4096x320 .f32) (v76 : FVec Ideal S8x1x320 .f32) (v82 : FVec Ideal S8x32 .f32)
    (b : Fin 8) (W : ℕ → ℕ → EReal)
    (h : ∀ (r : Fin 4096) (c : Fin 320) (hc : c.val / 10 < 32), (v38 (ix3 b 0 c) * (v66 (ix3 b r c) - v76 (ix3 b 0 c) - v40 (ix3 b r c) * v82 (ix2 b ⟨c.val / 10, hc⟩)) : EReal) = W r.val c.val)
    (r : Fin 4096) (c : Fin 320) :
    k0_pay13 v38 v40 v66 v76 v82 (ix3 b r c) = rcode W r.val c.val := by
  pointwise [k0_pay13]
  exact congrArg₂ (fun d a => cv d (Ideal.exp2 (0 - re (a * Ideal.ofBits FTy.f32 932333861#32)))) (h r c _)
    (fold_ra W c.val _ fun x y => congrArg av (h y ⟨c.val / 10 * 10 + x.val, by have := x.isLt; have := c.isLt; omega⟩ _))

section codes
variable (v0 v2 : Vec Ideal S1x320 .f32) (v4 : Vec Ideal S8x4096x320 .bf16) (v6 : Vec Ideal S8x4096x320 .fp8e5m2) (v9 : Vec Ideal S1x1 .f32) (b : Fin 8)
/-- The maps of one batch entry that the arrays hold. -/
abbrev rgv : ℕ → ℕ → EReal := rg (fun r c => at3 v4 b.val r c) (fun r c => at3 v6 b.val r c) (fun c => at2 v0 0 c) (fun c => at2 v2 0 c) (v9 (ix2 0 0))

theorem q10 (r : Fin 4096) (c : Fin 320) :
    k0_pay10 (k0_pay1 v0) (k0_pay2 v2) (k0_pay3 v6 v9) (k0_pay6 v4) (ix3 b r c) = rgv v0 v2 v4 v6 v9 b r.val c.val := by
  have h : k0_pay10 (k0_pay1 v0) (k0_pay2 v2) (k0_pay3 v6 v9) (k0_pay6 v4) (ix3 b r c)
      = k0_pay7 (k0_pay1 v0) (k0_pay2 v2) (k0_pay3 v6 v9) (k0_pay6 v4) (ix3 b r c) * k0_pay1 v0 (ix2 0 c) := by pointwise [k0_pay10]
  have h1 : k0_pay1 v0 (ix2 0 c) = at2 v0 0 c.val := by pointwise [k0_pay1]; exact at2_ix v0 _ _
  rw [h, q1, h1]
  rfl

theorem q11 (c : Fin 320) :
    k0_pay11 (k0_pay1 v0) (k0_pay2 v2) (k0_pay3 v6 v9) (k0_pay6 v4) (ix3 b 0 c)
      = rmg0 (fun r c => at3 v4 b.val r c) (fun r c => at3 v6 b.val r c) (fun c => at2 v0 0 c) (fun c => at2 v2 0 c) (v9 (ix2 0 0)) c.val := by
  pointwise [k0_pay11]
  unfold rmg0
  refine congrArg (Ideal.div · _) ?_
  rw [← gs _ c.val c.isLt]
  exact Finset.sum_congr rfl fun x _ => Finset.sum_congr rfl fun y _ => q10 v0 v2 v4 v6 v9 b y _

theorem q12 (c : Fin 320) (hc : c.val / 10 < 32) :
    k0_pay12 (k0_pay1 v0) (k0_pay2 v2) (k0_pay3 v6 v9) (k0_pay6 v4) (ix2 b ⟨c.val / 10, hc⟩)
      = rmg1 (fun r c => at3 v4 b.val r c) (fun r c => at3 v6 b.val r c) (fun c => at2 v0 0 c) (fun c => at2 v2 0 c) (v9 (ix2 0 0)) c.val := by
  pointwise [k0_pay12]
  unfold rmg1
  refine congrArg (Ideal.div · _) ?_
  rw [← gs _ c.val c.isLt]
  exact Finset.sum_congr rfl fun x _ => Finset.sum_congr rfl fun y _ => congrArg₂ (· * ·) (q10 v0 v2 v4 v6 v9 b y _) (q7 v4 b y _)

/-- The codes the reference stores, as one expression of the loaded arrays. -/
abbrev rpay : S8x4096x320.Idx → EReal :=
  k0_pay13 (k0_pay5 v4) (k0_pay6 v4) (k0_pay10 (k0_pay1 v0) (k0_pay2 v2) (k0_pay3 v6 v9) (k0_pay6 v4))
    (k0_pay11 (k0_pay1 v0) (k0_pay2 v2) (k0_pay3 v6 v9) (k0_pay6 v4)) (k0_pay12 (k0_pay1 v0) (k0_pay2 v2) (k0_pay3 v6 v9) (k0_pay6 v4))

theorem q14 (r : Fin 4096) (c : Fin 320) :
    rpay v0 v2 v4 v6 v9 (ix3 b r c)
      = rcode (rdx (fun r c => at3 v4 b.val r c) (fun r c => at3 v6 b.val r c) (fun c => at2 v0 0 c) (fun c => at2 v2 0 c) (v9 (ix2 0 0))) r.val c.val := by
  refine q13 _ _ _ _ _ b _ (fun r c hc => ?_) r c
  rw [q5, q10, q11, q12, q7]
  rfl
end codes
theorem pc5 {v0 v0' v2 v2' : Vec Ideal S1x320 .f32} {v4 v4' : Vec Ideal S8x4096x320 .bf16} {v6 v6' : Vec Ideal S8x4096x320 .fp8e5m2} {v9 v9' : Vec Ideal S1x1 .f32}
    (h0 : v0 = v0') (h2 : v2 = v2') (h4 : v4 = v4') (h6 : v6 = v6') (h9 : v9 = v9') : rpay v0 v2 v4 v6 v9 = rpay v0' v2' v4' v6' v9' := by
  subst h0 h2 h4 h6 h9; rfl
theorem pc5b {v0 v0' v2 v2' : Vec Ideal S1x320 .f32} {v4 w4 v4' : Vec Ideal S8x4096x320 .bf16} {v6 v6' : Vec Ideal S8x4096x320 .fp8e5m2} {v9 v9' : Vec Ideal S1x1 .f32}
    (h0 : v0 = v0') (h2 : v2 = v2') (hw : w4 = v4') (h4 : v4 = v4') (h6 : v6 = v6') (h9 : v9 = v9') :
    k0_pay13 (k0_pay5 w4) (k0_pay6 v4) (k0_pay10 (k0_pay1 v0) (k0_pay2 v2) (k0_pay3 v6 v9) (k0_pay6 v4))
      (k0_pay11 (k0_pay1 v0) (k0_pay2 v2) (k0_pay3 v6 v9) (k0_pay6 v4)) (k0_pay12 (k0_pay1 v0) (k0_pay2 v2) (k0_pay3 v6 v9) (k0_pay6 v4)) = rpay v0' v2' v4' v6' v9' := by
  subst h0 h2 h4 h6 h9 hw; rfl

variable (m : (ℓ : Loc nD τ sig) → Buf (Elt Ideal) ℓ)

theorem z0 (k n : ℕ) : 0 * k + 1 * (0 + 1 * n) = n := by omega
theorem ld0 (c : Dev nD) : View.ld (iblk m c 0 t0_0) r0_1 = V m c main_arg0 := by
  have hi : ∀ a, win0_0.index t0_0 a = 0 := by decide
  funext y
  unfold iblk
  refine congrArg (V m c main_arg0) (funext fun a => Fin.ext ?_)
  fin_cases a
  · exact (congrArg (fun n => n * 8 + 1 * (0 + 1 * (y 0).val)) (hi 0)).trans (z0 _ _)
  · exact (congrArg (fun n => n * 4096 + 1 * (0 + 1 * (y 1).val)) (hi 1)).trans (z0 _ _)
  · exact (congrArg (fun n => n * 320 + 1 * (0 + 1 * (y 2).val)) (hi 2)).trans (z0 _ _)
theorem ld1 (c : Dev nD) : View.ld (iblk m c 1 t0_0) r0_0 = V m c main_v0 := by
  have hi : ∀ a, win0_1.index t0_0 a = 0 := by decide
  funext y
  unfold iblk
  refine congrArg (V m c main_v0) (funext fun a => Fin.ext ?_)
  fin_cases a
  · exact (congrArg (fun n => n * 1 + 1 * (0 + 1 * (y 0).val)) (hi 0)).trans (z0 _ _)
  · exact (congrArg (fun n => n * 320 + 1 * (0 + 1 * (y 1).val)) (hi 1)).trans (z0 _ _)
theorem ld2 (c : Dev nD) : View.ld (iblk m c 2 t0_0) r0_0 = V m c main_v1 := by
  have hi : ∀ a, win0_2.index t0_0 a = 0 := by decide
  funext y
  unfold iblk
  refine congrArg (V m c main_v1) (funext fun a => Fin.ext ?_)
  fin_cases a
  · exact (congrArg (fun n => n * 1 + 1 * (0 + 1 * (y 0).val)) (hi 0)).trans (z0 _ _)
  · exact (congrArg (fun n => n * 320 + 1 * (0 + 1 * (y 1).val)) (hi 1)).trans (z0 _ _)
theorem ld3 (c : Dev nD) : View.ld (iblk m c 3 t0_0) r0_1 = V m c main_v2 := by
  have hi : ∀ a, win0_3.index t0_0 a = 0 := by decide
  funext y
  unfold iblk
  refine congrArg (V m c main_v2) (funext fun a => Fin.ext ?_)
  fin_cases a
  · exact (congrArg (fun n => n * 8 + 1 * (0 + 1 * (y 0).val)) (hi 0)).trans (z0 _ _)
  · exact (congrArg (fun n => n * 4096 + 1 * (0 + 1 * (y 1).val)) (hi 1)).trans (z0 _ _)
  · exact (congrArg (fun n => n * 320 + 1 * (0 + 1 * (y 2).val)) (hi 2)).trans (z0 _ _)
theorem ld4 (c : Dev nD) : View.ld (iblk m c 4 t0_0) r0_2 = V m c main_v3 := by
  have hi : ∀ a, win0_4.index t0_0 a = 0 := by decide
  funext y
  unfold iblk
  refine congrArg (V m c main_v3) (funext fun a => Fin.ext ?_)
  fin_cases a
  · exact (congrArg (fun n => n * 1 + 1 * (0 + 1 * (y 0).val)) (hi 0)).trans (z0 _ _)
  · exact (congrArg (fun n => n * 1 + 1 * (0 + 1 * (y 1).val)) (hi 1)).trans (z0 _ _)
theorem pc2 {v0 v0' v2 v2' : Vec Ideal S1x320 .f32} {v4 v4' : Vec Ideal S8x4096x320 .bf16} {v6 v6' : Vec Ideal S8x4096x320 .fp8e5m2} {v9 v9' : Vec Ideal S1x1 .f32}
    (h0 : v0 = v0') (h2 : v2 = v2') (h4 : v4 = v4') (h6 : v6 = v6') (h9 : v9 = v9') :
    k0_pay8 (k0_pay1 v0) (k0_pay2 v2) (k0_pay3 v6 v9) (k0_pay6 v4) = k0_pay8 (k0_pay1 v0') (k0_pay2 v2') (k0_pay3 v6' v9') (k0_pay6 v4') := by
  subst h0 h2 h4 h6 h9; rfl
theorem pc3 {v0 v0' v2 v2' : Vec Ideal S1x320 .f32} {v4 v4' : Vec Ideal S8x4096x320 .bf16} {v6 v6' : Vec Ideal S8x4096x320 .fp8e5m2} {v9 v9' : Vec Ideal S1x1 .f32}
    (h0 : v0 = v0') (h2 : v2 = v2') (h4 : v4 = v4') (h6 : v6 = v6') (h9 : v9 = v9') :
    k0_pay9 (k0_pay1 v0) (k0_pay2 v2) (k0_pay3 v6 v9) (k0_pay6 v4) = k0_pay9 (k0_pay1 v0') (k0_pay2 v2') (k0_pay3 v6' v9') (k0_pay6 v4') := by
  subst h0 h2 h4 h6 h9; rfl

theorem zc (k n : ℕ) : 0 * k + 1 * n = n := by omega
theorem ib0 (c : Dev nD) : (iblk m c 0 t0_0 : Vec Ideal S8x4096x320 .bf16) = V m c main_arg0 := by
  have hi : ∀ a, win0_0.index t0_0 a = 0 := by decide
  funext y
  unfold iblk
  refine congrArg (V m c main_arg0) (funext fun a => Fin.ext ?_)
  fin_cases a
  · exact (congrArg (fun n => n * 8 + 1 * (y 0).val) (hi 0)).trans (zc _ _)
  · exact (congrArg (fun n => n * 4096 + 1 * (y 1).val) (hi 1)).trans (zc _ _)
  · exact (congrArg (fun n => n * 320 + 1 * (y 2).val) (hi 2)).trans (zc _ _)

theorem final5 (c : Dev nD) (y : S8x4096x320.Idx) : (dats m 0 c).arrAt 5 cfg0.N y
    = rpay (V m c main_v0) (V m c main_v1) (V m c main_arg0) (V m c main_v2) (V m c main_v3) y := by
  refine congrFun ((dats m 0 c).arrAt_eq_of_after_last 5 t0_0 (by decide +kernel) (rpay (V m c main_v0) (V m c main_v1) (V m c main_arg0) (V m c main_v2) (V m c main_v3)) fun j => ?_) y
  blk_simp
  rw [after0_5]
  frame_out
  unfold k0_pay14 k0_pay15 k0_pay16 k0_pay17
  exact congrFun (pc5b (ld1 m c) (ld2 m c) (ib0 m c) (ld0 m c) (ld3 m c) (ld4 m c)) j

theorem final6 (c : Dev nD) (y : S1x320.Idx) : (dats m 0 c).arrAt 6 cfg0.N y
    = k0_pay8 (k0_pay1 (V m c main_v0)) (k0_pay2 (V m c main_v1)) (k0_pay3 (V m c main_v2) (V m c main_v3)) (k0_pay6 (V m c main_arg0)) y := by
  refine congrFun ((dats m 0 c).arrAt_eq_of_after_last 6 t0_0 (by decide +kernel) (k0_pay8 (k0_pay1 (V m c main_v0)) (k0_pay2 (V m c main_v1)) (k0_pay3 (V m c main_v2) (V m c main_v3)) (k0_pay6 (V m c main_arg0))) fun j => ?_) y
  blk_simp
  rw [after0_6]
  frame_out
  exact congrFun (pc2 (ld1 m c) (ld2 m c) (ld0 m c) (ld3 m c) (ld4 m c)) j

theorem final7 (c : Dev nD) (y : S1x320.Idx) : (dats m 0 c).arrAt 7 cfg0.N y
    = k0_pay9 (k0_pay1 (V m c main_v0)) (k0_pay2 (V m c main_v1)) (k0_pay3 (V m c main_v2) (V m c main_v3)) (k0_pay6 (V m c main_arg0)) y := by
  refine congrFun ((dats m 0 c).arrAt_eq_of_after_last 7 t0_0 (by decide +kernel) (k0_pay9 (k0_pay1 (V m c main_v0)) (k0_pay2 (V m c main_v1)) (k0_pay3 (V m c main_v2) (V m c main_v3)) (k0_pay6 (V m c main_arg0))) fun j => ?_) y
  blk_simp
  rw [after0_7]
  frame_out
  exact congrFun (pc3 (ld1 m c) (ld2 m c) (ld0 m c) (ld3 m c) (ld4 m c)) j

theorem Vv0 (c : Dev nD) : (V m c main_v0 : S1x320.Idx → EReal) = shapeCast S1x320 (m ((c.tc : Thread nD τ).loc main_arg1)) shapeCasts_S320_S1x320 := by
  entry_read; rfl
theorem Vv1 (c : Dev nD) : (V m c main_v1 : S1x320.Idx → EReal) = shapeCast S1x320 (m ((c.tc : Thread nD τ).loc main_arg2)) shapeCasts_S320_S1x320 := by
  entry_read; rfl
theorem Vv2 (c : Dev nD) : (V m c main_v2 : S8x4096x320.Idx → EReal) = bitcastToFloat (F := Ideal) .fp8e5m2 (m ((c.tc : Thread nD τ).loc main_arg3)) := by
  entry_read; rfl
theorem Vv3 (c : Dev nD) : (V m c main_v3 : S1x1.Idx → EReal) = shapeCast S1x1 (m ((c.tc : Thread nD τ).loc main_arg4)) shapeCasts_S_S1x1 := by
  entry_read; rfl

end Cert.ReferenceIdeal.Hand
-- ==== Proof.VMath.lean ====
module

public import proofs.«01_k».proof.Proof.VBody
public import proofs.«01_k».proof.Proof.VRef

@[expose] public section
set_option maxRecDepth 16384
noncomputable section
namespace Cert.KernelIdeal.Hand
open Idealize.ShloMosaic Cert.Nat Cert.ReferenceIdeal.Hand

theorem K_val : Ideal.ofBits .f32 0x47200000#32 = ((40960 : ℝ) : EReal) := by
  simp [Ideal.ofBits, Ideal.ieee, -EReal.coe_mul]; norm_num
/-- The stabiliser is a positive number. -/
theorem eps_val : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Column sums and group sums over the reals. -/
def rcs (f : ℕ → ℕ → ℝ) (c : ℕ) : ℝ := if c < 320 then ∑ r ∈ Finset.range 4096, f r c else 0
@[inherit_doc rcs] def rgs (S : ℕ → ℝ) (c : ℕ) : ℝ := if c < 320 then ∑ j ∈ Finset.range 10, S (10 * (c / 10) + j) else 0

theorem cs_coe (f : ℕ → ℕ → ℝ) : cs (fun r c => (f r c : EReal)) = fun c => (rcs f c : EReal) := by
  funext c; unfold cs rcs
  split
  · exact sum_coe _ _
  · rfl
theorem gs_coe (S : ℕ → ℝ) (c : ℕ) : gsum (fun c => (S c : EReal)) c = (rgs S c : EReal) := by
  unfold gsum rgs
  split
  · exact sum_coe _ _
  · rfl

/-- The mean over the reals. -/
def mu (x : ℕ → ℕ → ℝ) (c : ℕ) : ℝ := rgs (rcs x) c * (1 / 40960)

theorem mu_group (x : ℕ → ℕ → ℝ) (c j : ℕ) (hc : c < 320) (hj : j < 10) : mu x (10 * (c / 10) + j) = mu x c := by
  unfold mu rgs
  rw [if_pos hc, if_pos (by omega), show (10 * (c / 10) + j) / 10 = c / 10 by omega]

/-- The mean square less the squared mean is the mean squared deviation. -/
theorem var_eq (x : ℕ → ℕ → ℝ) (c : ℕ) (hc : c < 320) :
    rgs (rcs fun r c => x r c * x r c) c * (1 / 40960) - mu x c * mu x c
      = rgs (rcs fun r c => (x r c - mu x c) * (x r c - mu x c)) c * (1 / 40960) := by
  have h1 : rgs (rcs fun r c => (x r c - mu x c) * (x r c - mu x c)) c
      = rgs (rcs fun r c => x r c * x r c) c - 2 * mu x c * rgs (rcs x) c + 40960 * (mu x c * mu x c) := by
    unfold rgs
    rw [if_pos hc, if_pos hc, if_pos hc]
    have : ∀ j ∈ Finset.range 10, rcs (fun r c => (x r c - mu x c) * (x r c - mu x c)) (10 * (c / 10) + j)
        = rcs (fun r c => x r c * x r c) (10 * (c / 10) + j) - 2 * mu x c * rcs x (10 * (c / 10) + j) + 4096 * (mu x c * mu x c) := by
      intro j hj
      have hj := Finset.mem_range.1 hj
      unfold rcs
      rw [if_pos (by omega), if_pos (by omega), if_pos (by omega)]
      beta_reduce
      rw [mu_group x c j hc hj, Finset.mul_sum, ← Finset.sum_sub_distrib]
      rw [show (4096 : ℝ) * (mu x c * mu x c) = ∑ r ∈ Finset.range 4096, mu x c * mu x c by simp, ← Finset.sum_add_distrib]
      exact Finset.sum_congr rfl fun r _ => by ring
    rw [Finset.sum_congr rfl this, Finset.sum_add_distrib, Finset.sum_sub_distrib, ← Finset.mul_sum]
    simp only [Finset.sum_const, Finset.card_range, nsmul_eq_mul]
    push_cast
    ring
  rw [h1]
  have h2 : rgs (rcs x) c = 40960 * mu x c := by unfold mu; ring
  rw [h2]; ring

theorem var_nonneg (x : ℕ → ℕ → ℝ) (c : ℕ) : 0 ≤ rgs (rcs fun r c => (x r c - mu x c) * (x r c - mu x c)) c * (1 / 40960) := by
  refine mul_nonneg ?_ (by norm_num)
  unfold rgs
  split
  · refine Finset.sum_nonneg fun j _ => ?_
    unfold rcs
    split
    · exact Finset.sum_nonneg fun r _ => mul_self_nonneg _
    · exact le_refl _
  · exact le_refl _

theorem km_coe (x : ℕ → ℕ → ℝ) (c : ℕ) : km (fun r c => (x r c : EReal)) c = (mu x c : EReal) := by
  unfold km mu
  rw [cs_coe, gs_coe, ← EReal.coe_mul]
theorem rm_coe (x : ℕ → ℕ → ℝ) (c : ℕ) : rm (fun r c => (x r c : EReal)) c = (mu x c : EReal) := by
  unfold rm mu
  rw [cs_coe, gs_coe, K_val, Ideal.div_coe (by norm_num), ← EReal.coe_mul]

/-- Both reciprocal deviations are one and the same number. -/
theorem kr_coe (x : ℕ → ℕ → ℝ) (c : ℕ) (hc : c < 320) :
    ∃ ρ : ℝ, kr (fun r c => (x r c : EReal)) c = (ρ : EReal) ∧ rr (fun r c => (x r c : EReal)) c = (ρ : EReal) := by
  obtain ⟨e, he, hE⟩ := eps_val
  have hp := var_nonneg x c
  have h1 : kr (fun r c => (x r c : EReal)) c = Ideal.rsqrt (((rgs (rcs fun r c => (x r c - mu x c) * (x r c - mu x c)) c * (1 / 40960) + e : ℝ)) : EReal) := by
    unfold kr
    rw [km_coe, hE, ← var_eq x c hc]
    simp only [← EReal.coe_mul]
    rw [cs_coe, gs_coe, ← EReal.coe_mul, ← EReal.coe_sub, ← EReal.coe_add]
  have h2 : rr (fun r c => (x r c : EReal)) c = Ideal.rsqrt (((rgs (rcs fun r c => (x r c - mu x c) * (x r c - mu x c)) c * (1 / 40960) + e : ℝ)) : EReal) := by
    unfold rr
    rw [hE, K_val, Ideal.div_coe (by norm_num)]
    simp only [rm_coe, ← EReal.coe_mul, ← EReal.coe_sub]
    rw [cs_coe, gs_coe, ← EReal.coe_mul, ← EReal.coe_add]
  refine ⟨(√(rgs (rcs fun r c => (x r c - mu x c) * (x r c - mu x c)) c * (1 / 40960) + e))⁻¹, h1.trans ?_, h2.trans ?_⟩
  · rw [Ideal.rsqrt_coe, if_neg (by linarith), if_neg (by linarith)]
  · rw [Ideal.rsqrt_coe, if_neg (by linarith), if_neg (by linarith)]

/-- The derivative of the SiLU is a number at every extended real, and the reference's product is a multiple of it. -/
theorem dfac_real (z : EReal) : ∃ φ : ℝ, dfac z = (φ : EReal)
    ∧ ∀ a : ℝ, (a : EReal) * Ideal.logistic z * (1 + z * (1 - Ideal.logistic z)) = ((a * φ : ℝ) : EReal) := by
  induction z using EReal.rec with
  | bot => exact ⟨0, by unfold dfac; rw [Ideal.logistic_bot, zero_mul]; rfl, fun a => by rw [Ideal.logistic_bot, mul_zero, zero_mul, mul_zero]; rfl⟩
  | top =>
    have h0 : (1 : EReal) - 1 = 0 := by rw [← EReal.coe_one, ← EReal.coe_sub, sub_self]; rfl
    exact ⟨1, by unfold dfac; rw [Ideal.logistic_top, h0, mul_zero, add_zero, one_mul]; rfl,
      fun a => by rw [Ideal.logistic_top, h0, mul_zero, add_zero, mul_one, mul_one, mul_one]⟩
  | coe z =>
    refine ⟨(1 + Real.exp (-z))⁻¹ * (1 + z * (1 - (1 + Real.exp (-z))⁻¹)), ?_, fun a => ?_⟩
    · unfold dfac
      rw [Ideal.logistic_coe]
      simp only [EReal.coe_mul, EReal.coe_add, EReal.coe_sub, EReal.coe_one]
    · rw [Ideal.logistic_coe, ← mul_assoc]
      simp only [EReal.coe_mul, EReal.coe_add, EReal.coe_sub, EReal.coe_one]

/-- The folded affine map is the reference's, at any shift. -/
theorem fold_eq (x μ ρ g : ℝ) (b : EReal) :
    (x : EReal) * ((ρ : EReal) * (g : EReal)) + (b - (μ : EReal) * ((ρ : EReal) * (g : EReal)))
      = ((x : EReal) - (μ : EReal)) * (ρ : EReal) * (g : EReal) + b := by
  rw [sub_eq_add_neg b]
  simp only [← EReal.coe_mul, ← EReal.coe_sub, ← EReal.coe_neg]
  rw [add_comm b, ← add_assoc, ← EReal.coe_add]
  congr 2
  ring

/-- The kernel's two gradients of one batch entry are the reference's. -/
theorem grads_eq (X D : ℕ → ℕ → EReal) (G B : ℕ → EReal) (s : EReal) (hX : ∀ r c, ∃ y : ℝ, X r c = y) (hD : ∀ r c, ∃ y : ℝ, D r c = y)
    (hG : ∀ c, ∃ y : ℝ, G c = y) (hs : ∃ y : ℝ, s = y) (c : ℕ) (hc : c < 320) :
    ksx X D G B s c * kr X c = cs (fun r c => rh X D G B s r c * rx X r c) c ∧ ksh X D G B s c = cs (fun r c => rh X D G B s r c) c := by
  choose x hx using hX
  choose d hd using hD
  choose g hg using hG
  obtain ⟨σ, rfl⟩ := hs
  obtain rfl : X = fun r c => (x r c : EReal) := funext fun r => funext fun c => hx r c
  obtain rfl : D = fun r c => (d r c : EReal) := funext fun r => funext fun c => hd r c
  obtain rfl : G = fun c => (g c : EReal) := funext fun c => hg c
  obtain ⟨ρ, h1, h2⟩ := kr_coe x c hc
  have hF : ∀ r, ∃ φ : ℝ, kp (fun r c => (x r c : EReal)) (fun r c => (d r c : EReal)) (fun c => (g c : EReal)) B r c = ((d r c * φ : ℝ) : EReal)
      ∧ rh (fun r c => (x r c : EReal)) (fun r c => (d r c : EReal)) (fun c => (g c : EReal)) B (σ : EReal) r c = ((d r c * σ * φ : ℝ) : EReal) := by
    intro r
    obtain ⟨φ, p1, p2⟩ := dfac_real (rx (fun r c => (x r c : EReal)) r c * (g c : EReal) + B c)
    refine ⟨φ, ?_, ?_⟩
    · unfold kp kb ka
      beta_reduce
      rw [h1, km_coe, fold_eq]
      unfold rx at p1
      rw [h2, rm_coe] at p1
      rw [p1, EReal.coe_mul]
    · unfold rh
      beta_reduce
      rw [← EReal.coe_mul]
      exact p2 _
  choose φ p1 p2 using hF
  have hxr : ∀ r, rx (fun r c => (x r c : EReal)) r c = (((x r c - mu x c) * ρ : ℝ) : EReal) := fun r => by
    unfold rx; rw [h2, rm_coe, ← EReal.coe_sub, ← EReal.coe_mul]
  constructor
  · unfold ksx ksh cs
    simp only [if_pos hc, p1, p2, hxr, h1, km_coe, ← EReal.coe_mul, sum_coe, ← EReal.coe_sub]
    congr 1
    rw [Finset.sum_mul, Finset.sum_mul, Finset.mul_sum, ← Finset.sum_sub_distrib, Finset.sum_mul]
    exact Finset.sum_congr rfl fun r _ => by ring
  · unfold ksh cs
    simp only [if_pos hc, p1, p2, ← EReal.coe_mul, sum_coe]
    congr 1
    rw [Finset.sum_mul]
    exact Finset.sum_congr rfl fun r _ => by ring

end Cert.KernelIdeal.Hand
-- ==== Proof.VMath2.lean ====
module

public import proofs.«01_k».proof.Proof.VMath
public import proofs.«01_k».proof.Proof.VBody2

@[expose] public section
set_option maxRecDepth 16384
noncomputable section
namespace Cert.KernelIdeal.Hand
open Idealize.ShloMosaic Cert.Nat Cert.ReferenceIdeal.Hand

theorem var_eq' (x : ℕ → ℕ → ℝ) (c : ℕ) :
    rgs (rcs fun r c => x r c * x r c) c * (1 / 40960) - mu x c * mu x c
      = rgs (rcs fun r c => (x r c - mu x c) * (x r c - mu x c)) c * (1 / 40960) := by
  by_cases hc : c < 320
  · exact var_eq x c hc
  · unfold mu rgs; simp [hc]

/-- Both reciprocal deviations are one and the same positive number. -/
theorem kr_pos (x : ℕ → ℕ → ℝ) (c : ℕ) :
    ∃ ρ : ℝ, 0 < ρ ∧ kr (fun r c => (x r c : EReal)) c = (ρ : EReal) ∧ rr (fun r c => (x r c : EReal)) c = (ρ : EReal) := by
  obtain ⟨e, he, hE⟩ := eps_val
  have hp := var_nonneg x c
  have h1 : kr (fun r c => (x r c : EReal)) c = Ideal.rsqrt (((rgs (rcs fun r c => (x r c - mu x c) * (x r c - mu x c)) c * (1 / 40960) + e : ℝ)) : EReal) := by
    unfold kr
    rw [km_coe, hE, ← var_eq' x c]
    simp only [← EReal.coe_mul]
    rw [cs_coe, gs_coe, ← EReal.coe_mul, ← EReal.coe_sub, ← EReal.coe_add]
  have h2 : rr (fun r c => (x r c : EReal)) c = Ideal.rsqrt (((rgs (rcs fun r c => (x r c - mu x c) * (x r c - mu x c)) c * (1 / 40960) + e : ℝ)) : EReal) := by
    unfold rr
    rw [hE, K_val, Ideal.div_coe (by norm_num)]
    simp only [rm_coe, ← EReal.coe_mul, ← EReal.coe_sub]
    rw [cs_coe, gs_coe, ← EReal.coe_mul, ← EReal.coe_add]
  refine ⟨(√(rgs (rcs fun r c => (x r c - mu x c) * (x r c - mu x c)) c * (1 / 40960) + e))⁻¹, inv_pos.2 (Real.sqrt_pos.2 (by linarith)), h1.trans ?_, h2.trans ?_⟩
  · rw [Ideal.rsqrt_coe, if_neg (by linarith), if_neg (by linarith)]
  · rw [Ideal.rsqrt_coe, if_neg (by linarith), if_neg (by linarith)]

section
variable (X D : ℕ → ℕ → EReal) (G B : ℕ → EReal) (s : EReal)

/-- From real inputs: the coefficients' sums are real, and the reference's gradient at x is the kernel's times the reciprocal deviation. -/
theorem dx_eq (hX : ∀ r c, ∃ y : ℝ, X r c = y) (hD : ∀ r c, ∃ y : ℝ, D r c = y) (hG : ∀ c, ∃ y : ℝ, G c = y) (hs : ∃ y : ℝ, s = y) :
    (∀ c, ∃ y : ℝ, ksh X D G B s c * G c = y) ∧ (∀ c, ∃ y : ℝ, ksx X D G B s c * kr X c * G c = y)
    ∧ ∃ (w : ℕ → ℕ → ℝ) (ρ : ℕ → ℝ), (∀ c, 0 < ρ c) ∧ (∀ c, kr X c = ρ c) ∧ (∀ r c, kw X D G B s r c = w r c)
      ∧ ∀ r c, rdx X D G B s r c = ((ρ c * w r c : ℝ) : EReal) := by
  choose x hx using hX
  choose d hd using hD
  choose g hg using hG
  obtain ⟨σ, rfl⟩ := hs
  obtain rfl : X = fun r c => (x r c : EReal) := funext fun r => funext fun c => hx r c
  obtain rfl : D = fun r c => (d r c : EReal) := funext fun r => funext fun c => hd r c
  obtain rfl : G = fun c => (g c : EReal) := funext fun c => hg c
  choose ρ hρ h1 h2 using kr_pos x
  have hF : ∀ r c, ∃ φ : ℝ, kp (fun r c => (x r c : EReal)) (fun r c => (d r c : EReal)) (fun c => (g c : EReal)) B r c = ((d r c * φ : ℝ) : EReal)
      ∧ rh (fun r c => (x r c : EReal)) (fun r c => (d r c : EReal)) (fun c => (g c : EReal)) B (σ : EReal) r c = ((d r c * σ * φ : ℝ) : EReal) := by
    intro r c
    obtain ⟨φ, p1, p2⟩ := dfac_real (rx (fun r c => (x r c : EReal)) r c * (g c : EReal) + B c)
    refine ⟨φ, ?_, ?_⟩
    · unfold kp kb ka
      beta_reduce
      rw [h1, km_coe, fold_eq]
      unfold rx at p1
      rw [h2, rm_coe] at p1
      rw [p1, EReal.coe_mul]
    · unfold rh
      beta_reduce
      rw [← EReal.coe_mul]
      exact p2 _
  choose φ p1 p2 using hF
  have hxr : ∀ r c, rx (fun r c => (x r c : EReal)) r c = (((x r c - mu x c) * ρ c : ℝ) : EReal) := fun r c => by
    unfold rx; rw [h2, rm_coe, ← EReal.coe_sub, ← EReal.coe_mul]
  have k1 : ∀ c, ksh (fun r c => (x r c : EReal)) (fun r c => (d r c : EReal)) (fun c => (g c : EReal)) B (σ : EReal) c = ((rcs (fun r c => d r c * φ r c) c * σ : ℝ) : EReal) := fun c => by
    unfold ksh
    rw [show kp (fun r c => (x r c : EReal)) (fun r c => (d r c : EReal)) (fun c => (g c : EReal)) B = fun r c => ((d r c * φ r c : ℝ) : EReal) from funext fun r => funext fun c => p1 r c,
      cs_coe, ← EReal.coe_mul]
  have k2 : ∀ c, ksx (fun r c => (x r c : EReal)) (fun r c => (d r c : EReal)) (fun c => (g c : EReal)) B (σ : EReal) c
      = ((rcs (fun r c => d r c * φ r c * x r c) c * σ - mu x c * (rcs (fun r c => d r c * φ r c) c * σ) : ℝ) : EReal) := fun c => by
    unfold ksx
    rw [show kp (fun r c => (x r c : EReal)) (fun r c => (d r c : EReal)) (fun c => (g c : EReal)) B = fun r c => ((d r c * φ r c : ℝ) : EReal) from funext fun r => funext fun c => p1 r c, k1, km_coe]
    simp only [← EReal.coe_mul]
    rw [cs_coe, ← EReal.coe_mul, ← EReal.coe_sub]
  have s1 : ∀ c, rcs (fun r c => d r c * σ * φ r c * g c) c = rcs (fun r c => d r c * φ r c) c * σ * g c := fun c => by
    unfold rcs
    split
    · rw [Finset.sum_mul, Finset.sum_mul]; exact Finset.sum_congr rfl fun r _ => by ring
    · simp
  have s2 : ∀ c, rcs (fun r c => d r c * σ * φ r c * g c * ((x r c - mu x c) * ρ c)) c
      = (rcs (fun r c => d r c * φ r c * x r c) c * σ - mu x c * (rcs (fun r c => d r c * φ r c) c * σ)) * ρ c * g c := fun c => by
    unfold rcs
    split
    · rw [Finset.sum_mul, Finset.sum_mul, Finset.mul_sum, ← Finset.sum_sub_distrib, Finset.sum_mul, Finset.sum_mul]
      exact Finset.sum_congr rfl fun r _ => by ring
    · simp
  obtain ⟨M0, m0, n0⟩ : ∃ M0 : ℕ → ℝ, (∀ c, mg0 (fun r c => (x r c : EReal)) (fun r c => (d r c : EReal)) (fun c => (g c : EReal)) B (σ : EReal) c = M0 c)
      ∧ ∀ c, rmg0 (fun r c => (x r c : EReal)) (fun r c => (d r c : EReal)) (fun c => (g c : EReal)) B (σ : EReal) c = M0 c := by
    refine ⟨fun c => rgs (fun c => rcs (fun r c => d r c * φ r c) c * σ * g c) c * (1 / 40960), fun c => ?_, fun c => ?_⟩
    · unfold mg0
      simp only [k1, ← EReal.coe_mul]
      rw [gs_coe, ← EReal.coe_mul]
    · unfold rmg0
      rw [K_val, Ideal.div_coe (by norm_num), show rg (fun r c => (x r c : EReal)) (fun r c => (d r c : EReal)) (fun c => (g c : EReal)) B (σ : EReal)
        = fun r c => ((d r c * σ * φ r c * g c : ℝ) : EReal) from funext fun r => funext fun c => by unfold rg; rw [p2, ← EReal.coe_mul],
        cs_coe, gs_coe, ← EReal.coe_mul, funext s1]
  obtain ⟨M1, m1, n1⟩ : ∃ M1 : ℕ → ℝ, (∀ c, mg1 (fun r c => (x r c : EReal)) (fun r c => (d r c : EReal)) (fun c => (g c : EReal)) B (σ : EReal) c = M1 c)
      ∧ ∀ c, rmg1 (fun r c => (x r c : EReal)) (fun r c => (d r c : EReal)) (fun c => (g c : EReal)) B (σ : EReal) c = M1 c := by
    refine ⟨fun c => rgs (fun c => (rcs (fun r c => d r c * φ r c * x r c) c * σ - mu x c * (rcs (fun r c => d r c * φ r c) c * σ)) * ρ c * g c) c * (1 / 40960), fun c => ?_, fun c => ?_⟩
    · unfold mg1
      simp only [k2, h1, ← EReal.coe_mul]
      rw [gs_coe, ← EReal.coe_mul]
    · unfold rmg1
      rw [K_val, Ideal.div_coe (by norm_num), show (fun r c => rg (fun r c => (x r c : EReal)) (fun r c => (d r c : EReal)) (fun c => (g c : EReal)) B (σ : EReal) r c
          * rx (fun r c => (x r c : EReal)) r c)
        = fun r c => ((d r c * σ * φ r c * g c * ((x r c - mu x c) * ρ c) : ℝ) : EReal) from funext fun r => funext fun c => by unfold rg; rw [p2, hxr, ← EReal.coe_mul, ← EReal.coe_mul],
        cs_coe, gs_coe, ← EReal.coe_mul, funext s2]
  refine ⟨fun c => ⟨_, by rw [k1, ← EReal.coe_mul]⟩, fun c => ⟨_, by rw [k2, h1, ← EReal.coe_mul, ← EReal.coe_mul]⟩,
    fun r c => d r c * φ r c * (g c * σ) - x r c * (ρ c * M1 c) - (M0 c - mu x c * (ρ c * M1 c)), ρ, hρ, h1, fun r c => ?_, fun r c => ?_⟩
  · unfold kw wv kx kc kx
    rw [p1, h1, m0, m1, km_coe]
    simp only [← EReal.coe_mul, ← EReal.coe_sub]
  · unfold rdx rg
    rw [h2, p2, n0, n1, hxr]
    simp only [← EReal.coe_mul, ← EReal.coe_sub]
    congr 1
    ring

/-- A supremum of real numbers over a range that is not empty is the greatest of them. -/
theorem sup_max (n : ℕ) (hn : 0 < n) (f : ℕ → ℝ) : ∃ i < n, (∀ r < n, f r ≤ f i) ∧ (Finset.range n).sup (fun r => (f r : EReal)) = (f i : EReal) := by
  obtain ⟨i, hi, h⟩ := Finset.exists_max_image (Finset.range n) f ⟨0, Finset.mem_range.2 hn⟩
  refine ⟨i, Finset.mem_range.1 hi, fun r hr => h r (Finset.mem_range.2 hr), le_antisymm ?_ ?_⟩
  · exact Finset.sup_le fun r hr => EReal.coe_le_coe_iff.2 (h r hr)
  · exact Finset.le_sup (f := fun r => (f r : EReal)) hi

theorem av_coe (x : ℝ) : av (x : EReal) = ((|x| : ℝ) : EReal) := by
  unfold av
  rw [← EReal.coe_neg, abs_eq_max_neg]
  exact (EReal.coe_strictMono.monotone.map_max (a := x) (b := -x)).symm

/-- The scaled maximum is the maximum of the scaled gradient. -/
theorem am_eq (w : ℕ → ℕ → ℝ) (ρ : ℕ → ℝ) (hρ : ∀ c, 0 < ρ c) (h1 : ∀ c, kr X c = ρ c) (hw : ∀ r c, kw X D G B s r c = w r c)
    (hr : ∀ r c, rdx X D G B s r c = ((ρ c * w r c : ℝ) : EReal)) (c : ℕ) :
    ∃ a : ℝ, 0 ≤ a ∧ am X D G B s c = a ∧ (c < 320 → (Finset.range 4096).sup (fun r => av (rdx X D G B s r c)) = a) := by
  unfold am cmx
  simp only [hw, av_coe, h1, hr]
  split
  · obtain ⟨i, hi, h, e⟩ := sup_max 4096 (by norm_num) (fun r => |w r c|)
    refine ⟨|w i c| * ρ c, mul_nonneg (abs_nonneg _) (hρ c).le, ?_, fun _ => ?_⟩
    · rw [e, max_eq_right (EReal.coe_nonneg.2 (abs_nonneg _)), ← EReal.coe_mul]
    · apply le_antisymm
      · refine Finset.sup_le fun r hr => EReal.coe_le_coe_iff.2 ?_
        rw [abs_mul, abs_of_pos (hρ c), mul_comm]
        exact mul_le_mul_of_nonneg_right (h r (Finset.mem_range.1 hr)) (hρ c).le
      · have h2 := Finset.le_sup (f := fun r => ((|ρ c * w r c| : ℝ) : EReal)) (Finset.mem_range.2 hi)
        refine le_trans (EReal.coe_le_coe_iff.2 ?_) h2
        rw [abs_mul, abs_of_pos (hρ c), mul_comm]
  · exact ⟨0, le_rfl, by rw [zero_mul]; rfl, fun h => absurd h ‹_›⟩

/-- The kernel's sixteen rows give the maximum over a group's ten channels. -/
theorem gmx_eq (S T : ℕ → EReal) (h0 : ∀ c, 0 ≤ S c) (hT : ∀ c, c < 320 → T c = S c) (c : ℕ) (hc : c < 320) : gmx S c = (Finset.range 10).sup fun j => T (c / 10 * 10 + j) := by
  have hg : ∀ j, gsum (fun x => if x % 10 = j then S x else 0) c = if j < 10 then S (c / 10 * 10 + j) else 0 := fun j => by
    unfold gsum
    rw [if_pos hc, Finset.sum_congr rfl (g := fun k => if k = j then S (c / 10 * 10 + j) else 0) fun k hk => ?_]
    · rw [Finset.sum_ite_eq']
      simp only [Finset.mem_range]
    · have hk := Finset.mem_range.1 hk
      beta_reduce
      rw [show (10 * (c / 10) + k) % 10 = k by omega]
      by_cases h : k = j
      · rw [if_pos h, if_pos h, h, Nat.mul_comm]
      · rw [if_neg h, if_neg h]
  unfold gmx
  simp only [hg]
  apply le_antisymm
  · refine Finset.sup_le fun j hj => ?_
    split
    · rename_i h
      rw [← hT _ (by omega)]
      exact Finset.le_sup (f := fun j => T (c / 10 * 10 + j)) (Finset.mem_range.2 h)
    · refine le_trans (h0 (c / 10 * 10 + 0)) ?_
      rw [← hT _ (by omega)]
      exact Finset.le_sup (f := fun j => T (c / 10 * 10 + j)) (Finset.mem_range.2 (by norm_num : 0 < 10))
  · refine Finset.sup_le fun j hj => ?_
    have hj := Finset.mem_range.1 hj
    have h := Finset.le_sup (f := fun j => if j < 10 then S (c / 10 * 10 + j) else 0) (Finset.mem_range.2 (by omega : j < 16))
    rw [hT _ (by omega)]
    simpa only [if_pos hj] using h

theorem kappa_val : ∃ k : ℝ, 0 < k ∧ Ideal.ofBits FTy.f32 932333861#32 = (k : EReal) := by
  refine ⟨9586981 / 2 ^ 39, by norm_num, ?_⟩
  simp [Ideal.ofBits, Ideal.ieee, -EReal.coe_mul]; norm_num
theorem tiny_val : Ideal.ofBits FTy.f32 8388608#32 = (((2 : ℝ) ^ (-126 : ℤ) : ℝ) : EReal) := by
  simp [Ideal.ofBits, Ideal.ieee, -EReal.coe_mul]; norm_num
theorem two_val : Ideal.ofBits FTy.f32 1073741824#32 = ((2 : ℝ) : EReal) := by
  simp [Ideal.ofBits, Ideal.ieee, -EReal.coe_mul]; norm_num
theorem e126_val : Ideal.ofBits FTy.f32 1123811328#32 = ((126 : ℝ) : EReal) := by
  simp [Ideal.ofBits, Ideal.ieee, -EReal.coe_mul]; norm_num

/-- The exponent of a positive number: the whole part of its logarithm to base two. -/
def lg (θ : ℝ) : ℤ := ⌊Real.log θ * (1 / Real.log 2)⌋
theorem le_lg (θ : ℝ) (hp : 0 < θ) (k : ℤ) : (2 : ℝ) ^ k ≤ θ ↔ k ≤ lg θ := by
  have hl : 0 < Real.log 2 := Real.log_pos (by norm_num)
  unfold lg
  rw [Int.le_floor, mul_one_div, le_div_iff₀ hl, ← Real.log_zpow, Real.log_le_log_iff (by positivity) hp]

/-- The number of powers of two at or below a number is its exponent. -/
theorem npow_eq (θ : ℝ) (h : (2 : ℝ) ^ (-126 : ℤ) ≤ θ) : (npow (θ : EReal) : ℤ) = min (lg θ + 127) 252 := by
  have hp : 0 < θ := lt_of_lt_of_le (by positivity) h
  have hn : -126 ≤ lg θ := (le_lg θ hp _).1 h
  have e : ((Finset.range 252).filter fun i : ℕ => (((2 : ℝ) ^ ((i : ℤ) - 126) : ℝ) : EReal) ≤ (θ : EReal)) = Finset.range (min (lg θ + 127) 252).toNat := by
    ext i
    have hi : (((2 : ℝ) ^ ((i : ℤ) - 126) : ℝ) : EReal) ≤ (θ : EReal) ↔ (i : ℤ) - 126 ≤ lg θ := by
      rw [EReal.coe_le_coe_iff, le_lg θ hp]
    rw [Finset.mem_filter, Finset.mem_range, Finset.mem_range, hi]
    omega
  unfold npow
  rw [e, Finset.card_range, Int.toNat_of_nonneg (by omega)]

/-- The two exponents of a real number that is not negative are one. -/
theorem exp_eq (θ : ℝ) (h0 : 0 ≤ θ) : Ideal.exp2 (0 - re (θ : EReal)) = (((2 : ℝ) ^ (-kexp (θ : EReal)) : ℝ) : EReal) := by
  unfold re
  rw [tiny_val, two_val, e126_val]
  by_cases h : θ < (2 : ℝ) ^ (-126 : ℤ)
  · rw [if_pos (EReal.coe_lt_coe_iff.2 h)]
    have hn : npow (θ : EReal) = 0 := by
      unfold npow
      rw [Finset.card_eq_zero, Finset.filter_eq_empty_iff]
      intro i _ hi
      rw [EReal.coe_le_coe_iff] at hi
      have : (2 : ℝ) ^ (-126 : ℤ) ≤ (2 : ℝ) ^ ((i : ℤ) - 126) := zpow_le_zpow_right₀ (by norm_num) (by omega)
      linarith
    have hk : kexp (θ : EReal) = 0 := by unfold kexp; rw [if_pos hn]
    rw [hk, sub_zero]
    show ((Real.rpow 2 0 : ℝ) : EReal) = _
    simp
  · have h' := not_lt.1 h
    have hp : 0 < θ := lt_of_lt_of_le (by positivity) h'
    have hl : Real.log 2 ≠ 0 := (Real.log_pos (by norm_num)).ne'
    have hn : -126 ≤ lg θ := (le_lg θ hp _).1 h'
    have hk : kexp (θ : EReal) = min (lg θ + 1) 126 := by
      have := npow_eq θ h'
      unfold kexp
      split <;> omega
    have hf : ⌊Real.log θ * (1 / Real.log 2)⌋ = lg θ := rfl
    rw [if_neg fun e => h (EReal.coe_lt_coe_iff.1 e), Ideal.log_coe, if_neg (not_le.2 hp), Ideal.log_coe, if_neg (by norm_num), Ideal.div_coe hl, ← EReal.coe_mul,
      Ideal.liftRound_coe, hf, hk]
    have e1 : min ((((lg θ : ℤ) : ℝ) : EReal) + 1) ((126 : ℝ) : EReal) = (((min (lg θ + 1) 126 : ℤ) : ℝ) : EReal) := by
      rw [show (1 : EReal) = ((1 : ℝ) : EReal) from rfl, ← EReal.coe_add]
      refine (EReal.coe_strictMono.monotone.map_min (a := ((lg θ : ℤ) : ℝ) + 1) (b := 126)).symm.trans ?_
      push_cast
      rfl
    rw [e1, zero_sub, ← EReal.coe_neg, Ideal.exp2_coe]
    congr 1
    show (2 : ℝ) ^ (-((min (lg θ + 1) 126 : ℤ) : ℝ)) = _
    rw [← Int.cast_neg, Real.rpow_intCast]

/-- From real inputs the maxima are real and the kernel's codes are the reference's. -/
theorem codes_eq (hX : ∀ r c, ∃ y : ℝ, X r c = y) (hD : ∀ r c, ∃ y : ℝ, D r c = y) (hG : ∀ c, ∃ y : ℝ, G c = y) (hs : ∃ y : ℝ, s = y) :
    (∀ c, ∃ y : ℝ, am X D G B s c = y) ∧ ∀ r c, c < 320 → kcode X D G B s r c = rcode (rdx X D G B s) r c := by
  obtain ⟨-, -, w, ρ, hρ, h1, hw, hr⟩ := dx_eq X D G B s hX hD hG hs
  choose a a0 a1 a2 using am_eq X D G B s w ρ hρ h1 hw hr
  refine ⟨fun c => ⟨a c, a1 c⟩, fun r c hc => ?_⟩
  have hg : gmx (am X D G B s) c = ra (rdx X D G B s) c :=
    gmx_eq _ (fun c => (Finset.range 4096).sup fun r => av (rdx X D G B s r c)) (fun c => (a1 c).symm ▸ EReal.coe_nonneg.2 (a0 c)) (fun c h => (a2 c h).trans (a1 c).symm) c hc
  obtain ⟨k, k0, hk⟩ := kappa_val
  obtain ⟨A, A0, hA⟩ : ∃ A : ℝ, 0 ≤ A ∧ ra (rdx X D G B s) c = A := by
    have he : ∀ j ∈ Finset.range 10, ((Finset.range 4096).sup fun r => av (rdx X D G B s r (c / 10 * 10 + j))) = (a (c / 10 * 10 + j) : EReal) := fun j hj =>
      a2 _ (by have := Finset.mem_range.1 hj; omega)
    obtain ⟨i, -, -, e⟩ := sup_max 10 (by norm_num) (fun j => a (c / 10 * 10 + j))
    exact ⟨_, a0 _, by unfold ra; rw [Finset.sup_congr rfl he, e]⟩
  unfold kcode rcode
  rw [hg, hA, hk, ← EReal.coe_mul, exp_eq _ (mul_nonneg A0 k0.le), hr, hw, h1]
  unfold cv
  simp only [← EReal.coe_mul]
  rw [show ρ c * w r c * (2 : ℝ) ^ (-kexp ((A * k : ℝ) : EReal)) = w r c * (ρ c * (2 : ℝ) ^ (-kexp ((A * k : ℝ) : EReal))) by ring]
end

end Cert.KernelIdeal.Hand
-- ==== Proof.VEntry.lean ====
module

public import proofs.«01_k».proof.Proof.VFrame
public import proofs.«01_k».proof.Proof.VMath2
public import Idealize.ShloMosaic.Lib.Claim

@[expose] public section
set_option maxRecDepth 16384
noncomputable section
namespace Cert.KernelIdeal.Value
open Idealize.ShloMosaic Idealize.ShloMosaic.TcCoe Idealize.SL.Sem Cert.Nat Cert.KernelIdeal Cert.KernelIdeal.Gen Cert.KernelIdeal.Hand
open Cert.ReferenceIdeal.Hand (rh rx rdx rcode)
variable (m : (ℓ : Loc nD τ sig) → Buf (Elt Ideal) ℓ)

theorem Kv0 (c : Dev nD) : (V m c main_v0 : S1x320.Idx → EReal) = shapeCast S1x320 (m ((c.tc : Thread nD τ).loc main_arg1)) shapeCasts_S320_S1x320 := by
  entry_read; rfl
theorem Kv1 (c : Dev nD) : (V m c main_v1 : S1x320.Idx → EReal) = shapeCast S1x320 (m ((c.tc : Thread nD τ).loc main_arg2)) shapeCasts_S320_S1x320 := by
  entry_read; rfl
theorem Kv2 (c : Dev nD) : (V m c main_v2 : S8x4096x320.Idx → EReal) = bitcastToFloat (F := Ideal) .fp8e5m2 (m ((c.tc : Thread nD τ).loc main_arg3)) := by
  entry_read; rfl
theorem Kv3 (c : Dev nD) : (V m c main_v3 : S1x1.Idx → EReal) = shapeCast S1x1 (m ((c.tc : Thread nD τ).loc main_arg4)) shapeCasts_S_S1x1 := by
  entry_read; rfl

theorem za (k n : ℕ) : 0 * k + 1 * n = n := by omega
theorem zb (n : ℕ) : n * 1 + 1 * 0 = n := by omega

/-- The input's block at a grid point is the batch entry of that number. -/
theorem b0_ix (c : Dev nD) (t : Fin cfg0.N) (r : Fin 4096) (l : Fin 320) :
    b0 m c t (ix3 0 r l) = (V m c main_arg0 : S8x4096x320.Idx → EReal) (ix3 (⟨t.val, t.isLt⟩ : Fin 8) r l) := by
  have hi : ∀ t : Fin cfg0.N, win0_0.index t 0 = t.val ∧ win0_0.index t 1 = 0 ∧ win0_0.index t 2 = 0 := by decide +kernel
  unfold b0 iblk
  refine congrArg (V m c main_arg0) (funext fun a => Fin.ext ?_)
  fin_cases a
  · exact (congrArg (fun n => n * 1 + 1 * 0) (hi t).1).trans (zb _)
  · exact (congrArg (fun n => n * 4096 + 1 * r.val) (hi t).2.1).trans (za _ _)
  · exact (congrArg (fun n => n * 320 + 1 * l.val) (hi t).2.2).trans (za _ _)
theorem b3_ix (c : Dev nD) (t : Fin cfg0.N) (r : Fin 4096) (l : Fin 320) :
    b3 m c t (ix3 0 r l) = (V m c main_v2 : S8x4096x320.Idx → EReal) (ix3 (⟨t.val, t.isLt⟩ : Fin 8) r l) := by
  have hi : ∀ t : Fin cfg0.N, win0_3.index t 0 = t.val ∧ win0_3.index t 1 = 0 ∧ win0_3.index t 2 = 0 := by decide +kernel
  unfold b3 iblk
  refine congrArg (V m c main_v2) (funext fun a => Fin.ext ?_)
  fin_cases a
  · exact (congrArg (fun n => n * 1 + 1 * 0) (hi t).1).trans (zb _)
  · exact (congrArg (fun n => n * 4096 + 1 * r.val) (hi t).2.1).trans (za _ _)
  · exact (congrArg (fun n => n * 320 + 1 * l.val) (hi t).2.2).trans (za _ _)
theorem b1_ix (c : Dev nD) (t : Fin cfg0.N) (l : Fin 320) : b1 m c t (ix2 0 l) = (V m c main_v0 : S1x320.Idx → EReal) (ix2 0 l) := by
  have hi : ∀ t : Fin cfg0.N, win0_1.index t 0 = 0 ∧ win0_1.index t 1 = 0 := by decide +kernel
  unfold b1 iblk
  refine congrArg (V m c main_v0) (funext fun a => Fin.ext ?_)
  fin_cases a
  · exact (congrArg (fun n => n * 1 + 1 * 0) (hi t).1).trans (zb _)
  · exact (congrArg (fun n => n * 320 + 1 * l.val) (hi t).2).trans (za _ _)
theorem b2_ix (c : Dev nD) (t : Fin cfg0.N) (l : Fin 320) : b2 m c t (ix2 0 l) = (V m c main_v1 : S1x320.Idx → EReal) (ix2 0 l) := by
  have hi : ∀ t : Fin cfg0.N, win0_2.index t 0 = 0 ∧ win0_2.index t 1 = 0 := by decide +kernel
  unfold b2 iblk
  refine congrArg (V m c main_v1) (funext fun a => Fin.ext ?_)
  fin_cases a
  · exact (congrArg (fun n => n * 1 + 1 * 0) (hi t).1).trans (zb _)
  · exact (congrArg (fun n => n * 320 + 1 * l.val) (hi t).2).trans (za _ _)
theorem b4_ix (c : Dev nD) (t : Fin cfg0.N) : b4 m c t (ix2 0 0) = (V m c main_v3 : S1x1.Idx → EReal) (ix2 0 0) := by
  have hi : ∀ t : Fin cfg0.N, win0_4.index t 0 = 0 ∧ win0_4.index t 1 = 0 := by decide +kernel
  unfold b4 iblk
  refine congrArg (V m c main_v3) (funext fun a => Fin.ext ?_)
  fin_cases a
  · exact (congrArg (fun n => n * 1 + 1 * 0) (hi t).1).trans (zb _)
  · exact (congrArg (fun n => n * 1 + 1 * 0) (hi t).2).trans (zb _)

theorem at3_congr {A A' B C : ℕ} (x : (⟨3, ![A, B, C]⟩ : Shape).Idx → EReal) (x' : (⟨3, ![A', B, C]⟩ : Shape).Idx → EReal) (t : Fin A) (t' : Fin A')
    (h : ∀ r l, x (ix3 t r l) = x' (ix3 t' r l)) (r l : ℕ) : at3 x t.val r l = at3 x' t'.val r l := by
  unfold at3
  by_cases hh : r < B ∧ l < C
  · rw [dif_pos ⟨t.isLt, hh⟩, dif_pos ⟨t'.isLt, hh⟩]; exact h _ _
  · rw [dif_neg fun e => hh e.2, dif_neg fun e => hh e.2]
theorem at2_congr {B : ℕ} (x x' : (⟨2, ![1, B]⟩ : Shape).Idx → EReal) (h : ∀ l, x (ix2 0 l) = x' (ix2 0 l)) (l : ℕ) : at2 x 0 l = at2 x' 0 l := by
  unfold at2
  by_cases hh : l < B
  · rw [dif_pos ⟨Nat.one_pos, hh⟩, dif_pos ⟨Nat.one_pos, hh⟩]; exact h _
  · rw [dif_neg fun e => hh e.2, dif_neg fun e => hh e.2]
theorem at3_real {A B C : ℕ} (x : (⟨3, ![A, B, C]⟩ : Shape).Idx → EReal) (h : ∀ i, ∃ y : ℝ, x i = y) (t r l : ℕ) : ∃ y : ℝ, at3 x t r l = y := by
  unfold at3
  split
  · exact h _
  · exact ⟨0, rfl⟩
theorem at2_real {A B : ℕ} (x : (⟨2, ![A, B]⟩ : Shape).Idx → EReal) (h : ∀ i, ∃ y : ℝ, x i = y) (t l : ℕ) : ∃ y : ℝ, at2 x t l = y := by
  unfold at2
  split
  · exact h _
  · exact ⟨0, rfl⟩

theorem b0_at (c : Dev nD) (t : Fin cfg0.N) (r l : ℕ) : at3 (b0 m c t) 0 r l = at3 (V m c main_arg0 : S8x4096x320.Idx → EReal) t.val r l :=
  at3_congr (A := 1) (A' := 8) (B := 4096) (C := 320) (b0 m c t) (V m c main_arg0) 0 ⟨t.val, t.isLt⟩ (b0_ix m c t) r l
theorem b3_at (c : Dev nD) (t : Fin cfg0.N) (r l : ℕ) : at3 (b3 m c t) 0 r l = at3 (V m c main_v2 : S8x4096x320.Idx → EReal) t.val r l :=
  at3_congr (A := 1) (A' := 8) (B := 4096) (C := 320) (b3 m c t) (V m c main_v2) 0 ⟨t.val, t.isLt⟩ (b3_ix m c t) r l
theorem b1_at (c : Dev nD) (t : Fin cfg0.N) (l : ℕ) : at2 (b1 m c t) 0 l = at2 (V m c main_v0 : S1x320.Idx → EReal) 0 l :=
  at2_congr (B := 320) (b1 m c t) (V m c main_v0) (b1_ix m c t) l
theorem b2_at (c : Dev nD) (t : Fin cfg0.N) (l : ℕ) : at2 (b2 m c t) 0 l = at2 (V m c main_v1 : S1x320.Idx → EReal) 0 l :=
  at2_congr (B := 320) (b2 m c t) (V m c main_v1) (b2_ix m c t) l

/-- The arrays the kernel's input windows read: the input, gamma, beta, the codes and the scale. -/
abbrev va (c : Dev nD) : S8x4096x320.Idx → EReal := V m c main_arg0
@[inherit_doc va] abbrev vg (c : Dev nD) : S1x320.Idx → EReal := V m c main_v0
@[inherit_doc va] abbrev vb (c : Dev nD) : S1x320.Idx → EReal := V m c main_v1
@[inherit_doc va] abbrev vd (c : Dev nD) : S8x4096x320.Idx → EReal := V m c main_v2
@[inherit_doc va] abbrev vs (c : Dev nD) : S1x1.Idx → EReal := V m c main_v3

section
variable (hx : ∀ (c : Dev nD) (i : S8x4096x320.Idx), ∃ y : ℝ, va m c i = (y : EReal))
  (hg : ∀ (c : Dev nD) (i : S1x320.Idx), ∃ y : ℝ, vg m c i = (y : EReal))
  (hd : ∀ (c : Dev nD) (i : S8x4096x320.Idx), ∃ y : ℝ, vd m c i = (y : EReal))
  (hs : ∀ (c : Dev nD) (i : S1x1.Idx), ∃ y : ℝ, vs m c i = (y : EReal))

include hx in
theorem b0_real (c : Dev nD) (t : Fin cfg0.N) (r l : ℕ) : ∃ y : ℝ, at3 (b0 m c t) 0 r l = y := by
  rw [b0_at]; exact at3_real (va m c) (hx c) _ _ _

include hx hg hd hs
/-- The gamma gradient the kernel leaves, in the reference's terms. -/
theorem accg_eq (c : Dev nD) (ch : Fin 320) : accg m c 8 ch.val
    = ∑ b : Fin 8, cs (fun r l => rh (fun r l => at3 (va m c) b.val r l) (fun r l => at3 (vd m c) b.val r l)
        (fun l => at2 (vg m c) 0 l) (fun l => at2 (vb m c) 0 l) (vs m c (ix2 0 0)) r l
          * rx (fun r l => at3 (va m c) b.val r l) r l) ch.val := by
  unfold accg
  rw [← Fin.sum_univ_eq_sum_range (fun b => if h : b < cfg0.N then ctg m c ⟨b, h⟩ ch.val else 0)]
  refine Finset.sum_congr rfl fun b _ => ?_
  rw [dif_pos (show b.val < cfg0.N from b.isLt)]
  unfold ctg
  simp only [b0_at, b1_at, b2_at, b3_at, b4_ix]
  exact (grads_eq _ _ _ _ _ (fun r l => at3_real (va m c) (hx c) _ r l) (fun r l => at3_real (vd m c) (hd c) _ r l) (fun l => at2_real (vg m c) (hg c) _ l) (hs c _) ch.val ch.isLt).1
/-- The beta gradient the kernel leaves, in the reference's terms. -/
theorem accb_eq (c : Dev nD) (ch : Fin 320) : accb m c 8 ch.val
    = ∑ b : Fin 8, cs (fun r l => rh (fun r l => at3 (va m c) b.val r l) (fun r l => at3 (vd m c) b.val r l)
        (fun l => at2 (vg m c) 0 l) (fun l => at2 (vb m c) 0 l) (vs m c (ix2 0 0)) r l) ch.val := by
  unfold accb
  rw [← Fin.sum_univ_eq_sum_range (fun b => if h : b < cfg0.N then ctb m c ⟨b, h⟩ ch.val else 0)]
  refine Finset.sum_congr rfl fun b _ => ?_
  rw [dif_pos (show b.val < cfg0.N from b.isLt)]
  unfold ctb
  simp only [b0_at, b1_at, b2_at, b3_at, b4_ix]
  exact (grads_eq _ _ _ _ _ (fun r l => at3_real (va m c) (hx c) _ r l) (fun r l => at3_real (vd m c) (hd c) _ r l) (fun l => at2_real (vg m c) (hg c) _ l) (hs c _) ch.val ch.isLt).2
omit hx hg hs in
theorem b3_real (c : Dev nD) (t : Fin cfg0.N) (r l : ℕ) : ∃ y : ℝ, at3 (b3 m c t) 0 r l = y := by
  rw [b3_at]; exact at3_real (vd m c) (hd c) _ _ _
omit hx hd hs in
theorem b1_real (c : Dev nD) (t : Fin cfg0.N) (l : ℕ) : ∃ y : ℝ, at2 (b1 m c t) 0 l = y := by
  rw [b1_at]; exact at2_real (vg m c) (hg c) _ _
omit hx hg hd in
theorem b4_real (c : Dev nD) (t : Fin cfg0.N) : ∃ y : ℝ, (b4 m c t (ix2 0 0) : EReal) = y := by
  rw [b4_ix]; exact hs c _
/-- From real arrays the body's sums and maxima are real at every grid point. -/
theorem sums_real (c : Dev nD) (t : Fin cfg0.N) : Sums (b0 m c t) (b1 m c t) (b2 m c t) (b3 m c t) (b4 m c t) :=
  ⟨(dx_eq _ _ _ _ _ (b0_real m hx c t) (b3_real m hd c t) (b1_real m hg c t) (b4_real m hs c t)).1,
    (dx_eq _ _ _ _ _ (b0_real m hx c t) (b3_real m hd c t) (b1_real m hg c t) (b4_real m hs c t)).2.1,
    (codes_eq _ _ _ _ _ (b0_real m hx c t) (b3_real m hd c t) (b1_real m hg c t) (b4_real m hs c t)).1⟩
/-- The codes the kernel leaves, in the reference's terms. -/
theorem codes_at (c : Dev nD) (b : Fin 8) (r : Fin 4096) (l : Fin 320) : codes m c (ix3 b r l)
    = rcode (rdx (fun r l => at3 (va m c) b.val r l) (fun r l => at3 (vd m c) b.val r l) (fun l => at2 (vg m c) 0 l) (fun l => at2 (vb m c) 0 l) (vs m c (ix2 0 0))) r.val l.val := by
  refine ((codes_eq _ _ _ (fun l => at2 (b2 m c ⟨b.val, b.isLt⟩) 0 l) _ (b0_real m hx c ⟨b.val, b.isLt⟩) (b3_real m hd c ⟨b.val, b.isLt⟩) (b1_real m hg c ⟨b.val, b.isLt⟩) (b4_real m hs c ⟨b.val, b.isLt⟩)).2
    r.val l.val l.isLt).trans ?_
  exact congrFun (congrFun (congrArg rcode (congr (congr (congr (congr (congrArg rdx (funext fun r => funext fun l => b0_at m c ⟨b.val, b.isLt⟩ r l))
    (funext fun r => funext fun l => b3_at m c ⟨b.val, b.isLt⟩ r l)) (funext fun l => b1_at m c ⟨b.val, b.isLt⟩ l)) (funext fun l => b2_at m c ⟨b.val, b.isLt⟩ l))
    (b4_ix m c ⟨b.val, b.isLt⟩))) r.val) l.val
end

end Cert.KernelIdeal.Value
-- ==== Proof.VPre.lean ====
module

public import proofs.«01_k».proof.Pre_finite
public import Idealize.ShloMosaic.Lib.ReduceAll
public import Idealize.ShloMosaic.Lib.Pipeline.ValueKit

@[expose] public section
set_option maxRecDepth 16384
noncomputable section
namespace Cert.Pre_finite.Hand
open Idealize.ShloMosaic Cert.Pre_finite

/-- The side conditions of the predicate's operations. -/
instance facts : Cert.Pre_finite.Facts where
  bitsLt_bf16_f32 := by decide
  bcast_S_S8x4096x320 := by decide
  reducesTo_S8x4096x320_S_d0_1_2 := by decide
  h_S_ := by decide
  bcast_S_S320 := by decide
  reducesTo_S320_S_d0 := by decide
  natLt_8_32 := by decide

theorem inf_val : Ideal.ofBits .f32 0x7F800000#32 = (⊤ : EReal) := by
  simp [Ideal.ofBits, Ideal.ieee]

/-- An extended real whose absolute value is below infinity is a real number. -/
theorem real_of_lt (x : EReal) (h : Ideal.cmp .olt (max x (-x)) (Ideal.ofBits .f32 0x7F800000#32) = 1#1) : ∃ y : ℝ, x = y := by
  rw [inf_val] at h
  induction x using EReal.rec with
  | bot => simp [Ideal.cmp] at h
  | top => simp [Ideal.cmp] at h
  | coe y => exact ⟨y, rfl⟩

theorem code_exp : ∀ w : BitVec 8, IntOp.cmpi .ne (IntOp.andi (w.signExtend 32) 124#32) 124#32 = 1#1 → (w.extractLsb' 2 5).toNat ≠ 2 ^ 5 - 1 := by
  decide +kernel

/-- A code whose exponent field is not all ones stands for a real number. -/
theorem code_real (w : BitVec 8) (h : IntOp.cmpi .ne (IntOp.andi (w.signExtend 32) 124#32) 124#32 = 1#1) :
    ∃ y : ℝ, Ideal.ofBits .fp8e5m2 w = (y : EReal) := by
  show ∃ y : ℝ, Ideal.ieee 5 2 w = (y : EReal)
  unfold Ideal.ieee
  dsimp only
  rw [if_neg (code_exp w h)]
  split <;> exact ⟨_, rfl⟩

instance : Subsingleton S_.Idx := ⟨fun a b => funext fun i => i.elim0⟩

/-- Under the precondition the input, gamma, the codes and the scale are real numbers. -/
theorem pre_real (a0 : FVec Ideal S8x4096x320 .bf16) (a1 a2 : FVec Ideal S320 .f32) (a3 : IVec S8x4096x320 8) (a4 : FVec Ideal S_ .f32)
    (h : Cert.Pre_finite.fn (F := Ideal) a0 a1 a2 a3 a4 = fun _ => 1#1) :
    (∀ i, ∃ y : ℝ, a0 i = (y : EReal)) ∧ (∀ i, ∃ y : ℝ, a1 i = (y : EReal)) ∧ (∀ i, ∃ y : ℝ, Ideal.ofBits .fp8e5m2 (a3 i) = (y : EReal))
      ∧ (∀ i, ∃ y : ℝ, a4 i = (y : EReal)) := by
  have h0 := congrFun h (fun a => a.elim0)
  unfold fn fn_part1 at h0
  dsimp only at h0
  obtain ⟨h1, h4⟩ := IntOp.andi_eq_one.1 h0
  obtain ⟨h2, h3⟩ := IntOp.andi_eq_one.1 h1
  obtain ⟨hx, hg⟩ := IntOp.andi_eq_one.1 h2
  refine ⟨fun i => real_of_lt _ (Host.reduce_andi_all _ _ _ _ _ hx i), fun i => real_of_lt _ (Host.reduce_andi_all _ _ _ _ _ hg i),
    fun i => code_real _ (Host.reduce_andi_all _ _ _ _ _ h3 i), fun i => ?_⟩
  rw [Subsingleton.elim i (fun a => a.elim0)]
  exact real_of_lt _ h4

end Cert.Pre_finite.Hand
-- ==== Proof.VClaim.lean ====
module

public import proofs.«01_k».proof.Defs
public import proofs.«01_k».proof.Proof.VEntry
public import proofs.«01_k».proof.Proof.VPre

@[expose] public section
set_option maxRecDepth 16384
noncomputable section
namespace Cert.Final
open Idealize.ShloMosaic Idealize.ShloMosaic.TcCoe Idealize.SL.Sem Cert.Nat Cert.KernelIdeal.Hand Cert.KernelIdeal.Value

theorem ix3_self (y : Cert.KernelIdeal.S8x4096x320.Idx) : y = ix3 (y 0) (y 1) (y 2) := by
  funext a; fin_cases a <;> rfl

/-- The kernel's side: from real inputs it runs, and leaves the codes, and the sums over the grid in its two gradients. -/
theorem kernel_run (m : (ℓ : Loc Cert.KernelIdeal.nD Cert.KernelIdeal.τ Cert.KernelIdeal.sig) → Buf (Elt Ideal) ℓ) (g : Dev Cert.KernelIdeal.nD → PrngReg)
    (hx : ∀ (c : Dev Cert.KernelIdeal.nD) (i : Cert.KernelIdeal.S8x4096x320.Idx), ∃ y : ℝ, va m c i = (y : EReal))
    (hS : ∀ (c : Dev Cert.KernelIdeal.nD) (t : Fin Cert.KernelIdeal.cfg0.N), Sums (b0 m c t) (b1 m c t) (b2 m c t) (b3 m c t) (b4 m c t)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = codes m c
          ∧ r.2.mem ((c.tc : Thread Cert.KernelIdeal.nD Cert.KernelIdeal.τ).loc Cert.KernelIdeal.main_v4_2) = (fun (y : Cert.KernelIdeal.S1x320.Idx) => accg m c 8 (y 1).val)
          ∧ r.2.mem ((c.tc : Thread Cert.KernelIdeal.nD Cert.KernelIdeal.τ).loc Cert.KernelIdeal.main_v4_3) = (fun (y : Cert.KernelIdeal.S1x320.Idx) => accb m c 8 (y 1).val)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun r h c => ⟨
      ((Pipeline.Dat.toRForget_arrAt_iff (Cert.KernelIdeal.Value.dats m 0 c) (fgt := forgetsV) (w := 5) rfl _ _).1 ((h.1 c).1 5)).trans (final5 m c),
      ((Pipeline.Dat.toRForget_arrAt_iff (Cert.KernelIdeal.Value.dats m 0 c) (fgt := forgetsV) (w := 7) rfl _ _).1 ((h.1 c).1 7)).trans (final7 m c),
      ((Pipeline.Dat.toRForget_arrAt_iff (Cert.KernelIdeal.Value.dats m 0 c) (fgt := forgetsV) (w := 8) rfl _ _).1 ((h.1 c).1 8)).trans (final8 m c),
      (h.1.arr_in c 0 rfl).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c),
      ((h.1 c).2 Cert.KernelIdeal.main_arg3 (Pipeline.mem_restRefs_of Cert.KernelIdeal.main_arg3 (by decide) (by decide))).trans (Cert.KernelIdeal.Gen.V_main_arg3 m c),
      ((h.1 c).2 Cert.KernelIdeal.main_arg4 (Pipeline.mem_restRefs_of Cert.KernelIdeal.main_arg4 (by decide) (by decide))).trans (Cert.KernelIdeal.Gen.V_main_arg4 m c)⟩)
    (Cert.KernelIdeal.Value.run_main m g (b0_real m hx) hS)

/-- The reference's side: it runs and leaves its three stored arrays. -/
theorem reference_run (m : (ℓ : Loc Cert.ReferenceIdeal.nD Cert.ReferenceIdeal.τ Cert.ReferenceIdeal.sig) → Buf (Elt Ideal) ℓ) (g : Dev Cert.ReferenceIdeal.nD → PrngReg)
    (v0 : Dev Cert.ReferenceIdeal.nD → Cert.ReferenceIdeal.S8x4096x320.Idx → EReal) (v1 v2 : Dev Cert.ReferenceIdeal.nD → Cert.ReferenceIdeal.S1x320.Idx → EReal)
    (h0 : ∀ c, (Cert.ReferenceIdeal.Gen.dats (F := Ideal) m 0 c).arrAt 5 Cert.ReferenceIdeal.cfg0.N = v0 c)
    (h1 : ∀ c, (Cert.ReferenceIdeal.Gen.dats (F := Ideal) m 0 c).arrAt 6 Cert.ReferenceIdeal.cfg0.N = v1 c)
    (h2 : ∀ c, (Cert.ReferenceIdeal.Gen.dats (F := Ideal) m 0 c).arrAt 7 Cert.ReferenceIdeal.cfg0.N = v2 c) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run _ _ _).mono (fun r h c => ⟨((h c).1 5).trans (h0 c), ((h c).1 6).trans (h1 c), ((h c).1 7).trans (h2 c),
      ((h c).1 0).trans (((Cert.ReferenceIdeal.Gen.dats m 0 c).arrAt_in 0 rfl _).trans ((Cert.ReferenceIdeal.Gen.A_eq m c 0).trans (Cert.ReferenceIdeal.Gen.V_main_arg0 m c))),
      ((h c).2 Cert.ReferenceIdeal.main_arg1 (Pipeline.mem_restRefs_of Cert.ReferenceIdeal.main_arg1 (by decide) (by decide))).trans (Cert.ReferenceIdeal.Gen.V_main_arg1 m c),
      ((h c).2 Cert.ReferenceIdeal.main_arg2 (Pipeline.mem_restRefs_of Cert.ReferenceIdeal.main_arg2 (by decide) (by decide))).trans (Cert.ReferenceIdeal.Gen.V_main_arg2 m c),
      ((h c).2 Cert.ReferenceIdeal.main_arg3 (Pipeline.mem_restRefs_of Cert.ReferenceIdeal.main_arg3 (by decide) (by decide))).trans (Cert.ReferenceIdeal.Gen.V_main_arg3 m c),
      ((h c).2 Cert.ReferenceIdeal.main_arg4 (Pipeline.mem_restRefs_of Cert.ReferenceIdeal.main_arg4 (by decide) (by decide))).trans (Cert.ReferenceIdeal.Gen.V_main_arg4 m c)⟩)
    (Cert.ReferenceIdeal.Gen.run_main m g)

/-- From finite arguments the kernel's and the reference's codes and gradients of gamma and of beta are equal as extended reals. -/
theorem algebraic : Cert.algebraic_KernelIdeal_ReferenceIdeal_pre_finite := by
  intro m g m' g' hpre hargs
  have hP := fun c => Cert.Pre_finite.Hand.pre_real _ _ _ _ _ (hpre c)
  have hx : ∀ (c : Dev Cert.KernelIdeal.nD) (i : Cert.KernelIdeal.S8x4096x320.Idx), ∃ y : ℝ, va m c i = (y : EReal) := fun c i => by
    unfold va; rw [Cert.KernelIdeal.Gen.V_main_arg0]; exact (hP c).1 i
  have hg : ∀ (c : Dev Cert.KernelIdeal.nD) (i : Cert.KernelIdeal.S1x320.Idx), ∃ y : ℝ, vg m c i = (y : EReal) := fun c i => by
    unfold vg; rw [Kv0]; exact (hP c).2.1 _
  have hd : ∀ (c : Dev Cert.KernelIdeal.nD) (i : Cert.KernelIdeal.S8x4096x320.Idx), ∃ y : ℝ, vd m c i = (y : EReal) := fun c i => by
    unfold vd; rw [Kv2]; exact (hP c).2.2.1 i
  have hs : ∀ (c : Dev Cert.KernelIdeal.nD) (i : Cert.KernelIdeal.S1x1.Idx), ∃ y : ℝ, vs m c i = (y : EReal) := fun c i => by
    unfold vs; rw [Kv3]; exact (hP c).2.2.2 _
  have e0 : ∀ c : Dev Cert.KernelIdeal.nD, (Cert.ReferenceIdeal.Gen.V m' c Cert.ReferenceIdeal.main_arg0 : Cert.KernelIdeal.S8x4096x320.Idx → EReal) = va m c := fun c => by
    unfold va
    exact (Cert.ReferenceIdeal.Gen.V_main_arg0 m' c).trans ((hargs c).1.trans (Cert.KernelIdeal.Gen.V_main_arg0 m c).symm)
  have e1 : ∀ c : Dev Cert.KernelIdeal.nD, (Cert.ReferenceIdeal.Gen.V m' c Cert.ReferenceIdeal.main_v0 : Cert.KernelIdeal.S1x320.Idx → EReal) = vg m c := fun c => by
    unfold vg
    exact (Cert.ReferenceIdeal.Hand.Vv0 m' c).trans ((congrArg (fun x => shapeCast Cert.KernelIdeal.S1x320 x Cert.KernelIdeal.Gen.shapeCasts_S320_S1x320) (hargs c).2.1).trans (Kv0 m c).symm)
  have e2 : ∀ c : Dev Cert.KernelIdeal.nD, (Cert.ReferenceIdeal.Gen.V m' c Cert.ReferenceIdeal.main_v1 : Cert.KernelIdeal.S1x320.Idx → EReal) = vb m c := fun c => by
    unfold vb
    exact (Cert.ReferenceIdeal.Hand.Vv1 m' c).trans ((congrArg (fun x => shapeCast Cert.KernelIdeal.S1x320 x Cert.KernelIdeal.Gen.shapeCasts_S320_S1x320) (hargs c).2.2.1).trans (Kv1 m c).symm)
  have e3 : ∀ c : Dev Cert.KernelIdeal.nD, (Cert.ReferenceIdeal.Gen.V m' c Cert.ReferenceIdeal.main_v2 : Cert.KernelIdeal.S8x4096x320.Idx → EReal) = vd m c := fun c => by
    unfold vd
    exact (Cert.ReferenceIdeal.Hand.Vv2 m' c).trans ((congrArg (fun x => bitcastToFloat (F := Ideal) .fp8e5m2 x) (hargs c).2.2.2.1).trans (Kv2 m c).symm)
  have e4 : ∀ c : Dev Cert.KernelIdeal.nD, (Cert.ReferenceIdeal.Gen.V m' c Cert.ReferenceIdeal.main_v3 : Cert.KernelIdeal.S1x1.Idx → EReal) = vs m c := fun c => by
    unfold vs
    exact (Cert.ReferenceIdeal.Hand.Vv3 m' c).trans ((congrArg (fun x => shapeCast Cert.KernelIdeal.S1x1 x Cert.KernelIdeal.Gen.shapeCasts_S_S1x1) (hargs c).2.2.2.2).trans (Kv3 m c).symm)
  refine ⟨fun c => codes m c, fun c => (fun (y : Cert.KernelIdeal.S1x320.Idx) => accg m c 8 (y 1).val), fun c => (fun (y : Cert.KernelIdeal.S1x320.Idx) => accb m c 8 (y 1).val),
    kernel_run m g hx (sums_real m hx hg hd hs), reference_run m' g' _ _ _ (fun c => funext fun y => ?_) (fun c => funext fun y => ?_) (fun c => funext fun y => ?_)⟩
  · refine (Cert.ReferenceIdeal.Hand.final5 m' c y).trans ?_
    refine (congrFun (Cert.ReferenceIdeal.Hand.pc5 (e1 c) (e2 c) (e0 c) (e3 c) (e4 c)) y).trans ?_
    rw [ix3_self y]
    exact (Cert.ReferenceIdeal.Hand.q14 (vg m c) (vb m c) (va m c) (vd m c) (vs m c) (y 0) (y 1) (y 2)).trans (codes_at m hx hg hd hs c (y 0) (y 1) (y 2)).symm
  · refine (Cert.ReferenceIdeal.Hand.final6 m' c y).trans ?_
    refine (congrFun (Cert.ReferenceIdeal.Hand.pc2 (e1 c) (e2 c) (e0 c) (e3 c) (e4 c)) y).trans ?_
    rw [ix2_row y]
    exact (Cert.ReferenceIdeal.Hand.q2 (vg m c) (vb m c) (va m c) (vd m c) (vs m c) (y 1)).trans (accg_eq m hx hg hd hs c (y 1)).symm
  · refine (Cert.ReferenceIdeal.Hand.final7 m' c y).trans ?_
    refine (congrFun (Cert.ReferenceIdeal.Hand.pc3 (e1 c) (e2 c) (e0 c) (e3 c) (e4 c)) y).trans ?_
    rw [ix2_row y]
    exact (Cert.ReferenceIdeal.Hand.q3 (vg m c) (vb m c) (va m c) (vd m c) (vs m c) (y 1)).trans (accb_eq m hx hg hd hs c (y 1)).symm

end Cert.Final
-- ==== Proof.lean ====
module

public import proofs.«01_k».proof.Defs
public import proofs.«01_k».proof.Proof.KFrame
public import proofs.«01_k».proof.Proof.IFrame
public import proofs.«01_k».proof.Proof.VClaim
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The frames, with and without the precondition, the idealization's ledger, and the equality of the codes and of the two gradients. -/
theorem claim : Cert.Claim := ⟨Cert.Kernel.Gen.facts, Cert.KernelIdeal.Gen.facts, Cert.ReferenceIdeal.Gen.facts, Cert.Pre_finite.Hand.facts,
  fun m g _ => Cert.Kernel.Hand.quiescent m g,
  fun m g _ => Cert.KernelIdeal.Hand.quiescent m g,
  fun m g _ => Cert.KernelIdeal.Hand.quiescent m g,
  fun m g _ => Cert.ReferenceIdeal.Gen.frame m g,
  fun m g _ => Cert.ReferenceIdeal.Gen.frame m g,
  IdealRules.named_const.statement Cert.KernelIdeal.κ "inv_n" .f32 0x37CCCCCD#32 ((1 / 40960 : ℝ) : EReal) rfl,
  Cert.Final.algebraic⟩

end Cert.Proof

end
